-- ==== Defs.lean ====
def Pre_Down [hPre_rows_in_groups : Cert.Pre_rows_in_groups.Facts] (m : (ℓ : Loc Cert.Down.nD Cert.Down.τ Cert.Down.sig) → Buf (Elt Bits) ℓ) : Prop :=
  ∀ c : Dev Cert.Down.nD,
    (Cert.Pre_rows_in_groups.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_rows_in_groups : Cert.Pre_rows_in_groups.Facts] (m : (ℓ : Loc Cert.DownIdeal.nD Cert.DownIdeal.τ Cert.DownIdeal.sig) → Buf (Elt Ideal) ℓ) : Prop :=
  ∀ c : Dev Cert.DownIdeal.nD,
    (Cert.Pre_rows_in_groups.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_rows_in_groups [hPre_rows_in_groups : Cert.Pre_rows_in_groups.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_rows_in_groups.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_GateUp [hPre_gate_up_rows_in_groups : Cert.Pre_gate_up_rows_in_groups.Facts] (m : (ℓ : Loc Cert.GateUp.nD Cert.GateUp.τ Cert.GateUp.sig) → Buf (Elt Bits) ℓ) : Prop :=
  ∀ c : Dev Cert.GateUp.nD,
    (Cert.Pre_gate_up_rows_in_groups.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5)) (m ((c.tc : Thread Cert.GateUp.nD Cert.GateUp.τ).loc Cert.GateUp.main_arg6)) (m ((c.tc : Thread Cert.GateUp.nD Cert.GateUp.τ).loc Cert.GateUp.main_arg7)) (m ((c.tc : Thread Cert.GateUp.nD Cert.GateUp.τ).loc Cert.GateUp.main_arg8))) = (fun _ => 1#1)

def Pre_GateUpIdeal [hPre_gate_up_rows_in_groups : Cert.Pre_gate_up_rows_in_groups.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_gate_up_rows_in_groups.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6)) (m ((c.tc : Thread Cert.GateUpIdeal.nD Cert.GateUpIdeal.τ).loc Cert.GateUpIdeal.main_arg7)) (m ((c.tc : Thread Cert.GateUpIdeal.nD Cert.GateUpIdeal.τ).loc Cert.GateUpIdeal.main_arg8))) = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_gate_up_rows_in_groups [hPre_gate_up_rows_in_groups : Cert.Pre_gate_up_rows_in_groups.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_gate_up_rows_in_groups.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5)) (m ((c.tc : Thread Cert.GateUpReferenceIdeal.nD Cert.GateUpReferenceIdeal.τ).loc Cert.GateUpReferenceIdeal.main_arg6)) (m ((c.tc : Thread Cert.GateUpReferenceIdeal.nD Cert.GateUpReferenceIdeal.τ).loc Cert.GateUpReferenceIdeal.main_arg7)) (m ((c.tc : Thread Cert.GateUpReferenceIdeal.nD Cert.GateUpReferenceIdeal.τ).loc Cert.GateUpReferenceIdeal.main_arg8))) = (fun _ => 1#1)

def Pre_Combine [hPre_rows_exist : Cert.Pre_rows_exist.Facts] (m : (ℓ : Loc Cert.Combine.nD Cert.Combine.τ Cert.Combine.sig) → Buf (Elt Bits) ℓ) : Prop :=
  ∀ c : Dev Cert.Combine.nD,
    (Cert.Pre_rows_exist.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_rows_exist : Cert.Pre_rows_exist.Facts] (m : (ℓ : Loc Cert.CombineIdeal.nD Cert.CombineIdeal.τ Cert.CombineIdeal.sig) → Buf (Elt Ideal) ℓ) : Prop :=
  ∀ c : Dev Cert.CombineIdeal.nD,
    (Cert.Pre_rows_exist.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_exist [hPre_rows_exist : Cert.Pre_rows_exist.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_exist.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2))) = (fun _ => 1#1)

def quiescent_Down [hDown : Cert.Down.Facts] [hPre_rows_in_groups : Cert.Pre_rows_in_groups.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_rows_in_groups : Cert.Pre_rows_in_groups.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_rows_in_groups [hDownReferenceIdeal : Cert.DownReferenceIdeal.Facts] [hPre_rows_in_groups : Cert.Pre_rows_in_groups.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_rows_in_groups m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_GateUp [hGateUp : Cert.GateUp.Facts] [hPre_gate_up_rows_in_groups : Cert.Pre_gate_up_rows_in_groups.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8))
      ∧ r.2.sem = fun _ => 0)

def quiescent_GateUpIdeal [hGateUpIdeal : Cert.GateUpIdeal.Facts] [hPre_gate_up_rows_in_groups : Cert.Pre_gate_up_rows_in_groups.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6)
      ∧ r.2.mem ((c.tc : Thread Cert.GateUpReferenceIdeal.nD Cert.GateUpReferenceIdeal.τ).loc Cert.GateUpReferenceIdeal.main_arg7) = m ((c.tc : Thread Cert.GateUpReferenceIdeal.nD Cert.GateUpReferenceIdeal.τ).loc Cert.GateUpReferenceIdeal.main_arg7)
      ∧ r.2.mem ((c.tc : Thread Cert.GateUpReferenceIdeal.nD Cert.GateUpReferenceIdeal.τ).loc Cert.GateUpReferenceIdeal.main_arg8) = m ((c.tc : Thread Cert.GateUpReferenceIdeal.nD Cert.GateUpReferenceIdeal.τ).loc Cert.GateUpReferenceIdeal.main_arg8))
      ∧ r.2.sem = fun _ => 0)

def quiescent_GateUpReferenceIdeal_pre_gate_up_rows_in_groups [hGateUpReferenceIdeal : Cert.GateUpReferenceIdeal.Facts] [hPre_gate_up_rows_in_groups : Cert.Pre_gate_up_rows_in_groups.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_gate_up_rows_in_groups m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6)
      ∧ r.2.mem ((c.tc : Thread Cert.GateUpReferenceIdeal.nD Cert.GateUpReferenceIdeal.τ).loc Cert.GateUpReferenceIdeal.main_arg7) = m ((c.tc : Thread Cert.GateUpReferenceIdeal.nD Cert.GateUpReferenceIdeal.τ).loc Cert.GateUpReferenceIdeal.main_arg7)
      ∧ r.2.mem ((c.tc : Thread Cert.GateUpReferenceIdeal.nD Cert.GateUpReferenceIdeal.τ).loc Cert.GateUpReferenceIdeal.main_arg8) = m ((c.tc : Thread Cert.GateUpReferenceIdeal.nD Cert.GateUpReferenceIdeal.τ).loc Cert.GateUpReferenceIdeal.main_arg8))
      ∧ r.2.sem = fun _ => 0)

def quiescent_Combine [hCombine : Cert.Combine.Facts] [hPre_rows_exist : Cert.Pre_rows_exist.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def quiescent_CombineReferenceIdeal_pre_rows_exist [hCombineReferenceIdeal : Cert.CombineReferenceIdeal.Facts] [hPre_rows_exist : Cert.Pre_rows_exist.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_exist m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] [hPre_rows_in_groups : Cert.Pre_rows_in_groups.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v67)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v67) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v38) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_GateUp_GateUpIdeal : Prop :=
  True

def algebraic_GateUpIdeal_GateUpReferenceIdeal [hGateUpIdeal : Cert.GateUpIdeal.Facts] [hGateUpReferenceIdeal : Cert.GateUpReferenceIdeal.Facts] [hPre_gate_up_rows_in_groups : Cert.Pre_gate_up_rows_in_groups.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)
      ∧ m' ((c.tc : Thread Cert.GateUpReferenceIdeal.nD Cert.GateUpReferenceIdeal.τ).loc Cert.GateUpReferenceIdeal.main_arg7) = m ((c.tc : Thread Cert.GateUpIdeal.nD Cert.GateUpIdeal.τ).loc Cert.GateUpIdeal.main_arg7)
      ∧ m' ((c.tc : Thread Cert.GateUpReferenceIdeal.nD Cert.GateUpReferenceIdeal.τ).loc Cert.GateUpReferenceIdeal.main_arg8) = m ((c.tc : Thread Cert.GateUpIdeal.nD Cert.GateUpIdeal.τ).loc Cert.GateUpIdeal.main_arg8)) →
    ∃ (v0 : (c : Dev Cert.GateUpIdeal.nD) → Buf (Elt Ideal) ((c.tc : Thread Cert.GateUpIdeal.nD Cert.GateUpIdeal.τ).loc Cert.GateUpIdeal.main_v68)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v68) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v74) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6)
          ∧ r.2.mem ((c.tc : Thread Cert.GateUpReferenceIdeal.nD Cert.GateUpReferenceIdeal.τ).loc Cert.GateUpReferenceIdeal.main_arg7) = m' ((c.tc : Thread Cert.GateUpReferenceIdeal.nD Cert.GateUpReferenceIdeal.τ).loc Cert.GateUpReferenceIdeal.main_arg7)
          ∧ r.2.mem ((c.tc : Thread Cert.GateUpReferenceIdeal.nD Cert.GateUpReferenceIdeal.τ).loc Cert.GateUpReferenceIdeal.main_arg8) = m' ((c.tc : Thread Cert.GateUpReferenceIdeal.nD Cert.GateUpReferenceIdeal.τ).loc Cert.GateUpReferenceIdeal.main_arg8))

def preserves_Combine_CombineIdeal : Prop :=
  True

def algebraic_CombineIdeal_CombineReferenceIdeal [hCombineIdeal : Cert.CombineIdeal.Facts] [hCombineReferenceIdeal : Cert.CombineReferenceIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v13) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hCombine : Cert.Combine.Facts) (hCombineIdeal : Cert.CombineIdeal.Facts) (hCombineReferenceIdeal : Cert.CombineReferenceIdeal.Facts) (hPre_rows_in_groups : Cert.Pre_rows_in_groups.Facts) (hPre_gate_up_rows_in_groups : Cert.Pre_gate_up_rows_in_groups.Facts) (hPre_rows_exist : Cert.Pre_rows_exist.Facts),
    quiescent_Down (hDown := hDown) (hPre_rows_in_groups := hPre_rows_in_groups)
    ∧ quiescent_DownIdeal (hDownIdeal := hDownIdeal) (hPre_rows_in_groups := hPre_rows_in_groups)
    ∧ quiescent_DownReferenceIdeal (hDownReferenceIdeal := hDownReferenceIdeal)
    ∧ quiescent_DownReferenceIdeal_pre_rows_in_groups (hDownReferenceIdeal := hDownReferenceIdeal) (hPre_rows_in_groups := hPre_rows_in_groups)
    ∧ quiescent_GateUp (hGateUp := hGateUp) (hPre_gate_up_rows_in_groups := hPre_gate_up_rows_in_groups)
    ∧ quiescent_GateUpIdeal (hGateUpIdeal := hGateUpIdeal) (hPre_gate_up_rows_in_groups := hPre_gate_up_rows_in_groups)
    ∧ quiescent_GateUpReferenceIdeal (hGateUpReferenceIdeal := hGateUpReferenceIdeal)
    ∧ quiescent_GateUpReferenceIdeal_pre_gate_up_rows_in_groups (hGateUpReferenceIdeal := hGateUpReferenceIdeal) (hPre_gate_up_rows_in_groups := hPre_gate_up_rows_in_groups)
    ∧ quiescent_Combine (hCombine := hCombine) (hPre_rows_exist := hPre_rows_exist)
    ∧ quiescent_CombineIdeal (hCombineIdeal := hCombineIdeal) (hPre_rows_exist := hPre_rows_exist)
    ∧ quiescent_CombineReferenceIdeal (hCombineReferenceIdeal := hCombineReferenceIdeal)
    ∧ quiescent_CombineReferenceIdeal_pre_rows_exist (hCombineReferenceIdeal := hCombineReferenceIdeal) (hPre_rows_exist := hPre_rows_exist)
    ∧ preserves_Down_DownIdeal
    ∧ algebraic_DownIdeal_DownReferenceIdeal (hDownIdeal := hDownIdeal) (hDownReferenceIdeal := hDownReferenceIdeal) (hPre_rows_in_groups := hPre_rows_in_groups)
    ∧ preserves_GateUp_GateUpIdeal
    ∧ algebraic_GateUpIdeal_GateUpReferenceIdeal (hGateUpIdeal := hGateUpIdeal) (hGateUpReferenceIdeal := hGateUpReferenceIdeal) (hPre_gate_up_rows_in_groups := hPre_gate_up_rows_in_groups)
    ∧ preserves_Combine_CombineIdeal
    ∧ algebraic_CombineIdeal_CombineReferenceIdeal (hCombineIdeal := hCombineIdeal) (hCombineReferenceIdeal := hCombineReferenceIdeal) (hPre_rows_exist := hPre_rows_exist)
-- ==== Pre_gate_up_rows_in_groups.lean ====
abbrev S18 : Shape := ⟨1, ![18]⟩
abbrev S12288x7168 : Shape := ⟨2, ![12288, 7168]⟩
abbrev S18x3584x2048 : Shape := ⟨3, ![18, 3584, 2048]⟩
abbrev S18x56x2048 : Shape := ⟨3, ![18, 56, 2048]⟩
abbrev S18x2048 : Shape := ⟨2, ![18, 2048]⟩
abbrev S_ : Shape := ⟨0, ![]⟩

class Facts : Prop where
  bcast_S_S18 : S_.BroadcastsInDim S18 (![] : Fin 0 → Fin S18.rank)
  reducesTo_S18_S_d0 : S18.ReducesTo [0] S_
  h_S_ : 0 < S_.numel

variable [Facts]

def fn {F : FTy → Type} [FloatOps F] (main_arg0 : IVec S18 32) (main_arg1 : FVec F S12288x7168 .fp8e4m3) (main_arg2 : IVec S18x3584x2048 8) (main_arg3 : FVec F S18x56x2048 .bf16) (main_arg4 : IVec S18x3584x2048 8) (main_arg5 : FVec F S18x56x2048 .bf16) (main_arg6 : FVec F S18x2048 .f32) (main_arg7 : FVec F S18 .f32) (main_arg8 : FVec F S18 .f32) : IVec S_ 1 :=
  let main_c : IVec S_ 32 := constantI S_ 32 0#32
  let main_v0 : IVec S18 32 := broadcastInDim S18 ![] bcast_S_S18 main_c
  let main_v1 : IVec S18 1 := cmpi .sge main_arg0 main_v0
  let main_c_0 : IVec S_ 1 := constantI S_ 1 1#1
  let main_v2 : IVec S_ 1 := (fun x v => Host.reduce IntOp.andi x v reducesTo_S18_S_d0 h_S_) main_v1 main_c_0
  let main_c_1 : IVec S_ 32 := constantI S_ 32 12288#32
  let main_v3 : IVec S18 32 := broadcastInDim S18 ![] bcast_S_S18 main_c_1
  let main_v4 : IVec S18 1 := cmpi .sle main_arg0 main_v3
  let main_c_2 : IVec S_ 1 := constantI S_ 1 1#1
  let main_v5 : IVec S_ 1 := (fun x v => Host.reduce IntOp.andi x v reducesTo_S18_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S18_S_d0 h_S_) main_arg0 main_c_3
  let main_c_4 : IVec S_ 32 := constantI S_ 32 12288#32
  let main_v8 : IVec S_ 1 := cmpi .eq main_v7 main_c_4
  let main_v9 : IVec S_ 1 := andi main_v6 main_v8
  main_v9
-- ==== Pre_rows_exist.lean ====
abbrev S4x384x8 : Shape := ⟨3, ![4, 384, 8]⟩
abbrev S12288x7168 : Shape := ⟨2, ![12288, 7168]⟩
abbrev S_ : Shape := ⟨0, ![]⟩

class Facts : Prop where
  bcast_S_S4x384x8 : S_.BroadcastsInDim S4x384x8 (![] : Fin 0 → Fin S4x384x8.rank)
  reducesTo_S4x384x8_S_d0_1_2 : S4x384x8.ReducesTo [0, 1, 2] S_
  h_S_ : 0 < S_.numel

variable [Facts]

def fn {F : FTy → Type} [FloatOps F] (main_arg0 : IVec S4x384x8 32) (main_arg1 : FVec F S4x384x8 .f32) (main_arg2 : FVec F S12288x7168 .f32) : IVec S_ 1 :=
  let main_c : IVec S_ 32 := constantI S_ 32 0#32
  let main_v0 : IVec S4x384x8 32 := broadcastInDim S4x384x8 ![] bcast_S_S4x384x8 main_c
  let main_v1 : IVec S4x384x8 1 := cmpi .sge main_arg0 main_v0
  let main_c_0 : IVec S_ 1 := constantI S_ 1 1#1
  let main_v2 : IVec S_ 1 := (fun x v => Host.reduce IntOp.andi x v reducesTo_S4x384x8_S_d0_1_2 h_S_) main_v1 main_c_0
  let main_c_1 : IVec S_ 32 := constantI S_ 32 12288#32
  let main_v3 : IVec S4x384x8 32 := broadcastInDim S4x384x8 ![] bcast_S_S4x384x8 main_c_1
  let main_v4 : IVec S4x384x8 1 := cmpi .slt main_arg0 main_v3
  let main_c_2 : IVec S_ 1 := constantI S_ 1 1#1
  let main_v5 : IVec S_ 1 := (fun x v => Host.reduce IntOp.andi x v reducesTo_S4x384x8_S_d0_1_2 h_S_) main_v4 main_c_2
  let main_v6 : IVec S_ 1 := andi main_v2 main_v5
  main_v6
-- ==== Pre_rows_in_groups.lean ====
abbrev S18 : Shape := ⟨1, ![18]⟩
abbrev S12288x2048 : Shape := ⟨2, ![12288, 2048]⟩
abbrev S18x1024x7168 : Shape := ⟨3, ![18, 1024, 7168]⟩
abbrev S18x16x7168 : Shape := ⟨3, ![18, 16, 7168]⟩
abbrev S_ : Shape := ⟨0, ![]⟩

class Facts : Prop where
  bcast_S_S18 : S_.BroadcastsInDim S18 (![] : Fin 0 → Fin S18.rank)
  reducesTo_S18_S_d0 : S18.ReducesTo [0] S_
  h_S_ : 0 < S_.numel

variable [Facts]

def fn {F : FTy → Type} [FloatOps F] (main_arg0 : IVec S18 32) (main_arg1 : FVec F S12288x2048 .fp8e4m3) (main_arg2 : IVec S18x1024x7168 8) (main_arg3 : FVec F S18x16x7168 .bf16) (main_arg4 : FVec F S18 .f32) : IVec S_ 1 :=
  let main_c : IVec S_ 32 := constantI S_ 32 0#32
  let main_v0 : IVec S18 32 := broadcastInDim S18 ![] bcast_S_S18 main_c
  let main_v1 : IVec S18 1 := cmpi .sge main_arg0 main_v0
  let main_c_0 : IVec S_ 1 := constantI S_ 1 1#1
  let main_v2 : IVec S_ 1 := (fun x v => Host.reduce IntOp.andi x v reducesTo_S18_S_d0 h_S_) main_v1 main_c_0
  let main_c_1 : IVec S_ 32 := constantI S_ 32 12288#32
  let main_v3 : IVec S18 32 := broadcastInDim S18 ![] bcast_S_S18 main_c_1
  let main_v4 : IVec S18 1 := cmpi .sle main_arg0 main_v3
  let main_c_2 : IVec S_ 1 := constantI S_ 1 1#1
  let main_v5 : IVec S_ 1 := (fun x v => Host.reduce IntOp.andi x v reducesTo_S18_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S18_S_d0 h_S_) main_arg0 main_c_3
  let main_c_4 : IVec S_ 32 := constantI S_ 32 12288#32
  let main_v8 : IVec S_ 1 := cmpi .eq main_v7 main_c_4
  let main_v9 : IVec S_ 1 := andi main_v6 main_v8
  main_v9
-- ==== Down.lean ====
abbrev S18 : Shape := ⟨1, ![18]⟩
abbrev S12288x2048 : Shape := ⟨2, ![12288, 2048]⟩
abbrev S18x1024x7168 : Shape := ⟨3, ![18, 1024, 7168]⟩
abbrev S18x16x7168 : Shape := ⟨3, ![18, 16, 7168]⟩
abbrev S_ : Shape := ⟨0, ![]⟩
abbrev S1 : Shape := ⟨1, ![1]⟩
abbrev S65 : Shape := ⟨1, ![65]⟩
abbrev S65x1 : Shape := ⟨2, ![65, 1]⟩
abbrev S1x18 : Shape := ⟨2, ![1, 18]⟩
abbrev S65x18 : Shape := ⟨2, ![65, 18]⟩
abbrev S12288x7168 : Shape := ⟨2, ![12288, 7168]⟩
abbrev S256x2048 : Shape := ⟨2, ![256, 2048]⟩
abbrev S1x1024x1024 : Shape := ⟨3, ![1, 1024, 1024]⟩
abbrev S1x16x1024 : Shape := ⟨3, ![1, 16, 1024]⟩
abbrev S256x1024 : Shape := ⟨2, ![256, 1024]⟩
abbrev S2048x1024 : Shape := ⟨2, ![2048, 1024]⟩
abbrev S1x8x1024 : Shape := ⟨3, ![1, 8, 1024]⟩
abbrev S8x1024 : Shape := ⟨2, ![8, 1024]⟩
abbrev S1x64x1024 : Shape := ⟨3, ![1, 64, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1024 : Shape := ⟨2, ![1, 1024]⟩

abbrev nBuf : Space → Nat
  | .hbm => 124
  | .vmem => 9
  | .smem => 6
  | _ => 0

abbrev bufTy : (tb : Table) → Fin (tcTables nBuf tb) → BufTy
  | .hbm, ⟨0, _⟩ => ⟨S18, .i32⟩
  | .hbm, ⟨1, _⟩ => ⟨S12288x2048, .fp8e4m3⟩
  | .hbm, ⟨2, _⟩ => ⟨S18x1024x7168, .i8⟩
  | .hbm, ⟨3, _⟩ => ⟨S18x16x7168, .bf16⟩
  | .hbm, ⟨4, _⟩ => ⟨S18, .f32⟩
  | .hbm, ⟨5, _⟩ => ⟨S_, .i32⟩
  | .hbm, ⟨6, _⟩ => ⟨S_, .i32⟩
  | .hbm, ⟨7, _⟩ => ⟨S18, .i32⟩
  | .hbm, ⟨8, _⟩ => ⟨S18, .i32⟩
  | .hbm, ⟨9, _⟩ => ⟨S_, .i32⟩
  | .hbm, ⟨10, _⟩ => ⟨S_, .i32⟩
  | .hbm, ⟨11, _⟩ => ⟨S18, .i32⟩
  | .hbm, ⟨12, _⟩ => ⟨S18, .i32⟩
  | .hbm, ⟨13, _⟩ => ⟨S18, .i32⟩
  | .hbm, ⟨14, _⟩ => ⟨S_, .i32⟩
  | .hbm, ⟨15, _⟩ => ⟨S18, .i32⟩
  | .hbm, ⟨16, _⟩ => ⟨S18, .i1⟩
  | .hbm, ⟨17, _⟩ => ⟨S18, .i32⟩
  | .hbm, ⟨18, _⟩ => ⟨S18, .i32⟩
  | .hbm, ⟨19, _⟩ => ⟨S_, .i32⟩
  | .hbm, ⟨20, _⟩ => ⟨S18, .i32⟩
  | .hbm, ⟨21, _⟩ => ⟨S18, .i1⟩
  | .hbm, ⟨22, _⟩ => ⟨S18, .i1⟩
  | .hbm, ⟨23, _⟩ => ⟨S_, .i32⟩
  | .hbm, ⟨24, _⟩ => ⟨S18, .i32⟩
  | .hbm, ⟨25, _⟩ => ⟨S18, .i32⟩
  | .hbm, ⟨26, _⟩ => ⟨S18, .i32⟩
  | .hbm, ⟨27, _⟩ => ⟨S_, .i32⟩
  | .hbm, ⟨28, _⟩ => ⟨S18, .i32⟩
  | .hbm, ⟨29, _⟩ => ⟨S18, .i1⟩
  | .hbm, ⟨30, _⟩ => ⟨S_, .i32⟩
  | .hbm, ⟨31, _⟩ => ⟨S18, .i32⟩
  | .hbm, ⟨32, _⟩ => ⟨S18, .i32⟩
  | .hbm, ⟨33, _⟩ => ⟨S_, .i32⟩
  | .hbm, ⟨34, _⟩ => ⟨S_, .i32⟩
  | .hbm, ⟨35, _⟩ => ⟨S18, .i32⟩
  | .hbm, ⟨36, _⟩ => ⟨S18, .i32⟩
  | .hbm, ⟨37, _⟩ => ⟨S18, .i32⟩
  | .hbm, ⟨38, _⟩ => ⟨S_, .i32⟩
  | .hbm, ⟨39, _⟩ => ⟨S18, .i32⟩
  | .hbm, ⟨40, _⟩ => ⟨S18, .i1⟩
  | .hbm, ⟨41, _⟩ => ⟨S18, .i32⟩
  | .hbm, ⟨42, _⟩ => ⟨S18, .i32⟩
  | .hbm, ⟨43, _⟩ => ⟨S_, .i32⟩
  | .hbm, ⟨44, _⟩ => ⟨S18, .i32⟩
  | .hbm, ⟨45, _⟩ => ⟨S18, .i1⟩
  | .hbm, ⟨46, _⟩ => ⟨S18, .i1⟩
  | .hbm, ⟨47, _⟩ => ⟨S_, .i32⟩
  | .hbm, ⟨48, _⟩ => ⟨S18, .i32⟩
  | .hbm, ⟨49, _⟩ => ⟨S18, .i32⟩
  | .hbm, ⟨50, _⟩ => ⟨S18, .i32⟩
  | .hbm, ⟨51, _⟩ => ⟨S18, .i32⟩
  | .hbm, ⟨52, _⟩ => ⟨S_, .i32⟩
  | .hbm, ⟨53, _⟩ => ⟨S18, .i32⟩
  | .hbm, ⟨54, _⟩ => ⟨S18, .i32⟩
  | .hbm, ⟨55, _⟩ => ⟨S_, .i32⟩
  | .hbm, ⟨56, _⟩ => ⟨S_, .i32⟩
  | .hbm, ⟨57, _⟩ => ⟨S18, .i32⟩
  | .hbm, ⟨58, _⟩ => ⟨S18, .i32⟩
  | .hbm, ⟨59, _⟩ => ⟨S_, .i32⟩
  | .hbm, ⟨60, _⟩ => ⟨S_, .i32⟩
  | .hbm, ⟨61, _⟩ => ⟨S18, .i32⟩
  | .hbm, ⟨62, _⟩ => ⟨S1, .i32⟩
  | .hbm, ⟨63, _⟩ => ⟨S_, .i32⟩
  | .hbm, ⟨64, _⟩ => ⟨S65, .i32⟩
  | .hbm, ⟨65, _⟩ => ⟨S_, .i32⟩
  | .hbm, ⟨66, _⟩ => ⟨S_, .i32⟩
  | .hbm, ⟨67, _⟩ => ⟨S65, .i32⟩
  | .hbm, ⟨68, _⟩ => ⟨S65, .i32⟩
  | .hbm, ⟨69, _⟩ => ⟨S65x1, .i32⟩
  | .hbm, ⟨70, _⟩ => ⟨S1x18, .i32⟩
  | .hbm, ⟨71, _⟩ => ⟨S65x18, .i32⟩
  | .hbm, ⟨72, _⟩ => ⟨S65x18, .i32⟩
  | .hbm, ⟨73, _⟩ => ⟨S65x18, .i1⟩
  | .hbm, ⟨74, _⟩ => ⟨S65x18, .i32⟩
  | .hbm, ⟨75, _⟩ => ⟨S_, .i32⟩
  | .hbm, ⟨76, _⟩ => ⟨S_, .i32⟩
  | .hbm, ⟨77, _⟩ => ⟨S65, .i32⟩
  | .hbm, ⟨78, _⟩ => ⟨S65, .i1⟩
  | .hbm, ⟨79, _⟩ => ⟨S_, .i32⟩
  | .hbm, ⟨80, _⟩ => ⟨S65, .i32⟩
  | .hbm, ⟨81, _⟩ => ⟨S65, .i32⟩
  | .hbm, ⟨82, _⟩ => ⟨S65, .i32⟩
  | .hbm, ⟨83, _⟩ => ⟨S65x1, .i32⟩
  | .hbm, ⟨84, _⟩ => ⟨S65, .i32⟩
  | .hbm, ⟨85, _⟩ => ⟨S65, .i32⟩
  | .hbm, ⟨86, _⟩ => ⟨S_, .i32⟩
  | .hbm, ⟨87, _⟩ => ⟨S65, .i32⟩
  | .hbm, ⟨88, _⟩ => ⟨S65, .i1⟩
  | .hbm, ⟨89, _⟩ => ⟨S_, .i32⟩
  | .hbm, ⟨90, _⟩ => ⟨S65, .i32⟩
  | .hbm, ⟨91, _⟩ => ⟨S65, .i32⟩
  | .hbm, ⟨92, _⟩ => ⟨S65, .i32⟩
  | .hbm, ⟨93, _⟩ => ⟨S65x1, .i32⟩
  | .hbm, ⟨94, _⟩ => ⟨S65, .i32⟩
  | .hbm, ⟨95, _⟩ => ⟨S_, .i32⟩
  | .hbm, ⟨96, _⟩ => ⟨S65, .i32⟩
  | .hbm, ⟨97, _⟩ => ⟨S65, .i1⟩
  | .hbm, ⟨98, _⟩ => ⟨S_, .i32⟩
  | .hbm, ⟨99, _⟩ => ⟨S65, .i32⟩
  | .hbm, ⟨100, _⟩ => ⟨S65, .i32⟩
  | .hbm, ⟨101, _⟩ => ⟨S65, .i32⟩
  | .hbm, ⟨102, _⟩ => ⟨S65x1, .i32⟩
  | .hbm, ⟨103, _⟩ => ⟨S65, .i32⟩
  | .hbm, ⟨104, _⟩ => ⟨S65, .i32⟩
  | .hbm, ⟨105, _⟩ => ⟨S_, .i32⟩
  | .hbm, ⟨106, _⟩ => ⟨S65, .i32⟩
  | .hbm, ⟨107, _⟩ => ⟨S65, .i1⟩
  | .hbm, ⟨108, _⟩ => ⟨S_, .i32⟩
  | .hbm, ⟨109, _⟩ => ⟨S65, .i32⟩
  | .hbm, ⟨110, _⟩ => ⟨S65, .i32⟩
  | .hbm, ⟨111, _⟩ => ⟨S65, .i32⟩
  | .hbm, ⟨112, _⟩ => ⟨S65x1, .i32⟩
  | .hbm, ⟨113, _⟩ => ⟨S_, .i32⟩
  | .hbm, ⟨114, _⟩ => ⟨S65, .i32⟩
  | .hbm, ⟨115, _⟩ => ⟨S65, .i1⟩
  | .hbm, ⟨116, _⟩ => ⟨S_, .i32⟩
  | .hbm, ⟨117, _⟩ => ⟨S65, .i32⟩
  | .hbm, ⟨118, _⟩ => ⟨S65, .i32⟩
  | .hbm, ⟨119, _⟩ => ⟨S65, .i32⟩
  | .hbm, ⟨120, _⟩ => ⟨S65x1, .i32⟩
  | .hbm, ⟨121, _⟩ => ⟨S65, .i32⟩
  | .hbm, ⟨122, _⟩ => ⟨S65, .i1⟩
  | .hbm, ⟨123, _⟩ => ⟨S12288x7168, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S1x1024x1024, .i8⟩
  | .local _ .vmem, ⟨3, _⟩ => ⟨S1x1024x1024, .i8⟩
  | .local _ .vmem, ⟨4, _⟩ => ⟨S1x16x1024, .bf16⟩
  | .local _ .vmem, ⟨5, _⟩ => ⟨S1x16x1024, .bf16⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S65, .i32⟩
  | .local _ .smem, ⟨1, _⟩ => ⟨S65, .i32⟩
  | .local _ .smem, ⟨2, _⟩ => ⟨S65, .i32⟩
  | .local _ .smem, ⟨3, _⟩ => ⟨S65, .i32⟩
  | .local _ .smem, ⟨4, _⟩ => ⟨S65, .i32⟩
  | .local _ .smem, ⟨5, _⟩ => ⟨S18, .f32⟩
  | _, _ => ⟨S18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_6 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_9 : Ref sig .tc := ⟨.hbm, 86, rfl⟩
abbrev main_v34 : Ref sig .tc := ⟨.hbm, 87, rfl⟩
abbrev main_v35 : Ref sig .tc := ⟨.hbm, 88, rfl⟩
abbrev main_c_10 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_c_11 : Ref sig .tc := ⟨.hbm, 95, rfl⟩
abbrev main_v41 : Ref sig .tc := ⟨.hbm, 96, rfl⟩
abbrev main_v42 : Ref sig .tc := ⟨.hbm, 97, rfl⟩
abbrev main_c_12 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_13 : Ref sig .tc := ⟨.hbm, 105, rfl⟩
abbrev main_v50 : Ref sig .tc := ⟨.hbm, 106, rfl⟩
abbrev main_v51 : Ref sig .tc := ⟨.hbm, 107, rfl⟩
abbrev main_c_14 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_c_15 : Ref sig .tc := ⟨.hbm, 113, rfl⟩
abbrev main_v57 : Ref sig .tc := ⟨.hbm, 114, rfl⟩
abbrev main_v58 : Ref sig .tc := ⟨.hbm, 115, rfl⟩
abbrev main_c_16 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v64 : Ref sig .tc := ⟨.hbm, 121, rfl⟩
abbrev main_v65 : Ref sig .tc := ⟨.hbm, 122, rfl⟩
abbrev main_v67 : Ref sig .tc := ⟨.hbm, 123, rfl⟩
abbrev main_v49 : Ref sig .tc := ⟨.smem, 0, rfl⟩
abbrev main_v25 : Ref sig .tc := ⟨.smem, 1, rfl⟩
abbrev main_v56 : Ref sig .tc := ⟨.smem, 2, rfl⟩
abbrev main_v63 : Ref sig .tc := ⟨.smem, 3, rfl⟩
abbrev main_v66 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg3_0 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 65], ![false, false]⟩

abbrev pre0 : Pipeline.Prefetch sig := ⟨5, ![main_v49.idx, main_v25.idx, main_v56.idx, main_v63.idx, main_v66.idx], fun | 0 => main_v49.names | 1 => main_v25.names | 2 => main_v56.names | 3 => main_v63.names | 4 => main_v66.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_4 : BitVec 32 := 0#32
  let c2_i32 : BitVec 32 := 2#32
  let v16 : BitVec 32 := Scalar.addi c0_i32_4 c2_i32
  let c1_i32_5 : BitVec 32 := 1#32
  ⟨c0_i32_4, v16, c1_i32_5⟩
def k0_mult1 (k0_t1 : Fin k0_t1_loop.trips) : BitVec 32 :=
  let c0_i32_4 : BitVec 32 := 0#32
  let c1_i32_5 : BitVec 32 := 1#32
  let arg13 : BitVec 32 := Scf.iv c0_i32_4 c1_i32_5 k0_t1
  let c8_i32 : BitVec 32 := 8#32
  let v17 : BitVec 32 := Scalar.muli arg13 c8_i32
  v17
def k0_off3 (k0_t1 : Fin k0_t1_loop.trips) : Fin 3 → Nat :=
  let c0 : Index := 0#32
  let c0_i32_4 : BitVec 32 := 0#32
  let c1_i32_5 : BitVec 32 := 1#32
  let arg13 : BitVec 32 := Scf.iv c0_i32_4 c1_i32_5 k0_t1
  let c8_i32 : BitVec 32 := 8#32
  let v17 : BitVec 32 := Scalar.muli arg13 c8_i32
  let v18 : BitVec 32 := v17
  let v19 : Index := Scalar.indexCast v18
  let c0_7 : Index := 0#32
  ![0, v19.toNat, 0]
def k0_off4 (k0_t1 : Fin k0_t1_loop.trips) (c0_i32_9 : BitVec 32) : Fin 3 → Nat :=
  let c0_10 : Index := 0#32
  let c0_i32_4 : BitVec 32 := 0#32
  let c1_i32_5 : BitVec 32 := 1#32
  let arg13 : BitVec 32 := Scf.iv c0_i32_4 c1_i32_5 k0_t1
  let c8_i32_8 : BitVec 32 := 8#32
  let v22 : BitVec 32 := Scalar.muli arg13 c8_i32_8
  let v23 : BitVec 32 := Scalar.addi v22 c0_i32_9
  let c64_i32 : BitVec 32 := 64#32
  let v24 : BitVec 32 := Scalar.muli v23 c64_i32
  let v25 : Index := Scalar.indexCast v24
  let c0_11 : Index := 0#32
  ![0, v25.toNat, 0]
def k0_off5 (k0_t1 : Fin k0_t1_loop.trips) (c0_i32_9 : BitVec 32) : Fin 2 → Nat :=
  let c0_i32_4 : BitVec 32 := 0#32
  let c1_i32_5 : BitVec 32 := 1#32
  let arg13 : BitVec 32 := Scf.iv c0_i32_4 c1_i32_5 k0_t1
  let c8_i32_8 : BitVec 32 := 8#32
  let v22 : BitVec 32 := Scalar.muli arg13 c8_i32_8
  let v23 : BitVec 32 := Scalar.addi v22 c0_i32_9
  let c128_i32 : BitVec 32 := 128#32
  let v43 : BitVec 32 := Scalar.muli v23 c128_i32
  let v44 : Index := Scalar.indexCast v43
  let c0_13 : Index := 0#32
  ![v44.toNat, 0]
def k0_off6 (i : grid0.Coords) : Fin 1 → Nat :=
  let arg1 : BitVec 32 := BitVec.ofNat 32 (i 1).val
  let v11 : Index := Scalar.indexCast arg1
  ![v11.toNat]
def k0_off7 (i : grid0.Coords) : Fin 1 → Nat :=
  let arg1 : BitVec 32 := BitVec.ofNat 32 (i 1).val
  let v20 : Index := Scalar.indexCast arg1
  ![v20.toNat]
def k0_off8 (v21 : BitVec 32) : Fin 1 → Nat :=
  let v22 : Index := Scalar.indexCast v21
  ![v22.toNat]
def k0_cond2 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_chk1 (v12 : BitVec 32) (v21 : BitVec 32) : Prop :=
  (∀ (k0_h2 : k0_cond2 v12 = 1#1), ∀ a, (k0_off8 v21) a + S1.size a ≤ S18.size a)
theorem k0_off8_inb : ∀ (v12 : BitVec 32) (v21 : BitVec 32) (k0_hw1 : k0_chk1 v12 v21), ∀ (k0_h2 : k0_cond2 v12 = 1#1), ∀ a, (k0_off8 v21) a + S1.size a ≤ S18.size a := fun v12 v21 k0_hw1 k0_h2 => k0_hw1 k0_h2

def k0_off9 (i : grid0.Coords) : Fin 1 → Nat :=
  let arg1 : BitVec 32 := BitVec.ofNat 32 (i 1).val
  let v26 : Index := Scalar.indexCast arg1
  ![v26.toNat]
def cc0_transform_0 (k0_off1_inb : ∀ i : grid0.Coords, ∀ a, (k0_off1 i) a + S1.size a ≤ S65.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S65) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (k0_off1_inb : ∀ i : grid0.Coords, ∀ a, (k0_off1 i) a + S1.size a ≤ S65.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S65) ![v0.toNat] S1.size (k0_off1_inb i)) numel1_S1
  let c0_i32 : BitVec 32 := 0#32
  ![v1.toNat, arg0.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S18 : Shape := ⟨1, ![18]⟩
abbrev S12288x2048 : Shape := ⟨2, ![12288, 2048]⟩
abbrev S18x1024x7168 : Shape := ⟨3, ![18, 1024, 7168]⟩
abbrev S18x16x7168 : Shape := ⟨3, ![18, 16, 7168]⟩
abbrev S_ : Shape := ⟨0, ![]⟩
abbrev S12288 : Shape := ⟨1, ![12288]⟩
abbrev S12288x1 : Shape := ⟨2, ![12288, 1]⟩
abbrev S1x18 : Shape := ⟨2, ![1, 18]⟩
abbrev S12288x18 : Shape := ⟨2, ![12288, 18]⟩
abbrev S18x16x64x7168 : Shape := ⟨4, ![18, 16, 64, 7168]⟩
abbrev S12288x1024 : Shape := ⟨2, ![12288, 1024]⟩
abbrev S18x7168x12288 : Shape := ⟨3, ![18, 7168, 12288]⟩
abbrev S18x12288x7168 : Shape := ⟨3, ![18, 12288, 7168]⟩
abbrev S18x12288 : Shape := ⟨2, ![18, 12288]⟩
abbrev S18x12288x1 : Shape := ⟨3, ![18, 12288, 1]⟩
abbrev S12288x7168 : Shape := ⟨2, ![12288, 7168]⟩

abbrev nBuf : Space → Nat
  | .hbm => 63
  | .vmem => 5
  | .smem => 0
  | _ => 0

abbrev bufTy : (tb : Table) → Fin (tcTables nBuf tb) → BufTy
  | .hbm, ⟨0, _⟩ => ⟨S18, .i32⟩
  | .hbm, ⟨1, _⟩ => ⟨S12288x2048, .fp8e4m3⟩
  | .hbm, ⟨2, _⟩ => ⟨S18x1024x7168, .i8⟩
  | .hbm, ⟨3, _⟩ => ⟨S18x16x7168, .bf16⟩
  | .hbm, ⟨4, _⟩ => ⟨S18, .f32⟩
  | .hbm, ⟨5, _⟩ => ⟨S12288x2048, .bf16⟩
  | .hbm, ⟨6, _⟩ => ⟨S18x1024x7168, .bf16⟩
  | .hbm, ⟨7, _⟩ => ⟨S18x1024x7168, .bf16⟩
  | .hbm, ⟨8, _⟩ => ⟨S_, .i32⟩
  | .hbm, ⟨9, _⟩ => ⟨S_, .i32⟩
  | .hbm, ⟨10, _⟩ => ⟨S18, .i32⟩
  | .hbm, ⟨11, _⟩ => ⟨S18, .i32⟩
  | .hbm, ⟨12, _⟩ => ⟨S12288, .i32⟩
  | .hbm, ⟨13, _⟩ => ⟨S12288x1, .i32⟩
  | .hbm, ⟨14, _⟩ => ⟨S1x18, .i32⟩
  | .hbm, ⟨15, _⟩ => ⟨S12288x18, .i32⟩
  | .hbm, ⟨16, _⟩ => ⟨S12288x18, .i32⟩
  | .hbm, ⟨17, _⟩ => ⟨S12288x18, .i1⟩
  | .hbm, ⟨18, _⟩ => ⟨S1x18, .i32⟩
  | .hbm, ⟨19, _⟩ => ⟨S12288x18, .i32⟩
  | .hbm, ⟨20, _⟩ => ⟨S12288x18, .i32⟩
  | .hbm, ⟨21, _⟩ => ⟨S12288x18, .i1⟩
  | .hbm, ⟨22, _⟩ => ⟨S12288x18, .i1⟩
  | .hbm, ⟨23, _⟩ => ⟨S18x16x64x7168, .bf16⟩
  | .hbm, ⟨24, _⟩ => ⟨S18x1024x7168, .bf16⟩
  | .hbm, ⟨25, _⟩ => ⟨S12288x1024, .bf16⟩
  | .hbm, ⟨26, _⟩ => ⟨S18x1024x7168, .bf16⟩
  | .hbm, ⟨27, _⟩ => ⟨S18x7168x12288, .f32⟩
  | .hbm, ⟨28, _⟩ => ⟨S18x12288x7168, .f32⟩
  | .hbm, ⟨29, _⟩ => ⟨S18x12288, .i1⟩
  | .hbm, ⟨30, _⟩ => ⟨S18x12288x1, .i1⟩
  | .hbm, ⟨31, _⟩ => ⟨S_, .f32⟩
  | .hbm, ⟨32, _⟩ => ⟨S_, .f32⟩
  | .hbm, ⟨33, _⟩ => ⟨S18x12288x7168, .i1⟩
  | .hbm, ⟨34, _⟩ => ⟨S18x12288x7168, .f32⟩
  | .hbm, ⟨35, _⟩ => ⟨S18x12288x7168, .f32⟩
  | .hbm, ⟨36, _⟩ => ⟨S_, .f32⟩
  | .hbm, ⟨37, _⟩ => ⟨S12288x7168, .f32⟩
  | .hbm, ⟨38, _⟩ => ⟨S12288x1024, .bf16⟩
  | .hbm, ⟨39, _⟩ => ⟨S18x1024x7168, .bf16⟩
  | .hbm, ⟨40, _⟩ => ⟨S18x7168x12288, .f32⟩
  | .hbm, ⟨41, _⟩ => ⟨S18x12288x7168, .f32⟩
  | .hbm, ⟨42, _⟩ => ⟨S18x12288, .i1⟩
  | .hbm, ⟨43, _⟩ => ⟨S18x12288x1, .i1⟩
  | .hbm, ⟨44, _⟩ => ⟨S_, .f32⟩
  | .hbm, ⟨45, _⟩ => ⟨S_, .f32⟩
  | .hbm, ⟨46, _⟩ => ⟨S18x12288x7168, .i1⟩
  | .hbm, ⟨47, _⟩ => ⟨S18x12288x7168, .f32⟩
  | .hbm, ⟨48, _⟩ => ⟨S18x12288x7168, .f32⟩
  | .hbm, ⟨49, _⟩ => ⟨S_, .f32⟩
  | .hbm, ⟨50, _⟩ => ⟨S12288x7168, .f32⟩
  | .hbm, ⟨51, _⟩ => ⟨S12288x7168, .f32⟩
  | .hbm, ⟨52, _⟩ => ⟨S1x18, .f32⟩
  | .hbm, ⟨53, _⟩ => ⟨S_, .f32⟩
  | .hbm, ⟨54, _⟩ => ⟨S_, .f32⟩
  | .hbm, ⟨55, _⟩ => ⟨S12288x18, .f32⟩
  | .hbm, ⟨56, _⟩ => ⟨S12288x18, .f32⟩
  | .hbm, ⟨57, _⟩ => ⟨S12288x18, .f32⟩
  | .hbm, ⟨58, _⟩ => ⟨S_, .f32⟩
  | .hbm, ⟨59, _⟩ => ⟨S12288, .f32⟩
  | .hbm, ⟨60, _⟩ => ⟨S12288x1, .f32⟩
  | .hbm, ⟨61, _⟩ => ⟨S12288x7168, .f32⟩
  | .hbm, ⟨62, _⟩ => ⟨S12288x7168, .f32⟩
  | .local _ .vmem, ⟨0, _⟩ => ⟨S12288x2048, .fp8e4m3⟩
  | .local _ .vmem, ⟨1, _⟩ => ⟨S18x1024x7168, .i8⟩
  | .local _ .vmem, ⟨2, _⟩ => ⟨S12288x2048, .bf16⟩
  | .local _ .vmem, ⟨3, _⟩ => ⟨S18x1024x7168, .bf16⟩
  | .local _ .vmem, ⟨4, _⟩ => ⟨S18x1024x7168, .bf16⟩
  | _, _ => ⟨S18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x1024x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S18 : Shape := ⟨1, ![18]⟩
abbrev S12288x7168 : Shape := ⟨2, ![12288, 7168]⟩
abbrev S18x3584x2048 : Shape := ⟨3, ![18, 3584, 2048]⟩
abbrev S18x56x2048 : Shape := ⟨3, ![18, 56, 2048]⟩
abbrev S18x2048 : Shape := ⟨2, ![18, 2048]⟩
abbrev S_ : Shape := ⟨0, ![]⟩
abbrev S1 : Shape := ⟨1, ![1]⟩
abbrev S65 : Shape := ⟨1, ![65]⟩
abbrev S65x1 : Shape := ⟨2, ![65, 1]⟩
abbrev S1x18 : Shape := ⟨2, ![1, 18]⟩
abbrev S65x18 : Shape := ⟨2, ![65, 18]⟩
abbrev S18x1x2048 : Shape := ⟨3, ![18, 1, 2048]⟩
abbrev S12288x2048 : Shape := ⟨2, ![12288, 2048]⟩
abbrev S256x7168 : Shape := ⟨2, ![256, 7168]⟩
abbrev S1x3584x256 : Shape := ⟨3, ![1, 3584, 256]⟩
abbrev S1x56x256 : Shape := ⟨3, ![1, 56, 256]⟩
abbrev S1x1x256 : Shape := ⟨3, ![1, 1, 256]⟩
abbrev S256x256 : Shape := ⟨2, ![256, 256]⟩
abbrev S7168x256 : Shape := ⟨2, ![7168, 256]⟩
abbrev S1x8x256 : Shape := ⟨3, ![1, 8, 256]⟩
abbrev S8x256 : Shape := ⟨2, ![8, 256]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩

abbrev nBuf : Space → Nat
  | .hbm => 129
  | .vmem => 16
  | .smem => 7
  | _ => 0

abbrev hbmTy0_0 (i : Nat) : BufTy := match i % 128 with
  | 0 => ⟨S18, .i32⟩
  | 1 => ⟨S12288x7168, .fp8e4m3⟩
  | 2 => ⟨S18x3584x2048, .i8⟩
  | 3 => ⟨S18x56x2048, .bf16⟩
  | 4 => ⟨S18x3584x2048, .i8⟩
  | 5 => ⟨S18x56x2048, .bf16⟩
  | 6 => ⟨S18x2048, .f32⟩
  | 7 => ⟨S18, .f32⟩
  | 8 => ⟨S18, .f32⟩
  | 9 => ⟨S_, .i32⟩
  | 10 => ⟨S_, .i32⟩
  | 11 => ⟨S18, .i32⟩
  | 12 => ⟨S18, .i32⟩
  | 13 => ⟨S_, .i32⟩
  | 14 => ⟨S_, .i32⟩
  | 15 => ⟨S18, .i32⟩
  | 16 => ⟨S18, .i32⟩
  | 17 => ⟨S18, .i32⟩
  | 18 => ⟨S_, .i32⟩
  | 19 => ⟨S18, .i32⟩
  | 20 => ⟨S18, .i1⟩
  | 21 => ⟨S18, .i32⟩
  | 22 => ⟨S18, .i32⟩
  | 23 => ⟨S_, .i32⟩
  | 24 => ⟨S18, .i32⟩
  | 25 => ⟨S18, .i1⟩
  | 26 => ⟨S18, .i1⟩
  | 27 => ⟨S_, .i32⟩
  | 28 => ⟨S18, .i32⟩
  | 29 => ⟨S18, .i32⟩
  | 30 => ⟨S18, .i32⟩
  | 31 => ⟨S_, .i32⟩
  | 32 => ⟨S18, .i32⟩
  | 33 => ⟨S18, .i1⟩
  | 34 => ⟨S_, .i32⟩
  | 35 => ⟨S18, .i32⟩
  | 36 => ⟨S18, .i32⟩
  | 37 => ⟨S_, .i32⟩
  | 38 => ⟨S_, .i32⟩
  | 39 => ⟨S18, .i32⟩
  | 40 => ⟨S18, .i32⟩
  | 41 => ⟨S18, .i32⟩
  | 42 => ⟨S_, .i32⟩
  | 43 => ⟨S18, .i32⟩
  | 44 => ⟨S18, .i1⟩
  | 45 => ⟨S18, .i32⟩
  | 46 => ⟨S18, .i32⟩
  | 47 => ⟨S_, .i32⟩
  | 48 => ⟨S18, .i32⟩
  | 49 => ⟨S18, .i1⟩
  | 50 => ⟨S18, .i1⟩
  | 51 => ⟨S_, .i32⟩
  | 52 => ⟨S18, .i32⟩
  | 53 => ⟨S18, .i32⟩
  | 54 => ⟨S18, .i32⟩
  | 55 => ⟨S18, .i32⟩
  | 56 => ⟨S_, .i32⟩
  | 57 => ⟨S18, .i32⟩
  | 58 => ⟨S18, .i32⟩
  | 59 => ⟨S_, .i32⟩
  | 60 => ⟨S_, .i32⟩
  | 61 => ⟨S18, .i32⟩
  | 62 => ⟨S18, .i32⟩
  | 63 => ⟨S_, .i32⟩
  | 64 => ⟨S_, .i32⟩
  | 65 => ⟨S18, .i32⟩
  | 66 => ⟨S1, .i32⟩
  | 67 => ⟨S_, .i32⟩
  | 68 => ⟨S65, .i32⟩
  | 69 => ⟨S_, .i32⟩
  | 70 => ⟨S_, .i32⟩
  | 71 => ⟨S65, .i32⟩
  | 72 => ⟨S65, .i32⟩
  | 73 => ⟨S65x1, .i32⟩
  | 74 => ⟨S1x18, .i32⟩
  | 75 => ⟨S65x18, .i32⟩
  | 76 => ⟨S65x18, .i32⟩
  | 77 => ⟨S65x18, .i1⟩
  | 78 => ⟨S65x18, .i32⟩
  | 79 => ⟨S_, .i32⟩
  | 80 => ⟨S_, .i32⟩
  | 81 => ⟨S65, .i32⟩
  | 82 => ⟨S65, .i1⟩
  | 83 => ⟨S_, .i32⟩
  | 84 => ⟨S65, .i32⟩
  | 85 => ⟨S65, .i32⟩
  | 86 => ⟨S65, .i32⟩
  | 87 => ⟨S65x1, .i32⟩
  | 88 => ⟨S65, .i32⟩
  | 89 => ⟨S65, .i32⟩
  | 90 => ⟨S_, .i32⟩
  | 91 => ⟨S65, .i32⟩
  | 92 => ⟨S65, .i1⟩
  | 93 => ⟨S_, .i32⟩
  | 94 => ⟨S65, .i32⟩
  | 95 => ⟨S65, .i32⟩
  | 96 => ⟨S65, .i32⟩
  | 97 => ⟨S65x1, .i32⟩
  | 98 => ⟨S65, .i32⟩
  | 99 => ⟨S_, .i32⟩
  | 100 => ⟨S65, .i32⟩
  | 101 => ⟨S65, .i1⟩
  | 102 => ⟨S_, .i32⟩
  | 103 => ⟨S65, .i32⟩
  | 104 => ⟨S65, .i32⟩
  | 105 => ⟨S65, .i32⟩
  | 106 => ⟨S65x1, .i32⟩
  | 107 => ⟨S65, .i32⟩
  | 108 => ⟨S65, .i32⟩
  | 109 => ⟨S_, .i32⟩
  | 110 => ⟨S65, .i32⟩
  | 111 => ⟨S65, .i1⟩
  | 112 => ⟨S_, .i32⟩
  | 113 => ⟨S65, .i32⟩
  | 114 => ⟨S65, .i32⟩
  | 115 => ⟨S65, .i32⟩
  | 116 => ⟨S65x1, .i32⟩
  | 117 => ⟨S_, .i32⟩
  | 118 => ⟨S65, .i32⟩
  | 119 => ⟨S65, .i1⟩
  | 120 => ⟨S_, .i32⟩
  | 121 => ⟨S65, .i32⟩
  | 122 => ⟨S65, .i32⟩
  | 123 => ⟨S65, .i32⟩
  | 124 => ⟨S65x1, .i32⟩
  | 125 => ⟨S65, .i32⟩
  | 126 => ⟨S65, .i1⟩
  | 127 => ⟨S18x1x2048, .f32⟩
  | _ => ⟨S18, .i32⟩

abbrev hbmTy0_1 (i : Nat) : BufTy := match i % 128 with
  | 0 => ⟨S12288x2048, .fp8e4m3⟩
  | _ => ⟨S18, .i32⟩

abbrev hbmTy (i : Nat) : BufTy := match i / 128 with
  | 0 => hbmTy0_0 i
  | 1 => hbmTy0_1 i
  | _ => ⟨S18, .i32⟩

abbrev bufTy : (tb : Table) → Fin (tcTables nBuf tb) → BufTy
  | .hbm, ⟨i, _⟩ => hbmTy i
  | .local _ .vmem, ⟨0, _⟩ => ⟨S256x7168, .fp8e4m3⟩
  | .local _ .vmem, ⟨1, _⟩ => ⟨S256x7168, .fp8e4m3⟩
  | .local _ .vmem, ⟨2, _⟩ => ⟨S1x3584x256, .i8⟩
  | .local _ .vmem, ⟨3, _⟩ => ⟨S1x3584x256, .i8⟩
  | .local _ .vmem, ⟨4, _⟩ => ⟨S1x56x256, .bf16⟩
  | .local _ .vmem, ⟨5, _⟩ => ⟨S1x56x256, .bf16⟩
  | .local _ .vmem, ⟨6, _⟩ => ⟨S1x3584x256, .i8⟩
  | .local _ .vmem, ⟨7, _⟩ => ⟨S1x3584x256, .i8⟩
  | .local _ .vmem, ⟨8, _⟩ => ⟨S1x56x256, .bf16⟩
  | .local _ .vmem, ⟨9, _⟩ => ⟨S1x56x256, .bf16⟩
  | .local _ .vmem, ⟨10, _⟩ => ⟨S1x1x256, .f32⟩
  | .local _ .vmem, ⟨11, _⟩ => ⟨S1x1x256, .f32⟩
  | .local _ .vmem, ⟨12, _⟩ => ⟨S256x256, .fp8e4m3⟩
  | .local _ .vmem, ⟨13, _⟩ => ⟨S256x256, .fp8e4m3⟩
  | .local _ .vmem, ⟨14, _⟩ => ⟨S7168x256, .bf16⟩
  | .local _ .vmem, ⟨15, _⟩ => ⟨S7168x256, .bf16⟩
  | .local _ .smem, ⟨0, _⟩ => ⟨S65, .i32⟩
  | .local _ .smem, ⟨1, _⟩ => ⟨S65, .i32⟩
  | .local _ .smem, ⟨2, _⟩ => ⟨S65, .i32⟩
  | .local _ .smem, ⟨3, _⟩ => ⟨S65, .i32⟩
  | .local _ .smem, ⟨4, _⟩ => ⟨S65, .i32⟩
  | .local _ .smem, ⟨5, _⟩ => ⟨S18, .f32⟩
  | .local _ .smem, ⟨6, _⟩ => ⟨S18, .f32⟩
  | _, _ => ⟨S18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_c_1 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v7 : Ref sig .tc := ⟨.hbm, 54, rfl⟩
abbrev main_v8 : Ref sig .tc := ⟨.hbm, 55, rfl⟩
abbrev main_c_3 : Ref sig .tc := ⟨.hbm, 56, rfl⟩
abbrev main_v9 : Ref sig .tc := ⟨.hbm, 57, rfl⟩
abbrev main_v10 : Ref sig .tc := ⟨.hbm, 58, rfl⟩
abbrev main_c_4 : Ref sig .tc := ⟨.hbm, 59, rfl⟩
abbrev main_call3_v0 : Ref sig .tc := ⟨.hbm, 60, rfl⟩
abbrev main_call3_v1 : Ref sig .tc := ⟨.hbm, 61, rfl⟩
abbrev main_v11 : Ref sig .tc := ⟨.hbm, 62, rfl⟩
abbrev main_call4_call0_c : Ref sig .tc := ⟨.hbm, 63, rfl⟩
abbrev main_call4_call0_v0 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_c_5 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_c_6 : Ref sig .tc := ⟨.hbm, 79, rfl⟩
abbrev main_c_7 : Ref sig .tc := ⟨.hbm, 80, rfl⟩
abbrev main_v26 : Ref sig .tc := ⟨.hbm, 81, rfl⟩
abbrev main_v27 : Ref sig .tc := ⟨.hbm, 82, rfl⟩
abbrev main_c_8 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_9 : Ref sig .tc := ⟨.hbm, 90, rfl⟩
abbrev main_v34 : Ref sig .tc := ⟨.hbm, 91, rfl⟩
abbrev main_v35 : Ref sig .tc := ⟨.hbm, 92, rfl⟩
abbrev main_c_10 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_11 : Ref sig .tc := ⟨.hbm, 99, rfl⟩
abbrev main_v41 : Ref sig .tc := ⟨.hbm, 100, rfl⟩
abbrev main_v42 : Ref sig .tc := ⟨.hbm, 101, rfl⟩
abbrev main_c_12 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_13 : Ref sig .tc := ⟨.hbm, 109, rfl⟩
abbrev main_v50 : Ref sig .tc := ⟨.hbm, 110, rfl⟩
abbrev main_v51 : Ref sig .tc := ⟨.hbm, 111, rfl⟩
abbrev main_c_14 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_c_15 : Ref sig .tc := ⟨.hbm, 117, rfl⟩
abbrev main_v57 : Ref sig .tc := ⟨.hbm, 118, rfl⟩
abbrev main_v58 : Ref sig .tc := ⟨.hbm, 119, rfl⟩
abbrev main_c_16 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v64 : Ref sig .tc := ⟨.hbm, 125, rfl⟩
abbrev main_v65 : Ref sig .tc := ⟨.hbm, 126, rfl⟩
abbrev main_v67 : Ref sig .tc := ⟨.hbm, 127, rfl⟩
abbrev main_v68 : Ref sig .tc := ⟨.hbm, 128, rfl⟩
abbrev main_v49 : Ref sig .tc := ⟨.smem, 0, rfl⟩
abbrev main_v25 : Ref sig .tc := ⟨.smem, 1, rfl⟩
abbrev main_v56 : Ref sig .tc := ⟨.smem, 2, rfl⟩
abbrev main_v63 : Ref sig .tc := ⟨.smem, 3, rfl⟩
abbrev main_v66 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg6_0 : Ref sig .tc := ⟨.smem, 5, rfl⟩
abbrev cc0_stg7_0 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 65], ![false, false]⟩

abbrev pre0 : Pipeline.Prefetch sig := ⟨5, ![main_v49.idx, main_v25.idx, main_v56.idx, main_v63.idx, main_v66.idx], fun | 0 => main_v49.names | 1 => main_v25.names | 2 => main_v56.names | 3 => main_v63.names | 4 => main_v66.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_4 : BitVec 32 := 0#32
  let c7_i32 : BitVec 32 := 7#32
  let v16 : BitVec 32 := Scalar.addi c0_i32_4 c7_i32
  let c1_i32_5 : BitVec 32 := 1#32
  ⟨c0_i32_4, v16, c1_i32_5⟩
def k0_mult1 (k0_t1 : Fin k0_t1_loop.trips) : BitVec 32 :=
  let c0_i32_4 : BitVec 32 := 0#32
  let c1_i32_5 : BitVec 32 := 1#32
  let arg18 : BitVec 32 := Scf.iv c0_i32_4 c1_i32_5 k0_t1
  let c8_i32 : BitVec 32 := 8#32
  let v18 : BitVec 32 := Scalar.muli arg18 c8_i32
  v18
def k0_off3 (k0_t1 : Fin k0_t1_loop.trips) : Fin 3 → Nat :=
  let c0 : Index := 0#32
  let c0_i32_4 : BitVec 32 := 0#32
  let c1_i32_5 : BitVec 32 := 1#32
  let arg18 : BitVec 32 := Scf.iv c0_i32_4 c1_i32_5 k0_t1
  let c8_i32 : BitVec 32 := 8#32
  let v18 : BitVec 32 := Scalar.muli arg18 c8_i32
  let v19 : BitVec 32 := v18
  let v20 : Index := Scalar.indexCast v19
  let c0_11 : Index := 0#32
  ![0, v20.toNat, 0]
def k0_off4 (k0_t1 : Fin k0_t1_loop.trips) (c0_i32_13 : BitVec 32) : Fin 3 → Nat :=
  let c0_14 : Index := 0#32
  let c0_i32_4 : BitVec 32 := 0#32
  let c1_i32_5 : BitVec 32 := 1#32
  let arg18 : BitVec 32 := Scf.iv c0_i32_4 c1_i32_5 k0_t1
  let c8_i32_12 : BitVec 32 := 8#32
  let v23 : BitVec 32 := Scalar.muli arg18 c8_i32_12
  let v24 : BitVec 32 := Scalar.addi v23 c0_i32_13
  let c64_i32 : BitVec 32 := 64#32
  let v25 : BitVec 32 := Scalar.muli v24 c64_i32
  let v26 : Index := Scalar.indexCast v25
  let c0_15 : Index := 0#32
  ![0, v26.toNat, 0]
def k0_off5 (k0_t1 : Fin k0_t1_loop.trips) (c0_i32_13 : BitVec 32) : Fin 2 → Nat :=
  let c0_i32_4 : BitVec 32 := 0#32
  let c1_i32_5 : BitVec 32 := 1#32
  let arg18 : BitVec 32 := Scf.iv c0_i32_4 c1_i32_5 k0_t1
  let c8_i32_12 : BitVec 32 := 8#32
  let v23 : BitVec 32 := Scalar.muli arg18 c8_i32_12
  let v24 : BitVec 32 := Scalar.addi v23 c0_i32_13
  let c128_i32 : BitVec 32 := 128#32
  let v44 : BitVec 32 := Scalar.muli v24 c128_i32
  let v45 : Index := Scalar.indexCast v44
  let c0_17 : Index := 0#32
  ![v45.toNat, 0]
@[reducible] def k0_t2_loop : Scf.Loop 32 :=
  let c0_i32_7 : BitVec 32 := 0#32
  let c7_i32_8 : BitVec 32 := 7#32
  let v17 : BitVec 32 := Scalar.addi c0_i32_7 c7_i32_8
  let c1_i32_9 : BitVec 32 := 1#32
  ⟨c0_i32_7, v17, c1_i32_9⟩
def k0_mult2 (k0_t2 : Fin k0_t2_loop.trips) : BitVec 32 :=
  let c0_i32_7 : BitVec 32 := 0#32
  let c1_i32_9 : BitVec 32 := 1#32
  let arg18 : BitVec 32 := Scf.iv c0_i32_7 c1_i32_9 k0_t2
  let c8_i32 : BitVec 32 := 8#32
  let v18 : BitVec 32 := Scalar.muli arg18 c8_i32
  v18
def k0_off6 (k0_t2 : Fin k0_t2_loop.trips) : Fin 3 → Nat :=
  let c0 : Index := 0#32
  let c0_i32_7 : BitVec 32 := 0#32
  let c1_i32_9 : BitVec 32 := 1#32
  let arg18 : BitVec 32 := Scf.iv c0_i32_7 c1_i32_9 k0_t2
  let c8_i32 : BitVec 32 := 8#32
  let v18 : BitVec 32 := Scalar.muli arg18 c8_i32
  let v19 : BitVec 32 := v18
  let v20 : Index := Scalar.indexCast v19
  let c0_11 : Index := 0#32
  ![0, v20.toNat, 0]
def k0_off7 (k0_t2 : Fin k0_t2_loop.trips) (c0_i32_13 : BitVec 32) : Fin 3 → Nat :=
  let c0_14 : Index := 0#32
  let c0_i32_7 : BitVec 32 := 0#32
  let c1_i32_9 : BitVec 32 := 1#32
  let arg18 : BitVec 32 := Scf.iv c0_i32_7 c1_i32_9 k0_t2
  let c8_i32_12 : BitVec 32 := 8#32
  let v23 : BitVec 32 := Scalar.muli arg18 c8_i32_12
  let v24 : BitVec 32 := Scalar.addi v23 c0_i32_13
  let c64_i32 : BitVec 32 := 64#32
  let v25 : BitVec 32 := Scalar.muli v24 c64_i32
  let v26 : Index := Scalar.indexCast v25
  let c0_15 : Index := 0#32
  ![0, v26.toNat, 0]
def k0_off8 (k0_t2 : Fin k0_t2_loop.trips) (c0_i32_13 : BitVec 32) : Fin 2 → Nat :=
  let c0_i32_7 : BitVec 32 := 0#32
  let c1_i32_9 : BitVec 32 := 1#32
  let arg18 : BitVec 32 := Scf.iv c0_i32_7 c1_i32_9 k0_t2
  let c8_i32_12 : BitVec 32 := 8#32
  let v23 : BitVec 32 := Scalar.muli arg18 c8_i32_12
  let v24 : BitVec 32 := Scalar.addi v23 c0_i32_13
  let c128_i32 : BitVec 32 := 128#32
  let v44 : BitVec 32 := Scalar.muli v24 c128_i32
  let v45 : Index := Scalar.indexCast v44
  let c0_17 : Index := 0#32
  ![v45.toNat, 0]
def k0_off9 (i : grid0.Coords) : Fin 1 → Nat :=
  let arg1 : BitVec 32 := BitVec.ofNat 32 (i 1).val
  let v11 : Index := Scalar.indexCast arg1
  ![v11.toNat]
def k0_off10 (i : grid0.Coords) : Fin 1 → Nat :=
  let arg1 : BitVec 32 := BitVec.ofNat 32 (i 1).val
  let v16 : Index := Scalar.indexCast arg1
  ![v16.toNat]
def k0_off11 (v17 : BitVec 32) : Fin 1 → Nat :=
  let v22 : Index := Scalar.indexCast v17
  ![v22.toNat]
def k0_cond2 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_chk1 (v12 : BitVec 32) (v17 : BitVec 32) : Prop :=
  (∀ (k0_h2 : k0_cond2 v12 = 1#1), ∀ a, (k0_off11 v17) a + S1.size a ≤ S18.size a)
theorem k0_off11_inb : ∀ (v12 : BitVec 32) (v17 : BitVec 32) (k0_hw1 : k0_chk1 v12 v17), ∀ (k0_h2 : k0_cond2 v12 = 1#1), ∀ a, (k0_off11 v17) a + S1.size a ≤ S18.size a := fun v12 v17 k0_hw1 k0_h2 => k0_hw1 k0_h2

def k0_off12 (i : grid0.Coords) : Fin 1 → Nat :=
  let arg1 : BitVec 32 := BitVec.ofNat 32 (i 1).val
  let v48 : Index := Scalar.indexCast arg1
  ![v48.toNat]
def cc0_transform_0 (k0_off1_inb : ∀ i : grid0.Coords, ∀ a, (k0_off1 i) a + S1.size a ≤ S65.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S65) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S65) ![v0.toNat] S1.size (k0_off1_inb i)) numel1_S1
  let c0_i32 : BitVec 32 := 0#32
  let c0_i32_0 : BitVec 32 := 0#32
  ![v1.toNat, c0_i32.toNat, arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (k0_off1_inb : ∀ i : grid0.Coords, ∀ a, (k0_off1 i) a + S1.size a ≤ S65.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S65) ![v0.toNat] S1.size (k0_off1_inb i)) numel1_S1
  let c0_i32 : BitVec 32 := 0#32
  ![v1.toNat, arg0.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3584x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x56x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GateUpReferenceIdeal.lean ====
abbrev S18 : Shape := ⟨1, ![18]⟩
abbrev S12288x7168 : Shape := ⟨2, ![12288, 7168]⟩
abbrev S18x3584x2048 : Shape := ⟨3, ![18, 3584, 2048]⟩
abbrev S18x56x2048 : Shape := ⟨3, ![18, 56, 2048]⟩
abbrev S18x2048 : Shape := ⟨2, ![18, 2048]⟩
abbrev S_ : Shape := ⟨0, ![]⟩
abbrev S12288 : Shape := ⟨1, ![12288]⟩
abbrev S12288x1 : Shape := ⟨2, ![12288, 1]⟩
abbrev S1x18 : Shape := ⟨2, ![1, 18]⟩
abbrev S12288x18 : Shape := ⟨2, ![12288, 18]⟩
abbrev S18x56x64x2048 : Shape := ⟨4, ![18, 56, 64, 2048]⟩
abbrev S12288x3584 : Shape := ⟨2, ![12288, 3584]⟩
abbrev S18x2048x12288 : Shape := ⟨3, ![18, 2048, 12288]⟩
abbrev S18x12288x2048 : Shape := ⟨3, ![18, 12288, 2048]⟩
abbrev S18x12288 : Shape := ⟨2, ![18, 12288]⟩
abbrev S18x12288x1 : Shape := ⟨3, ![18, 12288, 1]⟩
abbrev S12288x2048 : Shape := ⟨2, ![12288, 2048]⟩
abbrev S12288x18x1 : Shape := ⟨3, ![12288, 18, 1]⟩
abbrev S1x18x2048 : Shape := ⟨3, ![1, 18, 2048]⟩
abbrev S12288x18x2048 : Shape := ⟨3, ![12288, 18, 2048]⟩

abbrev nBuf : Space → Nat
  | .hbm => 141
  | .vmem => 8
  | .smem => 0
  | _ => 0

abbrev hbmTy0_0 (i : Nat) : BufTy := match i % 128 with
  | 0 => ⟨S18, .i32⟩
  | 1 => ⟨S12288x7168, .fp8e4m3⟩
  | 2 => ⟨S18x3584x2048, .i8⟩
  | 3 => ⟨S18x56x2048, .bf16⟩
  | 4 => ⟨S18x3584x2048, .i8⟩
  | 5 => ⟨S18x56x2048, .bf16⟩
  | 6 => ⟨S18x2048, .f32⟩
  | 7 => ⟨S18, .f32⟩
  | 8 => ⟨S18, .f32⟩
  | 9 => ⟨S12288x7168, .bf16⟩
  | 10 => ⟨S18x3584x2048, .bf16⟩
  | 11 => ⟨S18x3584x2048, .bf16⟩
  | 12 => ⟨S18x3584x2048, .bf16⟩
  | 13 => ⟨S18x3584x2048, .bf16⟩
  | 14 => ⟨S_, .i32⟩
  | 15 => ⟨S_, .i32⟩
  | 16 => ⟨S18, .i32⟩
  | 17 => ⟨S18, .i32⟩
  | 18 => ⟨S12288, .i32⟩
  | 19 => ⟨S12288x1, .i32⟩
  | 20 => ⟨S1x18, .i32⟩
  | 21 => ⟨S12288x18, .i32⟩
  | 22 => ⟨S12288x18, .i32⟩
  | 23 => ⟨S12288x18, .i1⟩
  | 24 => ⟨S1x18, .i32⟩
  | 25 => ⟨S12288x18, .i32⟩
  | 26 => ⟨S12288x18, .i32⟩
  | 27 => ⟨S12288x18, .i1⟩
  | 28 => ⟨S12288x18, .i1⟩
  | 29 => ⟨S1x18, .f32⟩
  | 30 => ⟨S_, .f32⟩
  | 31 => ⟨S_, .f32⟩
  | 32 => ⟨S12288x18, .f32⟩
  | 33 => ⟨S12288x18, .f32⟩
  | 34 => ⟨S12288x18, .f32⟩
  | 35 => ⟨S_, .f32⟩
  | 36 => ⟨S12288, .f32⟩
  | 37 => ⟨S12288x1, .f32⟩
  | 38 => ⟨S18x56x64x2048, .bf16⟩
  | 39 => ⟨S18x3584x2048, .bf16⟩
  | 40 => ⟨S12288x3584, .bf16⟩
  | 41 => ⟨S18x3584x2048, .bf16⟩
  | 42 => ⟨S18x2048x12288, .f32⟩
  | 43 => ⟨S18x12288x2048, .f32⟩
  | 44 => ⟨S18x12288, .i1⟩
  | 45 => ⟨S18x12288x1, .i1⟩
  | 46 => ⟨S_, .f32⟩
  | 47 => ⟨S_, .f32⟩
  | 48 => ⟨S18x12288x2048, .i1⟩
  | 49 => ⟨S18x12288x2048, .f32⟩
  | 50 => ⟨S18x12288x2048, .f32⟩
  | 51 => ⟨S_, .f32⟩
  | 52 => ⟨S12288x2048, .f32⟩
  | 53 => ⟨S12288x3584, .bf16⟩
  | 54 => ⟨S18x3584x2048, .bf16⟩
  | 55 => ⟨S18x2048x12288, .f32⟩
  | 56 => ⟨S18x12288x2048, .f32⟩
  | 57 => ⟨S18x12288, .i1⟩
  | 58 => ⟨S18x12288x1, .i1⟩
  | 59 => ⟨S_, .f32⟩
  | 60 => ⟨S_, .f32⟩
  | 61 => ⟨S18x12288x2048, .i1⟩
  | 62 => ⟨S18x12288x2048, .f32⟩
  | 63 => ⟨S18x12288x2048, .f32⟩
  | 64 => ⟨S_, .f32⟩
  | 65 => ⟨S12288x2048, .f32⟩
  | 66 => ⟨S12288x2048, .f32⟩
  | 67 => ⟨S12288x2048, .f32⟩
  | 68 => ⟨S12288x2048, .f32⟩
  | 69 => ⟨S18x56x64x2048, .bf16⟩
  | 70 => ⟨S18x3584x2048, .bf16⟩
  | 71 => ⟨S12288x3584, .bf16⟩
  | 72 => ⟨S18x3584x2048, .bf16⟩
  | 73 => ⟨S18x2048x12288, .f32⟩
  | 74 => ⟨S18x12288x2048, .f32⟩
  | 75 => ⟨S18x12288, .i1⟩
  | 76 => ⟨S18x12288x1, .i1⟩
  | 77 => ⟨S_, .f32⟩
  | 78 => ⟨S_, .f32⟩
  | 79 => ⟨S18x12288x2048, .i1⟩
  | 80 => ⟨S18x12288x2048, .f32⟩
  | 81 => ⟨S18x12288x2048, .f32⟩
  | 82 => ⟨S_, .f32⟩
  | 83 => ⟨S12288x2048, .f32⟩
  | 84 => ⟨S12288x3584, .bf16⟩
  | 85 => ⟨S18x3584x2048, .bf16⟩
  | 86 => ⟨S18x2048x12288, .f32⟩
  | 87 => ⟨S18x12288x2048, .f32⟩
  | 88 => ⟨S18x12288, .i1⟩
  | 89 => ⟨S18x12288x1, .i1⟩
  | 90 => ⟨S_, .f32⟩
  | 91 => ⟨S_, .f32⟩
  | 92 => ⟨S18x12288x2048, .i1⟩
  | 93 => ⟨S18x12288x2048, .f32⟩
  | 94 => ⟨S18x12288x2048, .f32⟩
  | 95 => ⟨S_, .f32⟩
  | 96 => ⟨S12288x2048, .f32⟩
  | 97 => ⟨S12288x2048, .f32⟩
  | 98 => ⟨S12288x2048, .f32⟩
  | 99 => ⟨S12288x2048, .f32⟩
  | 100 => ⟨S12288x2048, .f32⟩
  | 101 => ⟨S12288x2048, .f32⟩
  | 102 => ⟨S_, .f32⟩
  | 103 => ⟨S12288x2048, .f32⟩
  | 104 => ⟨S12288x2048, .f32⟩
  | 105 => ⟨S_, .f32⟩
  | 106 => ⟨S12288x2048, .f32⟩
  | 107 => ⟨S12288x2048, .f32⟩
  | 108 => ⟨S12288x2048, .f32⟩
  | 109 => ⟨S12288x2048, .f32⟩
  | 110 => ⟨S12288x18x1, .i1⟩
  | 111 => ⟨S1x18x2048, .f32⟩
  | 112 => ⟨S_, .f32⟩
  | 113 => ⟨S_, .f32⟩
  | 114 => ⟨S12288x18x2048, .i1⟩
  | 115 => ⟨S12288x18x2048, .f32⟩
  | 116 => ⟨S12288x18x2048, .f32⟩
  | 117 => ⟨S12288x18x2048, .f32⟩
  | 118 => ⟨S_, .f32⟩
  | 119 => ⟨S12288x2048, .f32⟩
  | 120 => ⟨S12288x2048, .f32⟩
  | 121 => ⟨S1x18, .f32⟩
  | 122 => ⟨S_, .f32⟩
  | 123 => ⟨S_, .f32⟩
  | 124 => ⟨S12288x18, .f32⟩
  | 125 => ⟨S12288x18, .f32⟩
  | 126 => ⟨S12288x18, .f32⟩
  | 127 => ⟨S_, .f32⟩
  | _ => ⟨S18, .i32⟩

abbrev hbmTy0_1 (i : Nat) : BufTy := match i % 128 with
  | 0 => ⟨S12288, .f32⟩
  | 1 => ⟨S12288x1, .f32⟩
  | 2 => ⟨S12288x2048, .f32⟩
  | 3 => ⟨S12288x2048, .f32⟩
  | 4 => ⟨S_, .f32⟩
  | 5 => ⟨S_, .f32⟩
  | 6 => ⟨S_, .f32⟩
  | 7 => ⟨S12288x2048, .f32⟩
  | 8 => ⟨S12288x2048, .f32⟩
  | 9 => ⟨S_, .f32⟩
  | 10 => ⟨S12288x2048, .f32⟩
  | 11 => ⟨S12288x2048, .f32⟩
  | 12 => ⟨S12288x2048, .fp8e4m3⟩
  | _ => ⟨S18, .i32⟩

abbrev hbmTy (i : Nat) : BufTy := match i / 128 with
  | 0 => hbmTy0_0 i
  | 1 => hbmTy0_1 i
  | _ => ⟨S18, .i32⟩

abbrev bufTy : (tb : Table) → Fin (tcTables nBuf tb) → BufTy
  | .hbm, ⟨i, _⟩ => hbmTy i
  | .local _ .vmem, ⟨0, _⟩ => ⟨S12288x7168, .fp8e4m3⟩
  | .local _ .vmem, ⟨1, _⟩ => ⟨S18x3584x2048, .i8⟩
  | .local _ .vmem, ⟨2, _⟩ => ⟨S18x3584x2048, .i8⟩
  | .local _ .vmem, ⟨3, _⟩ => ⟨S12288x7168, .bf16⟩
  | .local _ .vmem, ⟨4, _⟩ => ⟨S18x3584x2048, .bf16⟩
  | .local _ .vmem, ⟨5, _⟩ => ⟨S18x3584x2048, .bf16⟩
  | .local _ .vmem, ⟨6, _⟩ => ⟨S18x3584x2048, .bf16⟩
  | .local _ .vmem, ⟨7, _⟩ => ⟨S18x3584x2048, .bf16⟩
  | _, _ => ⟨S18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_call0_call0_c : Ref sig .tc := ⟨.hbm, 14, rfl⟩
abbrev main_call0_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v55 : Ref sig .tc := ⟨.hbm, 94, rfl⟩
abbrev main_cst_8 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call6_v0 : Ref sig .tc := ⟨.hbm, 100, rfl⟩
abbrev main_call6_v1 : Ref sig .tc := ⟨.hbm, 101, rfl⟩
abbrev main_call6_cst : Ref sig .tc := ⟨.hbm, 102, rfl⟩
abbrev main_call6_v2 : Ref sig .tc := ⟨.hbm, 103, rfl⟩
abbrev main_call6_v3 : Ref sig .tc := ⟨.hbm, 104, rfl⟩
abbrev main_call6_cst_0 : Ref sig .tc := ⟨.hbm, 105, rfl⟩
abbrev main_call6_v4 : Ref sig .tc := ⟨.hbm, 106, rfl⟩
abbrev main_call6_v5 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_9 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_v64 : Ref sig .tc := ⟨.hbm, 117, rfl⟩
abbrev main_cst_10 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_11 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_v68 : Ref sig .tc := ⟨.hbm, 126, rfl⟩
abbrev main_cst_12 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_13 : Ref sig .tc := ⟨.hbm, 132, rfl⟩
abbrev main_cst_14 : Ref sig .tc := ⟨.hbm, 133, rfl⟩
abbrev main_call9_v0 : Ref sig .tc := ⟨.hbm, 134, rfl⟩
abbrev main_call9_v1 : Ref sig .tc := ⟨.hbm, 135, rfl⟩
abbrev main_call9_v2 : Ref sig .tc := ⟨.hbm, 136, rfl⟩
abbrev main_call9_v3 : Ref sig .tc := ⟨.hbm, 137, rfl⟩
abbrev main_call9_v4 : Ref sig .tc := ⟨.hbm, 138, rfl⟩
abbrev main_v73 : Ref sig .tc := ⟨.hbm, 139, rfl⟩
abbrev main_v74 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x3584x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x3584x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x3584x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18x3584x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18x3584x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18x3584x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Combine.lean ====
abbrev S4x384x8 : Shape := ⟨3, ![4, 384, 8]⟩
abbrev S12288x7168 : Shape := ⟨2, ![12288, 7168]⟩
abbrev S12288 : Shape := ⟨1, ![12288]⟩
abbrev S12288x1 : Shape := ⟨2, ![12288, 1]⟩
abbrev S1536x7168 : Shape := ⟨2, ![1536, 7168]⟩
abbrev S256x1 : Shape := ⟨2, ![256, 1]⟩
abbrev S32x7168 : Shape := ⟨2, ![32, 7168]⟩
abbrev S256x7168 : Shape := ⟨2, ![256, 7168]⟩
abbrev S_ : Shape := ⟨0, ![]⟩
abbrev S1 : Shape := ⟨1, ![1]⟩
abbrev S1x7168 : Shape := ⟨2, ![1, 7168]⟩
abbrev S128x7168 : Shape := ⟨2, ![128, 7168]⟩
abbrev S128x1 : Shape := ⟨2, ![128, 1]⟩
abbrev S16x8x7168 : Shape := ⟨3, ![16, 8, 7168]⟩
abbrev S16x7168 : Shape := ⟨2, ![16, 7168]⟩

abbrev nBuf : Space → Nat
  | .hbm => 5
  | .vmem => 5
  | .smem => 1
  | _ => 0

abbrev bufTy : (tb : Table) → Fin (tcTables nBuf tb) → BufTy
  | .hbm, ⟨0, _⟩ => ⟨S4x384x8, .i32⟩
  | .hbm, ⟨1, _⟩ => ⟨S4x384x8, .f32⟩
  | .hbm, ⟨2, _⟩ => ⟨S12288x7168, .f32⟩
  | .hbm, ⟨3, _⟩ => ⟨S12288x1, .f32⟩
  | .hbm, ⟨4, _⟩ => ⟨S1536x7168, .bf16⟩
  | .local _ .vmem, ⟨0, _⟩ => ⟨S256x1, .f32⟩
  | .local _ .vmem, ⟨1, _⟩ => ⟨S256x1, .f32⟩
  | .local _ .vmem, ⟨2, _⟩ => ⟨S32x7168, .bf16⟩
  | .local _ .vmem, ⟨3, _⟩ => ⟨S32x7168, .bf16⟩
  | .local _ .vmem, ⟨4, _⟩ => ⟨S256x7168, .f32⟩
  | .local _ .smem, ⟨0, _⟩ => ⟨S12288, .i32⟩
  | _, _ => ⟨S4x384x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c32_i32 : BitVec 32 := 32#32
  let v20 : BitVec 32 := Scalar.muli arg0 c32_i32
  let c8_i32 : BitVec 32 := 8#32
  let v21 : BitVec 32 := Scalar.muli v20 c8_i32
  let c0_i32 : BitVec 32 := 0#32
  let c1_i32 : BitVec 32 := 1#32
  let arg7 : BitVec 32 := Scf.iv c0_i32 c1_i32 k0_t1
  let v22 : BitVec 32 := Scalar.addi v21 arg7
  let v23 : Index := Scalar.indexCast v22
  ![v23.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_15 : BitVec 32 := 0#32
  ![arg7.toNat, 0]
def k0_off3 (v24 : BitVec 32) : Fin 2 → Nat :=
  let c0_i32_16 : BitVec 32 := 0#32
  ![v24.toNat, 0]

def k0_chk1 (v24 : BitVec 32) : Prop :=
  (∀ a, (k0_off3 v24) a + S1x7168.size a ≤ S12288x7168.size a)
theorem k0_off3_inb : ∀ (v24 : BitVec 32) (k0_hw1 : k0_chk1 v24), ∀ a, (k0_off3 v24) a + S1x7168.size a ≤ S12288x7168.size a := fun v24 k0_hw1 => k0_hw1

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c0_i32_15 : BitVec 32 := 0#32
  ![arg7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CombineReferenceIdeal.lean ====
abbrev S4x384x8 : Shape := ⟨3, ![4, 384, 8]⟩
abbrev S12288x7168 : Shape := ⟨2, ![12288, 7168]⟩
abbrev S1536x8 : Shape := ⟨2, ![1536, 8]⟩
abbrev S_ : Shape := ⟨0, ![]⟩
abbrev S1536x8x1 : Shape := ⟨3, ![1536, 8, 1]⟩
abbrev S1536x8x7168 : Shape := ⟨3, ![1536, 8, 7168]⟩
abbrev S1536x7168 : Shape := ⟨2, ![1536, 7168]⟩

abbrev nBuf : Space → Nat
  | .hbm => 20
  | .vmem => 0
  | .smem => 0
  | _ => 0

abbrev bufTy : (tb : Table) → Fin (tcTables nBuf tb) → BufTy
  | .hbm, ⟨0, _⟩ => ⟨S4x384x8, .i32⟩
  | .hbm, ⟨1, _⟩ => ⟨S4x384x8, .f32⟩
  | .hbm, ⟨2, _⟩ => ⟨S12288x7168, .f32⟩
  | .hbm, ⟨3, _⟩ => ⟨S1536x8, .i32⟩
  | .hbm, ⟨4, _⟩ => ⟨S_, .i32⟩
  | .hbm, ⟨5, _⟩ => ⟨S1536x8, .i32⟩
  | .hbm, ⟨6, _⟩ => ⟨S1536x8, .i1⟩
  | .hbm, ⟨7, _⟩ => ⟨S_, .i32⟩
  | .hbm, ⟨8, _⟩ => ⟨S1536x8, .i32⟩
  | .hbm, ⟨9, _⟩ => ⟨S1536x8, .i32⟩
  | .hbm, ⟨10, _⟩ => ⟨S1536x8, .i32⟩
  | .hbm, ⟨11, _⟩ => ⟨S1536x8x1, .i32⟩
  | .hbm, ⟨12, _⟩ => ⟨S1536x8x7168, .f32⟩
  | .hbm, ⟨13, _⟩ => ⟨S1536x8, .f32⟩
  | .hbm, ⟨14, _⟩ => ⟨S1536x8x1, .f32⟩
  | .hbm, ⟨15, _⟩ => ⟨S1536x8x7168, .f32⟩
  | .hbm, ⟨16, _⟩ => ⟨S1536x8x7168, .f32⟩
  | .hbm, ⟨17, _⟩ => ⟨S_, .f32⟩
  | .hbm, ⟨18, _⟩ => ⟨S1536x7168, .f32⟩
  | .hbm, ⟨19, _⟩ => ⟨S1536x7168, .bf16⟩
  | _, _ => ⟨S4x384x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Nibble.lean ====
module
public import Idealize.ShloMosaic.Lib.PointwiseCore
public import Idealize.ShloMosaic.Lib.Writes
/-! # One dequantised weight

A byte holds two signed four-bit values: the one of an even row in its low half, the one of the following odd row in its high half.
`dqe` is one such value, converted and multiplied by the scale of its group. -/
@[expose] public section
noncomputable section
namespace Cert.W4
open Idealize.ShloMosaic
variable {F : FTy → Type} [FloatOps F]

/-- The four-bit value of row `p` in the byte of rows `2 * (p / 2)` and `2 * (p / 2) + 1`, widened to 32 bits with its sign. -/
def nib (b : BitVec 8) (p : ℕ) : BitVec 32 :=
  if p % 2 < 1 then IntOp.shrsi ArithUnit.vector (IntOp.shli ArithUnit.vector (BitVec.signExtend 32 b) 28#32) 28#32
  else IntOp.shrsi ArithUnit.vector (BitVec.signExtend 32 b) 4#32

/-- The dequantised weight of row `p`: its four-bit value times its group's scale. -/
def dqe (b : BitVec 8) (p : ℕ) (s : F .bf16) : F .bf16 :=
  FloatOps.mulf (FloatOps.sitofp FTy.bf16 (nib b p)) s

theorem nib_congr (b : BitVec 8) {p q : ℕ} (h : p % 2 = q % 2) : nib b p = nib b q := by
  unfold nib; rw [h]

theorem dqe_congr (b : BitVec 8) (s : F .bf16) {p q : ℕ} (h : p % 2 = q % 2) : dqe b p s = dqe b q s := by
  unfold dqe; rw [nib_congr b h]

end Cert.W4
-- ==== Proof.DownDeq.lean ====
module
public import proofs.«01_k».proof.Proof.Gen.Down.Loops
public import proofs.«01_k».proof.Proof.Gen.Down.Launch
public import proofs.«01_k».proof.Proof.Nibble
/-! # The dequantised block

The program dequantises the weights of an expert, column block by column block, into a buffer of its own; here is what the buffer holds afterwards. -/
@[expose] public section
set_option maxRecDepth 16384
set_option maxHeartbeats 4000000
noncomputable section
namespace Cert.Down.Hand
open Idealize.ShloMosaic Idealize.ShloMosaic.TcCoe Idealize.ShloMosaic.Tactic
open Idealize.SL Idealize.SL.RA Idealize.SL.BI
open Cert.Down Cert.Down.Gen Cert.W4
variable {F : FTy → Type} [FloatOps F]

/-- The dequantised block: row `p`, column `n` is the four-bit value of row `p` times the scale of group `p / 128`. -/
def deq (W : Vec F S1x1024x1024 .i8) (S : Vec F S1x16x1024 .bf16) : Vec F S2048x1024 .bf16 := fun y =>
  dqe (W (ix3 0 ⟨(y 0).val / 2, by have := (y 0).isLt; change (y 0).val < 2048 at this; omega⟩ (y 1))) (y 0).val
    (S (ix3 0 ⟨(y 0).val / 128, by have := (y 0).isLt; change (y 0).val < 2048 at this; omega⟩ (y 1)))

/-- A payload of the loop is group `g` of the eight scales `s` with the 64 rows of bytes `w`. -/
def IsSlab (g : Fin 8) (s : FVec F S8x1024 .bf16) (w : Vec F S1x64x1024 .i8) (P : FVec F S128x1024 .bf16) : Prop :=
  ∀ (q : Fin 128) (n : Fin 1024), P (ix2 q n) = dqe (w (ix3 0 ⟨q.val / 2, by omega⟩ n)) q.val (s (ix2 g n))

theorem slab0 (s : Vec F S1x8x1024 .bf16) (w) : IsSlab (F := F) 0 (k0_pay3 s) w (k0_pay4 s w) := fun q n => by
  pointwise [k0_pay4, k0_pay3]; rfl
theorem slab1 (s : FVec F S8x1024 .bf16) (w) : IsSlab (F := F) 1 s w (k0_pay7 s (k0_pay5 w) k0_pay6) := fun q n => by
  pointwise [k0_pay7, k0_pay5, k0_pay6]; rfl
theorem slab2 (s : FVec F S8x1024 .bf16) (w) : IsSlab (F := F) 2 s w (k0_pay8 s w) := fun q n => by
  pointwise [k0_pay8]; rfl
theorem slab3 (s : FVec F S8x1024 .bf16) (w) : IsSlab (F := F) 3 s w (k0_pay9 s w) := fun q n => by
  pointwise [k0_pay9]; rfl
theorem slab4 (s : FVec F S8x1024 .bf16) (w) : IsSlab (F := F) 4 s w (k0_pay13 s (k0_pay11 w) (k0_pay12 w)) := fun q n => by
  pointwise [k0_pay13, k0_pay11, k0_pay12, k0_pay10]; rfl
theorem slab5 (s : FVec F S8x1024 .bf16) (w) : IsSlab (F := F) 5 s w (k0_pay14 s w) := fun q n => by
  pointwise [k0_pay14]; rfl
theorem slab6 (s : FVec F S8x1024 .bf16) (w) : IsSlab (F := F) 6 s w (k0_pay15 s w) := fun q n => by
  pointwise [k0_pay15]; rfl
theorem slab7 (s : FVec F S8x1024 .bf16) (w) : IsSlab (F := F) 7 s w (k0_pay1 (k0_pay16 s w)) := fun q n => by
  pointwise [k0_pay1, k0_pay16]; rfl

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x2048 .fp8e4m3) (harg7 : arg7.IsWhole) (arg8 : Memref sig .tc .vmem S1x1024x1024 .i8) (harg8 : arg8.IsWhole) (arg9 : Memref sig .tc .vmem S1x16x1024 .bf16) (harg9 : arg9.IsWhole) (arg10 : Memref sig .tc .smem S18 .f32) (harg10 : arg10.IsWhole) (arg11 : Memref sig .tc .vmem S256x1024 .f32) (harg11 : arg11.IsWhole) (arg12 : Memref sig .tc .vmem S2048x1024 .bf16) (harg12 : arg12.IsWhole)

theorem trips_eq : k0_t1_loop.trips = 2 := by decide

/-- What a trip stores for group `r` agrees with the dequantised block, its accesses at the offsets of trip `k`. -/
theorem slab_agrees_at (k : ℕ) (hk : k < 2) (r : Fin 8) {o3 : Fin 3 → ℕ} {o4 : Fin 3 → ℕ} {o5 : Fin 2 → ℕ}
    (e3 : o3 = ![0, 8 * k, 0]) (e4 : o4 = ![0, 512 * k + 64 * r.val, 0]) (e5 : o5 = ![1024 * k + 128 * r.val, 0])
    (i3 : ∀ a, o3 a + S1x8x1024.size a ≤ S1x16x1024.size a) (i4 : ∀ a, o4 a + S1x64x1024.size a ≤ S1x1024x1024.size a)
    (i5 : ∀ a, o5 a + S128x1024.size a ≤ S2048x1024.size a)
    (X8 : BufTy.Contents (Elt F) arg8.view.ty) (X9 : BufTy.Contents (Elt F) arg9.view.ty)
    (P : FVec F S128x1024 .bf16)
    (hP : IsSlab r (k0_pay3 (View.readAt (Elt F) arg9.view (Rect.unit (s := S1x16x1024) o3 S1x8x1024.size i3).toLoadRect X9))
      (View.readAt (Elt F) arg8.view (Rect.unit (s := S1x1024x1024) o4 S1x64x1024.size i4).toLoadRect X8) P)
    (x : S128x1024.Idx) :
    P x = deq (arg8.view.read (Elt F) X8) (arg9.view.read (Elt F) X9)
      ((Rect.unit (s := S2048x1024) o5 S128x1024.size i5).emb x) := by
  subst e3 e4 e5
  idx_vars x
  rw [hP x0 x1, View.readAt_eq_ld, View.readAt_eq_ld]
  generalize View.read (Elt F) arg8.view X8 = W
  generalize View.read (Elt F) arg9.view X9 = S
  unfold deq
  pointwise [k0_pay3]
  have hq := x0.isLt
  have hr := r.isLt
  have he : (Rect.unit (s := S2048x1024) ![1024 * k + 128 * r.val, 0] ![128, 1024] i5).emb (ix2 x0 x1)
      = ix2 (⟨1024 * k + 128 * r.val + x0.val, by omega⟩ : Fin 2048) x1 :=
    Rect.emb_eq_of_coords _ _ _ fun a => by
      fin_cases a <;> simp [Rect.unit, ix2]
  rw [he]
  have h1 : 512 * k + 64 * r.val + x0.val / 2 = (1024 * k + 128 * r.val + x0.val) / 2 := by omega
  have h2 : 8 * k + r.val = (1024 * k + 128 * r.val + x0.val) / 128 := by omega
  rw [dqe_congr _ _ (show x0.val % 2 = (1024 * k + 128 * r.val + x0.val) % 2 by omega)]
  congr 1
  · congr 2; exact Fin.ext h1
  · congr 2; exact Fin.ext h2

/-- Every piece one trip writes agrees with the dequantised block. -/
theorem trip_agrees (k : Fin k0_t1_loop.trips) (X8 : BufTy.Contents (Elt F) arg8.view.ty) (X9 : BufTy.Contents (Elt F) arg9.view.ty) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 X8 X9 k, ∀ x : p.1.shape.Idx,
      p.2 x = deq (arg8.view.read (Elt F) X8) (arg9.view.read (Elt F) X9) (p.1.emb x) := by
  have hk : k.val < 2 := trips_eq ▸ k.isLt
  unfold tripL_k0_t1 trip_k0_t1; dsimp only
  simp only [List.forall_mem_cons, List.not_mem_nil, false_imp_iff, implies_true, and_true]
  refine ⟨?_, ?_, ?_, ?_, ?_, ?_, ?_, ?_⟩
  · exact slab_agrees_at arg8 arg9 k.val hk 7 (k0_off3_eq k) (k0_off4_eq k 7) (k0_off5_eq k 7) _ _ _ X8 X9 _ (slab7 _ _)
  · exact slab_agrees_at arg8 arg9 k.val hk 6 (k0_off3_eq k) (k0_off4_eq k 6) (k0_off5_eq k 6) _ _ _ X8 X9 _ (slab6 _ _)
  · exact slab_agrees_at arg8 arg9 k.val hk 5 (k0_off3_eq k) (k0_off4_eq k 5) (k0_off5_eq k 5) _ _ _ X8 X9 _ (slab5 _ _)
  · exact slab_agrees_at arg8 arg9 k.val hk 4 (k0_off3_eq k) (k0_off4_eq k 4) (k0_off5_eq k 4) _ _ _ X8 X9 _ (slab4 _ _)
  · exact slab_agrees_at arg8 arg9 k.val hk 3 (k0_off3_eq k) (k0_off4_eq k 3) (k0_off5_eq k 3) _ _ _ X8 X9 _ (slab3 _ _)
  · exact slab_agrees_at arg8 arg9 k.val hk 2 (k0_off3_eq k) (k0_off4_eq k 2) (k0_off5_eq k 2) _ _ _ X8 X9 _ (slab2 _ _)
  · exact slab_agrees_at arg8 arg9 k.val hk 1 (k0_off3_eq k) (k0_off4_eq k 1) (k0_off5_eq k 1) _ _ _ X8 X9 _ (slab1 _ _)
  · exact slab_agrees_at arg8 arg9 k.val hk 0 (k0_off3_eq k) (k0_off4_eq k 0) (k0_off5_eq k 0) _ _ _ X8 X9 _ (slab0 _ _)

/-- A row of trip `k` lies in one of the eight pieces the trip writes. -/
theorem mem_slab (k : ℕ) (r : Fin 8) {o5 : Fin 2 → ℕ} (e5 : o5 = ![1024 * k + 128 * r.val, 0])
    (i5 : ∀ a, o5 a + S128x1024.size a ≤ S2048x1024.size a) (y : S2048x1024.Idx)
    (h : (y 0).val / 128 = 8 * k + r.val) : y ∈ (Rect.unit (s := S2048x1024) o5 S128x1024.size i5).set := by
  subst e5
  rw [Rect.mem_set_unit]
  have h1 := (y 1).isLt
  intro a
  fin_cases a
  · simp only [Fin.zero_eta, Matrix.cons_val_zero]
    change 1024 * k + 128 * r.val ≤ (y 0).val ∧ (y 0).val < 1024 * k + 128 * r.val + 128
    omega
  · exact ⟨Nat.zero_le _, by change (y 1).val < 0 + 1024; exact (by omega : (y 1).val < 0 + (y 1).val + 1).trans_le (by change (y 1).val < 1024 at h1; omega)⟩

theorem trip_covers (k : Fin k0_t1_loop.trips) (X8 : BufTy.Contents (Elt F) arg8.view.ty) (X9 : BufTy.Contents (Elt F) arg9.view.ty)
    (y : S2048x1024.Idx) (hy : (y 0).val / 1024 = k.val) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 X8 X9 k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t1 trip_k0_t1; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off5_eq k 7) _ y (by change _ = 8 * k.val + 7; omega)
  · exact mem_slab k.val 6 (k0_off5_eq k 6) _ y (by change _ = 8 * k.val + 6; omega)
  · exact mem_slab k.val 5 (k0_off5_eq k 5) _ y (by change _ = 8 * k.val + 5; omega)
  · exact mem_slab k.val 4 (k0_off5_eq k 4) _ y (by change _ = 8 * k.val + 4; omega)
  · exact mem_slab k.val 3 (k0_off5_eq k 3) _ y (by change _ = 8 * k.val + 3; omega)
  · exact mem_slab k.val 2 (k0_off5_eq k 2) _ y (by change _ = 8 * k.val + 2; omega)
  · exact mem_slab k.val 1 (k0_off5_eq k 1) _ y (by change _ = 8 * k.val + 1; omega)
  · exact mem_slab k.val 0 (k0_off5_eq k 0) _ y (by change _ = 8 * k.val + 0; omega)

/-- The pieces of the first `n` trips agree with the dequantised block and cover its first `1024 * n` rows. -/
theorem pb_agrees (X8 : BufTy.Contents (Elt F) arg8.view.ty) (X9 : BufTy.Contents (Elt F) arg9.view.ty) (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 X8 X9 n, ∀ x : p.1.shape.Idx,
      p.2 x = deq (arg8.view.read (Elt F) X8) (arg9.view.read (Elt F) X9) (p.1.emb x))
    ∧ ∀ y : S2048x1024.Idx, (y 0).val < 1024 * n → ∃ p ∈ pb_k0_t1 (F := F) 𝒱 c bd i arg2 harg2 arg3 harg3 arg4 harg4 arg5 harg5 arg6 harg6 arg7 harg7 arg8 harg8 arg9 harg9 arg10 harg10 arg11 harg11 arg12 harg12 X8 X9 n, y ∈ p.1.set := by
  induction n with
  | zero => exact ⟨fun p hp => absurd hp List.not_mem_nil, fun y hy => absurd hy (by omega)⟩
  | succ n ih =>
    obtain ⟨ih1, ih2⟩ := ih (by omega)
    have es := pb_k0_t1_succ (F := F) 𝒱 c bd i arg2 harg2 arg3 harg3 arg4 harg4 arg5 harg5 arg6 harg6 arg7 harg7 arg8 harg8 arg9 harg9 arg10 harg10 arg11 harg11 arg12 harg12 X8 X9 ⟨n, hn⟩
    dsimp only at es
    rw [es]
    refine ⟨fun p hp => ?_, fun y hy => ?_⟩
    · rcases List.mem_append.mp hp with h | h
      · exact trip_agrees 𝒱 c bd i arg2 harg2 arg3 harg3 arg4 harg4 arg5 harg5 arg6 harg6 arg7 harg7 arg8 harg8 arg9 harg9 arg10 harg10 arg11 harg11 arg12 harg12 ⟨n, hn⟩ X8 X9 p h
      · exact ih1 p h
    · by_cases h : (y 0).val < 1024 * n
      · obtain ⟨p, hp, hy⟩ := ih2 y h
        exact ⟨p, List.mem_append_right _ hp, hy⟩
      · obtain ⟨p, hp, hy⟩ := trip_covers 𝒱 c bd i arg2 harg2 arg3 harg3 arg4 harg4 arg5 harg5 arg6 harg6 arg7 harg7 arg8 harg8 arg9 harg9 arg10 harg10 arg11 harg11 arg12 harg12 ⟨n, hn⟩ X8 X9 y (by change _ = n; omega)
        exact ⟨p, List.mem_append_left _ hp, hy⟩

/-- After the loop the scratch holds the dequantised block, whatever it held before. -/
theorem scratch_eq (X8 : BufTy.Contents (Elt F) arg8.view.ty) (X9 : BufTy.Contents (Elt F) arg9.view.ty) (X12 : BufTy.Contents (Elt F) arg12.view.ty) :
    arg12.view.read (Elt F) (arg12.view.writes (Elt F) X12 (pb_k0_t1 (F := F) 𝒱 c bd i arg2 harg2 arg3 harg3 arg4 harg4 arg5 harg5 arg6 harg6 arg7 harg7 arg8 harg8 arg9 harg9 arg10 harg10 arg11 harg11 arg12 harg12 X8 X9 k0_t1_loop.trips))
      = deq (arg8.view.read (Elt F) X8) (arg9.view.read (Elt F) X9) := by
  obtain ⟨h1, h2⟩ := pb_agrees (F := F) 𝒱 c bd i arg2 harg2 arg3 harg3 arg4 harg4 arg5 harg5 arg6 harg6 arg7 harg7 arg8 harg8 arg9 harg9 arg10 harg10 arg11 harg11 arg12 harg12 X8 X9 _ le_rfl
  funext y
  refine View.read_writes_apply_of_pieces _ _ _ _ h1 y (h2 y ?_)
  rw [trips_eq]; exact (y 0).isLt

end
end Cert.Down.Hand
-- ==== Proof.DownBody.lean ====
module
public import proofs.«01_k».proof.Proof.DownDeq
public import Idealize.ShloMosaic.Lib.VecWindow
/-! # What one grid point of the down kernel does

The body dequantises the weight block into the scratch at the first visit of an expert, and at a live visit replaces the rows
of the output block that the visit owns. -/
@[expose] public section
set_option maxRecDepth 16384
set_option maxHeartbeats 4000000
noncomputable section
namespace Cert.Down.Hand
open Idealize.ShloMosaic Idealize.ShloMosaic.TcCoe Idealize.ShloMosaic.Tactic
open Cert.Down Cert.Down.Gen Cert.W4

variable {F : FTy → Type} [FloatOps F]

/-- The word of visit `v` in a table. -/
def at65 (T : S65.Idx → BitVec 32) (v : ℕ) : BitVec 32 := T (ix1 ⟨min v 64, by omega⟩)

/-- A table's word read at the grid's visit. -/
theorem word_eq (arg : Memref sig .tc .smem S65 .i32) (X : BufTy.Contents (Elt F) arg.view.ty) {o : Fin 1 → ℕ} (n : ℕ) (hn : n < 65)
    (e : o = ![n]) (inb : ∀ a, o a + S1.size a ≤ S65.size a) (h : 0 < S1.numel) :
    View.readAt (Elt F) arg.view (Rect.unit (s := S65) o S1.size inb).toLoadRect X (Shape.Idx.first h)
      = at65 (arg.view.read (Elt F) X) n := by
  subst e
  rw [View.readAt_eq_ld]
  unfold at65
  refine congrArg (arg.view.read (Elt F) X) (funext fun a => Fin.ext ?_)
  fin_cases a
  have hz : (Shape.Idx.first h (0 : Fin 1)).val < 1 := (Shape.Idx.first h (0 : Fin 1)).isLt
  change n + 1 * (Shape.Idx.first h (0 : Fin 1)).val = min n 64
  omega

/-- A scale read at an expert's word. -/
def at18 (A : S18.Idx → F .f32) (e : BitVec 32) : F .f32 := A (ix1 ⟨min e.toNat 17, by omega⟩)

theorem scale_eq (arg : Memref sig .tc .smem S18 .f32) (X : BufTy.Contents (Elt F) arg.view.ty) (w : BitVec 32) {o : Fin 1 → ℕ}
    (e : o = ![w.toNat]) (inb : ∀ a, o a + S1.size a ≤ S18.size a) (h : 0 < S1.numel) :
    View.readAt (Elt F) arg.view (Rect.unit (s := S18) o S1.size inb).toLoadRect X (Shape.Idx.first h)
      = at18 (arg.view.read (Elt F) X) w := by
  subst e
  rw [View.readAt_eq_ld]
  unfold at18
  refine congrArg (arg.view.read (Elt F) X) (funext fun a => Fin.ext ?_)
  fin_cases a
  have hz : (Shape.Idx.first h (0 : Fin 1)).val < 1 := (Shape.Idx.first h (0 : Fin 1)).isLt
  change w.toNat + 1 * (Shape.Idx.first h (0 : Fin 1)).val = min w.toNat 17
  have := inb 0
  change w.toNat + 1 ≤ 18 at this
  omega

theorem k0_off2_eq (i : grid0.Coords) : k0_off2 i = ![(i 1).val - 1] := by
  have r_i1 : (i 1).val < 65 := (i 1).isLt
  have h_arg1 : Affine.IsInt (BitVec.ofNat 32 (i 1).val) (((i 1).val : Int)) := Affine.ofNat _ (by omega)
  have h_c1_i32 : Affine.IsInt 1#32 (1) := Affine.ofNat _ (by omega)
  have h_v3 : Affine.IsInt _ (((i 1).val : Int) - 1) := Affine.subi h_arg1 h_c1_i32 (by omega)
  have h_c0_i32_0 : Affine.IsInt 0#32 (0) := Affine.ofNat _ (by omega)
  have h_v4 : Affine.IsInt _ ((max (((i 1).val : Int) - 1) 0)) := Affine.maxsi h_v3 h_c0_i32_0 (by omega)
  have h_v5 : Affine.IsInt _ ((max (((i 1).val : Int) - 1) 0)) := Affine.indexCast h_v4
  exact Affine.vec_cons h_v5 (by omega) <| Affine.vec_nil

/-- The visit is the first one of its column, or visits another expert than the visit before. -/
def fresh (T3 : S65.Idx → BitVec 32) (v : ℕ) : Prop := v = 0 ∨ at65 T3 v ≠ at65 T3 (v - 1)

instance (T3 : S65.Idx → BitVec 32) (v : ℕ) : Decidable (fresh T3 v) := inferInstanceAs (Decidable (_ ∨ _))

/-- The visit has work to do. -/
def live (T6 : S65.Idx → BitVec 32) (v : ℕ) : Prop := at65 T6 v = 1#32

instance (T6 : S65.Idx → BitVec 32) (v : ℕ) : Decidable (live T6 v) := inferInstanceAs (Decidable (_ = _))

/-- What a live visit stores into the output block. -/
def outv (T2 T3 T4 T5 : S65.Idx → BitVec 32) (v : ℕ) (X7 : Vec F S256x2048 .fp8e4m3) (D : Vec F S2048x1024 .bf16)
    (A : S18.Idx → F .f32) (Y : Vec F S256x1024 .f32) : Vec F S256x1024 .f32 :=
  k0_pay2 X7 D (at18 A (at65 T3 v)) (at65 T2 v) (at65 T4 v) (at65 T5 v) Y

theorem cond2_iff (w : BitVec 32) : k0_cond2 w = 1#1 ↔ w = 1#32 := by
  unfold k0_cond2
  simp only [Scalar.cmpi, Scalar.extui, IntOp.cmpi]
  by_cases h : w = 1#32
  · subst h; decide
  · have e : (w == 1#32) = false := by simpa using h
    rw [e]; simp [h]

theorem cond1_iff (v : ℕ) (hv : v < 65) (a b : BitVec 32) :
    Scalar.cmpi .ne (Scalar.extui (Scalar.ori (Scalar.cmpi .eq (BitVec.ofNat 32 v) 0#32) (Scalar.cmpi .ne a b))) 0#32 = 1#1
      ↔ (v = 0 ∨ a ≠ b) := by
  have h0 : BitVec.ofNat 32 v = 0#32 ↔ v = 0 := by
    constructor
    · intro h; have := congrArg BitVec.toNat h; simp at this; omega
    · rintro rfl; rfl
  have e1 : (BitVec.ofNat 32 v == 0#32) = decide (v = 0) := by rw [← decide_eq_decide.mpr h0]; rfl
  have e2 : (a != b) = decide (a ≠ b) := by by_cases h : a = b <;> simp [h]
  simp only [Scalar.cmpi, Scalar.extui, Scalar.ori, IntOp.cmpi, IntOp.ori]
  rw [e1, e2]
  by_cases h1 : v = 0 <;> by_cases h2 : a = b <;> simp [h1, h2]

theorem chk_of (a b : BitVec 32) (hb : b.toNat < 18) : k0_chk1 a b := by
  intro _ x
  fin_cases x
  change b.toNat + 1 ≤ 18
  omega

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x2048 .fp8e4m3) (harg7 : arg7.IsWhole) (arg8 : Memref sig .tc .vmem S1x1024x1024 .i8) (harg8 : arg8.IsWhole) (arg9 : Memref sig .tc .vmem S1x16x1024 .bf16) (harg9 : arg9.IsWhole) (arg10 : Memref sig .tc .smem S18 .f32) (harg10 : arg10.IsWhole) (arg11 : Memref sig .tc .vmem S256x1024 .f32) (harg11 : arg11.IsWhole) (arg12 : Memref sig .tc .vmem S2048x1024 .bf16) (harg12 : arg12.IsWhole)

set_option maxHeartbeats 16000000 in
/-- One grid point, run on blocks of any contents. -/
theorem body_run (q : PosShare TreeShare) (X2 : Vec F S65 .i32) (X3 : Vec F S65 .i32) (X4 : Vec F S65 .i32) (X5 : Vec F S65 .i32) (X6 : Vec F S65 .i32) (X7 : Vec F S256x2048 .fp8e4m3) (X8 : Vec F S1x1024x1024 .i8) (X9 : Vec F S1x16x1024 .bf16) (X10 : Vec F S18 .f32) (X11 : Vec F S256x1024 .f32) (X12 : Vec F S2048x1024 .bf16) (hex : (at65 X3 (i 1).val).toNat < 18) :
    iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
      ⊢ wp (M := 𝕄G) frame (wpE (defs₀ (F := F)) 𝒱 (c : Thread nD τ) bd) E (cc0_down (F := F) i arg2 harg2 arg3 harg3 arg4 harg4 arg5 harg5 arg6 harg6 arg7 harg7 arg8 harg8 arg9 harg9 arg10 harg10 arg11 harg11 arg12 harg12)
          (fun _ => iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10
            ∗ (∃ D, ⌜D = if fresh X3 (i 1).val then deq X8 X9 else X12⌝ ∗ owns (c : Thread nD τ) arg12 fullShare D
               ∗ (∃ O, ⌜O = if live X6 (i 1).val then outv X2 X3 X4 X5 (i 1).val X7 D X10 X11 else X11⌝ ∗ owns (c : Thread nD τ) arg11 fullShare O)))) := by
  have hv : (i 1).val < 65 := (i 1).isLt
  rw [Gen.cc0_down_eq_skeleton]; unfold Gen.cc0_down_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩
  have hw3 : (View.readAt (Elt F) arg3.view (Rect.unit (s := S65) (k0_off7 i) S1.size (k0_off7_inb i)).toLoadRect f3
      (Shape.Idx.first (numel1_S1 ▸ Nat.one_pos))).toNat < 18 := by
    rw [word_eq arg3 f3 _ hv (k0_off7_eq i), e3]; exact hex
  have hk : ∀ a b, b.toNat < 18 → k0_chk1 a b := fun a b hb => chk_of a b hb
  sl_exec
  by_cases h1 : body_run.sl.v10 c i arg3 f3 = 1#1
  · sl_exec (disch := first | sl_exact h1 | exact hk _ _ hw3)
    sl_step
    have hlive : k0_cond2 (body_run.sl.r_2 c i arg6 f6) = 1#1 ↔ live X6 (i 1).val := by
      rw [cond2_iff]; unfold live
      rw [show body_run.sl.r_2 c i arg6 f6 = at65 X6 (i 1).val from
        (word_eq arg6 f6 _ hv (k0_off6_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD : View.read (Elt F) arg12.view (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 f8 f9 (Scf.trips k0_t1_loop.lb k0_t1_loop.ub k0_t1_loop.st))) = if fresh X3 (i 1).val then deq X8 X9 else X12 := by
      rw [if_pos (hfr.mp h1), ← e8, ← e9]; exact scratch_eq (F := F) 𝒱 c bd i arg2 harg2 arg3 harg3 arg4 harg4 arg5 harg5 arg6 harg6 arg7 harg7 arg8 harg8 arg9 harg9 arg10 harg10 arg11 harg11 arg12 harg12 f8 f9 f12
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    iexists (if fresh X3 (i 1).val then deq X8 X9 else X12)
    isplitr
    · ipureintro; rfl
    isplitl [H12]
    · iexists _; isplitr
      swap
      · iexact H12
      · ipureintro; exact hD
    iexists _
    isplitr
    swap
    · iexists _; isplitr
      swap
      · iexact H11
      · ipureintro; rfl
    · ipureintro
      rw [← hD]
      split
      · rename_i hl
        rw [if_pos (hlive.mp hl)]
        refine (View.read_writes_full _ _ _ _ _).trans ?_
        unfold outv
        congr 1
        · rw [View.readAt_full]; exact e7
        · rw [View.readAt_full]
        · exact (scale_eq arg10 f10 _ rfl _ _).trans (by rw [e10]; congr 1; exact (word_eq arg3 f3 _ hv (k0_off7_eq i) _ _).trans (by rw [e3]))
        · exact (word_eq arg2 f2 _ hv (k0_off9_eq i) _ _).trans (by rw [e2])
        · exact (word_eq arg4 f4 _ hv (k0_off9_eq i) _ _).trans (by rw [e4])
        · exact (word_eq arg5 f5 _ hv (k0_off9_eq i) _ _).trans (by rw [e5])
        · rw [View.readAt_full]; exact e11
      · rename_i hl
        rw [if_neg (fun h => hl (hlive.mpr h))]; exact e11
  · sl_exec (disch := first | sl_exact h1 | exact hk _ _ hw3)
    sl_step
    have hlive : k0_cond2 (body_run.sl.r_8 c i arg6 f6) = 1#1 ↔ live X6 (i 1).val := by
      rw [cond2_iff]; unfold live
      rw [show body_run.sl.r_8 c i arg6 f6 = at65 X6 (i 1).val from
        (word_eq arg6 f6 _ hv (k0_off6_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD : View.read (Elt F) arg12.view (f12) = if fresh X3 (i 1).val then deq X8 X9 else X12 := by
      rw [if_neg (fun h => h1 (hfr.mpr h))]; exact e12
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    iexists (if fresh X3 (i 1).val then deq X8 X9 else X12)
    isplitr
    · ipureintro; rfl
    isplitl [H12]
    · iexists _; isplitr
      swap
      · iexact H12
      · ipureintro; exact hD
    iexists _
    isplitr
    swap
    · iexists _; isplitr
      swap
      · iexact H11
      · ipureintro; rfl
    · ipureintro
      rw [← hD]
      split
      · rename_i hl
        rw [if_pos (hlive.mp hl)]
        refine (View.read_writes_full _ _ _ _ _).trans ?_
        unfold outv
        congr 1
        · rw [View.readAt_full]; exact e7
        · rw [View.readAt_full]
        · exact (scale_eq arg10 f10 _ rfl _ _).trans (by rw [e10]; congr 1; exact (word_eq arg3 f3 _ hv (k0_off7_eq i) _ _).trans (by rw [e3]))
        · exact (word_eq arg2 f2 _ hv (k0_off9_eq i) _ _).trans (by rw [e2])
        · exact (word_eq arg4 f4 _ hv (k0_off9_eq i) _ _).trans (by rw [e4])
        · exact (word_eq arg5 f5 _ hv (k0_off9_eq i) _ _).trans (by rw [e5])
        · rw [View.readAt_full]; exact e11
      · rename_i hl
        rw [if_neg (fun h => hl (hlive.mpr h))]; exact e11
end
end Cert.Down.Hand
-- ==== Proof.DownRun.lean ====
module
public import proofs.«01_k».proof.Proof.DownBody
public import Idealize.ShloMosaic.Lib.Pipeline.Frame
public import Idealize.ShloMosaic.Lib.Pipeline.FrameBody
public import Idealize.ShloMosaic.Lib.Pipeline.TableIdle
/-! # The down kernel over its whole grid

What the body leaves at a grid point, as a relation to what it found, and the run of the program by it. -/
@[expose] public section
set_option maxRecDepth 16384
set_option maxHeartbeats 400000
noncomputable section
namespace Cert.Down.Hand
open Idealize.ShloMosaic Idealize.ShloMosaic.TcCoe Idealize.ShloMosaic.Tactic
open Cert.Down Cert.Down.Gen Cert.W4

variable {F : FTy → Type} [FloatOps F]

/-- The column and the visit of a grid point. -/
theorem coords_val (t : Fin grid0.N) : (grid0.coords t 0).val = t.val / 65 ∧ (grid0.coords t 1).val = t.val % 65 := by
  have ht : t.val < 455 := t.isLt.trans_eq N_0
  have h0 : grid0.stride 0 = 65 := by decide
  have h1 : grid0.stride 1 = 1 := by decide
  refine ⟨?_, ?_⟩
  · change t.val / grid0.stride 0 % 7 = _
    rw [h0]; omega
  · change t.val / grid0.stride 1 % 65 = _
    rw [h1, Nat.div_one]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (UR sig nD τ) ℕ (cfg0 a) c where
  A w := A (Pipeline.arrRef spec0 w) c
  after w t Y X := X = Y
  Φ _ := iprop(emp)
  q _ := fullShare
  owed _ := 0

/-- The block of an input window at a point. -/
def inp (w : Fin 5) (t : Fin grid0.N) : ((cfg0 a).win w).block.Idx → Elt F ((cfg0 a).win w).elt :=
  (rd0 a A c).fetched w t (Classical.arbitrary _)

/-- The tables. -/
def tb (k : Fin 5) : S65.Idx → BitVec 32 := match k with
  | 0 => a.1 0 | 1 => a.1 1 | 2 => a.1 2 | 3 => a.1 3 | 4 => a.1 4

/-- The scratch after point `t`: the weight block of its visit, dequantised. -/
def scr (t : Fin grid0.N) : Vec F S2048x1024 .bf16 := deq (inp a A c 1 t) (inp a A c 2 t)

/-- What the output block holds after point `t`, if it held `Y` before. -/
def outF (t : Fin grid0.N) (Y : Vec F S256x1024 .f32) : Vec F S256x1024 .f32 :=
  if live (tb a 4) (grid0.coords t 1).val then
    outv (tb a 0) (tb a 1) (tb a 2) (tb a 3) (grid0.coords t 1).val (inp a A c 0 t) (scr a A c t) (inp a A c 3 t) Y
  else Y

/-- Before point `t` the scratch holds what the point before left in it. -/
def inv (t : Fin (grid0.N + 1)) : sProp 𝕄G :=
  iprop(Pipeline.prefHeld (Ix := Unit) (Name := ℕ) (U := UR sig nD τ) (Lvl := ℕ) pre0 c (fun _ => fullShare.right) a.1
    ∗ (∃ r, prngReg c r)
    ∗ ∃ D, ⌜∀ u : Fin grid0.N, u.val + 1 = t.val → D = scr a A c u⌝ ∗ owns (c : Thread nD τ) (Memref.whole cc0_scratch0) fullShare D)

/-- The proof data of the run. -/
def rd : Pipeline.RDat τ (Elt F) Unit ℕ (UR sig nD τ) ℕ (cfg0 a) c where
  A w := A (Pipeline.arrRef spec0 w) c
  after := fun
    | 0 => fun _ Y X => X = Y
    | 1 => fun _ Y X => X = Y
    | 2 => fun _ Y X => X = Y
    | 3 => fun _ Y X => X = Y
    | 4 => fun t Y X => X = outF a A c t Y
    | ⟨_ + 5, h⟩ => absurd h (Nat.not_lt.2 (Nat.le_add_left _ _))
  Φ t := inv a A c t
  q _ := fullShare
  owed _ := 0

/-- A buffer of an input window holds the window's block at every point. -/
theorem finds_inp (w : Fin 5) (hw : w ≠ 4) (t : Fin grid0.N) (Y : ((cfg0 a).win w).block.Idx → Elt F ((cfg0 a).win w).elt)
    (h : (rd a A c).Finds w t Y) : Y = inp a A c w t := by
  have hclip : ∀ (w : Fin 5) (i : grid0.Coords) (b), ((cfg0 a).win w).clip i b = none := by
    intro w i b; fin_cases w <;> rfl
  obtain ⟨d, rfl⟩ := (rd a A c).finds_in_eq_fetched w (by fin_cases w <;> first | rfl | exact absurd rfl hw)
    (fun t t' _ => by funext b; rw [hclip])
    (fun t Y X h => by fin_cases w <;> first | exact h | exact absurd rfl hw) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (UR sig nD τ) ℕ (cfg0 a) c) w t (fun b => hclip w _ b) _ _

/-- The word of a table an index map reads. -/
theorem pfAt (pf : S65.Idx → BitVec 32) (t : Fin grid0.N) (h : 0 < S1.numel) :
    pf ((Rect.unit (s := S65) (k0_off1 (grid0.coords t)) S1.size (k0_off1_inb (grid0.coords t))).emb (Shape.Idx.first h)) = at65 pf (grid0.coords t 1).val := by
  unfold at65
  refine congrArg pf (funext fun b => Fin.ext ?_)
  fin_cases b
  have e := congrFun (k0_off1_eq (grid0.coords t)) 0
  have hv : (grid0.coords t 1).val < 65 := (grid0.coords t 1).isLt
  have hf : (Shape.Idx.first h (0 : Fin 1)).val < 1 := (Shape.Idx.first h (0 : Fin 1)).isLt
  change k0_off1 (grid0.coords t) 0 + 1 * (Shape.Idx.first h (0 : Fin 1)).val = min _ 64
  have e' : k0_off1 (grid0.coords t) 0 = (grid0.coords t 1).val := e
  rw [e']
  omega

/-- The block index of the rows' window is the visit's tile. -/
theorem index0 (t : Fin grid0.N) : ((cfg0 a).win 0).index t = ![(at65 (tb a 0) (grid0.coords t 1).val).toNat, 0] := by
  refine Eq.trans ?_ (congrArg (fun w : BitVec 32 => ![w.toNat, 0]) (pfAt (tb a 0) t (numel1_S1 ▸ Nat.one_pos)))
  rfl

theorem ofNat_col (t : Fin grid0.N) : (BitVec.ofNat 32 (grid0.coords t 0).val).toNat = (grid0.coords t 0).val := by
  have : (grid0.coords t 0).val < 7 := (grid0.coords t 0).isLt
  rw [BitVec.toNat_ofNat]; omega

/-- The block index of a weight window is the visit's expert and column. -/
theorem index1 (t : Fin grid0.N) : ((cfg0 a).win 1).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index2 (t : Fin grid0.N) : ((cfg0 a).win 2).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

/-- The block index of the output's window is the visit's tile and the column. -/
theorem index4 (t : Fin grid0.N) : ((cfg0 a).win 4).index t = ![(at65 (tb a 0) (grid0.coords t 1).val).toNat, (grid0.coords t 0).val] := by
  refine Eq.trans ?_ (congrArg₂ (fun (w : BitVec 32) (n : ℕ) => ![w.toNat, n]) (pfAt (tb a 0) t (numel1_S1 ▸ Nat.one_pos)) (ofNat_col t))
  rfl

/-- The expert of a visit is one of the eighteen. -/
theorem ex_lt (t : Fin grid0.N) : (at65 (tb a 1) (grid0.coords t 1).val).toNat < 18 := by
  obtain ⟨h, _⟩ := a.2.2.1 (grid0.coords t)
  have h0 := h (0 : Fin 3)
  have e : cc0_transform_1 k0_off1_inb numel1_S1 a.1 (grid0.coords t) (0 : Fin 3) = (at65 (tb a 1) (grid0.coords t 1).val).toNat := congrFun (index1 a t) (0 : Fin 3)
  rw [e] at h0
  have h1 : ((at65 (tb a 1) (grid0.coords t 1).val).toNat + 1) * 1 ≤ 18 := h0
  omega

/-- A block is fetched the same at two points of one block index. -/
theorem inp_congr (w : Fin 5) (t u : Fin grid0.N) (h : ((cfg0 a).win w).index t = ((cfg0 a).win w).index u) : inp a A c w t = inp a A c w u :=
  (rd0 a A c).fetched_congr w h (by funext b; fin_cases w <;> rfl) _

/-- A visit that keeps the expert of the visit before it finds the scratch it needs. -/
theorem scr_stale (t u : Fin grid0.N) (hu : u.val + 1 = t.val) (h : ¬ fresh (tb a 1) (grid0.coords t 1).val) : scr a A c u = scr a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr
  rw [inp_congr a A c 1 u t (by rw [index1, index1, e0, e1, h1]), inp_congr a A c 2 u t (by rw [index2, index2, e0, e1, h1])]

/-- What the body leaves in the scratch is the visit's block, made now or kept from the point before. -/
theorem scr_next (t : Fin grid0.N) (D D' : Vec F S2048x1024 .bf16) (hD : ∀ u : Fin grid0.N, u.val + 1 = t.val → D = scr a A c u)
    (h : D' = if fresh (tb a 1) (grid0.coords t 1).val then deq (inp a A c 1 t) (inp a A c 2 t) else D) : D' = scr a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr_stale a A c t ⟨n, hlt⟩ hn hf]

theorem owns_whole (b : Ref sig .tc) (q : PosShare TreeShare) (X : b.ty.Contents (Elt F)) :
    (owns (c : Thread nD τ) (Memref.whole b) q X : sProp 𝕄G) = ((c.tc : Thread nD τ).loc b ↦{q} X) := by
  have hs : (Memref.whole b).view.set = Finset.univ := View.set_whole _
  unfold owns
  rw [hs]
  have h1 : iprop(∃ f, ⌜(Memref.whole b).view.read (Elt F) f = X⌝ ∗ ((Memref.whole b).view.loc (c : Thread nD τ) ↦[Finset.univ]{q} f))
      ⊢ ((c.tc : Thread nD τ).loc b ↦{q} X : sProp 𝕄G) := by
    iintro ⟨%f, %hf, H⟩
    have : f = X := hf
    subst this
    iexact H
  have h2 : ((c.tc : Thread nD τ).loc b ↦{q} X : sProp 𝕄G)
      ⊢ iprop(∃ f, ⌜(Memref.whole b).view.read (Elt F) f = X⌝ ∗ ((Memref.whole b).view.loc (c : Thread nD τ) ↦[Finset.univ]{q} f)) := by
    iintro H
    iexists X
    isplitr
    · ipureintro; rfl
    iexact H
  exact BI.equiv_iff.mp ⟨h1, h2⟩

theorem held_eq : (Pipeline.prefHeld (Ix := Unit) (Name := ℕ) (U := UR sig nD τ) (Lvl := ℕ) pre0 c (fun _ => fullShare.right) a.1 : sProp 𝕄G)
    = iprop(owns (c : Thread nD τ) (Memref.whole main_v49) fullShare.right (tb a 0) ∗ owns (c : Thread nD τ) (Memref.whole main_v25) fullShare.right (tb a 1)
      ∗ owns (c : Thread nD τ) (Memref.whole main_v56) fullShare.right (tb a 2) ∗ owns (c : Thread nD τ) (Memref.whole main_v63) fullShare.right (tb a 3)
      ∗ owns (c : Thread nD τ) (Memref.whole main_v66) fullShare.right (tb a 4)) := by
  unfold Pipeline.prefHeld
  refine (bigSep_W0 _).trans ?_
  rw [owns_whole, owns_whole, owns_whole, owns_whole, owns_whole]
  rfl

/-- The staging buffer of a window at a point. -/
abbrev st (w : Fin 5) (t : Fin grid0.N) := ((cfg0 a).win w).stage ((cfg0 a).slots t w)

/-- The body at a point, from the invariant and the blocks to the invariant after it. -/
theorem point_run (t : Fin grid0.N) (O : Vec F S256x1024 .f32) :
    iprop(inv a A c t.castSucc
        ∗ owns (c : Thread nD τ) (st a 0 t) fullShare (inp a A c 0 t) ∗ owns (c : Thread nD τ) (st a 1 t) fullShare (inp a A c 1 t)
        ∗ owns (c : Thread nD τ) (st a 2 t) fullShare (inp a A c 2 t) ∗ owns (c : Thread nD τ) (st a 3 t) fullShare (inp a A c 3 t)
        ∗ owns (c : Thread nD τ) (st a 4 t) fullShare O)
      ⊢ wp (M := 𝕄G) frame (wpE (defs₀ (F := F)) Variants.none (c : Thread nD τ) none) Set.univ
          (cc0_down (F := F) (grid0.coords t) (Memref.whole main_v49) (Memref.isWhole_whole _) (Memref.whole main_v25) (Memref.isWhole_whole _)
            (Memref.whole main_v56) (Memref.isWhole_whole _) (Memref.whole main_v63) (Memref.isWhole_whole _) (Memref.whole main_v66) (Memref.isWhole_whole _)
            (spec0_0.stage ((cfg0 a).slots t 0)) (hstage0_0 (((cfg0 a).slots t 0).cast nbuf0_0)) (spec0_1.stage ((cfg0 a).slots t 1)) (hstage0_1 (((cfg0 a).slots t 1).cast nbuf0_1))
            (spec0_2.stage ((cfg0 a).slots t 2)) (hstage0_2 (((cfg0 a).slots t 2).cast nbuf0_2)) (spec0_3.stage ((cfg0 a).slots t 3)) (hstage0_3 (((cfg0 a).slots t 3).cast nbuf0_3))
            (spec0_4.stage ((cfg0 a).slots t 4)) (hstage0_4 (((cfg0 a).slots t 4).cast nbuf0_4)) (Memref.whole cc0_scratch0) (Memref.isWhole_whole _))
          fun _ => iprop(inv a A c t.succ
        ∗ owns (c : Thread nD τ) (st a 0 t) fullShare (inp a A c 0 t) ∗ owns (c : Thread nD τ) (st a 1 t) fullShare (inp a A c 1 t)
        ∗ owns (c : Thread nD τ) (st a 2 t) fullShare (inp a A c 2 t) ∗ owns (c : Thread nD τ) (st a 3 t) fullShare (inp a A c 3 t)
        ∗ owns (c : Thread nD τ) (st a 4 t) fullShare (outF a A c t O)) := by
  unfold inv
  rw [held_eq]
  iintro ⟨⟨⟨T0, T1, T2, T3, T4⟩, HR, ⟨%D, %hD, HD⟩⟩, W0, W1, W2, W3, W4⟩
  iapply (wp_wand (M := 𝕄G)) $$ [T0 T1 T2 T3 T4 HD W0 W1 W2 W3 W4]
  · iapply (body_run (F := F) Variants.none c none Set.univ (grid0.coords t) _ _ _ _ _ _ _ _ _ _ _ _ _ _ _ _ _ _ _ _ _ _
      fullShare.right (tb a 0) (tb a 1) (tb a 2) (tb a 3) (tb a 4) (inp a A c 0 t) (inp a A c 1 t) (inp a A c 2 t) (inp a A c 3 t) O D (ex_lt a t))
    isplitl [T0]; · iexact T0
    isplitl [T1]; · iexact T1
    isplitl [T2]; · iexact T2
    isplitl [T3]; · iexact T3
    isplitl [T4]; · iexact T4
    isplitl [W0]; · iexact W0
    isplitl [W1]; · iexact W1
    isplitl [W2]; · iexact W2
    isplitl [W3]; · iexact W3
    isplitl [W4]; · iexact W4
    iexact HD
  iintro %r ⟨T0, T1, T2, T3, T4, W0, W1, W2, W3, ⟨%D', %hD', HD, %O', %hO, W4⟩⟩
  have hscr : D' = scr a A c t := scr_next a A c t D D' hD hD'
  subst hscr
  have hOF : O' = outF a A c t O := hO
  subst hOF
  isplitl [T0 T1 T2 T3 T4 HR HD]
  · isplitl [T0 T1 T2 T3 T4]
    · isplitl [T0]; · iexact T0
      isplitl [T1]; · iexact T1
      isplitl [T2]; · iexact T2
      isplitl [T3]; · iexact T3
      iexact T4
    isplitl [HR]; · iexact HR
    iexists (scr a A c t)
    isplitr
    · ipureintro
      intro u hu
      have : u = t := Fin.ext (by have : t.succ.val = t.val + 1 := rfl; omega)
      rw [this]
    iexact HD
  isplitl [W0]; · iexact W0
  isplitl [W1]; · iexact W1
  isplitl [W2]; · iexact W2
  isplitl [W3]; · iexact W3
  iexact W4

theorem owesAt_eq (t : Fin grid0.N) : ((rd a A c).owesAt () t.castSucc : sProp 𝕄G) = (rd a A c).owesAt () t.succ := rfl

/-- The body at every point takes the invariant and the blocks to those of the next point. -/
theorem body_ob : (rd a A c).BodyObligation defs₀ Variants.none () Set.univ := by
  intro t Y hY
  have h0 : Y 0 = inp a A c 0 t := finds_inp a A c 0 (by decide) t _ (hY 0)
  have h1 : Y 1 = inp a A c 1 t := finds_inp a A c 1 (by decide) t _ (hY 1)
  have h2 : Y 2 = inp a A c 2 t := finds_inp a A c 2 (by decide) t _ (hY 2)
  have h3 : Y 3 = inp a A c 3 t := finds_inp a A c 3 (by decide) t _ (hY 3)
  rw [bigSep_W0, bigSep_W0, h0, h1, h2, h3]
  have key := point_run a A c t (Y 4)
  refine BIBase.Entails.trans ?_ ((sep_mono_left key (Q := (rd a A c).owesAt () t.castSucc)).trans ((wp_frame_r (M := 𝕄G) _ _ _).trans (wp_mono (M := 𝕄G) _ _ _ fun r => ?_)))
  · change iprop(inv a A c t.castSucc ∗ _) ⊢ _
    iintro ⟨HI, HO, W0, W1, W2, W3, W4⟩
    isplitr [HO]
    · isplitl [HI]; · iexact HI
      isplitl [W0]; · iexact W0
      isplitl [W1]; · iexact W1
      isplitl [W2]; · iexact W2
      isplitl [W3]; · iexact W3
      iexact W4
    iexact HO
  · change _ ⊢ iprop(inv a A c t.succ ∗ _)
    iintro ⟨⟨HI, W0, W1, W2, W3, W4⟩, HO⟩
    isplitl [HI]; · iexact HI
    isplitl [HO]; · iexact HO
    isplitl [W0]
    · iexists (inp a A c 0 t); isplitr; · ipureintro; rfl
      iexact W0
    isplitl [W1]
    · iexists (inp a A c 1 t); isplitr; · ipureintro; rfl
      iexact W1
    isplitl [W2]
    · iexists (inp a A c 2 t); isplitr; · ipureintro; rfl
      iexact W2
    isplitl [W3]
    · iexists (inp a A c 3 t); isplitr; · ipureintro; rfl
      iexact W3
    iexists (outF a A c t (Y 4)); isplitr; · ipureintro; rfl
    iexact W4

end
end Cert.Down.Hand
-- ==== Proof.DownLaunch.lean ====
module
public import proofs.«01_k».proof.Proof.DownRun
public import proofs.«01_k».proof.Proof.Gen.Down.Launch
public import Idealize.ShloMosaic.Lib.StableHlo.RunRead
/-! # The run of the down program

The host's operations build the tables, and the kernel runs over its grid with them. -/
@[expose] public section
set_option maxRecDepth 16384
set_option maxHeartbeats 400000
noncomputable section
namespace Cert.Down.Hand
open Idealize.ShloMosaic Idealize.ShloMosaic.TcCoe Idealize.ShloMosaic.Tactic
open Cert.Down Cert.Down.Gen Cert.W4
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-- The lines of the host before the kernel. -/
abbrev lines : List (List (HloOp τ sig (Elt F))) :=
  [hostOps0, hostOps0_1, hostOps0_2, hostOps0_3, hostOps0_4, hostOps0_5, hostOps0_6, hostOps0_7, hostOps0_8]

/-- The buffers as the kernel finds them. -/
def V (m : (ℓ : Loc nD τ sig) → Buf (Elt F) ℓ) (c : Dev nD) (b : Ref sig .tc) : Buf (Elt F) ((c.tc : Thread nD τ).loc b) :=
  StableHlo.after (lines (F := F)).flatten (fun b => m (c, b)) b

variable (m : (ℓ : Loc nD τ sig) → Buf (Elt F) ℓ) (g : Dev nD → PrngReg)

theorem hmain : Pipeline.HMainP (Ix := Unit) (Name := ℕ) (U := UR sig nD τ) (Lvl := ℕ) (pcfgs (F := F)) 0 (defs₀ (F := F)) Variants.none m (main (F := F)) (V m) :=
  Pipeline.hmainP_prefixes pcfgs 0 defs₀ Variants.none m main lines
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl

attribute [irreducible] V

/-- The proof data at the buffers the kernel finds. -/
abbrev rdV (a : (pcfg0 (F := F)).Adm) (c : Dev nD) := rd a (fun b c => V m c b) c

theorem rd_in (a : (pcfg0 (F := F)).Adm) (c : Dev nD) :
    iprop(Pipeline.ΦA spec0 c ∗ Pipeline.ΦT pre0 a.1 c) ⊢ (inv a (fun b c => V m c b) c 0 : sProp 𝕄G) := by
  unfold Pipeline.ΦA Pipeline.ΦT inv
  rw [scopedRest0_eq]
  iintro ⟨⟨⟨%f, HS⟩, HR⟩, HT⟩
  isplitl [HT]; · iexact HT
  isplitl [HR]; · iexact HR
  iexists f
  isplitr
  · ipureintro
    intro u hu
    exact absurd hu (Nat.succ_ne_zero _)
  rw [owns_whole]
  iexact HS

theorem rd_out (a : (pcfg0 (F := F)).Adm) (c : Dev nD) :
    (inv a (fun b c => V m c b) c (Fin.last grid0.N) : sProp 𝕄G) ⊢ Pipeline.ΦA spec0 c := by
  unfold Pipeline.ΦA inv
  rw [scopedRest0_eq]
  simp only [owns_whole]
  iintro ⟨HT, HR, ⟨%D, %hD, HD⟩⟩
  isplitl [HD]
  · iexists D
    iexact HD
  iexact HR

set_option backward.isDefEq.respectTransparency.types false in
/-- The program runs, whenever the tables the host builds are admissible. -/
theorem run_main (a : (pcfg0 (F := F)).Adm) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_track (pcfgs (F := F)) (fun _ => a) (0 : Fin 1) launch0 defs₀ Variants.none (rdV m a) m g main
    (fun c => body_ob a _ c) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)

theorem A_0 (a : (pcfg0 (F := F)).Adm) (c : Dev nD) : (rdV m a c).A 0 = m ((c : Thread nD τ).loc main_arg1) := V_arg1 m c
theorem A_1 (a : (pcfg0 (F := F)).Adm) (c : Dev nD) : (rdV m a c).A 1 = m ((c : Thread nD τ).loc main_arg2) := V_arg2 m c
theorem A_2 (a : (pcfg0 (F := F)).Adm) (c : Dev nD) : (rdV m a c).A 2 = m ((c : Thread nD τ).loc main_arg3) := V_arg3 m c
theorem A_3 (a : (pcfg0 (F := F)).Adm) (c : Dev nD) : (rdV m a c).A 3 = m ((c : Thread nD τ).loc main_arg4) := V_arg4 m c

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · exact ((h c).2 main_arg0 arg0_rest).trans (V_arg0 m c)
  · have e := h.arr_in c 0 rfl
    rw [A_0] at e; exact e
  · have e := h.arr_in c 1 rfl
    rw [A_1] at e; exact e
  · have e := h.arr_in c 2 rfl
    rw [A_2] at e; exact e
  · have e := h.arr_in c 3 rfl
    rw [A_3] at e; exact e

end Cert.Down.Hand
-- ==== Proof.VisitNat.lean ====
module
public import Mathlib.Data.Nat.Count
public import Mathlib.Tactic.Ring
/-! # The visits, in numbers

`g e` is the number of rows of expert `e`; the rows of the experts follow each other.  A visit is one tile of 256 rows together with
one expert that owns rows of the tile.  The visits are taken expert by expert, and within an expert tile by tile. -/
@[expose] public section
namespace Cert.W4

/-- The sum of the first `k` values of `f`. -/
def sm (f : ℕ → ℕ) (k : ℕ) : ℕ := ((List.range k).map f).sum

theorem sm_zero (f : ℕ → ℕ) : sm f 0 = 0 := rfl
theorem sm_succ (f : ℕ → ℕ) (k : ℕ) : sm f (k + 1) = sm f k + f k := by
  simp [sm, List.range_succ]

theorem sm_mono (f : ℕ → ℕ) {a b : ℕ} (h : a ≤ b) : sm f a ≤ sm f b := by
  induction b, h using Nat.le_induction with
  | base => exact Nat.le_refl _
  | succ n _ ih => rw [sm_succ]; omega

variable (g : ℕ → ℕ)

/-- The tile of an expert's first row. -/
def first (e : ℕ) : ℕ := sm g e / 256
/-- The number of tiles in which an expert owns rows. -/
def nv (e : ℕ) : ℕ := if 0 < g e then (sm g (e + 1) - 1) / 256 - first g e + 1 else 0
/-- The number of visits in all. -/
def total : ℕ := sm (nv g) 18
/-- The visit taken at step `v`: the last one is repeated to the end. -/
def vc (v : ℕ) : ℕ := min v (total g - 1)
/-- The expert of step `v`. -/
def ex (v : ℕ) : ℕ := Nat.count (fun q => sm (nv g) (q + 1) ≤ vc g v) 18
/-- The tile of step `v`. -/
def tile (v : ℕ) : ℕ := first g (ex g v) + vc g v - sm (nv g) (ex g v)

/-- Where a function that sums to more than `x` passes `x`, the count of the prefix sums up to `x` is the place. -/
theorem count_place (f : ℕ → ℕ) (x k e : ℕ) (he : e < k) (h0 : sm f e ≤ x) (h1 : x < sm f (e + 1)) :
    Nat.count (fun q => sm f (q + 1) ≤ x) k = e := by
  obtain ⟨d, rfl⟩ : ∃ d, k = e + d := ⟨k - e, by omega⟩
  rw [Nat.count_add]
  have a : Nat.count (fun q => sm f (q + 1) ≤ x) e = e := by
    rw [Nat.count_iff_forall]
    intro n hn
    have := sm_mono f (show n + 1 ≤ e by omega)
    omega
  have b : Nat.count (fun q => sm f (e + q + 1) ≤ x) d = 0 := by
    rw [Nat.count_iff_forall_not]
    intro n _
    have := sm_mono f (show e + 1 ≤ e + n + 1 by omega)
    omega
  rw [a, b, Nat.add_zero]

/-- A value below the sum lies between two consecutive prefix sums. -/
theorem exists_place (f : ℕ → ℕ) (x k : ℕ) (h : x < sm f k) : ∃ e < k, sm f e ≤ x ∧ x < sm f (e + 1) := by
  induction k with
  | zero => rw [sm_zero] at h; omega
  | succ k ih =>
    by_cases hk : x < sm f k
    · obtain ⟨e, he, h1⟩ := ih hk
      exact ⟨e, by omega, h1⟩
    · exact ⟨k, by omega, by omega, h⟩

/-- The places of two values are in the order of the values. -/
theorem place_mono (f : ℕ → ℕ) {x y e d : ℕ} (hxy : x ≤ y) (h0 : sm f e ≤ x) (h1 : y < sm f (d + 1)) : e ≤ d := by
  by_contra h
  have := sm_mono f (show d + 1 ≤ e by omega)
  omega

theorem sm_nv_le (k : ℕ) : (sm g k = 0 ∧ sm (nv g) k = 0) ∨ (0 < sm g k ∧ 0 < sm (nv g) k ∧ sm (nv g) k ≤ (sm g k - 1) / 256 + k) := by
  induction k with
  | zero => exact Or.inl ⟨rfl, rfl⟩
  | succ k ih =>
    have h1 := sm_succ g k
    have h2 := sm_succ (nv g) k
    by_cases hg : 0 < g k
    · right
      have h3 : nv g k = (sm g (k + 1) - 1) / 256 - sm g k / 256 + 1 := by unfold nv first; rw [if_pos hg]
      rcases ih with ⟨a, b⟩ | ⟨a, b, c⟩ <;> omega
    · have h3 : nv g k = 0 := by unfold nv; rw [if_neg hg]
      rcases ih with ⟨a, b⟩ | ⟨a, b, c⟩
      · left; omega
      · right; omega

section
variable (hs : sm g 18 = 12288)
include hs

theorem total_pos : 0 < total g := by
  unfold total
  rcases sm_nv_le g 18 with ⟨a, b⟩ | ⟨a, b, c⟩ <;> omega

theorem total_le : total g ≤ 65 := by
  unfold total
  rcases sm_nv_le g 18 with ⟨a, b⟩ | ⟨a, b, c⟩ <;> omega

theorem vc_lt (v : ℕ) : vc g v < total g := by
  have := total_pos g hs
  unfold vc
  omega

/-- The expert of a step, by its place among the prefix sums. -/
theorem ex_place (v : ℕ) : ex g v < 18 ∧ sm (nv g) (ex g v) ≤ vc g v ∧ vc g v < sm (nv g) (ex g v + 1) := by
  obtain ⟨e, he, h0, h1⟩ := exists_place (nv g) (vc g v) 18 (vc_lt g hs v)
  have : ex g v = e := count_place _ _ _ _ he h0 h1
  rw [this]
  exact ⟨he, h0, h1⟩

theorem ends_le (e : ℕ) (h : e ≤ 18) : sm g e ≤ 12288 := by
  have := sm_mono g h
  omega

/-- A step's expert owns rows, and its tile lies between the tile of the expert's first row and that of its last. -/
theorem tile_between (v : ℕ) : 0 < g (ex g v) ∧ sm g (ex g v) / 256 ≤ tile g v ∧ tile g v ≤ (sm g (ex g v + 1) - 1) / 256 := by
  obtain ⟨h, h0, h1⟩ := ex_place g hs v
  rw [sm_succ] at h1
  have hg : 0 < g (ex g v) := by
    by_contra hg
    have : nv g (ex g v) = 0 := by unfold nv; rw [if_neg hg]
    omega
  have h3 : nv g (ex g v) = (sm g (ex g v + 1) - 1) / 256 - sm g (ex g v) / 256 + 1 := by unfold nv first; rw [if_pos hg]
  have h4 := sm_succ g (ex g v)
  unfold tile first
  refine ⟨hg, ?_, ?_⟩ <;> omega

theorem tile_lt (v : ℕ) : tile g v < 48 := by
  have h := (tile_between g hs v).2.2
  have h2 := ends_le g hs (ex g v + 1) (by have := (ex_place g hs v).1; omega)
  omega

/-- The tiles are visited in order. -/
theorem tile_mono {v w : ℕ} (h : v ≤ w) : tile g v ≤ tile g w := by
  have hvc : vc g v ≤ vc g w := by unfold vc; omega
  obtain ⟨a, a0, a1⟩ := ex_place g hs v
  obtain ⟨b, b0, b1⟩ := ex_place g hs w
  have hle : ex g v ≤ ex g w := place_mono (nv g) hvc a0 b1
  rcases Nat.lt_or_eq_of_le hle with hlt | heq
  · have h1 := (tile_between g hs v).2.2
    have h2 := (tile_between g hs w).2.1
    have h3 := sm_mono g (show ex g v + 1 ≤ ex g w by omega)
    omega
  · unfold tile
    rw [← heq] at b0 ⊢
    omega

/-- Each row of an expert is visited, by the expert and in the row's tile. -/
theorem visit_of_row (e r : ℕ) (he : e < 18) (h0 : sm g e ≤ r) (h1 : r < sm g (e + 1)) :
    ∃ v < total g, ex g v = e ∧ tile g v = r / 256 := by
  have h4 := sm_succ g e
  have hg : 0 < g e := by omega
  have h3 : nv g e = (sm g (e + 1) - 1) / 256 - sm g e / 256 + 1 := by unfold nv first; rw [if_pos hg]
  have h5 := sm_succ (nv g) e
  have h6 : sm (nv g) (e + 1) ≤ total g := sm_mono _ (by omega)
  have hv : sm (nv g) e + (r / 256 - sm g e / 256) < total g := by omega
  refine ⟨sm (nv g) e + (r / 256 - sm g e / 256), hv, ?_⟩
  have hvc : vc g (sm (nv g) e + (r / 256 - sm g e / 256)) = sm (nv g) e + (r / 256 - sm g e / 256) := by unfold vc; omega
  have hex : ex g (sm (nv g) e + (r / 256 - sm g e / 256)) = e := by
    unfold ex
    rw [hvc]
    exact count_place _ _ _ _ he (by omega) (by omega)
  refine ⟨hex, ?_⟩
  unfold tile first
  rw [hex, hvc]
  omega

/-- The expert that owns row `r`: the number of experts whose rows all come before. -/
def owner (r : ℕ) : ℕ := Nat.count (fun q => sm g (q + 1) ≤ r) 18

theorem owner_place (r : ℕ) (hr : r < 12288) : owner g r < 18 ∧ sm g (owner g r) ≤ r ∧ r < sm g (owner g r + 1) := by
  obtain ⟨e, he, h0, h1⟩ := exists_place g r 18 (by omega)
  have : owner g r = e := count_place _ _ _ _ he h0 h1
  rw [this]
  exact ⟨he, h0, h1⟩

omit hs in
theorem owner_eq (e r : ℕ) (he : e < 18) (h0 : sm g e ≤ r) (h1 : r < sm g (e + 1)) : owner g r = e := count_place _ _ _ _ he h0 h1

end
end Cert.W4
-- ==== Proof.Visits.lean ====
module
public import proofs.«01_k».proof.Proof.VisitNat
public import Idealize.ShloMosaic.Lib.Routing.Model
public import Idealize.ShloMosaic.Lib.Routing.Words
public import Idealize.ShloMosaic.Lib.Routing.OpsPair
public import Idealize.ShloMosaic.Lib.Routing.OpsSet
public import Idealize.ShloMosaic.Lib.ReduceAll
/-! # The visits, in words

The tables of the visits as the host computes them from the experts' row counts, and their values as numbers. -/
@[expose] public section
set_option maxRecDepth 16384
set_option maxHeartbeats 400000
noncomputable section
namespace Cert.W4
open Idealize.ShloMosaic Idealize.ShloMosaic.Routing Idealize.ShloMosaic.ValueIdx Idealize.ShloMosaic.WordCmp

/-- The facts about shapes that the operations ask for. -/
structure Sh : Prop where
  b00 : shape0.BroadcastsInDim shape0 (![] : Fin 0 → Fin shape0.rank)
  win : (shape1 18).ReduceWindows (![18] : Fin 1 → Nat) ![1] ![17] ![0] (shape1 18)
  h0 : 0 < shape0.numel
  b18 : shape0.BroadcastsInDim (shape1 18) (![] : Fin 0 → Fin (shape1 18).rank)
  sl : (shape1 18).Slices ![17] (shape1 1)
  sc : (shape1 1).ShapeCasts shape0
  b65 : shape0.BroadcastsInDim (shape1 65) (![] : Fin 0 → Fin (shape1 65).rank)
  col : (shape1 65).BroadcastsInDim (shape2 65 1) (![0] : Fin 1 → Fin (shape2 65 1).rank)
  row : (shape1 18).BroadcastsInDim (shape2 1 18) (![1] : Fin 1 → Fin (shape2 1 18).rank)
  cols : (shape2 65 1).BroadcastsInDim (shape2 65 18) (![0, 1] : Fin 2 → Fin (shape2 65 18).rank)
  rows : (shape2 1 18).BroadcastsInDim (shape2 65 18) (![0, 1] : Fin 2 → Fin (shape2 65 18).rank)
  red : (shape2 65 18).ReducesTo [1] (shape1 65)
  lt : 1 < 32

variable (H : Sh) (d : GatherDims (shape1 18) (shape2 65 1) (shape1 65)) (x : IVec (shape1 18) 32)

theorem cum18 (y : IVec (shape1 18) 32) (f : ℕ → ℕ) (hy : ∀ i : Fin 18, y (ix1 i) = BitVec.ofNat 32 (f i.val)) (i : Fin 18)
    (init : IVec shape0 32) (h0 : init ix0 = 0#32)
    (win : (shape1 18).ReduceWindows (![18] : Fin 1 → Nat) ![1] ![17] ![0] (shape1 18)) (hu : 0 < shape0.numel) :
    Host.reduceWindow IntOp.addi ![18] ![1] ![17] ![0] y init win hu (ix1 i) = BitVec.ofNat 32 (sm f (i.val + 1)) := by
  have key := cumsum1 (N := 18) (Nm1 := 17) rfl y f hy init h0 win hu i
  unfold sm
  rw [key]

/-- The running sums of a vector. -/
def wCum (x : IVec (shape1 18) 32) : IVec (shape1 18) 32 :=
  Host.reduceWindow IntOp.addi ![18] ![1] ![17] ![0] x (broadcastInDim shape0 ![] H.b00 (constantI shape0 32 0#32)) H.win H.h0
/-- Each expert's first row. -/
def wStart : IVec (shape1 18) 32 := subi (wCum H x) x
/-- The tile of each expert's first row. -/
def wFirst : IVec (shape1 18) 32 := pyDiv H.b18 (wStart H x) (constantI shape0 32 256#32)
/-- The tile of each expert's last row. -/
def wLast : IVec (shape1 18) 32 :=
  pyDiv H.b18 (subi (wCum H x) (broadcastInDim (shape1 18) ![] H.b18 (constantI shape0 32 1#32))) (constantI shape0 32 256#32)
/-- Each expert's number of tiles. -/
def wN : IVec (shape1 18) 32 :=
  select (cmpi .sgt x (broadcastInDim (shape1 18) ![] H.b18 (constantI shape0 32 0#32)))
    (addi (subi (wLast H x) (wFirst H x)) (broadcastInDim (shape1 18) ![] H.b18 (constantI shape0 32 1#32)))
    (broadcastInDim (shape1 18) ![] H.b18 (constantI shape0 32 0#32))
/-- The number of visits. -/
def wTotal : IVec shape0 32 := shapeCast shape0 (extractStridedSlice (shape1 1) ![17] (wCum H (wN H x)) H.sl) H.sc
/-- The visit of each step. -/
def wVc : IVec (shape1 65) 32 :=
  minsi (iotaInDim (shape1 65) 32 0) (broadcastInDim (shape1 65) ![] H.b65 (subi (wTotal H x) (constantI shape0 32 1#32)))
/-- The expert of each step. -/
def wEx : IVec (shape1 65) 32 :=
  Host.reduce IntOp.addi (extui 32 (cmpi .sge
      (broadcastInDim (shape2 65 18) ![0, 1] H.cols (broadcastInDim (shape2 65 1) ![0] H.col (wVc H x)))
      (broadcastInDim (shape2 65 18) ![0, 1] H.rows (broadcastInDim (shape2 1 18) ![1] H.row (wCum H (wN H x))))) H.lt)
    (constantI shape0 32 0#32) H.red H.h0
/-- A vector over the experts, read at the expert of each step. -/
def wTake (y : IVec (shape1 18) 32) : IVec (shape1 65) 32 :=
  Host.gather d y (broadcastInDim (shape2 65 1) ![0] H.col
    (select (cmpi .slt (wEx H x) (broadcastInDim (shape1 65) ![] H.b65 (constantI shape0 32 0#32)))
      (addi (wEx H x) (broadcastInDim (shape1 65) ![] H.b65 (constantI shape0 32 18#32))) (wEx H x)))
/-- The tile of each step. -/
def wTile : IVec (shape1 65) 32 :=
  subi (addi (wTake H d x (wFirst H x)) (wVc H x)) (subi (wTake H d x (wCum H (wN H x))) (wTake H d x (wN H x)))
/-- Whether a step is a visit. -/
def wLive : IVec (shape1 65) 32 :=
  extui 32 (cmpi .slt (iotaInDim (shape1 65) 32 0) (broadcastInDim (shape1 65) ![] H.b65 (wTotal H x))) H.lt

variable (g : ℕ → ℕ) (hx : ∀ i : Fin 18, x (ix1 i) = BitVec.ofNat 32 (g i.val)) (hs : sm g 18 = 12288)
include hx hs

omit hs in
theorem wCum_ap (y : IVec (shape1 18) 32) (f : ℕ → ℕ) (hy : ∀ i : Fin 18, y (ix1 i) = BitVec.ofNat 32 (f i.val)) (i : Fin 18) :
    wCum H y (ix1 i) = BitVec.ofNat 32 (sm f (i.val + 1)) :=
  cum18 y f hy i _ ((bc0 H.b00 (constantI shape0 32 0#32) ix0).trans (constantI_at ..)) H.win H.h0

theorem wStart_ap (i : Fin 18) : wStart H x (ix1 i) = BitVec.ofNat 32 (sm g i.val) := by
  unfold wStart
  rw [subi_ap, wCum_ap H x g hx x g hx, hx, ofNat32_sub (by rw [sm_succ]; omega), sm_succ, Nat.add_sub_cancel]

theorem wFirst_ap (i : Fin 18) : wFirst H x (ix1 i) = BitVec.ofNat 32 (first g i.val) := by
  have h := ends_le g hs i.val (by omega)
  unfold wFirst first
  exact pyDiv_ap (a := sm g i.val) (b := 256) H.b18 _ _ (ix1 i) (wStart_ap H x g hx hs i) (constantI_at ..) (by omega) (by omega) (by omega)

theorem wLast_ap (i : Fin 18) (hg : 0 < g i.val) : wLast H x (ix1 i) = BitVec.ofNat 32 ((sm g (i.val + 1) - 1) / 256) := by
  have h := ends_le g hs (i.val + 1) (by omega)
  have h2 := sm_succ g i.val
  unfold wLast
  refine pyDiv_ap (a := sm g (i.val + 1) - 1) (b := 256) H.b18 _ _ (ix1 i) ?_ (constantI_at ..) (by omega) (by omega) (by omega)
  rw [subi_ap, wCum_ap H x g hx x g hx, bc0, constantI_at]
  exact ofNat32_sub (by omega)

theorem wN_ap (i : Fin 18) : wN H x (ix1 i) = BitVec.ofNat 32 (nv g i.val) := by
  have h := ends_le g hs (i.val + 1) (by omega)
  have h2 := sm_succ g i.val
  unfold wN
  rw [select_at, cmpi_at, bc0, constantI_at, hx]
  rw [show (0#32 : BitVec 32) = BitVec.ofNat 32 0 from rfl, cmpi_sgt_ofNat (by omega) (by omega), select_decide]
  unfold nv
  by_cases hg : 0 < g i.val
  · rw [if_pos hg, if_pos hg, addi_ap, subi_ap, wLast_ap H x g hx hs i hg, wFirst_ap H x g hx hs, bc0, constantI_at,
      ofNat32_sub (by unfold first; omega)]
    exact (BitVec.ofNat_add _ _).symm
  · rw [if_neg hg, if_neg hg]

theorem wTotal_ap : wTotal H x ix0 = BitVec.ofNat 32 (total g) := by
  unfold wTotal
  refine (shapeCast_apply _ _ ix0 (ix1 (0 : Fin 1)) (by decide)).trans ?_
  rw [slice1 17 _ _ _ (by decide)]
  exact wCum_ap H x g hx _ (nv g) (wN_ap H x g hx hs) ⟨17, by decide⟩

theorem wVc_ap (v : Fin 65) : wVc H x (ix1 v) = BitVec.ofNat 32 (vc g v.val) := by
  have h1 := total_pos g hs
  have h2 := total_le g hs
  show IntOp.minsi (BitVec.ofNat 32 v.val) (broadcastInDim (shape1 65) ![] H.b65 (subi (wTotal H x) (constantI shape0 32 1#32)) (ix1 v)) = _
  rw [bc0, subi_ap, wTotal_ap H x g hx hs, constantI_at, show (1#32 : BitVec 32) = BitVec.ofNat 32 1 from rfl, ofNat32_sub (by omega)]
  unfold IntOp.minsi vc
  have hv := v.isLt
  rw [slt_ofNat32 (by omega) (by omega)]
  by_cases h : v.val < total g - 1
  · rw [if_pos (decide_eq_true h), Nat.min_eq_left (by omega)]
  · rw [if_neg (by simpa using h), Nat.min_eq_right (by omega)]

theorem wEx_ap (v : Fin 65) : wEx H x (ix1 v) = BitVec.ofNat 32 (ex g v.val) := by
  refine reduce_count (by decide) _ _ _ _ v (fun q => sm (nv g) (q + 1) ≤ vc g v.val) fun q => ?_
  have h1 := vc_lt g hs v.val
  have h2 := total_le g hs
  have h3 : sm (nv g) (q.val + 1) ≤ total g := sm_mono _ (by omega)
  rw [cmpi_at, bcRows, bcCols, wVc_ap H x g hx hs, wCum_ap H x g hx _ (nv g) (wN_ap H x g hx hs)]
  exact cmpi_sge_ofNat_eq_one_iff (by omega) (by omega)

theorem wTake_ap (hcoll : d.collapsedSliceDims = [0]) (hob : d.operandBatchingDims = []) (hsim : d.startIndexMap = [0])
    (hivd : d.indexVectorDim = 1) (y : IVec (shape1 18) 32) (v : Fin 65) (h : ex g v.val < 18) :
    wTake H d x y (ix1 v) = y (ix1 ⟨ex g v.val, h⟩) := by
  refine gather_take1 d hcoll hob hsim hivd y _ v ⟨ex g v.val, h⟩ ?_ (by decide)
  rw [bcCol, select_at, cmpi_at, bc0, constantI_at, wrap_of_lt, wEx_ap H x g hx hs]
  rw [wEx_ap H x g hx hs, BitVec.toNat_ofNat]
  omega

theorem wTile_ap (hcoll : d.collapsedSliceDims = [0]) (hob : d.operandBatchingDims = []) (hsim : d.startIndexMap = [0])
    (hivd : d.indexVectorDim = 1) (v : Fin 65) : wTile H d x (ix1 v) = BitVec.ofNat 32 (tile g v.val) := by
  obtain ⟨h, h0, h1⟩ := ex_place g hs v.val
  have hs' := sm_succ (nv g) (ex g v.val)
  have ht : first g (ex g v.val) + vc g v.val - (sm (nv g) (ex g v.val + 1) - nv g (ex g v.val)) = tile g v.val := by
    unfold tile
    omega
  unfold wTile
  rw [subi_ap, addi_ap, subi_ap]
  simp only [wTake_ap H d x g hx hs hcoll hob hsim hivd _ v h]
  rw [wFirst_ap H x g hx hs, wVc_ap H x g hx hs, wCum_ap H x g hx _ (nv g) (wN_ap H x g hx hs), wN_ap H x g hx hs, ← BitVec.ofNat_add]
  show BitVec.ofNat 32 (first g (ex g v.val) + vc g v.val) - (BitVec.ofNat 32 (sm (nv g) (ex g v.val + 1)) - BitVec.ofNat 32 (nv g (ex g v.val))) = _
  rw [ofNat32_sub (by omega), ofNat32_sub (by omega), ht]

theorem wLive_ap (v : Fin 65) : wLive H x (ix1 v) = BitVec.ofNat 32 (if v.val < total g then 1 else 0) := by
  have h2 := total_le g hs
  have hv := v.isLt
  show BitVec.setWidth 32 (IntOp.cmpi .slt (BitVec.ofNat 32 v.val) (broadcastInDim (shape1 65) ![] H.b65 (wTotal H x) (ix1 v))) = _
  rw [bc0, wTotal_ap H x g hx hs, cmpi_slt_ofNat (by omega) (by omega)]
  exact setWidth_ofBool _

end Cert.W4
-- ==== Proof.Rows.lean ====
module
public import proofs.«01_k».proof.Proof.Visits
public import proofs.«01_k».proof.Proof.Gen.Pre_rows_in_groups
/-! # The precondition, in numbers -/
@[expose] public section
set_option maxRecDepth 16384
set_option maxHeartbeats 400000
noncomputable section
namespace Cert.W4
open Idealize.ShloMosaic Idealize.ShloMosaic.Routing Idealize.ShloMosaic.ValueIdx Idealize.ShloMosaic.WordCmp

/-- The row count of expert `e` (zero from the eighteenth on). -/
def cnt (x : IVec (shape1 18) 32) (e : ℕ) : ℕ := if h : e < 18 then (x (ix1 ⟨e, h⟩)).toNat else 0

theorem cnt_word (x : IVec (shape1 18) 32) (i : Fin 18) : x (ix1 i) = BitVec.ofNat 32 (cnt x i.val) := by
  unfold cnt
  rw [dif_pos i.isLt]
  exact (by simp : ∀ y : BitVec 32, y = BitVec.ofNat 32 y.toNat) _

theorem sm_le (f : ℕ → ℕ) (b k : ℕ) (h : ∀ i < k, f i ≤ b) : sm f k ≤ k * b := by
  induction k with
  | zero => simp [sm_zero]
  | succ k ih =>
    rw [sm_succ, Nat.succ_mul]
    exact Nat.add_le_add (ih fun i hi => h i (by omega)) (h k (by omega))

/-- The precondition gives row counts that sum to the number of rows. -/
theorem rows_sum {F : FTy → Type} [FloatOps F] (x : IVec (shape1 18) 32) (b c d e)
    (h : Cert.Pre_rows_in_groups.fn (F := F) x b c d e = fun _ => 1#1) : sm (cnt x) 18 = 12288 := by
  have h0 := congrFun h ix0
  unfold Cert.Pre_rows_in_groups.fn at h0
  obtain ⟨h1, h2⟩ := IntOp.andi_eq_one.1 h0
  obtain ⟨h3, h4⟩ := IntOp.andi_eq_one.1 h1
  haveI : Subsingleton (Cert.Pre_rows_in_groups.S_).Idx := ⟨fun a b => funext fun k => k.elim0⟩
  have hle : ∀ i : Fin 18, (x (ix1 i)).toNat ≤ 12288 := fun i => by
    have a := Host.reduce_andi_all _ _ _ _ _ h3 (ix1 i)
    have b := Host.reduce_andi_all _ _ _ _ _ h4 (ix1 i)
    have a' : IntOp.cmpi .sge (x (ix1 i)) 0#32 = 1#1 := a
    have b' : IntOp.cmpi .sle (x (ix1 i)) (BitVec.ofNat 32 12288) = 1#1 := b
    rw [cmpi_sge_zero, ofBool_decide_eq_one_iff] at a'
    generalize hy : x (ix1 i) = y at a' b' ⊢
    have hy2 : y = BitVec.ofNat 32 y.toNat := by simp
    rw [hy2, cmpi_sle_ofNat_eq_one_iff (by omega) (by decide)] at b'
    exact b'
  have hb : sm (cnt x) 18 ≤ 18 * 12288 := sm_le _ _ _ fun i hi => by
    unfold cnt
    rw [dif_pos hi]
    exact hle _
  have hr := reduce_sum (N := 18) x (cnt x) (cnt_word x) Cert.Pre_rows_in_groups.Facts.reducesTo_S18_S_d0 Cert.Pre_rows_in_groups.Facts.h_S_
  have h2' : IntOp.cmpi .eq (BitVec.ofNat 32 (sm (cnt x) 18)) (BitVec.ofNat 32 12288) = 1#1 := by
    rw [← h2]
    exact congrArg (fun z => IntOp.cmpi .eq z (BitVec.ofNat 32 12288)) hr.symm
  rw [cmpi_eq_ofNat (w := 32) (by omega) (by decide), ofBool_decide_eq_one_iff] at h2'
  exact h2'

end Cert.W4
-- ==== Proof.DownTables.lean ====
module
public import proofs.«01_k».proof.Proof.DownLaunch
public import proofs.«01_k».proof.Proof.Rows
/-! # The tables the host hands to the kernel -/
@[expose] public section
set_option maxRecDepth 16384
set_option maxHeartbeats 400000
noncomputable section
namespace Cert.Down.Hand
open Idealize.ShloMosaic Idealize.ShloMosaic.TcCoe Idealize.ShloMosaic.Tactic
open Cert.Down Cert.Down.Gen Cert.W4
open Idealize.ShloMosaic.Routing Idealize.ShloMosaic.ValueIdx
variable {F : FTy → Type} [FloatOps F]
variable (m : (ℓ : Loc nD τ sig) → Buf (Elt F) ℓ) (c : Dev nD)

theorem sh : Sh where
  b00 := bcast_S_S_
  win := reduceWindows_S18_S18_w18s1p17_0
  h0 := h_S_
  b18 := bcast_S_S18
  sl := slices_S18_S1_17
  sc := shapeCasts_S1_S_
  b65 := bcast_S_S65
  col := bcast_S65_S65x1_0
  row := bcast_S18_S1x18_1
  cols := bcast_S65x1_S65x18_0_1
  rows := bcast_S1x18_S65x18_0_1
  red := reducesTo_S65x18_S65_d1
  lt := natLt_1_32

/-- The experts' row counts. -/
abbrev gs : IVec (shape1 18) 32 := m ((c : Thread nD τ).loc main_arg0)

theorem V_ex : V m c main_v25 = wEx sh (gs m c) := by
  unfold V
  after_reads_simp
  simp -implicitDefEqProofs only [StableHlo.TRef.toBuf, StableHlo.TRef.ofBuf, cast_cast, cast_eq, id]
  rfl
theorem V_live : V m c main_v66 = wLive sh (gs m c) := by
  unfold V
  after_reads_simp
  simp -implicitDefEqProofs only [StableHlo.TRef.toBuf, StableHlo.TRef.ofBuf, cast_cast, cast_eq, id]
  rfl
theorem V_lo : V m c main_v56 = wTake sh gather_S18_S65x1_S65_n_0_n_n_0_1_1 (gs m c) (wStart sh (gs m c)) := by
  unfold V
  after_reads_simp
  simp -implicitDefEqProofs only [StableHlo.TRef.toBuf, StableHlo.TRef.ofBuf, cast_cast, cast_eq, id]
  rfl
theorem V_hi : V m c main_v63 = wTake sh gather_S18_S65x1_S65_n_0_n_n_0_1_1 (gs m c) (wCum sh (gs m c)) := by
  unfold V
  after_reads_simp
  simp -implicitDefEqProofs only [StableHlo.TRef.toBuf, StableHlo.TRef.ofBuf, cast_cast, cast_eq, id]
  rfl
theorem V_tile : V m c main_v49 = wTile sh gather_S18_S65x1_S65_n_0_n_n_0_1_1 (gs m c) := by
  unfold V
  after_reads_simp
  simp -implicitDefEqProofs only [StableHlo.TRef.toBuf, StableHlo.TRef.ofBuf, cast_cast, cast_eq, id]
  rfl

end Cert.Down.Hand
-- ==== Proof.DownAdm.lean ====
module
public import proofs.«01_k».proof.Proof.DownTables
/-! # The tables are admissible

Under the precondition every visit's tile is one of the 48 and its expert one of the eighteen, so that every block lies inside its array. -/
@[expose] public section
set_option maxRecDepth 16384
set_option maxHeartbeats 400000
noncomputable section
namespace Cert.Down.Hand
open Idealize.ShloMosaic Idealize.ShloMosaic.TcCoe Idealize.ShloMosaic.Tactic
open Cert.Down Cert.Down.Gen Cert.W4
open Idealize.ShloMosaic.Routing
open Idealize.SL.Sem
variable {F : FTy → Type} [FloatOps F]
variable (m : (ℓ : Loc nD τ sig) → Buf (Elt F) ℓ)

/-- The tables as the kernel finds them. -/
def pf0 : pre0.Contents (Elt F) := fun k => V m 0 (pre0.ref k)

/-- The number of rows of an expert. -/
abbrev gn : ℕ → ℕ := cnt (gs m 0)

variable (hs : sm (gn m) 18 = 12288)
include hs

omit hs in
theorem at65_lt (T : S65.Idx → BitVec 32) (v : ℕ) (hv : v < 65) : at65 T v = T (ValueIdx.ix1 ⟨v, hv⟩) := by
  unfold at65
  have e : min v 64 = v := by omega
  simp only [e]
  rfl

theorem tile_at (v : ℕ) (hv : v < 65) : at65 (V m 0 main_v49) v = BitVec.ofNat 32 (tile (gn m) v) := by
  rw [at65_lt _ v hv]
  exact (congrFun (V_tile m 0) _).trans (wTile_ap sh _ (gs m 0) (gn m) (cnt_word _) hs rfl rfl rfl rfl ⟨v, hv⟩)

theorem ex_at (v : ℕ) (hv : v < 65) : at65 (V m 0 main_v25) v = BitVec.ofNat 32 (ex (gn m) v) := by
  rw [at65_lt _ v hv]
  exact (congrFun (V_ex m 0) _).trans (wEx_ap sh (gs m 0) (gn m) (cnt_word _) hs ⟨v, hv⟩)

theorem lo_at (v : ℕ) (hv : v < 65) : at65 (V m 0 main_v56) v = BitVec.ofNat 32 (sm (gn m) (ex (gn m) v)) := by
  rw [at65_lt _ v hv]
  exact (congrFun (V_lo m 0) _).trans ((wTake_ap sh _ (gs m 0) (gn m) (cnt_word _) hs rfl rfl rfl rfl _ ⟨v, hv⟩ (ex_place (gn m) hs v).1).trans
    (wStart_ap sh (gs m 0) (gn m) (cnt_word _) hs _))

theorem hi_at (v : ℕ) (hv : v < 65) : at65 (V m 0 main_v63) v = BitVec.ofNat 32 (sm (gn m) (ex (gn m) v + 1)) := by
  rw [at65_lt _ v hv]
  exact (congrFun (V_hi m 0) _).trans ((wTake_ap sh _ (gs m 0) (gn m) (cnt_word _) hs rfl rfl rfl rfl _ ⟨v, hv⟩ (ex_place (gn m) hs v).1).trans
    (wCum_ap sh (gs m 0) (gn m) (cnt_word _) _ (gn m) (cnt_word _) _))

theorem live_at (v : ℕ) (hv : v < 65) : at65 (V m 0 main_v66) v = BitVec.ofNat 32 (if v < total (gn m) then 1 else 0) := by
  rw [at65_lt _ v hv]
  exact (congrFun (V_live m 0) _).trans (wLive_ap sh (gs m 0) (gn m) (cnt_word _) hs ⟨v, hv⟩)

omit hs in
/-- The word of a table an index map reads. -/
theorem pfAtI (pf : S65.Idx → BitVec 32) (i : grid0.Coords) (h : 0 < S1.numel) :
    pf ((Rect.unit (s := S65) (k0_off1 i) S1.size (k0_off1_inb i)).emb (Shape.Idx.first h)) = at65 pf (i 1).val := by
  unfold at65
  refine congrArg pf (funext fun b => Fin.ext ?_)
  fin_cases b
  have e := congrFun (k0_off1_eq i) 0
  have hv : (i 1).val < 65 := (i 1).isLt
  have hf : (Shape.Idx.first h (0 : Fin 1)).val < 1 := (Shape.Idx.first h (0 : Fin 1)).isLt
  change k0_off1 i 0 + 1 * (Shape.Idx.first h (0 : Fin 1)).val = min _ 64
  have e' : k0_off1 i 0 = (i 1).val := e
  rw [e']
  omega

omit hs in
theorem ix_row (i : grid0.Coords) : cc0_transform_0 k0_off1_inb numel1_S1 (pf0 m) i = ![(at65 (V m 0 main_v49) (i 1).val).toNat, 0] := by
  refine Eq.trans ?_ (congrArg (fun w : BitVec 32 => ![w.toNat, 0]) (pfAtI (V m 0 main_v49) i (numel1_S1 ▸ Nat.one_pos)))
  rfl

omit hs in
theorem colI (i : grid0.Coords) : (BitVec.ofNat 32 (i 0).val).toNat = (i 0).val := by
  have : (i 0).val < 7 := (i 0).isLt
  rw [BitVec.toNat_ofNat]; omega

omit hs in
theorem ix_w (i : grid0.Coords) : cc0_transform_1 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_s (i : grid0.Coords) : cc0_transform_2 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_o (i : grid0.Coords) : cc0_transform_4 k0_off1_inb numel1_S1 (pf0 m) i = ![(at65 (V m 0 main_v49) (i 1).val).toNat, (i 0).val] := by
  refine Eq.trans ?_ (congrArg₂ (fun (w : BitVec 32) (n : ℕ) => ![w.toNat, n]) (pfAtI (V m 0 main_v49) i (numel1_S1 ▸ Nat.one_pos)) (colI i))
  rfl

theorem tile_toNat (v : ℕ) (hv : v < 65) : (at65 (V m 0 main_v49) v).toNat = tile (gn m) v := by
  have h := tile_lt (gn m) hs v
  rw [tile_at m hs v hv, BitVec.toNat_ofNat]
  omega

theorem ex_toNat (v : ℕ) (hv : v < 65) : (at65 (V m 0 main_v25) v).toNat = ex (gn m) v := by
  have h := (ex_place (gn m) hs v).1
  rw [ex_at m hs v hv, BitVec.toNat_ofNat]
  omega

theorem adm : ok0 (pf0 m) := by
  refine ⟨fun i => ?_, fun i => ?_, fun i => ?_, fun i => ?_⟩
  · have hv : (i 1).val < 65 := (i 1).isLt
    have h1 := tile_lt (gn m) hs (i 1).val
    have h : ∀ a, (cc0_transform_0 k0_off1_inb numel1_S1 (pf0 m) i a + 1) * S256x2048.size a ≤ S12288x2048.size a := by
      rw [ix_row, tile_toNat m hs _ hv]
      intro a; fin_cases a
      · show (tile (gn m) (i 1).val + 1) * 256 ≤ 12288; omega
      · show (0 + 1) * 2048 ≤ 2048; omega
    exact ⟨h, .inr (Affine.block_words_dvd (by decide) (by decide))⟩
  · have hv : (i 1).val < 65 := (i 1).isLt
    have hc : (i 0).val < 7 := (i 0).isLt
    have h1 := (ex_place (gn m) hs (i 1).val).1
    have h : ∀ a, (cc0_transform_1 k0_off1_inb numel1_S1 (pf0 m) i a + 1) * S1x1024x1024.size a ≤ S18x1024x7168.size a := by
      rw [ix_w, ex_toNat m hs _ hv]
      intro a; fin_cases a
      · show (ex (gn m) (i 1).val + 1) * 1 ≤ 18; omega
      · show (0 + 1) * 1024 ≤ 1024; omega
      · show ((i 0).val + 1) * 1024 ≤ 7168; omega
    exact ⟨h, .inr (Affine.block_words_dvd (by decide) (by decide))⟩
  · have hv : (i 1).val < 65 := (i 1).isLt
    have hc : (i 0).val < 7 := (i 0).isLt
    have h1 := (ex_place (gn m) hs (i 1).val).1
    have h : ∀ a, (cc0_transform_2 k0_off1_inb numel1_S1 (pf0 m) i a + 1) * S1x16x1024.size a ≤ S18x16x7168.size a := by
      rw [ix_s, ex_toNat m hs _ hv]
      intro a; fin_cases a
      · show (ex (gn m) (i 1).val + 1) * 1 ≤ 18; omega
      · show (0 + 1) * 16 ≤ 16; omega
      · show ((i 0).val + 1) * 1024 ≤ 7168; omega
    exact ⟨h, .inr (Affine.block_words_dvd (by decide) (by decide))⟩
  · have hv : (i 1).val < 65 := (i 1).isLt
    have hc : (i 0).val < 7 := (i 0).isLt
    have h1 := tile_lt (gn m) hs (i 1).val
    have h : ∀ a, (cc0_transform_4 k0_off1_inb numel1_S1 (pf0 m) i a + 1) * S256x1024.size a ≤ S12288x7168.size a := by
      rw [ix_o, tile_toNat m hs _ hv]
      intro a; fin_cases a
      · show (tile (gn m) (i 1).val + 1) * 256 ≤ 12288; omega
      · show ((i 0).val + 1) * 1024 ≤ 7168; omega
    exact ⟨h, .inl rfl⟩

/-- The tables, admissible. -/
def ad : (pcfg0 (F := F)).Adm := ⟨pf0 m, adm m hs⟩

theorem hpf (c : Dev nD) (k) : V m c (pre0.ref k) = (ad m hs).1 k := by
  obtain rfl : c = 0 := Subsingleton.elim _ _
  rfl

/-- The frame of the program, for memories whose row counts sum to the number of rows. -/
theorem frame (g : Dev nD → PrngReg) : θ_run defs (onTc (τ := τ) (main (F := F))) ⟨m, fun _ => 0, g⟩
    (fun r => (∀ c : Dev nD, (r.2.mem ((c.tc : Thread nD τ).loc main_arg0) = m ((c.tc : Thread nD τ).loc main_arg0)) ∧ (r.2.mem ((c.tc : Thread nD τ).loc main_arg1) = m ((c.tc : Thread nD τ).loc main_arg1)) ∧ (r.2.mem ((c.tc : Thread nD τ).loc main_arg2) = m ((c.tc : Thread nD τ).loc main_arg2)) ∧ (r.2.mem ((c.tc : Thread nD τ).loc main_arg3) = m ((c.tc : Thread nD τ).loc main_arg3)) ∧ (r.2.mem ((c.tc : Thread nD τ).loc main_arg4) = m ((c.tc : Thread nD τ).loc main_arg4))) ∧ r.2.sem = fun _ => 0) :=
  (θ_run defs _ _).mono (fun r h => ⟨fun c => args_of m (ad m hs) r h.1 c, h.2⟩) (run_main m g (ad m hs) (hpf m hs))

end Cert.Down.Hand
-- ==== Proof.DownIdealDeq.lean ====
module
public import proofs.«01_k».proof.Proof.Gen.DownIdeal.Loops
public import proofs.«01_k».proof.Proof.Gen.DownIdeal.Launch
public import proofs.«01_k».proof.Proof.Nibble
/-! # The dequantised block

The program dequantises the weights of an expert, column block by column block, into a buffer of its own; here is what the buffer holds afterwards. -/
@[expose] public section
set_option maxRecDepth 16384
set_option maxHeartbeats 4000000
noncomputable section
namespace Cert.DownIdeal.Hand
open Idealize.ShloMosaic Idealize.ShloMosaic.TcCoe Idealize.ShloMosaic.Tactic
open Idealize.SL Idealize.SL.RA Idealize.SL.BI
open Cert.DownIdeal Cert.DownIdeal.Gen Cert.W4
variable {F : FTy → Type} [FloatOps F]

/-- The dequantised block: row `p`, column `n` is the four-bit value of row `p` times the scale of group `p / 128`. -/
def deq (W : Vec F S1x1024x1024 .i8) (S : Vec F S1x16x1024 .bf16) : Vec F S2048x1024 .bf16 := fun y =>
  dqe (W (ix3 0 ⟨(y 0).val / 2, by have := (y 0).isLt; change (y 0).val < 2048 at this; omega⟩ (y 1))) (y 0).val
    (S (ix3 0 ⟨(y 0).val / 128, by have := (y 0).isLt; change (y 0).val < 2048 at this; omega⟩ (y 1)))

/-- A payload of the loop is group `g` of the eight scales `s` with the 64 rows of bytes `w`. -/
def IsSlab (g : Fin 8) (s : FVec F S8x1024 .bf16) (w : Vec F S1x64x1024 .i8) (P : FVec F S128x1024 .bf16) : Prop :=
  ∀ (q : Fin 128) (n : Fin 1024), P (ix2 q n) = dqe (w (ix3 0 ⟨q.val / 2, by omega⟩ n)) q.val (s (ix2 g n))

theorem slab0 (s : Vec F S1x8x1024 .bf16) (w) : IsSlab (F := F) 0 (k0_pay3 s) w (k0_pay4 s w) := fun q n => by
  pointwise [k0_pay4, k0_pay3]; rfl
theorem slab1 (s : FVec F S8x1024 .bf16) (w) : IsSlab (F := F) 1 s w (k0_pay7 s (k0_pay5 w) k0_pay6) := fun q n => by
  pointwise [k0_pay7, k0_pay5, k0_pay6]; rfl
theorem slab2 (s : FVec F S8x1024 .bf16) (w) : IsSlab (F := F) 2 s w (k0_pay8 s w) := fun q n => by
  pointwise [k0_pay8]; rfl
theorem slab3 (s : FVec F S8x1024 .bf16) (w) : IsSlab (F := F) 3 s w (k0_pay9 s w) := fun q n => by
  pointwise [k0_pay9]; rfl
theorem slab4 (s : FVec F S8x1024 .bf16) (w) : IsSlab (F := F) 4 s w (k0_pay13 s (k0_pay11 w) (k0_pay12 w)) := fun q n => by
  pointwise [k0_pay13, k0_pay11, k0_pay12, k0_pay10]; rfl
theorem slab5 (s : FVec F S8x1024 .bf16) (w) : IsSlab (F := F) 5 s w (k0_pay14 s w) := fun q n => by
  pointwise [k0_pay14]; rfl
theorem slab6 (s : FVec F S8x1024 .bf16) (w) : IsSlab (F := F) 6 s w (k0_pay15 s w) := fun q n => by
  pointwise [k0_pay15]; rfl
theorem slab7 (s : FVec F S8x1024 .bf16) (w) : IsSlab (F := F) 7 s w (k0_pay1 (k0_pay16 s w)) := fun q n => by
  pointwise [k0_pay1, k0_pay16]; rfl

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x2048 .fp8e4m3) (harg7 : arg7.IsWhole) (arg8 : Memref sig .tc .vmem S1x1024x1024 .i8) (harg8 : arg8.IsWhole) (arg9 : Memref sig .tc .vmem S1x16x1024 .bf16) (harg9 : arg9.IsWhole) (arg10 : Memref sig .tc .smem S18 .f32) (harg10 : arg10.IsWhole) (arg11 : Memref sig .tc .vmem S256x1024 .f32) (harg11 : arg11.IsWhole) (arg12 : Memref sig .tc .vmem S2048x1024 .bf16) (harg12 : arg12.IsWhole)

theorem trips_eq : k0_t1_loop.trips = 2 := by decide

/-- What a trip stores for group `r` agrees with the dequantised block, its accesses at the offsets of trip `k`. -/
theorem slab_agrees_at (k : ℕ) (hk : k < 2) (r : Fin 8) {o3 : Fin 3 → ℕ} {o4 : Fin 3 → ℕ} {o5 : Fin 2 → ℕ}
    (e3 : o3 = ![0, 8 * k, 0]) (e4 : o4 = ![0, 512 * k + 64 * r.val, 0]) (e5 : o5 = ![1024 * k + 128 * r.val, 0])
    (i3 : ∀ a, o3 a + S1x8x1024.size a ≤ S1x16x1024.size a) (i4 : ∀ a, o4 a + S1x64x1024.size a ≤ S1x1024x1024.size a)
    (i5 : ∀ a, o5 a + S128x1024.size a ≤ S2048x1024.size a)
    (X8 : BufTy.Contents (Elt F) arg8.view.ty) (X9 : BufTy.Contents (Elt F) arg9.view.ty)
    (P : FVec F S128x1024 .bf16)
    (hP : IsSlab r (k0_pay3 (View.readAt (Elt F) arg9.view (Rect.unit (s := S1x16x1024) o3 S1x8x1024.size i3).toLoadRect X9))
      (View.readAt (Elt F) arg8.view (Rect.unit (s := S1x1024x1024) o4 S1x64x1024.size i4).toLoadRect X8) P)
    (x : S128x1024.Idx) :
    P x = deq (arg8.view.read (Elt F) X8) (arg9.view.read (Elt F) X9)
      ((Rect.unit (s := S2048x1024) o5 S128x1024.size i5).emb x) := by
  subst e3 e4 e5
  idx_vars x
  rw [hP x0 x1, View.readAt_eq_ld, View.readAt_eq_ld]
  generalize View.read (Elt F) arg8.view X8 = W
  generalize View.read (Elt F) arg9.view X9 = S
  unfold deq
  pointwise [k0_pay3]
  have hq := x0.isLt
  have hr := r.isLt
  have he : (Rect.unit (s := S2048x1024) ![1024 * k + 128 * r.val, 0] ![128, 1024] i5).emb (ix2 x0 x1)
      = ix2 (⟨1024 * k + 128 * r.val + x0.val, by omega⟩ : Fin 2048) x1 :=
    Rect.emb_eq_of_coords _ _ _ fun a => by
      fin_cases a <;> simp [Rect.unit, ix2]
  rw [he]
  have h1 : 512 * k + 64 * r.val + x0.val / 2 = (1024 * k + 128 * r.val + x0.val) / 2 := by omega
  have h2 : 8 * k + r.val = (1024 * k + 128 * r.val + x0.val) / 128 := by omega
  rw [dqe_congr _ _ (show x0.val % 2 = (1024 * k + 128 * r.val + x0.val) % 2 by omega)]
  congr 1
  · congr 2; exact Fin.ext h1
  · congr 2; exact Fin.ext h2

/-- Every piece one trip writes agrees with the dequantised block. -/
theorem trip_agrees (k : Fin k0_t1_loop.trips) (X8 : BufTy.Contents (Elt F) arg8.view.ty) (X9 : BufTy.Contents (Elt F) arg9.view.ty) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 X8 X9 k, ∀ x : p.1.shape.Idx,
      p.2 x = deq (arg8.view.read (Elt F) X8) (arg9.view.read (Elt F) X9) (p.1.emb x) := by
  have hk : k.val < 2 := trips_eq ▸ k.isLt
  unfold tripL_k0_t1 trip_k0_t1; dsimp only
  simp only [List.forall_mem_cons, List.not_mem_nil, false_imp_iff, implies_true, and_true]
  refine ⟨?_, ?_, ?_, ?_, ?_, ?_, ?_, ?_⟩
  · exact slab_agrees_at arg8 arg9 k.val hk 7 (k0_off3_eq k) (k0_off4_eq k 7) (k0_off5_eq k 7) _ _ _ X8 X9 _ (slab7 _ _)
  · exact slab_agrees_at arg8 arg9 k.val hk 6 (k0_off3_eq k) (k0_off4_eq k 6) (k0_off5_eq k 6) _ _ _ X8 X9 _ (slab6 _ _)
  · exact slab_agrees_at arg8 arg9 k.val hk 5 (k0_off3_eq k) (k0_off4_eq k 5) (k0_off5_eq k 5) _ _ _ X8 X9 _ (slab5 _ _)
  · exact slab_agrees_at arg8 arg9 k.val hk 4 (k0_off3_eq k) (k0_off4_eq k 4) (k0_off5_eq k 4) _ _ _ X8 X9 _ (slab4 _ _)
  · exact slab_agrees_at arg8 arg9 k.val hk 3 (k0_off3_eq k) (k0_off4_eq k 3) (k0_off5_eq k 3) _ _ _ X8 X9 _ (slab3 _ _)
  · exact slab_agrees_at arg8 arg9 k.val hk 2 (k0_off3_eq k) (k0_off4_eq k 2) (k0_off5_eq k 2) _ _ _ X8 X9 _ (slab2 _ _)
  · exact slab_agrees_at arg8 arg9 k.val hk 1 (k0_off3_eq k) (k0_off4_eq k 1) (k0_off5_eq k 1) _ _ _ X8 X9 _ (slab1 _ _)
  · exact slab_agrees_at arg8 arg9 k.val hk 0 (k0_off3_eq k) (k0_off4_eq k 0) (k0_off5_eq k 0) _ _ _ X8 X9 _ (slab0 _ _)

/-- A row of trip `k` lies in one of the eight pieces the trip writes. -/
theorem mem_slab (k : ℕ) (r : Fin 8) {o5 : Fin 2 → ℕ} (e5 : o5 = ![1024 * k + 128 * r.val, 0])
    (i5 : ∀ a, o5 a + S128x1024.size a ≤ S2048x1024.size a) (y : S2048x1024.Idx)
    (h : (y 0).val / 128 = 8 * k + r.val) : y ∈ (Rect.unit (s := S2048x1024) o5 S128x1024.size i5).set := by
  subst e5
  rw [Rect.mem_set_unit]
  have h1 := (y 1).isLt
  intro a
  fin_cases a
  · simp only [Fin.zero_eta, Matrix.cons_val_zero]
    change 1024 * k + 128 * r.val ≤ (y 0).val ∧ (y 0).val < 1024 * k + 128 * r.val + 128
    omega
  · exact ⟨Nat.zero_le _, by change (y 1).val < 0 + 1024; exact (by omega : (y 1).val < 0 + (y 1).val + 1).trans_le (by change (y 1).val < 1024 at h1; omega)⟩

theorem trip_covers (k : Fin k0_t1_loop.trips) (X8 : BufTy.Contents (Elt F) arg8.view.ty) (X9 : BufTy.Contents (Elt F) arg9.view.ty)
    (y : S2048x1024.Idx) (hy : (y 0).val / 1024 = k.val) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 X8 X9 k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t1 trip_k0_t1; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off5_eq k 7) _ y (by change _ = 8 * k.val + 7; omega)
  · exact mem_slab k.val 6 (k0_off5_eq k 6) _ y (by change _ = 8 * k.val + 6; omega)
  · exact mem_slab k.val 5 (k0_off5_eq k 5) _ y (by change _ = 8 * k.val + 5; omega)
  · exact mem_slab k.val 4 (k0_off5_eq k 4) _ y (by change _ = 8 * k.val + 4; omega)
  · exact mem_slab k.val 3 (k0_off5_eq k 3) _ y (by change _ = 8 * k.val + 3; omega)
  · exact mem_slab k.val 2 (k0_off5_eq k 2) _ y (by change _ = 8 * k.val + 2; omega)
  · exact mem_slab k.val 1 (k0_off5_eq k 1) _ y (by change _ = 8 * k.val + 1; omega)
  · exact mem_slab k.val 0 (k0_off5_eq k 0) _ y (by change _ = 8 * k.val + 0; omega)

/-- The pieces of the first `n` trips agree with the dequantised block and cover its first `1024 * n` rows. -/
theorem pb_agrees (X8 : BufTy.Contents (Elt F) arg8.view.ty) (X9 : BufTy.Contents (Elt F) arg9.view.ty) (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 X8 X9 n, ∀ x : p.1.shape.Idx,
      p.2 x = deq (arg8.view.read (Elt F) X8) (arg9.view.read (Elt F) X9) (p.1.emb x))
    ∧ ∀ y : S2048x1024.Idx, (y 0).val < 1024 * n → ∃ p ∈ pb_k0_t1 (F := F) 𝒱 c bd i arg2 harg2 arg3 harg3 arg4 harg4 arg5 harg5 arg6 harg6 arg7 harg7 arg8 harg8 arg9 harg9 arg10 harg10 arg11 harg11 arg12 harg12 X8 X9 n, y ∈ p.1.set := by
  induction n with
  | zero => exact ⟨fun p hp => absurd hp List.not_mem_nil, fun y hy => absurd hy (by omega)⟩
  | succ n ih =>
    obtain ⟨ih1, ih2⟩ := ih (by omega)
    have es := pb_k0_t1_succ (F := F) 𝒱 c bd i arg2 harg2 arg3 harg3 arg4 harg4 arg5 harg5 arg6 harg6 arg7 harg7 arg8 harg8 arg9 harg9 arg10 harg10 arg11 harg11 arg12 harg12 X8 X9 ⟨n, hn⟩
    dsimp only at es
    rw [es]
    refine ⟨fun p hp => ?_, fun y hy => ?_⟩
    · rcases List.mem_append.mp hp with h | h
      · exact trip_agrees 𝒱 c bd i arg2 harg2 arg3 harg3 arg4 harg4 arg5 harg5 arg6 harg6 arg7 harg7 arg8 harg8 arg9 harg9 arg10 harg10 arg11 harg11 arg12 harg12 ⟨n, hn⟩ X8 X9 p h
      · exact ih1 p h
    · by_cases h : (y 0).val < 1024 * n
      · obtain ⟨p, hp, hy⟩ := ih2 y h
        exact ⟨p, List.mem_append_right _ hp, hy⟩
      · obtain ⟨p, hp, hy⟩ := trip_covers 𝒱 c bd i arg2 harg2 arg3 harg3 arg4 harg4 arg5 harg5 arg6 harg6 arg7 harg7 arg8 harg8 arg9 harg9 arg10 harg10 arg11 harg11 arg12 harg12 ⟨n, hn⟩ X8 X9 y (by change _ = n; omega)
        exact ⟨p, List.mem_append_left _ hp, hy⟩

/-- After the loop the scratch holds the dequantised block, whatever it held before. -/
theorem scratch_eq (X8 : BufTy.Contents (Elt F) arg8.view.ty) (X9 : BufTy.Contents (Elt F) arg9.view.ty) (X12 : BufTy.Contents (Elt F) arg12.view.ty) :
    arg12.view.read (Elt F) (arg12.view.writes (Elt F) X12 (pb_k0_t1 (F := F) 𝒱 c bd i arg2 harg2 arg3 harg3 arg4 harg4 arg5 harg5 arg6 harg6 arg7 harg7 arg8 harg8 arg9 harg9 arg10 harg10 arg11 harg11 arg12 harg12 X8 X9 k0_t1_loop.trips))
      = deq (arg8.view.read (Elt F) X8) (arg9.view.read (Elt F) X9) := by
  obtain ⟨h1, h2⟩ := pb_agrees (F := F) 𝒱 c bd i arg2 harg2 arg3 harg3 arg4 harg4 arg5 harg5 arg6 harg6 arg7 harg7 arg8 harg8 arg9 harg9 arg10 harg10 arg11 harg11 arg12 harg12 X8 X9 _ le_rfl
  funext y
  refine View.read_writes_apply_of_pieces _ _ _ _ h1 y (h2 y ?_)
  rw [trips_eq]; exact (y 0).isLt

end
end Cert.DownIdeal.Hand
-- ==== Proof.DownIdealBody.lean ====
module
public import proofs.«01_k».proof.Proof.DownIdealDeq
public import Idealize.ShloMosaic.Lib.VecWindow
/-! # What one grid point of the down kernel does

The body dequantises the weight block into the scratch at the first visit of an expert, and at a live visit replaces the rows
of the output block that the visit owns. -/
@[expose] public section
set_option maxRecDepth 16384
set_option maxHeartbeats 4000000
noncomputable section
namespace Cert.DownIdeal.Hand
open Idealize.ShloMosaic Idealize.ShloMosaic.TcCoe Idealize.ShloMosaic.Tactic
open Cert.DownIdeal Cert.DownIdeal.Gen Cert.W4

variable {F : FTy → Type} [FloatOps F]

/-- The word of visit `v` in a table. -/
def at65 (T : S65.Idx → BitVec 32) (v : ℕ) : BitVec 32 := T (ix1 ⟨min v 64, by omega⟩)

/-- A table's word read at the grid's visit. -/
theorem word_eq (arg : Memref sig .tc .smem S65 .i32) (X : BufTy.Contents (Elt F) arg.view.ty) {o : Fin 1 → ℕ} (n : ℕ) (hn : n < 65)
    (e : o = ![n]) (inb : ∀ a, o a + S1.size a ≤ S65.size a) (h : 0 < S1.numel) :
    View.readAt (Elt F) arg.view (Rect.unit (s := S65) o S1.size inb).toLoadRect X (Shape.Idx.first h)
      = at65 (arg.view.read (Elt F) X) n := by
  subst e
  rw [View.readAt_eq_ld]
  unfold at65
  refine congrArg (arg.view.read (Elt F) X) (funext fun a => Fin.ext ?_)
  fin_cases a
  have hz : (Shape.Idx.first h (0 : Fin 1)).val < 1 := (Shape.Idx.first h (0 : Fin 1)).isLt
  change n + 1 * (Shape.Idx.first h (0 : Fin 1)).val = min n 64
  omega

/-- A scale read at an expert's word. -/
def at18 (A : S18.Idx → F .f32) (e : BitVec 32) : F .f32 := A (ix1 ⟨min e.toNat 17, by omega⟩)

theorem scale_eq (arg : Memref sig .tc .smem S18 .f32) (X : BufTy.Contents (Elt F) arg.view.ty) (w : BitVec 32) {o : Fin 1 → ℕ}
    (e : o = ![w.toNat]) (inb : ∀ a, o a + S1.size a ≤ S18.size a) (h : 0 < S1.numel) :
    View.readAt (Elt F) arg.view (Rect.unit (s := S18) o S1.size inb).toLoadRect X (Shape.Idx.first h)
      = at18 (arg.view.read (Elt F) X) w := by
  subst e
  rw [View.readAt_eq_ld]
  unfold at18
  refine congrArg (arg.view.read (Elt F) X) (funext fun a => Fin.ext ?_)
  fin_cases a
  have hz : (Shape.Idx.first h (0 : Fin 1)).val < 1 := (Shape.Idx.first h (0 : Fin 1)).isLt
  change w.toNat + 1 * (Shape.Idx.first h (0 : Fin 1)).val = min w.toNat 17
  have := inb 0
  change w.toNat + 1 ≤ 18 at this
  omega

theorem k0_off2_eq (i : grid0.Coords) : k0_off2 i = ![(i 1).val - 1] := by
  have r_i1 : (i 1).val < 65 := (i 1).isLt
  have h_arg1 : Affine.IsInt (BitVec.ofNat 32 (i 1).val) (((i 1).val : Int)) := Affine.ofNat _ (by omega)
  have h_c1_i32 : Affine.IsInt 1#32 (1) := Affine.ofNat _ (by omega)
  have h_v3 : Affine.IsInt _ (((i 1).val : Int) - 1) := Affine.subi h_arg1 h_c1_i32 (by omega)
  have h_c0_i32_0 : Affine.IsInt 0#32 (0) := Affine.ofNat _ (by omega)
  have h_v4 : Affine.IsInt _ ((max (((i 1).val : Int) - 1) 0)) := Affine.maxsi h_v3 h_c0_i32_0 (by omega)
  have h_v5 : Affine.IsInt _ ((max (((i 1).val : Int) - 1) 0)) := Affine.indexCast h_v4
  exact Affine.vec_cons h_v5 (by omega) <| Affine.vec_nil

/-- The visit is the first one of its column, or visits another expert than the visit before. -/
def fresh (T3 : S65.Idx → BitVec 32) (v : ℕ) : Prop := v = 0 ∨ at65 T3 v ≠ at65 T3 (v - 1)

instance (T3 : S65.Idx → BitVec 32) (v : ℕ) : Decidable (fresh T3 v) := inferInstanceAs (Decidable (_ ∨ _))

/-- The visit has work to do. -/
def live (T6 : S65.Idx → BitVec 32) (v : ℕ) : Prop := at65 T6 v = 1#32

instance (T6 : S65.Idx → BitVec 32) (v : ℕ) : Decidable (live T6 v) := inferInstanceAs (Decidable (_ = _))

/-- What a live visit stores into the output block. -/
def outv (T2 T3 T4 T5 : S65.Idx → BitVec 32) (v : ℕ) (X7 : Vec F S256x2048 .fp8e4m3) (D : Vec F S2048x1024 .bf16)
    (A : S18.Idx → F .f32) (Y : Vec F S256x1024 .f32) : Vec F S256x1024 .f32 :=
  k0_pay2 X7 D (at18 A (at65 T3 v)) (at65 T2 v) (at65 T4 v) (at65 T5 v) Y

theorem cond2_iff (w : BitVec 32) : k0_cond2 w = 1#1 ↔ w = 1#32 := by
  unfold k0_cond2
  simp only [Scalar.cmpi, Scalar.extui, IntOp.cmpi]
  by_cases h : w = 1#32
  · subst h; decide
  · have e : (w == 1#32) = false := by simpa using h
    rw [e]; simp [h]

theorem cond1_iff (v : ℕ) (hv : v < 65) (a b : BitVec 32) :
    Scalar.cmpi .ne (Scalar.extui (Scalar.ori (Scalar.cmpi .eq (BitVec.ofNat 32 v) 0#32) (Scalar.cmpi .ne a b))) 0#32 = 1#1
      ↔ (v = 0 ∨ a ≠ b) := by
  have h0 : BitVec.ofNat 32 v = 0#32 ↔ v = 0 := by
    constructor
    · intro h; have := congrArg BitVec.toNat h; simp at this; omega
    · rintro rfl; rfl
  have e1 : (BitVec.ofNat 32 v == 0#32) = decide (v = 0) := by rw [← decide_eq_decide.mpr h0]; rfl
  have e2 : (a != b) = decide (a ≠ b) := by by_cases h : a = b <;> simp [h]
  simp only [Scalar.cmpi, Scalar.extui, Scalar.ori, IntOp.cmpi, IntOp.ori]
  rw [e1, e2]
  by_cases h1 : v = 0 <;> by_cases h2 : a = b <;> simp [h1, h2]

theorem chk_of (a b : BitVec 32) (hb : b.toNat < 18) : k0_chk1 a b := by
  intro _ x
  fin_cases x
  change b.toNat + 1 ≤ 18
  omega

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x2048 .fp8e4m3) (harg7 : arg7.IsWhole) (arg8 : Memref sig .tc .vmem S1x1024x1024 .i8) (harg8 : arg8.IsWhole) (arg9 : Memref sig .tc .vmem S1x16x1024 .bf16) (harg9 : arg9.IsWhole) (arg10 : Memref sig .tc .smem S18 .f32) (harg10 : arg10.IsWhole) (arg11 : Memref sig .tc .vmem S256x1024 .f32) (harg11 : arg11.IsWhole) (arg12 : Memref sig .tc .vmem S2048x1024 .bf16) (harg12 : arg12.IsWhole)

set_option maxHeartbeats 16000000 in
/-- One grid point, run on blocks of any contents. -/
theorem body_run (q : PosShare TreeShare) (X2 : Vec F S65 .i32) (X3 : Vec F S65 .i32) (X4 : Vec F S65 .i32) (X5 : Vec F S65 .i32) (X6 : Vec F S65 .i32) (X7 : Vec F S256x2048 .fp8e4m3) (X8 : Vec F S1x1024x1024 .i8) (X9 : Vec F S1x16x1024 .bf16) (X10 : Vec F S18 .f32) (X11 : Vec F S256x1024 .f32) (X12 : Vec F S2048x1024 .bf16) (hex : (at65 X3 (i 1).val).toNat < 18) :
    iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
      ⊢ wp (M := 𝕄G) frame (wpE (defs₀ (F := F)) 𝒱 (c : Thread nD τ) bd) E (cc0_down (F := F) i arg2 harg2 arg3 harg3 arg4 harg4 arg5 harg5 arg6 harg6 arg7 harg7 arg8 harg8 arg9 harg9 arg10 harg10 arg11 harg11 arg12 harg12)
          (fun _ => iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10
            ∗ (∃ D, ⌜D = if fresh X3 (i 1).val then deq X8 X9 else X12⌝ ∗ owns (c : Thread nD τ) arg12 fullShare D
               ∗ (∃ O, ⌜O = if live X6 (i 1).val then outv X2 X3 X4 X5 (i 1).val X7 D X10 X11 else X11⌝ ∗ owns (c : Thread nD τ) arg11 fullShare O)))) := by
  have hv : (i 1).val < 65 := (i 1).isLt
  rw [Gen.cc0_down_eq_skeleton]; unfold Gen.cc0_down_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩
  have hw3 : (View.readAt (Elt F) arg3.view (Rect.unit (s := S65) (k0_off7 i) S1.size (k0_off7_inb i)).toLoadRect f3
      (Shape.Idx.first (numel1_S1 ▸ Nat.one_pos))).toNat < 18 := by
    rw [word_eq arg3 f3 _ hv (k0_off7_eq i), e3]; exact hex
  have hk : ∀ a b, b.toNat < 18 → k0_chk1 a b := fun a b hb => chk_of a b hb
  sl_exec
  by_cases h1 : body_run.sl.v10 c i arg3 f3 = 1#1
  · sl_exec (disch := first | sl_exact h1 | exact hk _ _ hw3)
    sl_step
    have hlive : k0_cond2 (body_run.sl.r_2 c i arg6 f6) = 1#1 ↔ live X6 (i 1).val := by
      rw [cond2_iff]; unfold live
      rw [show body_run.sl.r_2 c i arg6 f6 = at65 X6 (i 1).val from
        (word_eq arg6 f6 _ hv (k0_off6_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD : View.read (Elt F) arg12.view (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 f8 f9 (Scf.trips k0_t1_loop.lb k0_t1_loop.ub k0_t1_loop.st))) = if fresh X3 (i 1).val then deq X8 X9 else X12 := by
      rw [if_pos (hfr.mp h1), ← e8, ← e9]; exact scratch_eq (F := F) 𝒱 c bd i arg2 harg2 arg3 harg3 arg4 harg4 arg5 harg5 arg6 harg6 arg7 harg7 arg8 harg8 arg9 harg9 arg10 harg10 arg11 harg11 arg12 harg12 f8 f9 f12
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    iexists (if fresh X3 (i 1).val then deq X8 X9 else X12)
    isplitr
    · ipureintro; rfl
    isplitl [H12]
    · iexists _; isplitr
      swap
      · iexact H12
      · ipureintro; exact hD
    iexists _
    isplitr
    swap
    · iexists _; isplitr
      swap
      · iexact H11
      · ipureintro; rfl
    · ipureintro
      rw [← hD]
      split
      · rename_i hl
        rw [if_pos (hlive.mp hl)]
        refine (View.read_writes_full _ _ _ _ _).trans ?_
        unfold outv
        congr 1
        · rw [View.readAt_full]; exact e7
        · rw [View.readAt_full]
        · exact (scale_eq arg10 f10 _ rfl _ _).trans (by rw [e10]; congr 1; exact (word_eq arg3 f3 _ hv (k0_off7_eq i) _ _).trans (by rw [e3]))
        · exact (word_eq arg2 f2 _ hv (k0_off9_eq i) _ _).trans (by rw [e2])
        · exact (word_eq arg4 f4 _ hv (k0_off9_eq i) _ _).trans (by rw [e4])
        · exact (word_eq arg5 f5 _ hv (k0_off9_eq i) _ _).trans (by rw [e5])
        · rw [View.readAt_full]; exact e11
      · rename_i hl
        rw [if_neg (fun h => hl (hlive.mpr h))]; exact e11
  · sl_exec (disch := first | sl_exact h1 | exact hk _ _ hw3)
    sl_step
    have hlive : k0_cond2 (body_run.sl.r_8 c i arg6 f6) = 1#1 ↔ live X6 (i 1).val := by
      rw [cond2_iff]; unfold live
      rw [show body_run.sl.r_8 c i arg6 f6 = at65 X6 (i 1).val from
        (word_eq arg6 f6 _ hv (k0_off6_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD : View.read (Elt F) arg12.view (f12) = if fresh X3 (i 1).val then deq X8 X9 else X12 := by
      rw [if_neg (fun h => h1 (hfr.mpr h))]; exact e12
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    iexists (if fresh X3 (i 1).val then deq X8 X9 else X12)
    isplitr
    · ipureintro; rfl
    isplitl [H12]
    · iexists _; isplitr
      swap
      · iexact H12
      · ipureintro; exact hD
    iexists _
    isplitr
    swap
    · iexists _; isplitr
      swap
      · iexact H11
      · ipureintro; rfl
    · ipureintro
      rw [← hD]
      split
      · rename_i hl
        rw [if_pos (hlive.mp hl)]
        refine (View.read_writes_full _ _ _ _ _).trans ?_
        unfold outv
        congr 1
        · rw [View.readAt_full]; exact e7
        · rw [View.readAt_full]
        · exact (scale_eq arg10 f10 _ rfl _ _).trans (by rw [e10]; congr 1; exact (word_eq arg3 f3 _ hv (k0_off7_eq i) _ _).trans (by rw [e3]))
        · exact (word_eq arg2 f2 _ hv (k0_off9_eq i) _ _).trans (by rw [e2])
        · exact (word_eq arg4 f4 _ hv (k0_off9_eq i) _ _).trans (by rw [e4])
        · exact (word_eq arg5 f5 _ hv (k0_off9_eq i) _ _).trans (by rw [e5])
        · rw [View.readAt_full]; exact e11
      · rename_i hl
        rw [if_neg (fun h => hl (hlive.mpr h))]; exact e11
end
end Cert.DownIdeal.Hand
-- ==== Proof.DownIdealRun.lean ====
module
public import proofs.«01_k».proof.Proof.DownIdealBody
public import Idealize.ShloMosaic.Lib.Pipeline.Frame
public import Idealize.ShloMosaic.Lib.Pipeline.FrameBody
public import Idealize.ShloMosaic.Lib.Pipeline.TableIdle
/-! # The down kernel over its whole grid

What the body leaves at a grid point, as a relation to what it found, and the run of the program by it. -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4

variable {F : FTy → Type} [FloatOps F]

/-- The column and the visit of a grid point. -/
theorem coords_val (t : Fin grid0.N) : (grid0.coords t 0).val = t.val / 65 ∧ (grid0.coords t 1).val = t.val % 65 := by
  have ht : t.val < 455 := t.isLt.trans_eq N_0
  have h0 : grid0.stride 0 = 65 := by decide
  have h1 : grid0.stride 1 = 1 := by decide
  refine ⟨?_, ?_⟩
  · change t.val / grid0.stride 0 % 7 = _
    rw [h0]; omega
  · change t.val / grid0.stride 1 % 65 = _
    rw [h1, Nat.div_one]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (UR sig nD τ) ℕ (cfg0 a) c where
  A w := A (Pipeline.arrRef spec0 w) c
  after w t Y X := X = Y
  Φ _ := iprop(emp)
  q _ := fullShare
  owed _ := 0

/-- The block of an input window at a point. -/
def inp (w : Fin 5) (t : Fin grid0.N) : ((cfg0 a).win w).block.Idx → Elt F ((cfg0 a).win w).elt :=
  (rd0 a A c).fetched w t (Classical.arbitrary _)

/-- The tables. -/
def tb (k : Fin 5) : S65.Idx → BitVec 32 := match k with
  | 0 => a.1 0 | 1 => a.1 1 | 2 => a.1 2 | 3 => a.1 3 | 4 => a.1 4

/-- The scratch after point `t`: the weight block of its visit, dequantised. -/
def scr (t : Fin grid0.N) : Vec F S2048x1024 .bf16 := deq (inp a A c 1 t) (inp a A c 2 t)

/-- What the output block holds after point `t`, if it held `Y` before. -/
def outF (t : Fin grid0.N) (Y : Vec F S256x1024 .f32) : Vec F S256x1024 .f32 :=
  if live (tb a 4) (grid0.coords t 1).val then
    outv (tb a 0) (tb a 1) (tb a 2) (tb a 3) (grid0.coords t 1).val (inp a A c 0 t) (scr a A c t) (inp a A c 3 t) Y
  else Y

/-- Before point `t` the scratch holds what the point before left in it. -/
def inv (t : Fin (grid0.N + 1)) : sProp 𝕄G :=
  iprop(Pipeline.prefHeld (Ix := Unit) (Name := ℕ) (U := UR sig nD τ) (Lvl := ℕ) pre0 c (fun _ => fullShare.right) a.1
    ∗ (∃ r, prngReg c r)
    ∗ ∃ D, ⌜∀ u : Fin grid0.N, u.val + 1 = t.val → D = scr a A c u⌝ ∗ owns (c : Thread nD τ) (Memref.whole cc0_scratch0) fullShare D)

/-- The proof data of the run. -/
def rd : Pipeline.RDat τ (Elt F) Unit ℕ (UR sig nD τ) ℕ (cfg0 a) c where
  A w := A (Pipeline.arrRef spec0 w) c
  after := fun
    | 0 => fun _ Y X => X = Y
    | 1 => fun _ Y X => X = Y
    | 2 => fun _ Y X => X = Y
    | 3 => fun _ Y X => X = Y
    | 4 => fun t Y X => X = outF a A c t Y
    | ⟨_ + 5, h⟩ => absurd h (Nat.not_lt.2 (Nat.le_add_left _ _))
  Φ t := inv a A c t
  q _ := fullShare
  owed _ := 0

/-- A buffer of an input window holds the window's block at every point. -/
theorem finds_inp (w : Fin 5) (hw : w ≠ 4) (t : Fin grid0.N) (Y : ((cfg0 a).win w).block.Idx → Elt F ((cfg0 a).win w).elt)
    (h : (rd a A c).Finds w t Y) : Y = inp a A c w t := by
  have hclip : ∀ (w : Fin 5) (i : grid0.Coords) (b), ((cfg0 a).win w).clip i b = none := by
    intro w i b; fin_cases w <;> rfl
  obtain ⟨d, rfl⟩ := (rd a A c).finds_in_eq_fetched w (by fin_cases w <;> first | rfl | exact absurd rfl hw)
    (fun t t' _ => by funext b; rw [hclip])
    (fun t Y X h => by fin_cases w <;> first | exact h | exact absurd rfl hw) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (UR sig nD τ) ℕ (cfg0 a) c) w t (fun b => hclip w _ b) _ _

/-- The word of a table an index map reads. -/
theorem pfAt (pf : S65.Idx → BitVec 32) (t : Fin grid0.N) (h : 0 < S1.numel) :
    pf ((Rect.unit (s := S65) (k0_off1 (grid0.coords t)) S1.size (k0_off1_inb (grid0.coords t))).emb (Shape.Idx.first h)) = at65 pf (grid0.coords t 1).val := by
  unfold at65
  refine congrArg pf (funext fun b => Fin.ext ?_)
  fin_cases b
  have e := congrFun (k0_off1_eq (grid0.coords t)) 0
  have hv : (grid0.coords t 1).val < 65 := (grid0.coords t 1).isLt
  have hf : (Shape.Idx.first h (0 : Fin 1)).val < 1 := (Shape.Idx.first h (0 : Fin 1)).isLt
  change k0_off1 (grid0.coords t) 0 + 1 * (Shape.Idx.first h (0 : Fin 1)).val = min _ 64
  have e' : k0_off1 (grid0.coords t) 0 = (grid0.coords t 1).val := e
  rw [e']
  omega

/-- The block index of the rows' window is the visit's tile. -/
theorem index0 (t : Fin grid0.N) : ((cfg0 a).win 0).index t = ![(at65 (tb a 0) (grid0.coords t 1).val).toNat, 0] := by
  refine Eq.trans ?_ (congrArg (fun w : BitVec 32 => ![w.toNat, 0]) (pfAt (tb a 0) t (numel1_S1 ▸ Nat.one_pos)))
  rfl

theorem ofNat_col (t : Fin grid0.N) : (BitVec.ofNat 32 (grid0.coords t 0).val).toNat = (grid0.coords t 0).val := by
  have : (grid0.coords t 0).val < 7 := (grid0.coords t 0).isLt
  rw [BitVec.toNat_ofNat]; omega

/-- The block index of a weight window is the visit's expert and column. -/
theorem index1 (t : Fin grid0.N) : ((cfg0 a).win 1).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index2 (t : Fin grid0.N) : ((cfg0 a).win 2).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

/-- The block index of the output's window is the visit's tile and the column. -/
theorem index4 (t : Fin grid0.N) : ((cfg0 a).win 4).index t = ![(at65 (tb a 0) (grid0.coords t 1).val).toNat, (grid0.coords t 0).val] := by
  refine Eq.trans ?_ (congrArg₂ (fun (w : BitVec 32) (n : ℕ) => ![w.toNat, n]) (pfAt (tb a 0) t (numel1_S1 ▸ Nat.one_pos)) (ofNat_col t))
  rfl

/-- The expert of a visit is one of the eighteen. -/
theorem ex_lt (t : Fin grid0.N) : (at65 (tb a 1) (grid0.coords t 1).val).toNat < 18 := by
  obtain ⟨h, _⟩ := a.2.2.1 (grid0.coords t)
  have h0 := h (0 : Fin 3)
  have e : cc0_transform_1 k0_off1_inb numel1_S1 a.1 (grid0.coords t) (0 : Fin 3) = (at65 (tb a 1) (grid0.coords t 1).val).toNat := congrFun (index1 a t) (0 : Fin 3)
  rw [e] at h0
  have h1 : ((at65 (tb a 1) (grid0.coords t 1).val).toNat + 1) * 1 ≤ 18 := h0
  omega

/-- A block is fetched the same at two points of one block index. -/
theorem inp_congr (w : Fin 5) (t u : Fin grid0.N) (h : ((cfg0 a).win w).index t = ((cfg0 a).win w).index u) : inp a A c w t = inp a A c w u :=
  (rd0 a A c).fetched_congr w h (by funext b; fin_cases w <;> rfl) _

/-- A visit that keeps the expert of the visit before it finds the scratch it needs. -/
theorem scr_stale (t u : Fin grid0.N) (hu : u.val + 1 = t.val) (h : ¬ fresh (tb a 1) (grid0.coords t 1).val) : scr a A c u = scr a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr
  rw [inp_congr a A c 1 u t (by rw [index1, index1, e0, e1, h1]), inp_congr a A c 2 u t (by rw [index2, index2, e0, e1, h1])]

/-- What the body leaves in the scratch is the visit's block, made now or kept from the point before. -/
theorem scr_next (t : Fin grid0.N) (D D' : Vec F S2048x1024 .bf16) (hD : ∀ u : Fin grid0.N, u.val + 1 = t.val → D = scr a A c u)
    (h : D' = if fresh (tb a 1) (grid0.coords t 1).val then deq (inp a A c 1 t) (inp a A c 2 t) else D) : D' = scr a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr_stale a A c t ⟨n, hlt⟩ hn hf]

theorem owns_whole (b : Ref sig .tc) (q : PosShare TreeShare) (X : b.ty.Contents (Elt F)) :
    (owns (c : Thread nD τ) (Memref.whole b) q X : sProp 𝕄G) = ((c.tc : Thread nD τ).loc b ↦{q} X) := by
  have hs : (Memref.whole b).view.set = Finset.univ := View.set_whole _
  unfold owns
  rw [hs]
  have h1 : iprop(∃ f, ⌜(Memref.whole b).view.read (Elt F) f = X⌝ ∗ ((Memref.whole b).view.loc (c : Thread nD τ) ↦[Finset.univ]{q} f))
      ⊢ ((c.tc : Thread nD τ).loc b ↦{q} X : sProp 𝕄G) := by
    iintro ⟨%f, %hf, H⟩
    have : f = X := hf
    subst this
    iexact H
  have h2 : ((c.tc : Thread nD τ).loc b ↦{q} X : sProp 𝕄G)
      ⊢ iprop(∃ f, ⌜(Memref.whole b).view.read (Elt F) f = X⌝ ∗ ((Memref.whole b).view.loc (c : Thread nD τ) ↦[Finset.univ]{q} f)) := by
    iintro H
    iexists X
    isplitr
    · ipureintro; rfl
    iexact H
  exact BI.equiv_iff.mp ⟨h1, h2⟩

theorem held_eq : (Pipeline.prefHeld (Ix := Unit) (Name := ℕ) (U := UR sig nD τ) (Lvl := ℕ) pre0 c (fun _ => fullShare.right) a.1 : sProp 𝕄G)
    = iprop(owns (c : Thread nD τ) (Memref.whole main_v49) fullShare.right (tb a 0) ∗ owns (c : Thread nD τ) (Memref.whole main_v25) fullShare.right (tb a 1)
      ∗ owns (c : Thread nD τ) (Memref.whole main_v56) fullShare.right (tb a 2) ∗ owns (c : Thread nD τ) (Memref.whole main_v63) fullShare.right (tb a 3)
      ∗ owns (c : Thread nD τ) (Memref.whole main_v66) fullShare.right (tb a 4)) := by
  unfold Pipeline.prefHeld
  refine (bigSep_W0 _).trans ?_
  rw [owns_whole, owns_whole, owns_whole, owns_whole, owns_whole]
  rfl

/-- The staging buffer of a window at a point. -/
abbrev st (w : Fin 5) (t : Fin grid0.N) := ((cfg0 a).win w).stage ((cfg0 a).slots t w)

/-- The body at a point, from the invariant and the blocks to the invariant after it. -/
theorem point_run (t : Fin grid0.N) (O : Vec F S256x1024 .f32) :
    iprop(inv a A c t.castSucc
        ∗ owns (c : Thread nD τ) (st a 0 t) fullShare (inp a A c 0 t) ∗ owns (c : Thread nD τ) (st a 1 t) fullShare (inp a A c 1 t)
        ∗ owns (c : Thread nD τ) (st a 2 t) fullShare (inp a A c 2 t) ∗ owns (c : Thread nD τ) (st a 3 t) fullShare (inp a A c 3 t)
        ∗ owns (c : Thread nD τ) (st a 4 t) fullShare O)
      ⊢ wp (M := 𝕄G) frame (wpE (defs₀ (F := F)) Variants.none (c : Thread nD τ) none) Set.univ
          (cc0_down (F := F) (grid0.coords t) (Memref.whole main_v49) (Memref.isWhole_whole _) (Memref.whole main_v25) (Memref.isWhole_whole _)
            (Memref.whole main_v56) (Memref.isWhole_whole _) (Memref.whole main_v63) (Memref.isWhole_whole _) (Memref.whole main_v66) (Memref.isWhole_whole _)
            (spec0_0.stage ((cfg0 a).slots t 0)) (hstage0_0 (((cfg0 a).slots t 0).cast nbuf0_0)) (spec0_1.stage ((cfg0 a).slots t 1)) (hstage0_1 (((cfg0 a).slots t 1).cast nbuf0_1))
            (spec0_2.stage ((cfg0 a).slots t 2)) (hstage0_2 (((cfg0 a).slots t 2).cast nbuf0_2)) (spec0_3.stage ((cfg0 a).slots t 3)) (hstage0_3 (((cfg0 a).slots t 3).cast nbuf0_3))
            (spec0_4.stage ((cfg0 a).slots t 4)) (hstage0_4 (((cfg0 a).slots t 4).cast nbuf0_4)) (Memref.whole cc0_scratch0) (Memref.isWhole_whole _))
          fun _ => iprop(inv a A c t.succ
        ∗ owns (c : Thread nD τ) (st a 0 t) fullShare (inp a A c 0 t) ∗ owns (c : Thread nD τ) (st a 1 t) fullShare (inp a A c 1 t)
        ∗ owns (c : Thread nD τ) (st a 2 t) fullShare (inp a A c 2 t) ∗ owns (c : Thread nD τ) (st a 3 t) fullShare (inp a A c 3 t)
        ∗ owns (c : Thread nD τ) (st a 4 t) fullShare (outF a A c t O)) := by
  unfold inv
  rw [held_eq]
  iintro ⟨⟨⟨T0, T1, T2, T3, T4⟩, HR, ⟨%D, %hD, HD⟩⟩, W0, W1, W2, W3, W4⟩
  iapply (wp_wand (M := 𝕄G)) $$ [T0 T1 T2 T3 T4 HD W0 W1 W2 W3 W4]
  · iapply (body_run (F := F) Variants.none c none Set.univ (grid0.coords t) _ _ _ _ _ _ _ _ _ _ _ _ _ _ _ _ _ _ _ _ _ _
      fullShare.right (tb a 0) (tb a 1) (tb a 2) (tb a 3) (tb a 4) (inp a A c 0 t) (inp a A c 1 t) (inp a A c 2 t) (inp a A c 3 t) O D (ex_lt a t))
    isplitl [T0]; · iexact T0
    isplitl [T1]; · iexact T1
    isplitl [T2]; · iexact T2
    isplitl [T3]; · iexact T3
    isplitl [T4]; · iexact T4
    isplitl [W0]; · iexact W0
    isplitl [W1]; · iexact W1
    isplitl [W2]; · iexact W2
    isplitl [W3]; · iexact W3
    isplitl [W4]; · iexact W4
    iexact HD
  iintro %r ⟨T0, T1, T2, T3, T4, W0, W1, W2, W3, ⟨%D', %hD', HD, %O', %hO, W4⟩⟩
  have hscr : D' = scr a A c t := scr_next a A c t D D' hD hD'
  subst hscr
  have hOF : O' = outF a A c t O := hO
  subst hOF
  isplitl [T0 T1 T2 T3 T4 HR HD]
  · isplitl [T0 T1 T2 T3 T4]
    · isplitl [T0]; · iexact T0
      isplitl [T1]; · iexact T1
      isplitl [T2]; · iexact T2
      isplitl [T3]; · iexact T3
      iexact T4
    isplitl [HR]; · iexact HR
    iexists (scr a A c t)
    isplitr
    · ipureintro
      intro u hu
      have : u = t := Fin.ext (by have : t.succ.val = t.val + 1 := rfl; omega)
      rw [this]
    iexact HD
  isplitl [W0]; · iexact W0
  isplitl [W1]; · iexact W1
  isplitl [W2]; · iexact W2
  isplitl [W3]; · iexact W3
  iexact W4

theorem owesAt_eq (t : Fin grid0.N) : ((rd a A c).owesAt () t.castSucc : sProp 𝕄G) = (rd a A c).owesAt () t.succ := rfl

/-- The body at every point takes the invariant and the blocks to those of the next point. -/
theorem body_ob : (rd a A c).BodyObligation defs₀ Variants.none () Set.univ := by
  intro t Y hY
  have h0 : Y 0 = inp a A c 0 t := finds_inp a A c 0 (by decide) t _ (hY 0)
  have h1 : Y 1 = inp a A c 1 t := finds_inp a A c 1 (by decide) t _ (hY 1)
  have h2 : Y 2 = inp a A c 2 t := finds_inp a A c 2 (by decide) t _ (hY 2)
  have h3 : Y 3 = inp a A c 3 t := finds_inp a A c 3 (by decide) t _ (hY 3)
  rw [bigSep_W0, bigSep_W0, h0, h1, h2, h3]
  have key := point_run a A c t (Y 4)
  refine BIBase.Entails.trans ?_ ((sep_mono_left key (Q := (rd a A c).owesAt () t.castSucc)).trans ((wp_frame_r (M := 𝕄G) _ _ _).trans (wp_mono (M := 𝕄G) _ _ _ fun r => ?_)))
  · change iprop(inv a A c t.castSucc ∗ _) ⊢ _
    iintro ⟨HI, HO, W0, W1, W2, W3, W4⟩
    isplitr [HO]
    · isplitl [HI]; · iexact HI
      isplitl [W0]; · iexact W0
      isplitl [W1]; · iexact W1
      isplitl [W2]; · iexact W2
      isplitl [W3]; · iexact W3
      iexact W4
    iexact HO
  · change _ ⊢ iprop(inv a A c t.succ ∗ _)
    iintro ⟨⟨HI, W0, W1, W2, W3, W4⟩, HO⟩
    isplitl [HI]; · iexact HI
    isplitl [HO]; · iexact HO
    isplitl [W0]
    · iexists (inp a A c 0 t); isplitr; · ipureintro; rfl
      iexact W0
    isplitl [W1]
    · iexists (inp a A c 1 t); isplitr; · ipureintro; rfl
      iexact W1
    isplitl [W2]
    · iexists (inp a A c 2 t); isplitr; · ipureintro; rfl
      iexact W2
    isplitl [W3]
    · iexists (inp a A c 3 t); isplitr; · ipureintro; rfl
      iexact W3
    iexists (outF a A c t (Y 4)); isplitr; · ipureintro; rfl
    iexact W4

end
end Cert.DownIdeal.Hand
-- ==== Proof.DownIdealLaunch.lean ====
module
public import proofs.«01_k».proof.Proof.DownIdealRun
public import proofs.«01_k».proof.Proof.Gen.DownIdeal.Launch
public import Idealize.ShloMosaic.Lib.StableHlo.RunRead
/-! # The run of the down program

The host's operations build the tables, and the kernel runs over its grid with them. -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-- The lines of the host before the kernel. -/
abbrev lines : List (List (HloOp τ sig (Elt F))) :=
  [hostOps0, hostOps0_1, hostOps0_2, hostOps0_3, hostOps0_4, hostOps0_5, hostOps0_6, hostOps0_7, hostOps0_8]

/-- The buffers as the kernel finds them. -/
def V (m : (ℓ : Loc nD τ sig) → Buf (Elt F) ℓ) (c : Dev nD) (b : Ref sig .tc) : Buf (Elt F) ((c.tc : Thread nD τ).loc b) :=
  StableHlo.after (lines (F := F)).flatten (fun b => m (c, b)) b

variable (m : (ℓ : Loc nD τ sig) → Buf (Elt F) ℓ) (g : Dev nD → PrngReg)

theorem hmain : Pipeline.HMainP (Ix := Unit) (Name := ℕ) (U := UR sig nD τ) (Lvl := ℕ) (pcfgs (F := F)) 0 (defs₀ (F := F)) Variants.none m (main (F := F)) (V m) :=
  Pipeline.hmainP_prefixes pcfgs 0 defs₀ Variants.none m main lines
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl

attribute [irreducible] V

/-- The proof data at the buffers the kernel finds. -/
abbrev rdV (a : (pcfg0 (F := F)).Adm) (c : Dev nD) := rd a (fun b c => V m c b) c

theorem rd_in (a : (pcfg0 (F := F)).Adm) (c : Dev nD) :
    iprop(Pipeline.ΦA spec0 c ∗ Pipeline.ΦT pre0 a.1 c) ⊢ (inv a (fun b c => V m c b) c 0 : sProp 𝕄G) := by
  unfold Pipeline.ΦA Pipeline.ΦT inv
  rw [scopedRest0_eq]
  iintro ⟨⟨⟨%f, HS⟩, HR⟩, HT⟩
  isplitl [HT]; · iexact HT
  isplitl [HR]; · iexact HR
  iexists f
  isplitr
  · ipureintro
    intro u hu
    exact absurd hu (Nat.succ_ne_zero _)
  rw [owns_whole]
  iexact HS

theorem rd_out (a : (pcfg0 (F := F)).Adm) (c : Dev nD) :
    (inv a (fun b c => V m c b) c (Fin.last grid0.N) : sProp 𝕄G) ⊢ Pipeline.ΦA spec0 c := by
  unfold Pipeline.ΦA inv
  rw [scopedRest0_eq]
  simp only [owns_whole]
  iintro ⟨HT, HR, ⟨%D, %hD, HD⟩⟩
  isplitl [HD]
  · iexists D
    iexact HD
  iexact HR

set_option backward.isDefEq.respectTransparency.types false in
/-- The program runs, whenever the tables the host builds are admissible. -/
theorem run_main (a : (pcfg0 (F := F)).Adm) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_track (pcfgs (F := F)) (fun _ => a) (0 : Fin 1) launch0 defs₀ Variants.none (rdV m a) m g main
    (fun c => body_ob a _ c) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)

theorem A_0 (a : (pcfg0 (F := F)).Adm) (c : Dev nD) : (rdV m a c).A 0 = m ((c : Thread nD τ).loc main_arg1) := V_arg1 m c
theorem A_1 (a : (pcfg0 (F := F)).Adm) (c : Dev nD) : (rdV m a c).A 1 = m ((c : Thread nD τ).loc main_arg2) := V_arg2 m c
theorem A_2 (a : (pcfg0 (F := F)).Adm) (c : Dev nD) : (rdV m a c).A 2 = m ((c : Thread nD τ).loc main_arg3) := V_arg3 m c
theorem A_3 (a : (pcfg0 (F := F)).Adm) (c : Dev nD) : (rdV m a c).A 3 = m ((c : Thread nD τ).loc main_arg4) := V_arg4 m c

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · exact ((h c).2 main_arg0 arg0_rest).trans (V_arg0 m c)
  · have e := h.arr_in c 0 rfl
    rw [A_0] at e; exact e
  · have e := h.arr_in c 1 rfl
    rw [A_1] at e; exact e
  · have e := h.arr_in c 2 rfl
    rw [A_2] at e; exact e
  · have e := h.arr_in c 3 rfl
    rw [A_3] at e; exact e

end Cert.DownIdeal.Hand
-- ==== Proof.DownIdealTables.lean ====
module
public import proofs.«01_k».proof.Proof.DownIdealLaunch
public import proofs.«01_k».proof.Proof.Rows
/-! # The tables the host hands to the kernel -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4
open Idealize.ShloMosaic.Routing Idealize.ShloMosaic.ValueIdx
variable {F : FTy → Type} [FloatOps F]
variable (m : (ℓ : Loc nD τ sig) → Buf (Elt F) ℓ) (c : Dev nD)

theorem sh : Sh where
  b00 := bcast_S_S_
  win := reduceWindows_S18_S18_w18s1p17_0
  h0 := h_S_
  b18 := bcast_S_S18
  sl := slices_S18_S1_17
  sc := shapeCasts_S1_S_
  b65 := bcast_S_S65
  col := bcast_S65_S65x1_0
  row := bcast_S18_S1x18_1
  cols := bcast_S65x1_S65x18_0_1
  rows := bcast_S1x18_S65x18_0_1
  red := reducesTo_S65x18_S65_d1
  lt := natLt_1_32

/-- The experts' row counts. -/
abbrev gs : IVec (shape1 18) 32 := m ((c : Thread nD τ).loc main_arg0)

theorem V_ex : V m c main_v25 = wEx sh (gs m c) := by
  unfold V
  after_reads_simp
  simp -implicitDefEqProofs only [StableHlo.TRef.toBuf, StableHlo.TRef.ofBuf, cast_cast, cast_eq, id]
  rfl
theorem V_live : V m c main_v66 = wLive sh (gs m c) := by
  unfold V
  after_reads_simp
  simp -implicitDefEqProofs only [StableHlo.TRef.toBuf, StableHlo.TRef.ofBuf, cast_cast, cast_eq, id]
  rfl
theorem V_lo : V m c main_v56 = wTake sh gather_S18_S65x1_S65_n_0_n_n_0_1_1 (gs m c) (wStart sh (gs m c)) := by
  unfold V
  after_reads_simp
  simp -implicitDefEqProofs only [StableHlo.TRef.toBuf, StableHlo.TRef.ofBuf, cast_cast, cast_eq, id]
  rfl
theorem V_hi : V m c main_v63 = wTake sh gather_S18_S65x1_S65_n_0_n_n_0_1_1 (gs m c) (wCum sh (gs m c)) := by
  unfold V
  after_reads_simp
  simp -implicitDefEqProofs only [StableHlo.TRef.toBuf, StableHlo.TRef.ofBuf, cast_cast, cast_eq, id]
  rfl
theorem V_tile : V m c main_v49 = wTile sh gather_S18_S65x1_S65_n_0_n_n_0_1_1 (gs m c) := by
  unfold V
  after_reads_simp
  simp -implicitDefEqProofs only [StableHlo.TRef.toBuf, StableHlo.TRef.ofBuf, cast_cast, cast_eq, id]
  rfl

end Cert.DownIdeal.Hand
-- ==== Proof.DownIdealAdm.lean ====
module
public import proofs.«01_k».proof.Proof.DownIdealTables
/-! # The tables are admissible

Under the precondition every visit's tile is one of the 48 and its expert one of the eighteen, so that every block lies inside its array. -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4
open Idealize.ShloMosaic.Routing
open Idealize.SL.Sem
variable {F : FTy → Type} [FloatOps F]
variable (m : (ℓ : Loc nD τ sig) → Buf (Elt F) ℓ)

/-- The tables as the kernel finds them. -/
def pf0 : pre0.Contents (Elt F) := fun k => V m 0 (pre0.ref k)

/-- The number of rows of an expert. -/
abbrev gn : ℕ → ℕ := cnt (gs m 0)

variable (hs : sm (gn m) 18 = 12288)
include hs

omit hs in
theorem at65_lt (T : S65.Idx → BitVec 32) (v : ℕ) (hv : v < 65) : at65 T v = T (ValueIdx.ix1 ⟨v, hv⟩) := by
  unfold at65
  have e : min v 64 = v := by omega
  simp only [e]
  rfl

theorem tile_at (v : ℕ) (hv : v < 65) : at65 (V m 0 main_v49) v = BitVec.ofNat 32 (tile (gn m) v) := by
  rw [at65_lt _ v hv]
  exact (congrFun (V_tile m 0) _).trans (wTile_ap sh _ (gs m 0) (gn m) (cnt_word _) hs rfl rfl rfl rfl ⟨v, hv⟩)

theorem ex_at (v : ℕ) (hv : v < 65) : at65 (V m 0 main_v25) v = BitVec.ofNat 32 (ex (gn m) v) := by
  rw [at65_lt _ v hv]
  exact (congrFun (V_ex m 0) _).trans (wEx_ap sh (gs m 0) (gn m) (cnt_word _) hs ⟨v, hv⟩)

theorem lo_at (v : ℕ) (hv : v < 65) : at65 (V m 0 main_v56) v = BitVec.ofNat 32 (sm (gn m) (ex (gn m) v)) := by
  rw [at65_lt _ v hv]
  exact (congrFun (V_lo m 0) _).trans ((wTake_ap sh _ (gs m 0) (gn m) (cnt_word _) hs rfl rfl rfl rfl _ ⟨v, hv⟩ (ex_place (gn m) hs v).1).trans
    (wStart_ap sh (gs m 0) (gn m) (cnt_word _) hs _))

theorem hi_at (v : ℕ) (hv : v < 65) : at65 (V m 0 main_v63) v = BitVec.ofNat 32 (sm (gn m) (ex (gn m) v + 1)) := by
  rw [at65_lt _ v hv]
  exact (congrFun (V_hi m 0) _).trans ((wTake_ap sh _ (gs m 0) (gn m) (cnt_word _) hs rfl rfl rfl rfl _ ⟨v, hv⟩ (ex_place (gn m) hs v).1).trans
    (wCum_ap sh (gs m 0) (gn m) (cnt_word _) _ (gn m) (cnt_word _) _))

theorem live_at (v : ℕ) (hv : v < 65) : at65 (V m 0 main_v66) v = BitVec.ofNat 32 (if v < total (gn m) then 1 else 0) := by
  rw [at65_lt _ v hv]
  exact (congrFun (V_live m 0) _).trans (wLive_ap sh (gs m 0) (gn m) (cnt_word _) hs ⟨v, hv⟩)

omit hs in
/-- The word of a table an index map reads. -/
theorem pfAtI (pf : S65.Idx → BitVec 32) (i : grid0.Coords) (h : 0 < S1.numel) :
    pf ((Rect.unit (s := S65) (k0_off1 i) S1.size (k0_off1_inb i)).emb (Shape.Idx.first h)) = at65 pf (i 1).val := by
  unfold at65
  refine congrArg pf (funext fun b => Fin.ext ?_)
  fin_cases b
  have e := congrFun (k0_off1_eq i) 0
  have hv : (i 1).val < 65 := (i 1).isLt
  have hf : (Shape.Idx.first h (0 : Fin 1)).val < 1 := (Shape.Idx.first h (0 : Fin 1)).isLt
  change k0_off1 i 0 + 1 * (Shape.Idx.first h (0 : Fin 1)).val = min _ 64
  have e' : k0_off1 i 0 = (i 1).val := e
  rw [e']
  omega

omit hs in
theorem ix_row (i : grid0.Coords) : cc0_transform_0 k0_off1_inb numel1_S1 (pf0 m) i = ![(at65 (V m 0 main_v49) (i 1).val).toNat, 0] := by
  refine Eq.trans ?_ (congrArg (fun w : BitVec 32 => ![w.toNat, 0]) (pfAtI (V m 0 main_v49) i (numel1_S1 ▸ Nat.one_pos)))
  rfl

omit hs in
theorem colI (i : grid0.Coords) : (BitVec.ofNat 32 (i 0).val).toNat = (i 0).val := by
  have : (i 0).val < 7 := (i 0).isLt
  rw [BitVec.toNat_ofNat]; omega

omit hs in
theorem ix_w (i : grid0.Coords) : cc0_transform_1 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_s (i : grid0.Coords) : cc0_transform_2 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_o (i : grid0.Coords) : cc0_transform_4 k0_off1_inb numel1_S1 (pf0 m) i = ![(at65 (V m 0 main_v49) (i 1).val).toNat, (i 0).val] := by
  refine Eq.trans ?_ (congrArg₂ (fun (w : BitVec 32) (n : ℕ) => ![w.toNat, n]) (pfAtI (V m 0 main_v49) i (numel1_S1 ▸ Nat.one_pos)) (colI i))
  rfl

theorem tile_toNat (v : ℕ) (hv : v < 65) : (at65 (V m 0 main_v49) v).toNat = tile (gn m) v := by
  have h := tile_lt (gn m) hs v
  rw [tile_at m hs v hv, BitVec.toNat_ofNat]
  omega

theorem ex_toNat (v : ℕ) (hv : v < 65) : (at65 (V m 0 main_v25) v).toNat = ex (gn m) v := by
  have h := (ex_place (gn m) hs v).1
  rw [ex_at m hs v hv, BitVec.toNat_ofNat]
  omega

theorem adm : ok0 (pf0 m) := by
  refine ⟨fun i => ?_, fun i => ?_, fun i => ?_, fun i => ?_⟩
  · have hv : (i 1).val < 65 := (i 1).isLt
    have h1 := tile_lt (gn m) hs (i 1).val
    have h : ∀ a, (cc0_transform_0 k0_off1_inb numel1_S1 (pf0 m) i a + 1) * S256x2048.size a ≤ S12288x2048.size a := by
      rw [ix_row, tile_toNat m hs _ hv]
      intro a; fin_cases a
      · show (tile (gn m) (i 1).val + 1) * 256 ≤ 12288; omega
      · show (0 + 1) * 2048 ≤ 2048; omega
    exact ⟨h, .inr (Affine.block_words_dvd (by decide) (by decide))⟩
  · have hv : (i 1).val < 65 := (i 1).isLt
    have hc : (i 0).val < 7 := (i 0).isLt
    have h1 := (ex_place (gn m) hs (i 1).val).1
    have h : ∀ a, (cc0_transform_1 k0_off1_inb numel1_S1 (pf0 m) i a + 1) * S1x1024x1024.size a ≤ S18x1024x7168.size a := by
      rw [ix_w, ex_toNat m hs _ hv]
      intro a; fin_cases a
      · show (ex (gn m) (i 1).val + 1) * 1 ≤ 18; omega
      · show (0 + 1) * 1024 ≤ 1024; omega
      · show ((i 0).val + 1) * 1024 ≤ 7168; omega
    exact ⟨h, .inr (Affine.block_words_dvd (by decide) (by decide))⟩
  · have hv : (i 1).val < 65 := (i 1).isLt
    have hc : (i 0).val < 7 := (i 0).isLt
    have h1 := (ex_place (gn m) hs (i 1).val).1
    have h : ∀ a, (cc0_transform_2 k0_off1_inb numel1_S1 (pf0 m) i a + 1) * S1x16x1024.size a ≤ S18x16x7168.size a := by
      rw [ix_s, ex_toNat m hs _ hv]
      intro a; fin_cases a
      · show (ex (gn m) (i 1).val + 1) * 1 ≤ 18; omega
      · show (0 + 1) * 16 ≤ 16; omega
      · show ((i 0).val + 1) * 1024 ≤ 7168; omega
    exact ⟨h, .inr (Affine.block_words_dvd (by decide) (by decide))⟩
  · have hv : (i 1).val < 65 := (i 1).isLt
    have hc : (i 0).val < 7 := (i 0).isLt
    have h1 := tile_lt (gn m) hs (i 1).val
    have h : ∀ a, (cc0_transform_4 k0_off1_inb numel1_S1 (pf0 m) i a + 1) * S256x1024.size a ≤ S12288x7168.size a := by
      rw [ix_o, tile_toNat m hs _ hv]
      intro a; fin_cases a
      · show (tile (gn m) (i 1).val + 1) * 256 ≤ 12288; omega
      · show ((i 0).val + 1) * 1024 ≤ 7168; omega
    exact ⟨h, .inl rfl⟩

/-- The tables, admissible. -/
def ad : (pcfg0 (F := F)).Adm := ⟨pf0 m, adm m hs⟩

theorem hpf (c : Dev nD) (k) : V m c (pre0.ref k) = (ad m hs).1 k := by
  obtain rfl : c = 0 := Subsingleton.elim _ _
  rfl

/-- The frame of the program, for memories whose row counts sum to the number of rows. -/
theorem frame (g : Dev nD → PrngReg) : θ_run defs (onTc (τ := τ) (main (F := F))) ⟨m, fun _ => 0, g⟩
    (fun r => (∀ c : Dev nD, (r.2.mem ((c.tc : Thread nD τ).loc main_arg0) = m ((c.tc : Thread nD τ).loc main_arg0)) ∧ (r.2.mem ((c.tc : Thread nD τ).loc main_arg1) = m ((c.tc : Thread nD τ).loc main_arg1)) ∧ (r.2.mem ((c.tc : Thread nD τ).loc main_arg2) = m ((c.tc : Thread nD τ).loc main_arg2)) ∧ (r.2.mem ((c.tc : Thread nD τ).loc main_arg3) = m ((c.tc : Thread nD τ).loc main_arg3)) ∧ (r.2.mem ((c.tc : Thread nD τ).loc main_arg4) = m ((c.tc : Thread nD τ).loc main_arg4))) ∧ r.2.sem = fun _ => 0) :=
  (θ_run defs _ _).mono (fun r h => ⟨fun c => args_of m (ad m hs) r h.1 c, h.2⟩) (run_main m g (ad m hs) (hpf m hs))

end Cert.DownIdeal.Hand
-- ==== Proof.DownIdealValue.lean ====
module
public import proofs.«01_k».proof.Proof.DownIdealAdm
public import Idealize.ShloMosaic.Lib.Pointwise
public import Idealize.ShloMosaic.Lib.Pipeline.Covers
public import Idealize.ShloMosaic.Lib.Pipeline.ArrRel
public import Idealize.ShloMosaic.Lib.Pipeline.ValueKit
/-! # What the down program computes

Every row of the output is its own expert's: the row's block is stored first or last at the visit of the row's expert, and no other visit changes the row. -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4
open Idealize.ShloMosaic.WordCmp
open Idealize.SL.Sem

/-- Entry `(r, k)` of the down projection: row `r` of the codes times column `k` of expert `e`'s dequantised matrix, times the expert's scale. -/
def entry (H : Vec Ideal S12288x2048 .fp8e4m3) (W : Vec Ideal S18x1024x7168 .i8) (S : Vec Ideal S18x16x7168 .bf16) (A : Vec Ideal S18 .f32)
    (e : Fin 18) (r : Fin 12288) (k : Fin 7168) : EReal :=
  (∑ p : Fin 2048, H (ix2 r p) * dqe (F := Ideal) (W (ix3 e ⟨p.val / 2, by omega⟩ k)) p.val (S (ix3 e ⟨p.val / 128, by omega⟩ k))) * A (ix1 e)

/-- Where a visit's expert owns the row, the visit stores its product. -/
theorem outv_in (T2 T3 T4 T5 : S65.Idx → BitVec 32) (v : ℕ) (X : Vec Ideal S256x2048 .fp8e4m3) (D : Vec Ideal S2048x1024 .bf16)
    (A : S18.Idx → EReal) (Y : Vec Ideal S256x1024 .f32) (t lo hi : ℕ) (ht : t < 48) (hlo : lo ≤ 12288) (hhi : hi ≤ 12288)
    (e2 : at65 T2 v = BitVec.ofNat 32 t) (e4 : at65 T4 v = BitVec.ofNat 32 lo) (e5 : at65 T5 v = BitVec.ofNat 32 hi)
    (j : Fin 256) (k : Fin 1024) :
    outv (F := Ideal) T2 T3 T4 T5 v X D A Y (ix2 j k)
      = if lo ≤ t * 256 + j.val ∧ t * 256 + j.val < hi then (∑ p : Fin 2048, X (ix2 j p) * D (ix2 p k)) * at18 (F := Ideal) A (at65 T3 v) else Y (ix2 j k) := by
  unfold outv
  rw [e2, e4, e5]
  generalize at18 (F := Ideal) A (at65 T3 v) = s
  pointwise [k0_pay2]
  have hw : IntOp.addi (Scalar.muli (BitVec.ofNat 32 t) 256#32) (BitVec.ofNat 32 j.val) = BitVec.ofNat 32 (t * 256 + j.val) := by
    rw [BitVec.ofNat_add, BitVec.ofNat_mul]; rfl
  have hj := j.isLt
  rw [hw, cmpi_sge_ofNat (by omega) (by omega), cmpi_slt_ofNat (by omega) (by omega)]
  by_cases h1 : lo ≤ t * 256 + j.val <;> by_cases h2 : t * 256 + j.val < hi <;>
    simp [h1, h2, Scalar.select, IntOp.andi]

section
variable (a : (pcfg0 (F := Ideal)).Adm) (A : (b : Ref sig .tc) → (c : Dev nD) → Buf (Elt Ideal) ((c.tc : Thread nD τ).loc b)) (c : Dev nD)

theorem inp0_ap (t : Fin grid0.N) (T : ℕ) (hT : (at65 (tb a 0) (grid0.coords t 1).val).toNat = T) (j : Fin 256) (p : Fin 2048) (h : T * 256 + j.val < 12288) :
    inp a A c 0 t (ix2 j p) = A main_arg1 c (ix2 ⟨T * 256 + j.val, h⟩ p) := by
  unfold inp Pipeline.RDat.fetched Pipeline.Window.fill
  have hm : ((cfg0 a).win 0).moved ((cfg0 a).grid.coords t) (ix2 j p) = true :=
    (((cfg0 a).win 0).moved_iff _ _).mpr fun b => (ix2 j p b).isLt
  refine (dif_pos hm).trans ?_
  refine congrArg (A main_arg1 c) (funext fun b => Fin.ext ?_)
  refine (((cfg0 a).win 0).rect_emb_val t _ b rfl).trans ?_
  rw [index0, hT]
  fin_cases b
  · rfl
  · change 0 * 2048 + p.val = p.val
    omega

theorem inp1_ap (t : Fin grid0.N) (e n : ℕ) (he : (at65 (tb a 1) (grid0.coords t 1).val).toNat = e) (hn : (grid0.coords t 0).val = n)
    (p : Fin 1024) (k : Fin 1024) (h : e < 18) (hk : n * 1024 + k.val < 7168) :
    inp a A c 1 t (ix3 0 p k) = A main_arg2 c (ix3 ⟨e, h⟩ p ⟨n * 1024 + k.val, hk⟩) := by
  unfold inp Pipeline.RDat.fetched Pipeline.Window.fill
  have hm : ((cfg0 a).win 1).moved ((cfg0 a).grid.coords t) (ix3 0 p k) = true :=
    (((cfg0 a).win 1).moved_iff _ _).mpr fun b => (ix3 0 p k b).isLt
  refine (dif_pos hm).trans ?_
  refine congrArg (A main_arg2 c) (funext fun b => Fin.ext ?_)
  refine (((cfg0 a).win 1).rect_emb_val t _ b rfl).trans ?_
  rw [index1, he, hn]
  fin_cases b
  · change e * 1 + 0 = e; omega
  · change 0 * 1024 + p.val = p.val; omega
  · rfl

theorem inp2_ap (t : Fin grid0.N) (e n : ℕ) (he : (at65 (tb a 1) (grid0.coords t 1).val).toNat = e) (hn : (grid0.coords t 0).val = n)
    (p : Fin 16) (k : Fin 1024) (h : e < 18) (hk : n * 1024 + k.val < 7168) :
    inp a A c 2 t (ix3 0 p k) = A main_arg3 c (ix3 ⟨e, h⟩ p ⟨n * 1024 + k.val, hk⟩) := by
  unfold inp Pipeline.RDat.fetched Pipeline.Window.fill
  have hm : ((cfg0 a).win 2).moved ((cfg0 a).grid.coords t) (ix3 0 p k) = true :=
    (((cfg0 a).win 2).moved_iff _ _).mpr fun b => (ix3 0 p k b).isLt
  refine (dif_pos hm).trans ?_
  refine congrArg (A main_arg3 c) (funext fun b => Fin.ext ?_)
  refine (((cfg0 a).win 2).rect_emb_val t _ b rfl).trans ?_
  rw [index2, he, hn]
  fin_cases b
  · change e * 1 + 0 = e; omega
  · change 0 * 16 + p.val = p.val; omega
  · rfl

theorem inp3_ap (t : Fin grid0.N) (p : Fin 18) : inp a A c 3 t (ix1 p) = A main_arg4 c (ix1 p) := by
  unfold inp Pipeline.RDat.fetched Pipeline.Window.fill
  have hm : ((cfg0 a).win 3).moved ((cfg0 a).grid.coords t) (ix1 p) = true :=
    (((cfg0 a).win 3).moved_iff _ _).mpr fun b => (ix1 p b).isLt
  refine (dif_pos hm).trans ?_
  refine congrArg (A main_arg4 c) (funext fun b => Fin.ext ?_)
  refine (((cfg0 a).win 3).rect_emb_val t _ b rfl).trans ?_
  fin_cases b
  change 0 * 18 + p.val = p.val; omega

/-- The blocks of a point, as matrices of numbers. -/
def hb (t : Fin grid0.N) : S256x2048.Idx → EReal := inp a A c 0 t
def db (t : Fin grid0.N) : S2048x1024.Idx → EReal := scr a A c t
def sb (t : Fin grid0.N) : S18.Idx → EReal := inp a A c 3 t

theorem db_ap (t : Fin grid0.N) (e n : ℕ) (hE : (at65 (tb a 1) (grid0.coords t 1).val).toNat = e) (hn : (grid0.coords t 0).val = n)
    (he : e < 18) (p : Fin 2048) (k : Fin 1024) (hk : n * 1024 + k.val < 7168) :
    db a A c t (ix2 p k) = dqe (F := Ideal) (A main_arg2 c (ix3 ⟨e, he⟩ ⟨p.val / 2, by omega⟩ ⟨n * 1024 + k.val, hk⟩)) p.val
            (A main_arg3 c (ix3 ⟨e, he⟩ ⟨p.val / 128, by omega⟩ ⟨n * 1024 + k.val, hk⟩)) := by
  unfold db scr deq
  refine congrArg₂ (fun x y => dqe (F := Ideal) x p.val y) ?_ ?_
  · exact inp1_ap a A c t _ n hE hn _ k he hk
  · exact inp2_ap a A c t _ n hE hn _ k he hk

theorem sb_ap (t : Fin grid0.N) (w : BitVec 32) (e : ℕ) (hE : w.toNat = e) (he : e < 18) :
    at18 (F := Ideal) (sb a A c t) w = A main_arg4 c (ix1 ⟨e, he⟩) := by
  subst hE
  unfold at18
  have h17 : min w.toNat 17 = w.toNat := Nat.min_eq_left (Nat.le_of_lt_succ he)
  simp only [h17]
  exact inp3_ap a A c t _

/-- The product a visit makes for a row of its expert. -/
theorem product_eq (t : Fin grid0.N) (v T e n : ℕ) (hv : (grid0.coords t 1).val = v) (hT : (at65 (tb a 0) v).toNat = T) (hE : (at65 (tb a 1) v).toNat = e)
    (hn : (grid0.coords t 0).val = n) (j : Fin 256) (k : Fin 1024) (hr : T * 256 + j.val < 12288) (hk : n * 1024 + k.val < 7168) (he : e < 18) :
    (∑ p : Fin 2048, hb a A c t (ix2 j p) * db a A c t (ix2 p k)) * at18 (F := Ideal) (sb a A c t) (at65 (tb a 1) v)
      = entry (A main_arg1 c) (A main_arg2 c) (A main_arg3 c) (A main_arg4 c) ⟨e, he⟩ ⟨T * 256 + j.val, hr⟩ ⟨n * 1024 + k.val, hk⟩ := by
  subst hv
  unfold entry
  refine congrArg₂ (fun x y : EReal => x * y) (Finset.sum_congr rfl fun p _ => congrArg₂ (fun x y : EReal => x * y) ?_ ?_) ?_
  · exact inp0_ap a A c t T hT j p hr
  · exact db_ap a A c t e n hE hn he p k hk
  · exact sb_ap a A c t _ e hE he

/-- What a live visit leaves in an entry of the output block. -/
theorem outF_live (t : Fin grid0.N) (v T e n lo hi : ℕ) (hv : (grid0.coords t 1).val = v) (hl : at65 (tb a 4) v = 1#32)
    (eT : at65 (tb a 0) v = BitVec.ofNat 32 T) (elo : at65 (tb a 2) v = BitVec.ofNat 32 lo) (ehi : at65 (tb a 3) v = BitVec.ofNat 32 hi)
    (hT : T < 48) (hlo : lo ≤ 12288) (hhi : hi ≤ 12288) (hE : (at65 (tb a 1) v).toNat = e)
    (hn : (grid0.coords t 0).val = n) (Y : Vec Ideal S256x1024 .f32) (j : Fin 256) (k : Fin 1024) (hr : T * 256 + j.val < 12288) (hk : n * 1024 + k.val < 7168) (he : e < 18) :
    outF a A c t Y (ix2 j k) = if lo ≤ T * 256 + j.val ∧ T * 256 + j.val < hi
      then entry (A main_arg1 c) (A main_arg2 c) (A main_arg3 c) (A main_arg4 c) ⟨e, he⟩ ⟨T * 256 + j.val, hr⟩ ⟨n * 1024 + k.val, hk⟩ else Y (ix2 j k) := by
  subst hv
  unfold outF
  rw [if_pos (show live (tb a 4) (grid0.coords t 1).val from hl)]
  refine (outv_in _ _ _ _ _ _ _ _ Y T lo hi hT hlo hhi eT elo ehi j k).trans ?_
  have hT' : (at65 (tb a 0) (grid0.coords t 1).val).toNat = T := by rw [eT, BitVec.toNat_ofNat]; exact Nat.mod_eq_of_lt (by omega)
  have hp := product_eq a A c t _ T e n rfl hT' hE hn j k hr hk he
  refine if_congr Iff.rfl hp rfl

theorem outF_idle (t : Fin grid0.N) (hl : at65 (tb a 4) (grid0.coords t 1).val ≠ 1#32) (Y : Vec Ideal S256x1024 .f32) : outF a A c t Y = Y := if_neg hl

end
end Cert.DownIdeal.Hand
-- ==== Proof.DownIdealOut.lean ====
module
public import proofs.«01_k».proof.Proof.DownIdealValue
/-! # What the down program leaves in its output array -/
@[expose] public section
set_option maxRecDepth 16384
set_option maxHeartbeats 400000
noncomputable section
namespace Cert.DownIdeal.Hand
open Idealize.ShloMosaic Idealize.ShloMosaic.TcCoe Idealize.ShloMosaic.Tactic
open Cert.DownIdeal Cert.DownIdeal.Gen Cert.W4
open Idealize.ShloMosaic.WordCmp
open Idealize.SL.Sem

variable (m : (ℓ : Loc nD τ sig) → Buf (Elt Ideal) ℓ) (hs : sm (gn m) 18 = 12288)

/-- The expert that owns a row. -/
def own (r : Fin 12288) : Fin 18 := ⟨owner (gn m) r.val, (owner_place (gn m) hs r.val r.isLt).1⟩

/-- The result in full. -/
def result (c : Dev nD) : S12288x7168.Idx → EReal := fun i =>
  entry (V m c main_arg1) (V m c main_arg2) (V m c main_arg3) (V m c main_arg4) (own m hs (i 0)) (i 0) (i 1)

/-- Before the last point of a tile nothing is written back. -/
theorem same_block (t u : Fin grid0.N) (h0 : t.val / 65 = u.val / 65) (h1 : tile (gn m) (t.val % 65) = tile (gn m) (u.val % 65)) :
    ((cfg0 (ad m hs)).win 4).index t = ((cfg0 (ad m hs)).win 4).index u := by
  have ht := Nat.mod_lt t.val (show 65 > 0 by decide)
  have hu := Nat.mod_lt u.val (show 65 > 0 by decide)
  rw [index4, index4, (coords_val t).1, (coords_val u).1, (coords_val t).2, (coords_val u).2]
  have e1 : (at65 (tb (ad m hs) 0) (t.val % 65)).toNat = tile (gn m) (t.val % 65) := tile_toNat m hs _ ht
  have e2 : (at65 (tb (ad m hs) 0) (u.val % 65)).toNat = tile (gn m) (u.val % 65) := tile_toNat m hs _ hu
  rw [e1, e2, h0, h1]

/-- A visit of a row's tile stores the row's product if the visit's expert owns the row, and leaves the row as it was otherwise. -/
theorem row_step (c : Dev nD) (r : Fin 12288) (t : Fin grid0.N) (v : ℕ) (hv : t.val % 65 = v) (htl : tile (gn m) v = r.val / 256)
    (j : Fin 256) (hj : j.val = r.val % 256) (n : ℕ) (hn : t.val / 65 = n) (k : Fin 1024) (hk : n * 1024 + k.val < 7168) (Y : Vec Ideal S256x1024 .f32) :
    outF (ad m hs) (fun b c => V m c b) c t Y (ix2 j k)
      = if v < total (gn m) ∧ ex (gn m) v = owner (gn m) r.val then result m hs c (ix2 r ⟨n * 1024 + k.val, hk⟩) else Y (ix2 j k) := by
  have hv65 : v < 65 := hv ▸ Nat.mod_lt _ (by decide)
  have hcv : (grid0.coords t 1).val = v := (coords_val t).2.trans hv
  have hcn : (grid0.coords t 0).val = n := (coords_val t).1.trans hn
  have hl := live_at m hs v hv65
  by_cases hlt : v < total (gn m)
  · rw [if_pos hlt] at hl
    have he := (ex_place (gn m) hs v).1
    have hr : tile (gn m) v * 256 + j.val = r.val := by rw [htl, hj]; omega
    have ho := owner_place (gn m) hs r.val r.isLt
    have key := outF_live (ad m hs) (fun b c => V m c b) c t v (tile (gn m) v) (ex (gn m) v) n (sm (gn m) (ex (gn m) v)) (sm (gn m) (ex (gn m) v + 1)) hcv hl
      (tile_at m hs v hv65) (lo_at m hs v hv65) (hi_at m hs v hv65) (tile_lt (gn m) hs v) (ends_le (gn m) hs _ (by omega)) (ends_le (gn m) hs _ (by omega))
      (ex_toNat m hs v hv65) hcn Y j k (by rw [hr]; exact r.isLt) hk he
    refine key.trans ?_
    have hre : (⟨tile (gn m) v * 256 + j.val, by rw [hr]; exact r.isLt⟩ : Fin 12288) = r := Fin.ext hr
    rw [hre, hr]
    by_cases hm : ex (gn m) v = owner (gn m) r.val
    · rw [if_pos (show v < total (gn m) ∧ ex (gn m) v = owner (gn m) r.val from ⟨hlt, hm⟩),
        if_pos (show sm (gn m) (ex (gn m) v) ≤ r.val ∧ r.val < sm (gn m) (ex (gn m) v + 1) from hm ▸ ho.2)]
      have : (⟨ex (gn m) v, he⟩ : Fin 18) = own m hs r := Fin.ext hm
      rw [this]
      rfl
    · rw [if_neg (show ¬ (v < total (gn m) ∧ ex (gn m) v = owner (gn m) r.val) from fun h => hm h.2),
        if_neg (show ¬ (sm (gn m) (ex (gn m) v) ≤ r.val ∧ r.val < sm (gn m) (ex (gn m) v + 1)) from fun h => hm (owner_eq (gn m) _ r.val he h.1 h.2).symm)]
  · rw [if_neg hlt] at hl
    rw [if_neg (fun h => hlt h.1), outF_idle]
    rw [hcv]
    intro h
    exact absurd (hl.symm.trans h) (by decide)

/-- From the visit of its own expert on, a row of the output block holds its product. -/
theorem row_inv (c : Dev nD) (r : Fin 12288) (v0 : ℕ) (h0 : v0 < total (gn m)) (hex : ex (gn m) v0 = owner (gn m) r.val) (htl : tile (gn m) v0 = r.val / 256)
    (j : Fin 256) (hj : j.val = r.val % 256) (n : ℕ) (k : Fin 1024) (hk : n * 1024 + k.val < 7168) (d : ℕ) :
    ∀ (t : Fin grid0.N), t.val / 65 = n → t.val % 65 = v0 + d → tile (gn m) (v0 + d) = r.val / 256 → ∀ X : S256x1024.Idx → EReal,
      (rdV m (ad m hs) c).Leaves 4 t X → X (ix2 j k) = result m hs c (ix2 r ⟨n * 1024 + k.val, hk⟩) := by
  induction d with
  | zero =>
    rintro t hn hv ht X ⟨(Y : Vec Ideal S256x1024 .f32), hY, hX⟩
    have hX' : X = outF (ad m hs) (fun b c => V m c b) c t Y := hX
    rw [hX', row_step m hs c r t _ hv ht j hj n hn k hk Y, if_pos (show v0 + 0 < total (gn m) ∧ ex (gn m) (v0 + 0) = owner (gn m) r.val from ⟨h0, hex⟩)]
  | succ d ih =>
    rintro t hn hv ht X ⟨(Y : Vec Ideal S256x1024 .f32), hY, hX⟩
    have hX' : X = outF (ad m hs) (fun b c => V m c b) c t Y := hX
    rw [hX', row_step m hs c r t _ hv ht j hj n hn k hk Y]
    split
    · rfl
    · have hpos : t.val ≠ 0 := by omega
      obtain ⟨u, hu⟩ : ∃ u : Fin grid0.N, u.val + 1 = t.val := ⟨⟨t.val - 1, by omega⟩, by show t.val - 1 + 1 = _; omega⟩
      have hun : u.val / 65 = n := by omega
      have huv : u.val % 65 = v0 + d := by omega
      have hut : tile (gn m) (v0 + d) = r.val / 256 := by
        have a := tile_mono (gn m) hs (show v0 ≤ v0 + d by omega)
        have b := tile_mono (gn m) hs (show v0 + d ≤ v0 + (d + 1) by omega)
        omega
      have hY' := ((rdV m (ad m hs) c).finds_of_pos (w := 4) (t := t) (Pipeline.Window.fetch_out _ rfl t) hpos Y).1 hY
      have eu : (⟨t.val - 1, Nat.lt_of_le_of_lt (Nat.sub_le _ _) t.isLt⟩ : Fin grid0.N) = u := Fin.ext (by show t.val - 1 = _; omega)
      refine ih u hun huv hut Y ?_
      rcases hY' with hf | hf
      · have hf' : ((cfg0 (ad m hs)).win 4).flush u = true := by rw [← eu]; exact hf
        rcases (Pipeline.Window.flush_out _ rfl u).1 hf' with h | ⟨h, hne⟩
        · exact absurd h (by have := t.isLt; show ¬ (u.val + 1 = grid0.N); omega)
        · refine absurd ?_ hne
          have e2 : (⟨u.val + 1, h⟩ : Fin grid0.N) = t := Fin.ext hu
          rw [e2]
          exact same_block m hs t u (by omega) (by rw [hv, huv, ht, hut])
      · rw [← eu]; exact hf

/-- A point that writes a row's block back comes no earlier than the visit of the row's expert. -/
theorem flush_after (t : Fin grid0.N) (hf : ((cfg0 (ad m hs)).win 4).flush t = true) (v0 : ℕ) (h0 : v0 < 65) (h : tile (gn m) (t.val % 65) = tile (gn m) v0) :
    v0 ≤ t.val % 65 := by
  by_contra hlt
  have hN : t.val < 455 := t.isLt.trans_eq N_0
  rcases (Pipeline.Window.flush_out _ rfl t).1 hf with h1 | ⟨h1, hne⟩
  · have h1' : t.val + 1 = 455 := h1.trans N_0
    omega
  · refine hne (same_block m hs ⟨t.val + 1, h1⟩ t (by show (t.val + 1) / 65 = _; omega) ?_)
    have e : (t.val + 1) % 65 = t.val % 65 + 1 := by omega
    show tile (gn m) ((t.val + 1) % 65) = _
    rw [e]
    have a := tile_mono (gn m) hs (show t.val % 65 ≤ t.val % 65 + 1 by omega)
    have b := tile_mono (gn m) hs (show t.val % 65 + 1 ≤ v0 by omega)
    omega

/-- The output array after the run. -/
theorem out_eq (c : Dev nD) (x : PUnit × MemSt nD τ sig (Elt Ideal)) (h : Pipeline.RDat.FramePost (cfg0 (ad m hs)) (rdV m (ad m hs)) (V m) x) :
    x.2.mem ((c.tc : Thread nD τ).loc main_v67) = result m hs c := by
  obtain ⟨after, hL, hA⟩ := h.exists_exact c
  refine (hA 4).trans (((rdV m (ad m hs) c).withAfter after).arrAt_eq_of_emb 4 (result m hs c) (fun t hf y => ?_) (fun i => ?_))
  · have hX := hL 4 t hf
    have ht := Nat.mod_lt t.val (show 65 > 0 by decide)
    have hy0 : (y (0 : Fin 2)).val < 256 := (y (0 : Fin 2)).isLt
    have hy1 : (y (1 : Fin 2)).val < 1024 := (y (1 : Fin 2)).isLt
    have htn : t.val / 65 < 7 := by have : t.val < 455 := t.isLt.trans_eq N_0; omega
    have hT := tile_lt (gn m) hs (t.val % 65)
    obtain ⟨r, hr⟩ : ∃ r : Fin 12288, r.val = tile (gn m) (t.val % 65) * 256 + (y (0 : Fin 2)).val := ⟨⟨_, by omega⟩, rfl⟩
    have hk : t.val / 65 * 1024 + (y (1 : Fin 2)).val < 7168 := by omega
    have ho := owner_place (gn m) hs r.val r.isLt
    obtain ⟨v0, h0, hex, htl⟩ := visit_of_row (gn m) hs _ r.val ho.1 ho.2.1 ho.2.2
    have htr : tile (gn m) (t.val % 65) = r.val / 256 := by omega
    have hle : v0 ≤ t.val % 65 := flush_after m hs t hf v0 (lt_of_lt_of_le h0 (total_le (gn m) hs)) (htr.trans htl.symm)
    have hd : v0 + (t.val % 65 - v0) = t.val % 65 := by omega
    have key := row_inv m hs c r v0 h0 hex htl ⟨(y (0 : Fin 2)).val, hy0⟩ (by show (y (0 : Fin 2)).val = _; omega) (t.val / 65) ⟨(y (1 : Fin 2)).val, hy1⟩ hk
      (t.val % 65 - v0) t rfl hd.symm (by rw [hd]; exact htr) _ hX
    refine Eq.trans ?_ (key.trans (congrArg (result m hs c) (funext fun b => Fin.ext ?_)))
    · refine congrArg (after 4 t) (funext fun b => Fin.ext ?_)
      fin_cases b <;> rfl
    · refine Eq.trans ?_ (((cfg0 (ad m hs)).win 4).rect_emb_val t y b rfl).symm
      rw [index4, (coords_val t).1, (coords_val t).2]
      have e1 : (at65 (tb (ad m hs) 0) (t.val % 65)).toNat = tile (gn m) (t.val % 65) := tile_toNat m hs _ ht
      rw [e1]
      fin_cases b
      · exact hr
      · rfl
  · have i1 : (i (1 : Fin 2)).val < 7168 := (i (1 : Fin 2)).isLt
    have i0 : (i (0 : Fin 2)).val < 12288 := (i (0 : Fin 2)).isLt
    have ho := owner_place (gn m) hs (i (0 : Fin 2)).val i0
    obtain ⟨v0, h0, hex, htl⟩ := visit_of_row (gn m) hs _ (i (0 : Fin 2)).val ho.1 ho.2.1 ho.2.2
    have hv65 : v0 < 65 := lt_of_lt_of_le h0 (total_le (gn m) hs)
    obtain ⟨t0, ht0⟩ : ∃ t0 : Fin grid0.N, t0.val = (i (1 : Fin 2)).val / 1024 * 65 + v0 := ⟨⟨_, lt_of_lt_of_eq (by omega) N_0.symm⟩, rfl⟩
    obtain ⟨t, hle, hf, hix⟩ := Pipeline.Window.exists_flush_same_index ((cfg0 (ad m hs)).win 4) rfl t0
    refine ⟨t, hf, (Pipeline.Window.emb_mem_blk_iff ((cfg0 (ad m hs)).win 4) t i rfl).2 fun b => ?_⟩
    have e1 : (at65 (tb (ad m hs) 0) (t0.val % 65)).toNat = (i (0 : Fin 2)).val / 256 := by
      rw [show t0.val % 65 = v0 by omega]; exact (tile_toNat m hs _ hv65).trans htl
    rw [hix, index4, (coords_val t0).1, (coords_val t0).2, e1]
    fin_cases b
    · show (i (0 : Fin 2)).val / 256 * 256 ≤ (i (0 : Fin 2)).val ∧ (i (0 : Fin 2)).val < (i (0 : Fin 2)).val / 256 * 256 + 256
      omega
    · show t0.val / 65 * 1024 ≤ (i (1 : Fin 2)).val ∧ (i (1 : Fin 2)).val < t0.val / 65 * 1024 + 1024
      omega

end Cert.DownIdeal.Hand
-- ==== Proof.DownReferenceOps.lean ====
module
public import proofs.«01_k».proof.Proof.Gen.DownReferenceIdeal.Frame
public import proofs.«01_k».proof.Proof.Visits
public import Idealize.ShloMosaic.Lib.StableHlo.RunRead
/-! # What the lines of the reference after its casts compute

The reference first casts its two operands; the lines that follow compute the result from the casts and from the
arguments. They are read here as one expression. -/
@[expose] public section
set_option maxRecDepth 16384
set_option maxHeartbeats 400000
noncomputable section
namespace Cert.DownReferenceIdeal.Hand
open Idealize.ShloMosaic Idealize.ShloMosaic.TcCoe Idealize.ShloMosaic.Tactic
open Cert.DownReferenceIdeal Cert.DownReferenceIdeal.Gen Cert.W4
variable {F : FTy → Type} [FloatOps F]

/-- One past the last row of each expert. -/
def ends (g : IVec S18 32) : IVec S18 32 :=
  Host.reduceWindow IntOp.addi ![18] ![1] ![17] ![0] g (broadcastInDim S_ ![] bcast_S_S_ (constantI S_ 32 0#32))
    reduceWindows_S18_S18_w18s1p17_0 h_S_

/-- Which rows belong to which expert. -/
def mask (g : IVec S18 32) : IVec S12288x18 1 :=
  andi
    (cmpi .sge (broadcastInDim S12288x18 ![0, 1] bcast_S12288x1_S12288x18_0_1 (broadcastInDim S12288x1 ![0] bcast_S12288_S12288x1_0 (iotaInDim S12288 32 0)))
      (broadcastInDim S12288x18 ![0, 1] bcast_S1x18_S12288x18_0_1 (broadcastInDim S1x18 ![1] bcast_S18_S1x18_1 (subi (ends g) g))))
    (cmpi .slt (broadcastInDim S12288x18 ![0, 1] bcast_S12288x1_S12288x18_0_1 (broadcastInDim S12288x1 ![0] bcast_S12288_S12288x1_0 (iotaInDim S12288 32 0)))
      (broadcastInDim S12288x18 ![0, 1] bcast_S1x18_S12288x18_0_1 (broadcastInDim S1x18 ![1] bcast_S18_S1x18_1 (ends g))))

/-- The scale of each byte of weights: 64 bytes along the sum share one. -/
def scales (s : FVec F S18x16x7168 .bf16) : FVec F S18x1024x7168 .bf16 :=
  shapeCast S18x1024x7168 (broadcastInDim S18x16x64x7168 ![0, 1, 3] bcast_S18x16x7168_S18x16x64x7168_0_1_3 s) shapeCasts_S18x16x64x7168_S18x1024x7168

/-- The zero that fills the rows of other experts. -/
def zero : FVec F S_ .f32 := constant S_ .f32 0x00000000#32

/-- One half of the sum: every expert's product over the codes `x` and the weights `w`, masked to the expert's rows and added up. -/
def half (k : IVec S12288x18 1) (w s : FVec F S18x1024x7168 .bf16) (x : FVec F S12288x1024 .bf16) : FVec F S12288x7168 .f32 :=
  Host.reduceAdd
    (select (broadcastInDim S18x12288x7168 ![0, 1, 2] bcast_S18x12288x1_S18x12288x7168_0_1_2
        (broadcastInDim S18x12288x1 ![0, 1] bcast_S18x12288_S18x12288x1_0_1 (transpose S18x12288 [1, 0] k transposes_S12288x18_S18x12288_1_0)))
      (transpose S18x12288x7168 [0, 2, 1]
        (Host.dotGeneral dot_S18x1024x7168_S12288x1024_S18x7168x12288_1_1_02_0_n_n none (mulf w s) x) transposes_S18x7168x12288_S18x12288x7168_0_2_1)
      (broadcastInDim S18x12288x7168 ![] bcast_S_S18x12288x7168 zero))
    zero reducesTo_S18x12288x7168_S12288x7168_d0 h_S_

/-- The activation scale of each row's expert. -/
def rowScale (k : IVec S12288x18 1) (a : FVec F S18 .f32) : FVec F S12288 .f32 :=
  Host.reduceAdd
    (select k (broadcastInDim S12288x18 ![0, 1] bcast_S1x18_S12288x18_0_1 (broadcastInDim S1x18 ![1] bcast_S18_S1x18_1 a))
      (broadcastInDim S12288x18 ![] bcast_S_S12288x18 zero))
    zero reducesTo_S12288x18_S12288_d1 h_S_

/-- The result from the casts of the codes (`x`) and of the even and the odd weights (`l`, `h`). -/
def tailv (g : IVec S18 32) (s : FVec F S18x16x7168 .bf16) (a : FVec F S18 .f32) (x : FVec F S12288x2048 .bf16)
    (l h : FVec F S18x1024x7168 .bf16) : FVec F S12288x7168 .f32 :=
  mulf
    (addf (half (mask g) l (scales s) (Host.slice S12288x1024 ![0, 0] ![1, 2] x slicesBy_S12288x2048_S12288x1024_0s1_0s2))
      (half (mask g) h (scales s) (Host.slice S12288x1024 ![0, 1] ![1, 2] x slicesBy_S12288x2048_S12288x1024_0s1_1s2)))
    (broadcastInDim S12288x7168 ![0, 1] bcast_S12288x1_S12288x7168_0_1
      (broadcastInDim S12288x1 ![0] bcast_S12288_S12288x1_0 (rowScale (mask g) a)))

/-- The lines leave `tailv` in the result. -/
theorem after_result (W : Valuation τ sig (Elt F)) :
    (StableHlo.after (List.flatten [hostOps1, hostOps1_1, hostOps1_2, hostOps1_3, hostOps1_4, hostOps1_5, hostOps1_6, hostOps1_7]) W (Proc.devRef .tc main_v38) : FVec F S12288x7168 .f32)
      = tailv (W (Proc.devRef .tc main_arg0)) (W (Proc.devRef .tc main_arg3)) (W (Proc.devRef .tc main_arg4)) (W (Proc.devRef .tc main_v0_0))
          (W (Proc.devRef .tc main_v0_1)) (W (Proc.devRef .tc main_v0_2)) := by
  after_reads_simp
  simp -implicitDefEqProofs only [StableHlo.TRef.toBuf, StableHlo.TRef.ofBuf, cast_cast, cast_eq, id]
  rfl

end Cert.DownReferenceIdeal.Hand
-- ==== Proof.DownReferenceCasts.lean ====
module
public import proofs.«01_k».proof.Proof.DownReferenceOps
public import Idealize.ShloMosaic.Lib.Pipeline.ValueKit
/-! # What the casts of the reference leave -/
@[expose] public section
set_option maxRecDepth 16384
set_option maxHeartbeats 400000
noncomputable section
namespace Cert.DownReferenceIdeal.Hand
open Idealize.ShloMosaic Idealize.ShloMosaic.TcCoe Idealize.ShloMosaic.Tactic
open Cert.DownReferenceIdeal Cert.DownReferenceIdeal.Gen Cert.W4
variable {F : FTy → Type} [FloatOps F]
variable (m : (ℓ : Loc nD τ sig) → Buf (Elt F) ℓ) (c : Dev nD)

/-- The one point of the casts. -/
abbrev p0 : Fin cfg0.N := ⟨0, by decide⟩

/-- The codes and the weights, as launched. -/
def codes : Vec F S12288x2048 .fp8e4m3 := m ((c.tc : Thread nD τ).loc main_arg1)
def bytes : Vec F S18x1024x7168 .i8 := m ((c.tc : Thread nD τ).loc main_arg2)

theorem iblk0 : (iblk m c 0 p0 : Vec F S12288x2048 .fp8e4m3) = codes m c := by
  funext i
  unfold iblk codes
  refine congrArg (V m c main_arg1) (funext fun b => Fin.ext ?_)
  refine ((cfg0.win 0).rect_emb_val p0 _ b rfl).trans ?_
  fin_cases b
  · change 0 * 12288 + (i 0).val = (i 0).val; omega
  · change 0 * 2048 + (i 1).val = (i 1).val; omega

theorem iblk1 : (iblk m c 1 p0 : Vec F S18x1024x7168 .i8) = bytes m c := by
  funext i
  unfold iblk bytes
  refine congrArg (V m c main_arg2) (funext fun b => Fin.ext ?_)
  refine ((cfg0.win 1).rect_emb_val p0 _ b rfl).trans ?_
  fin_cases b
  · change 0 * 18 + (i 0).val = (i 0).val; omega
  · change 0 * 1024 + (i 1).val = (i 1).val; omega
  · change 0 * 7168 + (i 2).val = (i 2).val; omega

theorem z2 : ∀ a : Fin S12288x2048.rank, (![0, 0] : Fin 2 → Nat) a = 0 := by intro a; fin_cases a <;> rfl
theorem z3 : ∀ a : Fin S18x1024x7168.rank, (![0, 0, 0] : Fin 3 → Nat) a = 0 := by intro a; fin_cases a <;> rfl

theorem out2 (x0 : Vec F S12288x2048 .fp8e4m3) (x1 : Vec F S18x1024x7168 .i8) : out0_2 x0 x1 = k0_pay1 x0 := by
  unfold out0_2
  rw [View.canon_cons_unit_lit _ _ _ z2, View.ld_unit_lit _ _ z2]
theorem out3 (x0 : Vec F S12288x2048 .fp8e4m3) (x1 : Vec F S18x1024x7168 .i8) : out0_3 x0 x1 = k0_pay3 x1 := by
  unfold out0_3
  rw [View.canon_cons_unit_lit _ _ _ z3, View.ld_unit_lit _ _ z3]
theorem out4 (x0 : Vec F S12288x2048 .fp8e4m3) (x1 : Vec F S18x1024x7168 .i8) : out0_4 x0 x1 = k0_pay4 x1 := by
  unfold out0_4
  rw [View.canon_cons_unit_lit _ _ _ z3, View.ld_unit_lit _ _ z3]

theorem arr2 : ((dats m 0 c).arrAt 2 cfg0.N : Vec F S12288x2048 .bf16) = k0_pay1 (codes m c) := by
  refine (dats m 0 c).arrAt_eq_of_after_last 2 p0 (by decide +kernel) _ fun j => ?_
  refine congrFun (?_ : (dats m 0 c).after 2 p0 = k0_pay1 (codes m c)) j
  rw [after0_2]
  refine (out2 _ _).trans ?_
  rw [iblk0]
theorem arr3 : ((dats m 0 c).arrAt 3 cfg0.N : Vec F S18x1024x7168 .bf16) = k0_pay3 (bytes m c) := by
  refine (dats m 0 c).arrAt_eq_of_after_last 3 p0 (by decide +kernel) _ fun j => ?_
  refine congrFun (?_ : (dats m 0 c).after 3 p0 = k0_pay3 (bytes m c)) j
  rw [after0_3]
  refine (out3 _ _).trans ?_
  rw [iblk1]
theorem arr4 : ((dats m 0 c).arrAt 4 cfg0.N : Vec F S18x1024x7168 .bf16) = k0_pay4 (bytes m c) := by
  refine (dats m 0 c).arrAt_eq_of_after_last 4 p0 (by decide +kernel) _ fun j => ?_
  refine congrFun (?_ : (dats m 0 c).after 4 p0 = k0_pay4 (bytes m c)) j
  rw [after0_4]
  refine (out4 _ _).trans ?_
  rw [iblk1]

theorem inj : Function.Injective (Pipeline.arrRef spec0) := by decide +kernel

/-- What the reference's run leaves in its result. -/
theorem value (x) (h : Pipeline.FramePost cfgs (dats m) 0 (Pipeline.afterTail₀ cfgs (dats m) 0 (V0 m)
      [hostOps1, hostOps1_1, hostOps1_2, hostOps1_3, hostOps1_4, hostOps1_5, hostOps1_6, hostOps1_7]) x) :
    (x.2.mem ((c.tc : Thread nD τ).loc main_v38) : FVec F S12288x7168 .f32)
      = tailv (m ((c.tc : Thread nD τ).loc main_arg0)) (m ((c.tc : Thread nD τ).loc main_arg3)) (m ((c.tc : Thread nD τ).loc main_arg4))
          (k0_pay1 (codes m c)) (k0_pay3 (bytes m c)) (k0_pay4 (bytes m c)) := by
  refine ((h c).2 main_v38 (Pipeline.mem_restRefs_of main_v38 (by decide) (by decide))).trans ?_
  unfold Pipeline.afterTail₀
  refine (after_result _).trans ?_
  have e0 := Pipeline.withArrays_of_ne spec0 c (V0 m c) (fun w => (dats m 0 c).arrAt w cfg0.N) main_arg0 (by exact (by decide : ∀ w, Pipeline.arrRef spec0 w ≠ main_arg0))
  have e3 := Pipeline.withArrays_of_ne spec0 c (V0 m c) (fun w => (dats m 0 c).arrAt w cfg0.N) main_arg3 (by exact (by decide : ∀ w, Pipeline.arrRef spec0 w ≠ main_arg3))
  have e4 := Pipeline.withArrays_of_ne spec0 c (V0 m c) (fun w => (dats m 0 c).arrAt w cfg0.N) main_arg4 (by exact (by decide : ∀ w, Pipeline.arrRef spec0 w ≠ main_arg4))
  have a2 := (Pipeline.withArrays_arr spec0 inj c (V0 m c) (fun w => (dats m 0 c).arrAt w cfg0.N) 2).trans (arr2 m c)
  have a3 := (Pipeline.withArrays_arr spec0 inj c (V0 m c) (fun w => (dats m 0 c).arrAt w cfg0.N) 3).trans (arr3 m c)
  have a4 := (Pipeline.withArrays_arr spec0 inj c (V0 m c) (fun w => (dats m 0 c).arrAt w cfg0.N) 4).trans (arr4 m c)
  generalize Pipeline.withArrays spec0 c (V0 m c) (fun w => (dats m 0 c).arrAt w cfg0.N) = W at e0 e3 e4 a2 a3 a4
  have e0' : W (Proc.devRef .tc main_arg0) = m ((c.tc : Thread nD τ).loc main_arg0) := e0
  have e3' : W (Proc.devRef .tc main_arg3) = m ((c.tc : Thread nD τ).loc main_arg3) := e3
  have e4' : W (Proc.devRef .tc main_arg4) = m ((c.tc : Thread nD τ).loc main_arg4) := e4
  have a2' : W (Proc.devRef .tc main_v0_0) = k0_pay1 (codes m c) := a2
  have a3' : W (Proc.devRef .tc main_v0_1) = k0_pay3 (bytes m c) := a3
  have a4' : W (Proc.devRef .tc main_v0_2) = k0_pay4 (bytes m c) := a4
  show tailv (W (Proc.devRef .tc main_arg0)) (W (Proc.devRef .tc main_arg3)) (W (Proc.devRef .tc main_arg4)) (W (Proc.devRef .tc main_v0_0))
          (W (Proc.devRef .tc main_v0_1)) (W (Proc.devRef .tc main_v0_2)) = _
  rw [e0', e3', e4', a2', a3', a4']

end Cert.DownReferenceIdeal.Hand
-- ==== Proof.DownReferenceMath.lean ====
module
public import proofs.«01_k».proof.Proof.DownReferenceOps
public import proofs.«01_k».proof.Proof.DownIdealValue
public import Idealize.ShloMosaic.Lib.Pointwise
/-! # The lines of the reference, entry by entry -/
@[expose] public section
set_option maxRecDepth 16384
set_option maxHeartbeats 400000
noncomputable section
namespace Cert.DownReferenceIdeal.Hand
open Idealize.ShloMosaic Idealize.ShloMosaic.TcCoe Idealize.ShloMosaic.Tactic
open Cert.DownReferenceIdeal Cert.DownReferenceIdeal.Gen Cert.W4
open Idealize.ShloMosaic.WordCmp

theorem select_one {α : Type} (k : BitVec 1) (a b : α) : Scalar.select k a b = if k = 1#1 then a else b := rfl

theorem half_ap (k : IVec S12288x18 1) (w s : FVec Ideal S18x1024x7168 .bf16) (x : FVec Ideal S12288x1024 .bf16) (r : Fin 12288) (c : Fin 7168) :
    half k w s x (ix2 r c) = ∑ e : Fin 18, if k (ix2 r e) = 1#1 then (∑ q : Fin 1024, (w (ix3 e q c) * s (ix3 e q c)) * x (ix2 r q) : EReal) else 0 := by
  pointwise [half, zero]
  rfl
theorem rowScale_ap (k : IVec S12288x18 1) (a : FVec Ideal S18 .f32) (r : Fin 12288) :
    rowScale k a (ix1 r) = ∑ e : Fin 18, if k (ix2 r e) = 1#1 then (a (ix1 e) : EReal) else 0 := by
  pointwise [rowScale, zero]
  rfl
theorem scales_ap (s : FVec Ideal S18x16x7168 .bf16) (e : Fin 18) (q : Fin 1024) (c : Fin 7168) :
    scales s (ix3 e q c) = s (ix3 e ⟨q.val / 64, by omega⟩ c) := by
  pointwise [scales]
theorem mask_ap (g : IVec S18 32) (r : Fin 12288) (e : Fin 18) :
    mask g (ix2 r e) = IntOp.andi (IntOp.cmpi .sge (BitVec.ofNat 32 r.val) (IntOp.subi (ends g (ix1 e)) (g (ix1 e)))) (IntOp.cmpi .slt (BitVec.ofNat 32 r.val) (ends g (ix1 e))) := by
  pointwise [mask]

/-- The mask says which expert owns a row. -/
theorem mask_iff (x : IVec S18 32) (g : ℕ → ℕ) (hx : ∀ i : Fin 18, x (ix1 i) = BitVec.ofNat 32 (g i.val)) (hs : sm g 18 = 12288)
    (r : Fin 12288) (e : Fin 18) : mask x (ix2 r e) = 1#1 ↔ sm g e.val ≤ r.val ∧ r.val < sm g (e.val + 1) := by
  have hr := r.isLt
  have h1 := ends_le g hs (e.val + 1) (by omega)
  have h2 := sm_succ g e.val
  have he : ends x (ix1 e) = BitVec.ofNat 32 (sm g (e.val + 1)) :=
    cum18 x g hx e _ rfl reduceWindows_S18_S18_w18s1p17_0 h_S_
  have hst : IntOp.subi (ends x (ix1 e)) (x (ix1 e)) = BitVec.ofNat 32 (sm g e.val) := by
    rw [he, hx]
    refine (Idealize.ShloMosaic.Routing.ofNat32_sub (by omega)).trans ?_
    rw [h2, Nat.add_sub_cancel]
  rw [mask_ap, hst, he, IntOp.andi_eq_one, cmpi_sge_ofNat_eq_one_iff (by omega) (by omega), cmpi_slt_ofNat_eq_one_iff (by omega) (by omega)]

/-- A sum over the experts, masked to the owner of a row, is the owner's term. -/
theorem masked_sum (x : IVec S18 32) (g : ℕ → ℕ) (hx : ∀ i : Fin 18, x (ix1 i) = BitVec.ofNat 32 (g i.val)) (hs : sm g 18 = 12288)
    (r : Fin 12288) (f : Fin 18 → EReal) :
    (∑ e : Fin 18, if mask x (ix2 r e) = 1#1 then f e else 0) = f ⟨owner g r.val, (owner_place g hs r.val r.isLt).1⟩ := by
  have ho := owner_place g hs r.val r.isLt
  refine (Finset.sum_congr rfl fun e _ => ?_).trans (Finset.sum_ite_eq' Finset.univ (⟨owner g r.val, ho.1⟩ : Fin 18) f |>.trans (if_pos (Finset.mem_univ _)))
  refine if_congr ((mask_iff x g hx hs r e).trans ⟨fun h => ?_, fun h => ?_⟩) rfl rfl
  · exact Fin.ext (owner_eq g e.val r.val e.isLt h.1 h.2).symm
  · subst h
    exact ho.2

theorem even_ap (x : FVec Ideal S12288x2048 .bf16) (r : Fin 12288) (q : Fin 1024) :
    Host.slice S12288x1024 ![0, 0] ![1, 2] x slicesBy_S12288x2048_S12288x1024_0s1_0s2 (ix2 r q) = x (ix2 r ⟨q.val * 2 + 0, by omega⟩) := by
  pointwise
  exact congrArg x (congrArg (ix2 r) (Fin.ext (by show _ = q.val * 2 + 0; simp; try omega)))
theorem odd_ap (x : FVec Ideal S12288x2048 .bf16) (r : Fin 12288) (q : Fin 1024) :
    Host.slice S12288x1024 ![0, 1] ![1, 2] x slicesBy_S12288x2048_S12288x1024_0s1_1s2 (ix2 r q) = x (ix2 r ⟨q.val * 2 + 1, by omega⟩) := by
  pointwise
  exact congrArg x (congrArg (ix2 r) (Fin.ext (by show _ = q.val * 2 + 1; simp; try omega)))

theorem tailv_ap (g : IVec S18 32) (s : FVec Ideal S18x16x7168 .bf16) (a : FVec Ideal S18 .f32) (x : FVec Ideal S12288x2048 .bf16)
    (l h : FVec Ideal S18x1024x7168 .bf16) (r : Fin 12288) (c : Fin 7168) :
    tailv g s a x l h (ix2 r c)
      = ((half (mask g) l (scales s) (Host.slice S12288x1024 ![0, 0] ![1, 2] x slicesBy_S12288x2048_S12288x1024_0s1_0s2) (ix2 r c)
          + half (mask g) h (scales s) (Host.slice S12288x1024 ![0, 1] ![1, 2] x slicesBy_S12288x2048_S12288x1024_0s1_1s2) (ix2 r c)
          : EReal)) * rowScale (mask g) a (ix1 r) := by
  pointwise [tailv]

/-- The reference's entries are the products of the owners. -/
theorem tailv_entry (x : IVec S18 32) (g : ℕ → ℕ) (hx : ∀ i : Fin 18, x (ix1 i) = BitVec.ofNat 32 (g i.val)) (hs : sm g 18 = 12288)
    (H : Vec Ideal S12288x2048 .fp8e4m3) (B : Vec Ideal S18x1024x7168 .i8) (s : Vec Ideal S18x16x7168 .bf16) (a : Vec Ideal S18 .f32)
    (r : Fin 12288) (c : Fin 7168) :
    tailv (F := Ideal) x s a (k0_pay1 H) (k0_pay3 B) (k0_pay4 B) (ix2 r c)
      = Cert.DownIdeal.Hand.entry H B s a ⟨owner g r.val, (owner_place g hs r.val r.isLt).1⟩ r c := by
  rw [tailv_ap, half_ap, half_ap, rowScale_ap, masked_sum x g hx hs, masked_sum x g hx hs, masked_sum x g hx hs]
  generalize (⟨owner g r.val, (owner_place g hs r.val r.isLt).1⟩ : Fin 18) = e
  unfold Cert.DownIdeal.Hand.entry
  refine congrArg (fun z : EReal => z * a (ix1 e)) ?_
  refine Eq.trans ?_ (Fin.sum_univ_tiles (N := 2048) 1024 2 (by norm_num) _).symm
  rw [← Finset.sum_add_distrib]
  refine Finset.sum_congr rfl fun q _ => ?_
  rw [Fin.sum_univ_two, even_ap, odd_ap, scales_ap, mul_comm, mul_comm (k0_pay4 B (ix3 e q c) * _ : EReal)]
  have hq := q.isLt
  refine congrArg₂ (fun y z : EReal => y + z) ?_ ?_
  · refine congrArg (fun z : EReal => H (ix2 r ⟨q.val * 2 + 0, by omega⟩) * z) ?_
    have e1 : (⟨(q.val * 2 + 0) / 2, by omega⟩ : Fin 1024) = q := Fin.ext (by show (q.val * 2 + 0) / 2 = q.val; omega)
    have e2 : (⟨(q.val * 2 + 0) / 128, by omega⟩ : Fin 16) = ⟨q.val / 64, by omega⟩ := Fin.ext (by show (q.val * 2 + 0) / 128 = q.val / 64; omega)
    show _ = dqe (F := Ideal) (B (ix3 e (⟨(q.val * 2 + 0) / 2, by omega⟩ : Fin 1024) c)) (q.val * 2 + 0) (s (ix3 e (⟨(q.val * 2 + 0) / 128, by omega⟩ : Fin 16) c))
    rw [e1, e2]
    unfold dqe nib
    rw [if_pos (show (q.val * 2 + 0) % 2 < 1 by omega)]
    rfl
  · refine congrArg (fun z : EReal => H (ix2 r ⟨q.val * 2 + 1, by omega⟩) * z) ?_
    have e1 : (⟨(q.val * 2 + 1) / 2, by omega⟩ : Fin 1024) = q := Fin.ext (by show (q.val * 2 + 1) / 2 = q.val; omega)
    have e2 : (⟨(q.val * 2 + 1) / 128, by omega⟩ : Fin 16) = ⟨q.val / 64, by omega⟩ := Fin.ext (by show (q.val * 2 + 1) / 128 = q.val / 64; omega)
    show _ = dqe (F := Ideal) (B (ix3 e (⟨(q.val * 2 + 1) / 2, by omega⟩ : Fin 1024) c)) (q.val * 2 + 1) (s (ix3 e (⟨(q.val * 2 + 1) / 128, by omega⟩ : Fin 16) c))
    rw [e1, e2]
    unfold dqe nib
    rw [if_neg (show ¬ (q.val * 2 + 1) % 2 < 1 by omega)]
    rfl

end Cert.DownReferenceIdeal.Hand
-- ==== Proof.DownEqual.lean ====
module
public import proofs.«01_k».proof.Defs
public import proofs.«01_k».proof.Proof.DownIdealOut
public import proofs.«01_k».proof.Proof.DownReferenceCasts
public import proofs.«01_k».proof.Proof.DownReferenceMath
public import proofs.«01_k».proof.Proof.Gen.DownIdeal
public import proofs.«01_k».proof.Proof.Gen.DownReferenceIdeal
/-! # The down program and its reference compute the same matrix -/
@[expose] public section
set_option maxRecDepth 16384
set_option maxHeartbeats 400000
noncomputable section
namespace Cert.DownEqual
open Idealize.ShloMosaic Idealize.ShloMosaic.TcCoe Idealize.SL.Sem
open Cert.W4

/-- The reference's result, from the arguments, is the program's. -/
theorem value_eq (m : (ℓ : Loc Cert.DownIdeal.nD Cert.DownIdeal.τ Cert.DownIdeal.sig) → Buf (Elt Ideal) ℓ) (hs : sm (Cert.DownIdeal.Hand.gn m) 18 = 12288)
    (c : Dev Cert.DownIdeal.nD) (x : IVec Cert.DownReferenceIdeal.S18 32) (H : Vec Ideal Cert.DownReferenceIdeal.S12288x2048 .fp8e4m3)
    (B : Vec Ideal Cert.DownReferenceIdeal.S18x1024x7168 .i8) (s : Vec Ideal Cert.DownReferenceIdeal.S18x16x7168 .bf16)
    (a : Vec Ideal Cert.DownReferenceIdeal.S18 .f32)
    (h0 : x = m ((c.tc : Thread Cert.DownIdeal.nD Cert.DownIdeal.τ).loc Cert.DownIdeal.main_arg0))
    (h1 : H = m ((c.tc : Thread Cert.DownIdeal.nD Cert.DownIdeal.τ).loc Cert.DownIdeal.main_arg1))
    (h2 : B = m ((c.tc : Thread Cert.DownIdeal.nD Cert.DownIdeal.τ).loc Cert.DownIdeal.main_arg2))
    (h3 : s = m ((c.tc : Thread Cert.DownIdeal.nD Cert.DownIdeal.τ).loc Cert.DownIdeal.main_arg3))
    (h4 : a = m ((c.tc : Thread Cert.DownIdeal.nD Cert.DownIdeal.τ).loc Cert.DownIdeal.main_arg4)) :
    Cert.DownReferenceIdeal.Hand.tailv (F := Ideal) x s a (Cert.DownReferenceIdeal.Gen.k0_pay1 H) (Cert.DownReferenceIdeal.Gen.k0_pay3 B)
      (Cert.DownReferenceIdeal.Gen.k0_pay4 B) = Cert.DownIdeal.Hand.result m hs c := by
  obtain rfl : c = 0 := Subsingleton.elim _ _
  funext i
  obtain ⟨r, k, rfl⟩ : ∃ (r : Fin 12288) (k : Fin 7168), i = ix2 r k := ⟨i 0, i 1, by funext b; fin_cases b <;> rfl⟩
  have hx : ∀ j : Fin 18, x (ix1 j) = BitVec.ofNat 32 (Cert.DownIdeal.Hand.gn m j.val) := fun j => by
    rw [h0]
    exact cnt_word _ j
  rw [Cert.DownReferenceIdeal.Hand.tailv_entry x (Cert.DownIdeal.Hand.gn m) hx hs H B s a r k]
  unfold Cert.DownIdeal.Hand.result Cert.DownIdeal.Hand.own
  rw [Cert.DownIdeal.Hand.V_arg1, Cert.DownIdeal.Hand.V_arg2, Cert.DownIdeal.Hand.V_arg3, Cert.DownIdeal.Hand.V_arg4, h1, h2, h3, h4]
  rfl

theorem algebraic : Cert.algebraic_DownIdeal_DownReferenceIdeal (hDownIdeal := Cert.DownIdeal.Gen.facts)
    (hDownReferenceIdeal := Cert.DownReferenceIdeal.Gen.facts) (hPre_rows_in_groups := Cert.Pre_rows_in_groups.Gen.facts) := by
  intro m g m' g' hpre hag
  have hs : sm (Cert.DownIdeal.Hand.gn m) 18 = 12288 := Cert.W4.rows_sum _ _ _ _ _ (hpre 0)
  refine ⟨fun c => Cert.DownIdeal.Hand.result m hs c, ?_, ?_⟩
  · exact (θ_run _ _ _).mono (fun r h c => ⟨Cert.DownIdeal.Hand.out_eq m hs c r h.1, Cert.DownIdeal.Hand.args_of m (Cert.DownIdeal.Hand.ad m hs) r h.1 c⟩)
      (Cert.DownIdeal.Hand.run_main m g (Cert.DownIdeal.Hand.ad m hs) (Cert.DownIdeal.Hand.hpf m hs))
  · refine (θ_run _ _ _).mono (fun r h c => ⟨?_, h.2 c⟩)
      (θ_run_and (Cert.DownReferenceIdeal.Gen.run_main m' g') (Cert.DownReferenceIdeal.Gen.unchanged m' g'))
    refine (Cert.DownReferenceIdeal.Hand.value m' c r h.1).trans ?_
    obtain ⟨h0, h1, h2, h3, h4⟩ := hag c
    exact value_eq m hs c _ _ _ _ _ h0 h1 h2 h3 h4

end Cert.DownEqual
-- ==== Proof.GateUpDeq.lean ====
module
public import proofs.«01_k».proof.Proof.Gen.GateUp.Loops
public import proofs.«01_k».proof.Proof.Gen.GateUp.Launch
public import proofs.«01_k».proof.Proof.Nibble
/-! # The dequantised block

The program dequantises the weights of an expert, column block by column block, into two buffers of its own; here is what the buffers hold afterwards. -/
@[expose] public section
set_option maxRecDepth 16384
set_option maxHeartbeats 4000000
noncomputable section
namespace Cert.GateUp.Hand
open Idealize.ShloMosaic Idealize.ShloMosaic.TcCoe Idealize.ShloMosaic.Tactic
open Idealize.SL Idealize.SL.RA Idealize.SL.BI
open Cert.GateUp Cert.GateUp.Gen Cert.W4
variable {F : FTy → Type} [FloatOps F]

/-- The dequantised block: row `p`, column `n` is the four-bit value of row `p` times the scale of group `p / 128`. -/
def deq (W : Vec F S1x3584x256 .i8) (S : Vec F S1x56x256 .bf16) : Vec F S7168x256 .bf16 := fun y =>
  dqe (W (ix3 0 ⟨(y 0).val / 2, by have := (y 0).isLt; change (y 0).val < 7168 at this; omega⟩ (y 1))) (y 0).val
    (S (ix3 0 ⟨(y 0).val / 128, by have := (y 0).isLt; change (y 0).val < 7168 at this; omega⟩ (y 1)))

/-- A payload of the loop is group `g` of the eight scales `s` with the 64 rows of bytes `w`. -/
def IsSlab (g : Fin 8) (s : FVec F S8x256 .bf16) (w : Vec F S1x64x256 .i8) (P : FVec F S128x256 .bf16) : Prop :=
  ∀ (q : Fin 128) (n : Fin 256), P (ix2 q n) = dqe (w (ix3 0 ⟨q.val / 2, by omega⟩ n)) q.val (s (ix2 g n))

theorem slab10 (s : Vec F S1x8x256 .bf16) (w) : IsSlab (F := F) 0 (k0_pay4 s) w (k0_pay5 s w) := fun q n => by
  pointwise [k0_pay5, k0_pay4]; rfl
theorem slab11 (s : FVec F S8x256 .bf16) (w) : IsSlab (F := F) 1 s w (k0_pay8 s (k0_pay6 w) k0_pay7) := fun q n => by
  pointwise [k0_pay8, k0_pay6, k0_pay7]; rfl
theorem slab12 (s : FVec F S8x256 .bf16) (w) : IsSlab (F := F) 2 s w (k0_pay9 s w) := fun q n => by
  pointwise [k0_pay9]; rfl
theorem slab13 (s : FVec F S8x256 .bf16) (w) : IsSlab (F := F) 3 s w (k0_pay10 s w) := fun q n => by
  pointwise [k0_pay10]; rfl
theorem slab14 (s : FVec F S8x256 .bf16) (w) : IsSlab (F := F) 4 s w (k0_pay14 s (k0_pay12 w) (k0_pay13 w)) := fun q n => by
  pointwise [k0_pay14, k0_pay12, k0_pay13, k0_pay11]; rfl
theorem slab15 (s : FVec F S8x256 .bf16) (w) : IsSlab (F := F) 5 s w (k0_pay15 s w) := fun q n => by
  pointwise [k0_pay15]; rfl
theorem slab16 (s : FVec F S8x256 .bf16) (w) : IsSlab (F := F) 6 s w (k0_pay16 s w) := fun q n => by
  pointwise [k0_pay16]; rfl
theorem slab17 (s : FVec F S8x256 .bf16) (w) : IsSlab (F := F) 7 s w (k0_pay1 (k0_pay17 s w)) := fun q n => by
  pointwise [k0_pay1, k0_pay17]; rfl

theorem slab20 (s : Vec F S1x8x256 .bf16) (w) : IsSlab (F := F) 0 (k0_pay18 s) w (k0_pay19 s w) := fun q n => by
  pointwise [k0_pay19, k0_pay18]; rfl
theorem slab21 (s : FVec F S8x256 .bf16) (w) : IsSlab (F := F) 1 s w (k0_pay22 s (k0_pay20 w) k0_pay21) := fun q n => by
  pointwise [k0_pay22, k0_pay20, k0_pay21]; rfl
theorem slab22 (s : FVec F S8x256 .bf16) (w) : IsSlab (F := F) 2 s w (k0_pay23 s w) := fun q n => by
  pointwise [k0_pay23]; rfl
theorem slab23 (s : FVec F S8x256 .bf16) (w) : IsSlab (F := F) 3 s w (k0_pay24 s w) := fun q n => by
  pointwise [k0_pay24]; rfl
theorem slab24 (s : FVec F S8x256 .bf16) (w) : IsSlab (F := F) 4 s w (k0_pay28 s (k0_pay26 w) (k0_pay27 w)) := fun q n => by
  pointwise [k0_pay28, k0_pay26, k0_pay27, k0_pay25]; rfl
theorem slab25 (s : FVec F S8x256 .bf16) (w) : IsSlab (F := F) 5 s w (k0_pay29 s w) := fun q n => by
  pointwise [k0_pay29]; rfl
theorem slab26 (s : FVec F S8x256 .bf16) (w) : IsSlab (F := F) 6 s w (k0_pay30 s w) := fun q n => by
  pointwise [k0_pay30]; rfl
theorem slab27 (s : FVec F S8x256 .bf16) (w) : IsSlab (F := F) 7 s w (k0_pay2 (k0_pay31 s w)) := fun q n => by
  pointwise [k0_pay2, k0_pay31]; rfl

theorem trips_eq1 : k0_t1_loop.trips = 7 := by decide
theorem trips_eq2 : k0_t2_loop.trips = 7 := by decide

/-- What a trip stores for group `r` agrees with the dequantised block, its accesses at the offsets of trip `k`. -/
theorem slab_agrees_at (pay : Vec F S1x8x256 .bf16 → FVec F S8x256 .bf16) (hpay : ∀ s, pay s = k0_pay4 s) (argW : Memref sig .tc .vmem S1x3584x256 .i8) (argS : Memref sig .tc .vmem S1x56x256 .bf16) (k : ℕ) (hk : k < 7) (r : Fin 8) {o3 : Fin 3 → ℕ} {o4 : Fin 3 → ℕ} {o5 : Fin 2 → ℕ}
    (e3 : o3 = ![0, 8 * k, 0]) (e4 : o4 = ![0, 512 * k + 64 * r.val, 0]) (e5 : o5 = ![1024 * k + 128 * r.val, 0])
    (i3 : ∀ a, o3 a + S1x8x256.size a ≤ S1x56x256.size a) (i4 : ∀ a, o4 a + S1x64x256.size a ≤ S1x3584x256.size a)
    (i5 : ∀ a, o5 a + S128x256.size a ≤ S7168x256.size a)
    (XW : BufTy.Contents (Elt F) argW.view.ty) (XS : BufTy.Contents (Elt F) argS.view.ty)
    (P : FVec F S128x256 .bf16)
    (hP : IsSlab r (pay (View.readAt (Elt F) argS.view (Rect.unit (s := S1x56x256) o3 S1x8x256.size i3).toLoadRect XS))
      (View.readAt (Elt F) argW.view (Rect.unit (s := S1x3584x256) o4 S1x64x256.size i4).toLoadRect XW) P)
    (x : S128x256.Idx) :
    P x = deq (argW.view.read (Elt F) XW) (argS.view.read (Elt F) XS)
      ((Rect.unit (s := S7168x256) o5 S128x256.size i5).emb x) := by
  subst e3 e4 e5
  obtain rfl : pay = k0_pay4 := funext hpay
  idx_vars x
  rw [hP x0 x1, View.readAt_eq_ld, View.readAt_eq_ld]
  generalize View.read (Elt F) argW.view XW = W
  generalize View.read (Elt F) argS.view XS = S
  unfold deq
  pointwise [k0_pay4]
  have hq := x0.isLt
  have hr := r.isLt
  have he : (Rect.unit (s := S7168x256) ![1024 * k + 128 * r.val, 0] ![128, 256] i5).emb (ix2 x0 x1)
      = ix2 (⟨1024 * k + 128 * r.val + x0.val, by omega⟩ : Fin 7168) x1 :=
    Rect.emb_eq_of_coords _ _ _ fun a => by
      fin_cases a <;> simp [Rect.unit, ix2]
  rw [he]
  have h1 : 512 * k + 64 * r.val + x0.val / 2 = (1024 * k + 128 * r.val + x0.val) / 2 := by omega
  have h2 : 8 * k + r.val = (1024 * k + 128 * r.val + x0.val) / 128 := by omega
  rw [dqe_congr _ _ (show x0.val % 2 = (1024 * k + 128 * r.val + x0.val) % 2 by omega)]
  congr 1
  · congr 2; exact Fin.ext h1
  · congr 2; exact Fin.ext h2

/-- A row of trip `k` lies in one of the eight pieces the trip writes. -/
theorem mem_slab (k : ℕ) (r : Fin 8) {o5 : Fin 2 → ℕ} (e5 : o5 = ![1024 * k + 128 * r.val, 0])
    (i5 : ∀ a, o5 a + S128x256.size a ≤ S7168x256.size a) (y : S7168x256.Idx)
    (h : (y 0).val / 128 = 8 * k + r.val) : y ∈ (Rect.unit (s := S7168x256) o5 S128x256.size i5).set := by
  subst e5
  rw [Rect.mem_set_unit]
  have h1 := (y 1).isLt
  intro a
  fin_cases a
  · simp only [Fin.zero_eta, Matrix.cons_val_zero]
    change 1024 * k + 128 * r.val ≤ (y 0).val ∧ (y 0).val < 1024 * k + 128 * r.val + 128
    omega
  · exact ⟨Nat.zero_le _, by change (y 1).val < 0 + 256; exact (by omega : (y 1).val < 0 + (y 1).val + 1).trans_le (by change (y 1).val < 256 at h1; omega)⟩

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x7168 .fp8e4m3) (harg7 : arg7.IsWhole) (arg8 : Memref sig .tc .vmem S1x3584x256 .i8) (harg8 : arg8.IsWhole) (arg9 : Memref sig .tc .vmem S1x56x256 .bf16) (harg9 : arg9.IsWhole) (arg10 : Memref sig .tc .vmem S1x3584x256 .i8) (harg10 : arg10.IsWhole) (arg11 : Memref sig .tc .vmem S1x56x256 .bf16) (harg11 : arg11.IsWhole) (arg12 : Memref sig .tc .vmem S1x1x256 .f32) (harg12 : arg12.IsWhole) (arg13 : Memref sig .tc .smem S18 .f32) (harg13 : arg13.IsWhole) (arg14 : Memref sig .tc .smem S18 .f32) (harg14 : arg14.IsWhole) (arg15 : Memref sig .tc .vmem S256x256 .fp8e4m3) (harg15 : arg15.IsWhole) (arg16 : Memref sig .tc .vmem S7168x256 .bf16) (harg16 : arg16.IsWhole) (arg17 : Memref sig .tc .vmem S7168x256 .bf16) (harg17 : arg17.IsWhole)

/-! ### The first weight -/

/-- Every piece one trip writes agrees with the dequantised block. -/
theorem trip_agrees1 (k : Fin k0_t1_loop.trips) (XW : BufTy.Contents (Elt F) arg8.view.ty) (XS : BufTy.Contents (Elt F) arg9.view.ty) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, ∀ x : p.1.shape.Idx,
      p.2 x = deq (arg8.view.read (Elt F) XW) (arg9.view.read (Elt F) XS) (p.1.emb x) := by
  have hk : k.val < 7 := trips_eq1 ▸ k.isLt
  unfold tripL_k0_t1 trip_k0_t1; dsimp only
  simp only [List.forall_mem_cons, List.not_mem_nil, false_imp_iff, implies_true, and_true]
  refine ⟨?_, ?_, ?_, ?_, ?_, ?_, ?_, ?_⟩
  · exact slab_agrees_at (F := F) k0_pay4 (fun _ => rfl) arg8 arg9 k.val hk 7 (k0_off3_eq k) (k0_off4_eq k 7) (k0_off5_eq k 7) _ _ _ XW XS _ (slab17 _ _)
  · exact slab_agrees_at (F := F) k0_pay4 (fun _ => rfl) arg8 arg9 k.val hk 6 (k0_off3_eq k) (k0_off4_eq k 6) (k0_off5_eq k 6) _ _ _ XW XS _ (slab16 _ _)
  · exact slab_agrees_at (F := F) k0_pay4 (fun _ => rfl) arg8 arg9 k.val hk 5 (k0_off3_eq k) (k0_off4_eq k 5) (k0_off5_eq k 5) _ _ _ XW XS _ (slab15 _ _)
  · exact slab_agrees_at (F := F) k0_pay4 (fun _ => rfl) arg8 arg9 k.val hk 4 (k0_off3_eq k) (k0_off4_eq k 4) (k0_off5_eq k 4) _ _ _ XW XS _ (slab14 _ _)
  · exact slab_agrees_at (F := F) k0_pay4 (fun _ => rfl) arg8 arg9 k.val hk 3 (k0_off3_eq k) (k0_off4_eq k 3) (k0_off5_eq k 3) _ _ _ XW XS _ (slab13 _ _)
  · exact slab_agrees_at (F := F) k0_pay4 (fun _ => rfl) arg8 arg9 k.val hk 2 (k0_off3_eq k) (k0_off4_eq k 2) (k0_off5_eq k 2) _ _ _ XW XS _ (slab12 _ _)
  · exact slab_agrees_at (F := F) k0_pay4 (fun _ => rfl) arg8 arg9 k.val hk 1 (k0_off3_eq k) (k0_off4_eq k 1) (k0_off5_eq k 1) _ _ _ XW XS _ (slab11 _ _)
  · exact slab_agrees_at (F := F) k0_pay4 (fun _ => rfl) arg8 arg9 k.val hk 0 (k0_off3_eq k) (k0_off4_eq k 0) (k0_off5_eq k 0) _ _ _ XW XS _ (slab10 _ _)

theorem trip_covers1 (k : Fin k0_t1_loop.trips) (XW : BufTy.Contents (Elt F) arg8.view.ty) (XS : BufTy.Contents (Elt F) arg9.view.ty)
    (y : S7168x256.Idx) (hy : (y 0).val / 1024 = k.val) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t1 trip_k0_t1; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off5_eq k 7) _ y (by change _ = 8 * k.val + 7; omega)
  · exact mem_slab k.val 6 (k0_off5_eq k 6) _ y (by change _ = 8 * k.val + 6; omega)
  · exact mem_slab k.val 5 (k0_off5_eq k 5) _ y (by change _ = 8 * k.val + 5; omega)
  · exact mem_slab k.val 4 (k0_off5_eq k 4) _ y (by change _ = 8 * k.val + 4; omega)
  · exact mem_slab k.val 3 (k0_off5_eq k 3) _ y (by change _ = 8 * k.val + 3; omega)
  · exact mem_slab k.val 2 (k0_off5_eq k 2) _ y (by change _ = 8 * k.val + 2; omega)
  · exact mem_slab k.val 1 (k0_off5_eq k 1) _ y (by change _ = 8 * k.val + 1; omega)
  · exact mem_slab k.val 0 (k0_off5_eq k 0) _ y (by change _ = 8 * k.val + 0; omega)

/-- The pieces of the first `n` trips agree with the dequantised block and cover its first `1024 * n` rows. -/
theorem pb_agrees1 (XW : BufTy.Contents (Elt F) arg8.view.ty) (XS : BufTy.Contents (Elt F) arg9.view.ty) (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, ∀ x : p.1.shape.Idx,
      p.2 x = deq (arg8.view.read (Elt F) XW) (arg9.view.read (Elt F) XS) (p.1.emb x))
    ∧ ∀ y : S7168x256.Idx, (y 0).val < 1024 * n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, y ∈ p.1.set := by
  induction n with
  | zero => exact ⟨fun p hp => absurd hp List.not_mem_nil, fun y hy => absurd hy (by omega)⟩
  | succ n ih =>
    obtain ⟨ih1, ih2⟩ := ih (by omega)
    have es := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS ⟨n, hn⟩
    dsimp only at es
    rw [es]
    refine ⟨fun p hp => ?_, fun y hy => ?_⟩
    · rcases List.mem_append.mp hp with h | h
      · exact trip_agrees1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS p h
      · exact ih1 p h
    · by_cases h : (y 0).val < 1024 * n
      · obtain ⟨p, hp, hy⟩ := ih2 y h
        exact ⟨p, List.mem_append_right _ hp, hy⟩
      · obtain ⟨p, hp, hy⟩ := trip_covers1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS y (by change _ = n; omega)
        exact ⟨p, List.mem_append_left _ hp, hy⟩

/-- After the loop the scratch holds the dequantised block, whatever it held before. -/
theorem scratch_eq1 (XW : BufTy.Contents (Elt F) arg8.view.ty) (XS : BufTy.Contents (Elt F) arg9.view.ty) (XD : BufTy.Contents (Elt F) arg16.view.ty) :
    arg16.view.read (Elt F) (arg16.view.writes (Elt F) XD (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k0_t1_loop.trips))
      = deq (arg8.view.read (Elt F) XW) (arg9.view.read (Elt F) XS) := by
  obtain ⟨h1, h2⟩ := pb_agrees1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS _ le_rfl
  funext y
  refine View.read_writes_apply_of_pieces _ _ _ _ h1 y (h2 y ?_)
  rw [trips_eq1]; exact (y 0).isLt

/-! ### The second weight -/

/-- Every piece one trip writes agrees with the dequantised block. -/
theorem trip_agrees2 (k : Fin k0_t2_loop.trips) (XW : BufTy.Contents (Elt F) arg10.view.ty) (XS : BufTy.Contents (Elt F) arg11.view.ty) :
    ∀ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, ∀ x : p.1.shape.Idx,
      p.2 x = deq (arg10.view.read (Elt F) XW) (arg11.view.read (Elt F) XS) (p.1.emb x) := by
  have hk : k.val < 7 := trips_eq2 ▸ k.isLt
  unfold tripL_k0_t2 trip_k0_t2; dsimp only
  simp only [List.forall_mem_cons, List.not_mem_nil, false_imp_iff, implies_true, and_true]
  refine ⟨?_, ?_, ?_, ?_, ?_, ?_, ?_, ?_⟩
  · exact slab_agrees_at (F := F) k0_pay18 (fun _ => rfl) arg10 arg11 k.val hk 7 (k0_off6_eq k) (k0_off7_eq k 7) (k0_off8_eq k 7) _ _ _ XW XS _ (slab27 _ _)
  · exact slab_agrees_at (F := F) k0_pay18 (fun _ => rfl) arg10 arg11 k.val hk 6 (k0_off6_eq k) (k0_off7_eq k 6) (k0_off8_eq k 6) _ _ _ XW XS _ (slab26 _ _)
  · exact slab_agrees_at (F := F) k0_pay18 (fun _ => rfl) arg10 arg11 k.val hk 5 (k0_off6_eq k) (k0_off7_eq k 5) (k0_off8_eq k 5) _ _ _ XW XS _ (slab25 _ _)
  · exact slab_agrees_at (F := F) k0_pay18 (fun _ => rfl) arg10 arg11 k.val hk 4 (k0_off6_eq k) (k0_off7_eq k 4) (k0_off8_eq k 4) _ _ _ XW XS _ (slab24 _ _)
  · exact slab_agrees_at (F := F) k0_pay18 (fun _ => rfl) arg10 arg11 k.val hk 3 (k0_off6_eq k) (k0_off7_eq k 3) (k0_off8_eq k 3) _ _ _ XW XS _ (slab23 _ _)
  · exact slab_agrees_at (F := F) k0_pay18 (fun _ => rfl) arg10 arg11 k.val hk 2 (k0_off6_eq k) (k0_off7_eq k 2) (k0_off8_eq k 2) _ _ _ XW XS _ (slab22 _ _)
  · exact slab_agrees_at (F := F) k0_pay18 (fun _ => rfl) arg10 arg11 k.val hk 1 (k0_off6_eq k) (k0_off7_eq k 1) (k0_off8_eq k 1) _ _ _ XW XS _ (slab21 _ _)
  · exact slab_agrees_at (F := F) k0_pay18 (fun _ => rfl) arg10 arg11 k.val hk 0 (k0_off6_eq k) (k0_off7_eq k 0) (k0_off8_eq k 0) _ _ _ XW XS _ (slab20 _ _)

theorem trip_covers2 (k : Fin k0_t2_loop.trips) (XW : BufTy.Contents (Elt F) arg10.view.ty) (XS : BufTy.Contents (Elt F) arg11.view.ty)
    (y : S7168x256.Idx) (hy : (y 0).val / 1024 = k.val) :
    ∃ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t2 trip_k0_t2; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off8_eq k 7) _ y (by change _ = 8 * k.val + 7; omega)
  · exact mem_slab k.val 6 (k0_off8_eq k 6) _ y (by change _ = 8 * k.val + 6; omega)
  · exact mem_slab k.val 5 (k0_off8_eq k 5) _ y (by change _ = 8 * k.val + 5; omega)
  · exact mem_slab k.val 4 (k0_off8_eq k 4) _ y (by change _ = 8 * k.val + 4; omega)
  · exact mem_slab k.val 3 (k0_off8_eq k 3) _ y (by change _ = 8 * k.val + 3; omega)
  · exact mem_slab k.val 2 (k0_off8_eq k 2) _ y (by change _ = 8 * k.val + 2; omega)
  · exact mem_slab k.val 1 (k0_off8_eq k 1) _ y (by change _ = 8 * k.val + 1; omega)
  · exact mem_slab k.val 0 (k0_off8_eq k 0) _ y (by change _ = 8 * k.val + 0; omega)

/-- The pieces of the first `n` trips agree with the dequantised block and cover its first `1024 * n` rows. -/
theorem pb_agrees2 (XW : BufTy.Contents (Elt F) arg10.view.ty) (XS : BufTy.Contents (Elt F) arg11.view.ty) (n : ℕ) (hn : n ≤ k0_t2_loop.trips) :
    (∀ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, ∀ x : p.1.shape.Idx,
      p.2 x = deq (arg10.view.read (Elt F) XW) (arg11.view.read (Elt F) XS) (p.1.emb x))
    ∧ ∀ y : S7168x256.Idx, (y 0).val < 1024 * n → ∃ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, y ∈ p.1.set := by
  induction n with
  | zero => exact ⟨fun p hp => absurd hp List.not_mem_nil, fun y hy => absurd hy (by omega)⟩
  | succ n ih =>
    obtain ⟨ih1, ih2⟩ := ih (by omega)
    have es := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS ⟨n, hn⟩
    dsimp only at es
    rw [es]
    refine ⟨fun p hp => ?_, fun y hy => ?_⟩
    · rcases List.mem_append.mp hp with h | h
      · exact trip_agrees2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS p h
      · exact ih1 p h
    · by_cases h : (y 0).val < 1024 * n
      · obtain ⟨p, hp, hy⟩ := ih2 y h
        exact ⟨p, List.mem_append_right _ hp, hy⟩
      · obtain ⟨p, hp, hy⟩ := trip_covers2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS y (by change _ = n; omega)
        exact ⟨p, List.mem_append_left _ hp, hy⟩

/-- After the loop the scratch holds the dequantised block, whatever it held before. -/
theorem scratch_eq2 (XW : BufTy.Contents (Elt F) arg10.view.ty) (XS : BufTy.Contents (Elt F) arg11.view.ty) (XD : BufTy.Contents (Elt F) arg17.view.ty) :
    arg17.view.read (Elt F) (arg17.view.writes (Elt F) XD (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k0_t2_loop.trips))
      = deq (arg10.view.read (Elt F) XW) (arg11.view.read (Elt F) XS) := by
  obtain ⟨h1, h2⟩ := pb_agrees2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS _ le_rfl
  funext y
  refine View.read_writes_apply_of_pieces _ _ _ _ h1 y (h2 y ?_)
  rw [trips_eq2]; exact (y 0).isLt

end
end Cert.GateUp.Hand
-- ==== Proof.GateUpBody.lean ====
module
public import proofs.«01_k».proof.Proof.GateUpDeq
public import Idealize.ShloMosaic.Lib.VecWindow
/-! # What one grid point of the gate and up kernel does

The body dequantises the two weight blocks into the scratches at the first visit of an expert, and at a live visit replaces the rows
of the output block that the visit owns. -/
@[expose] public section
set_option maxRecDepth 16384
set_option maxHeartbeats 4000000
noncomputable section
namespace Cert.GateUp.Hand
open Idealize.ShloMosaic Idealize.ShloMosaic.TcCoe Idealize.ShloMosaic.Tactic
open Cert.GateUp Cert.GateUp.Gen Cert.W4

variable {F : FTy → Type} [FloatOps F]

/-- The word of visit `v` in a table. -/
def at65 (T : S65.Idx → BitVec 32) (v : ℕ) : BitVec 32 := T (ix1 ⟨min v 64, by omega⟩)

/-- A table's word read at the grid's visit. -/
theorem word_eq (arg : Memref sig .tc .smem S65 .i32) (X : BufTy.Contents (Elt F) arg.view.ty) {o : Fin 1 → ℕ} (n : ℕ) (hn : n < 65)
    (e : o = ![n]) (inb : ∀ a, o a + S1.size a ≤ S65.size a) (h : 0 < S1.numel) :
    View.readAt (Elt F) arg.view (Rect.unit (s := S65) o S1.size inb).toLoadRect X (Shape.Idx.first h)
      = at65 (arg.view.read (Elt F) X) n := by
  subst e
  rw [View.readAt_eq_ld]
  unfold at65
  refine congrArg (arg.view.read (Elt F) X) (funext fun a => Fin.ext ?_)
  fin_cases a
  have hz : (Shape.Idx.first h (0 : Fin 1)).val < 1 := (Shape.Idx.first h (0 : Fin 1)).isLt
  change n + 1 * (Shape.Idx.first h (0 : Fin 1)).val = min n 64
  omega

/-- A scale read at an expert's word. -/
def at18 (A : S18.Idx → F .f32) (e : BitVec 32) : F .f32 := A (ix1 ⟨min e.toNat 17, by omega⟩)

theorem scale_eq (arg : Memref sig .tc .smem S18 .f32) (X : BufTy.Contents (Elt F) arg.view.ty) (w : BitVec 32) {o : Fin 1 → ℕ}
    (e : o = ![w.toNat]) (inb : ∀ a, o a + S1.size a ≤ S18.size a) (h : 0 < S1.numel) :
    View.readAt (Elt F) arg.view (Rect.unit (s := S18) o S1.size inb).toLoadRect X (Shape.Idx.first h)
      = at18 (arg.view.read (Elt F) X) w := by
  subst e
  rw [View.readAt_eq_ld]
  unfold at18
  refine congrArg (arg.view.read (Elt F) X) (funext fun a => Fin.ext ?_)
  fin_cases a
  have hz : (Shape.Idx.first h (0 : Fin 1)).val < 1 := (Shape.Idx.first h (0 : Fin 1)).isLt
  change w.toNat + 1 * (Shape.Idx.first h (0 : Fin 1)).val = min w.toNat 17
  have := inb 0
  change w.toNat + 1 ≤ 18 at this
  omega

theorem k0_off2_eq (i : grid0.Coords) : k0_off2 i = ![(i 1).val - 1] := by
  have r_i1 : (i 1).val < 65 := (i 1).isLt
  have h_arg1 : Affine.IsInt (BitVec.ofNat 32 (i 1).val) (((i 1).val : Int)) := Affine.ofNat _ (by omega)
  have h_c1_i32 : Affine.IsInt 1#32 (1) := Affine.ofNat _ (by omega)
  have h_v3 : Affine.IsInt _ (((i 1).val : Int) - 1) := Affine.subi h_arg1 h_c1_i32 (by omega)
  have h_c0_i32_0 : Affine.IsInt 0#32 (0) := Affine.ofNat _ (by omega)
  have h_v4 : Affine.IsInt _ ((max (((i 1).val : Int) - 1) 0)) := Affine.maxsi h_v3 h_c0_i32_0 (by omega)
  have h_v5 : Affine.IsInt _ ((max (((i 1).val : Int) - 1) 0)) := Affine.indexCast h_v4
  exact Affine.vec_cons h_v5 (by omega) <| Affine.vec_nil

/-- The visit is the first one of its column, or visits another expert than the visit before. -/
def fresh (T3 : S65.Idx → BitVec 32) (v : ℕ) : Prop := v = 0 ∨ at65 T3 v ≠ at65 T3 (v - 1)

instance (T3 : S65.Idx → BitVec 32) (v : ℕ) : Decidable (fresh T3 v) := inferInstanceAs (Decidable (_ ∨ _))

/-- The visit has work to do. -/
def live (T6 : S65.Idx → BitVec 32) (v : ℕ) : Prop := at65 T6 v = 1#32

instance (T6 : S65.Idx → BitVec 32) (v : ℕ) : Decidable (live T6 v) := inferInstanceAs (Decidable (_ = _))

/-- What a live visit stores into the output block. -/
def outv (T2 T3 T4 T5 : S65.Idx → BitVec 32) (v : ℕ) (X7 : Vec F S256x7168 .fp8e4m3) (D1 D3 : Vec F S7168x256 .bf16)
    (P : Vec F S1x1x256 .f32) (A1 A2 : S18.Idx → F .f32) (Y : Vec F S256x256 .fp8e4m3) : Vec F S256x256 .fp8e4m3 :=
  k0_pay3 (k0_pay32 X7 D1 (at18 A1 (at65 T3 v)) D3 (at18 A1 (at65 T3 v)) P (at18 A2 (at65 T3 v))) (k0_pay33 (F := F) (at65 T2 v))
    (k0_pay34 (F := F) (at65 T2 v) (at65 T4 v)) (k0_pay35 (F := F) (at65 T5 v)) Y

theorem cond2_iff (w : BitVec 32) : k0_cond2 w = 1#1 ↔ w = 1#32 := by
  unfold k0_cond2
  simp only [Scalar.cmpi, Scalar.extui, IntOp.cmpi]
  by_cases h : w = 1#32
  · subst h; decide
  · have e : (w == 1#32) = false := by simpa using h
    rw [e]; simp [h]

theorem cond1_iff (v : ℕ) (hv : v < 65) (a b : BitVec 32) :
    Scalar.cmpi .ne (Scalar.extui (Scalar.ori (Scalar.cmpi .eq (BitVec.ofNat 32 v) 0#32) (Scalar.cmpi .ne a b))) 0#32 = 1#1
      ↔ (v = 0 ∨ a ≠ b) := by
  have h0 : BitVec.ofNat 32 v = 0#32 ↔ v = 0 := by
    constructor
    · intro h; have := congrArg BitVec.toNat h; simp at this; omega
    · rintro rfl; rfl
  have e1 : (BitVec.ofNat 32 v == 0#32) = decide (v = 0) := by rw [← decide_eq_decide.mpr h0]; rfl
  have e2 : (a != b) = decide (a ≠ b) := by by_cases h : a = b <;> simp [h]
  simp only [Scalar.cmpi, Scalar.extui, Scalar.ori, IntOp.cmpi, IntOp.ori]
  rw [e1, e2]
  by_cases h1 : v = 0 <;> by_cases h2 : a = b <;> simp [h1, h2]

theorem chk_of (a b : BitVec 32) (hb : b.toNat < 18) : k0_chk1 a b := by
  intro _ x
  fin_cases x
  change b.toNat + 1 ≤ 18
  omega

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

theorem pay3_congr {q q' : FVec F S256x256 .fp8e4m3} {r r' : IVec S256x256 32} {s s' : IVec S256x256 1} {t t' : IVec S256x256 32} {y y' : Vec F S256x256 .fp8e4m3}
    (h1 : q = q') (h2 : r = r') (h3 : s = s') (h4 : t = t') (h5 : y = y') : k0_pay3 q r s t y = k0_pay3 q' r' s' t' y' := by
  rw [h1, h2, h3, h4, h5]

theorem pay32_congr {X X' : Vec F S256x7168 .fp8e4m3} {D1 D1' D3 D3' : Vec F S7168x256 .bf16} {a a' b b' : F .f32} {P P' : Vec F S1x1x256 .f32}
    (h1 : X = X') (h2 : D1 = D1') (h3 : a = a') (h4 : D3 = D3') (h5 : P = P') (h6 : b = b') :
    k0_pay32 X D1 a D3 a P b = k0_pay32 X' D1' a' D3' a' P' b' := by
  rw [h1, h2, h3, h4, h5, h6]

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x7168 .fp8e4m3) (harg7 : arg7.IsWhole) (arg8 : Memref sig .tc .vmem S1x3584x256 .i8) (harg8 : arg8.IsWhole) (arg9 : Memref sig .tc .vmem S1x56x256 .bf16) (harg9 : arg9.IsWhole) (arg10 : Memref sig .tc .vmem S1x3584x256 .i8) (harg10 : arg10.IsWhole) (arg11 : Memref sig .tc .vmem S1x56x256 .bf16) (harg11 : arg11.IsWhole) (arg12 : Memref sig .tc .vmem S1x1x256 .f32) (harg12 : arg12.IsWhole) (arg13 : Memref sig .tc .smem S18 .f32) (harg13 : arg13.IsWhole) (arg14 : Memref sig .tc .smem S18 .f32) (harg14 : arg14.IsWhole) (arg15 : Memref sig .tc .vmem S256x256 .fp8e4m3) (harg15 : arg15.IsWhole) (arg16 : Memref sig .tc .vmem S7168x256 .bf16) (harg16 : arg16.IsWhole) (arg17 : Memref sig .tc .vmem S7168x256 .bf16) (harg17 : arg17.IsWhole)

set_option maxHeartbeats 8000000 in
/-- One grid point, run on blocks of any contents. -/
theorem body_run (q : PosShare TreeShare) (X2 : Vec F S65 .i32) (X3 : Vec F S65 .i32) (X4 : Vec F S65 .i32) (X5 : Vec F S65 .i32) (X6 : Vec F S65 .i32) (X7 : Vec F S256x7168 .fp8e4m3) (X8 : Vec F S1x3584x256 .i8) (X9 : Vec F S1x56x256 .bf16) (X10 : Vec F S1x3584x256 .i8) (X11 : Vec F S1x56x256 .bf16) (X12 : Vec F S1x1x256 .f32) (X13 : Vec F S18 .f32) (X14 : Vec F S18 .f32) (X15 : Vec F S256x256 .fp8e4m3) (X16 : Vec F S7168x256 .bf16) (X17 : Vec F S7168x256 .bf16) (hex : (at65 X3 (i 1).val).toNat < 18) :
    iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17)
      ⊢ wp (M := 𝕄G) frame (wpE (defs₀ (F := F)) 𝒱 (c : Thread nD τ) bd) E (cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
            ∗ (∃ D, ⌜D = if fresh X3 (i 1).val then deq X8 X9 else X16⌝ ∗ owns (c : Thread nD τ) arg16 fullShare D
               ∗ (∃ D', ⌜D' = if fresh X3 (i 1).val then deq X10 X11 else X17⌝ ∗ owns (c : Thread nD τ) arg17 fullShare D'
                 ∗ (∃ O, ⌜O = if live X6 (i 1).val then outv X2 X3 X4 X5 (i 1).val X7 D D' X12 X13 X14 X15 else X15⌝ ∗ owns (c : Thread nD τ) arg15 fullShare O))))) := by
  have hv : (i 1).val < 65 := (i 1).isLt
  rw [Gen.cc0_gate_up_eq_skeleton]; unfold Gen.cc0_gate_up_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  have hw3 : (View.readAt (Elt F) arg3.view (Rect.unit (s := S65) (k0_off10 i) S1.size (k0_off10_inb i)).toLoadRect f3
      (Shape.Idx.first (numel1_S1 ▸ Nat.one_pos))).toNat < 18 := by
    rw [word_eq arg3 f3 _ hv (k0_off10_eq i), e3]; exact hex
  have hk : ∀ a b, b.toNat < 18 → k0_chk1 a b := fun a b hb => chk_of a b hb
  sl_exec
  by_cases h1 : body_run.sl.v10 c i arg3 f3 = 1#1
  · sl_exec (disch := first | sl_exact h1 | exact hk _ _ hw3)
    sl_step
    have hlive : k0_cond2 (body_run.sl.r_2 c i arg6 f6) = 1#1 ↔ live X6 (i 1).val := by
      rw [cond2_iff]; unfold live
      rw [show body_run.sl.r_2 c i arg6 f6 = at65 X6 (i 1).val from
        (word_eq arg6 f6 _ hv (k0_off9_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD1 : View.read (Elt F) arg16.view (arg16.view.writes (Elt F) f16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f8 f9 (Scf.trips k0_t1_loop.lb k0_t1_loop.ub k0_t1_loop.st))) = if fresh X3 (i 1).val then deq X8 X9 else X16 := by
      rw [if_pos (hfr.mp h1), ← e8, ← e9]; exact scratch_eq1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f8 f9 f16
    have hD2 : View.read (Elt F) arg17.view (arg17.view.writes (Elt F) f17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f10 f11 (Scf.trips k0_t2_loop.lb k0_t2_loop.ub k0_t2_loop.st))) = if fresh X3 (i 1).val then deq X10 X11 else X17 := by
      rw [if_pos (hfr.mp h1), ← e10, ← e11]; exact scratch_eq2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f10 f11 f17
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists f13; isplitr; · ipureintro; exact e13
      iexact H13
    isplitl [H14]
    · iexists f14; isplitr; · ipureintro; exact e14
      iexact H14
    iexists (if fresh X3 (i 1).val then deq X8 X9 else X16)
    isplitr
    · ipureintro; rfl
    isplitl [H16]
    · iexists _; isplitr
      swap
      · iexact H16
      · ipureintro; exact hD1
    iexists (if fresh X3 (i 1).val then deq X10 X11 else X17)
    isplitr
    · ipureintro; rfl
    isplitl [H17]
    · iexists _; isplitr
      swap
      · iexact H17
      · ipureintro; exact hD2
    iexists _
    isplitr
    swap
    · iexists _; isplitr
      swap
      · iexact H15
      · ipureintro; rfl
    · ipureintro
      rw [← hD1, ← hD2]
      split
      · rename_i hl
        rw [if_pos (hlive.mp hl)]
        refine (View.read_writes_full _ _ _ _ _).trans ?_
        unfold outv
        have t3 := (word_eq arg3 f3 _ hv (k0_off10_eq i) (k0_off10_inb i) (numel1_S1 ▸ Nat.one_pos)).trans (congrArg (fun T => at65 T (i 1).val) e3)
        refine pay3_congr ?_ ?_ ?_ ?_ ?_
        · unfold body_run.sl.r_9
          refine pay32_congr ?_ ?_ ?_ ?_ ?_ ?_
          · rw [View.readAt_full]; exact e7
          · unfold body_run.sl.v20; rw [View.readAt_full]
          · unfold body_run.sl.r_4
            exact (scale_eq arg13 f13 _ rfl _ _).trans (congrArg₂ at18 e13 t3)
          · unfold body_run.sl.v26; rw [View.readAt_full]
          · rw [View.readAt_full]; exact e12
          · unfold body_run.sl.r_5
            exact (scale_eq arg14 f14 _ rfl _ _).trans (congrArg₂ at18 e14 t3)
        · unfold body_run.sl.r_10 body_run.sl.r_6; exact congrArg (k0_pay33 (F := F)) ((word_eq arg2 f2 _ hv (k0_off12_eq i) _ _).trans (congrArg (fun T => at65 T (i 1).val) e2))
        · unfold body_run.sl.r_11 body_run.sl.r_6 body_run.sl.r_7
          exact congrArg₂ (k0_pay34 (F := F)) ((word_eq arg2 f2 _ hv (k0_off12_eq i) _ _).trans (congrArg (fun T => at65 T (i 1).val) e2)) ((word_eq arg4 f4 _ hv (k0_off12_eq i) _ _).trans (congrArg (fun T => at65 T (i 1).val) e4))
        · unfold body_run.sl.r_12 body_run.sl.r_8; exact congrArg (k0_pay35 (F := F)) ((word_eq arg5 f5 _ hv (k0_off12_eq i) _ _).trans (congrArg (fun T => at65 T (i 1).val) e5))
        · rw [View.readAt_full]; exact e15
      · rename_i hl
        rw [if_neg (fun h => hl (hlive.mpr h))]; exact e15
  · sl_exec (disch := first | sl_exact h1 | exact hk _ _ hw3)
    sl_step
    have hlive : k0_cond2 (body_run.sl.r_8 c i arg6 f6) = 1#1 ↔ live X6 (i 1).val := by
      rw [cond2_iff]; unfold live
      rw [show body_run.sl.r_8 c i arg6 f6 = at65 X6 (i 1).val from
        (word_eq arg6 f6 _ hv (k0_off9_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD1 : View.read (Elt F) arg16.view f16 = if fresh X3 (i 1).val then deq X8 X9 else X16 := by
      rw [if_neg (fun h => h1 (hfr.mpr h))]; exact e16
    have hD2 : View.read (Elt F) arg17.view f17 = if fresh X3 (i 1).val then deq X10 X11 else X17 := by
      rw [if_neg (fun h => h1 (hfr.mpr h))]; exact e17
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists f13; isplitr; · ipureintro; exact e13
      iexact H13
    isplitl [H14]
    · iexists f14; isplitr; · ipureintro; exact e14
      iexact H14
    iexists (if fresh X3 (i 1).val then deq X8 X9 else X16)
    isplitr
    · ipureintro; rfl
    isplitl [H16]
    · iexists _; isplitr
      swap
      · iexact H16
      · ipureintro; exact hD1
    iexists (if fresh X3 (i 1).val then deq X10 X11 else X17)
    isplitr
    · ipureintro; rfl
    isplitl [H17]
    · iexists _; isplitr
      swap
      · iexact H17
      · ipureintro; exact hD2
    iexists _
    isplitr
    swap
    · iexists _; isplitr
      swap
      · iexact H15
      · ipureintro; rfl
    · ipureintro
      rw [← hD1, ← hD2]
      split
      · rename_i hl
        rw [if_pos (hlive.mp hl)]
        refine (View.read_writes_full _ _ _ _ _).trans ?_
        unfold outv
        have t3 := (word_eq arg3 f3 _ hv (k0_off10_eq i) (k0_off10_inb i) (numel1_S1 ▸ Nat.one_pos)).trans (congrArg (fun T => at65 T (i 1).val) e3)
        refine pay3_congr ?_ ?_ ?_ ?_ ?_
        · unfold body_run.sl.r_20
          refine pay32_congr ?_ ?_ ?_ ?_ ?_ ?_
          · rw [View.readAt_full]; exact e7
          · rw [View.readAt_full]
          · unfold body_run.sl.r_15
            exact (scale_eq arg13 f13 _ rfl _ _).trans (congrArg₂ at18 e13 t3)
          · rw [View.readAt_full]
          · rw [View.readAt_full]; exact e12
          · unfold body_run.sl.r_16
            exact (scale_eq arg14 f14 _ rfl _ _).trans (congrArg₂ at18 e14 t3)
        · unfold body_run.sl.r_21 body_run.sl.r_17; exact congrArg (k0_pay33 (F := F)) ((word_eq arg2 f2 _ hv (k0_off12_eq i) _ _).trans (congrArg (fun T => at65 T (i 1).val) e2))
        · unfold body_run.sl.r_22 body_run.sl.r_17 body_run.sl.r_18
          exact congrArg₂ (k0_pay34 (F := F)) ((word_eq arg2 f2 _ hv (k0_off12_eq i) _ _).trans (congrArg (fun T => at65 T (i 1).val) e2)) ((word_eq arg4 f4 _ hv (k0_off12_eq i) _ _).trans (congrArg (fun T => at65 T (i 1).val) e4))
        · unfold body_run.sl.r_23 body_run.sl.r_19; exact congrArg (k0_pay35 (F := F)) ((word_eq arg5 f5 _ hv (k0_off12_eq i) _ _).trans (congrArg (fun T => at65 T (i 1).val) e5))
        · rw [View.readAt_full]; exact e15
      · rename_i hl
        rw [if_neg (fun h => hl (hlive.mpr h))]; exact e15
end
end Cert.GateUp.Hand
-- ==== Proof.GateUpRun.lean ====
module
public import proofs.«01_k».proof.Proof.GateUpBody
public import Idealize.ShloMosaic.Lib.Pipeline.Frame
public import Idealize.ShloMosaic.Lib.Pipeline.FrameBody
public import Idealize.ShloMosaic.Lib.Pipeline.TableIdle
/-! # The gate and up kernel over its whole grid

What the body leaves at a grid point, as a relation to what it found, and the run of the program by it. -/
@[expose] public section
set_option maxRecDepth 16384
set_option maxHeartbeats 400000
noncomputable section
namespace Cert.GateUp.Hand
open Idealize.ShloMosaic Idealize.ShloMosaic.TcCoe Idealize.ShloMosaic.Tactic
open Cert.GateUp Cert.GateUp.Gen Cert.W4

variable {F : FTy → Type} [FloatOps F]

/-- The column and the visit of a grid point. -/
theorem coords_val (t : Fin grid0.N) : (grid0.coords t 0).val = t.val / 65 ∧ (grid0.coords t 1).val = t.val % 65 := by
  have ht : t.val < 520 := t.isLt.trans_eq N_0
  have h0 : grid0.stride 0 = 65 := by decide
  have h1 : grid0.stride 1 = 1 := by decide
  refine ⟨?_, ?_⟩
  · change t.val / grid0.stride 0 % 8 = _
    rw [h0]; omega
  · change t.val / grid0.stride 1 % 65 = _
    rw [h1, Nat.div_one]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (UR sig nD τ) ℕ (cfg0 a) c where
  A w := A (Pipeline.arrRef spec0 w) c
  after w t Y X := X = Y
  Φ _ := iprop(emp)
  q _ := fullShare
  owed _ := 0

/-- The block of an input window at a point. -/
def inp (w : Fin 9) (t : Fin grid0.N) : ((cfg0 a).win w).block.Idx → Elt F ((cfg0 a).win w).elt :=
  (rd0 a A c).fetched w t (Classical.arbitrary _)

/-- The tables. -/
def tb (k : Fin 5) : S65.Idx → BitVec 32 := match k with
  | 0 => a.1 0 | 1 => a.1 1 | 2 => a.1 2 | 3 => a.1 3 | 4 => a.1 4

/-- The first scratch after point `t`: the first weight's block of its visit, dequantised. -/
def scr1 (t : Fin grid0.N) : Vec F S7168x256 .bf16 := deq (inp a A c 1 t) (inp a A c 2 t)

/-- The second scratch after point `t`: the third weight's block of its visit, dequantised. -/
def scr3 (t : Fin grid0.N) : Vec F S7168x256 .bf16 := deq (inp a A c 3 t) (inp a A c 4 t)

/-- What the output block holds after point `t`, if it held `Y` before. -/
def outF (t : Fin grid0.N) (Y : Vec F S256x256 .fp8e4m3) : Vec F S256x256 .fp8e4m3 :=
  if live (tb a 4) (grid0.coords t 1).val then
    outv (tb a 0) (tb a 1) (tb a 2) (tb a 3) (grid0.coords t 1).val (inp a A c 0 t) (scr1 a A c t) (scr3 a A c t) (inp a A c 5 t) (inp a A c 6 t) (inp a A c 7 t) Y
  else Y

/-- Before point `t` the scratches hold what the point before left in them. -/
def inv (t : Fin (grid0.N + 1)) : sProp 𝕄G :=
  iprop(Pipeline.prefHeld (Ix := Unit) (Name := ℕ) (U := UR sig nD τ) (Lvl := ℕ) pre0 c (fun _ => fullShare.right) a.1
    ∗ (∃ r, prngReg c r)
    ∗ (∃ D, ⌜∀ u : Fin grid0.N, u.val + 1 = t.val → D = scr1 a A c u⌝ ∗ owns (c : Thread nD τ) (Memref.whole cc0_scratch0) fullShare D)
    ∗ ∃ D, ⌜∀ u : Fin grid0.N, u.val + 1 = t.val → D = scr3 a A c u⌝ ∗ owns (c : Thread nD τ) (Memref.whole cc0_scratch1) fullShare D)

/-- The proof data of the run. -/
def rd : Pipeline.RDat τ (Elt F) Unit ℕ (UR sig nD τ) ℕ (cfg0 a) c where
  A w := A (Pipeline.arrRef spec0 w) c
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => X = outF a A c t Y
    | ⟨_ + 9, h⟩ => absurd h (Nat.not_lt.2 (Nat.le_add_left _ _))
  Φ t := inv a A c t
  q _ := fullShare
  owed _ := 0

/-- A buffer of an input window holds the window's block at every point. -/
theorem finds_inp (w : Fin 9) (hw : w ≠ 8) (t : Fin grid0.N) (Y : ((cfg0 a).win w).block.Idx → Elt F ((cfg0 a).win w).elt)
    (h : (rd a A c).Finds w t Y) : Y = inp a A c w t := by
  have hclip : ∀ (w : Fin 9) (i : grid0.Coords) (b), ((cfg0 a).win w).clip i b = none := by
    intro w i b; fin_cases w <;> rfl
  obtain ⟨d, rfl⟩ := (rd a A c).finds_in_eq_fetched w (by fin_cases w <;> first | rfl | exact absurd rfl hw)
    (fun t t' _ => by funext b; rw [hclip])
    (fun t Y X h => by fin_cases w <;> first | exact h | exact absurd rfl hw) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (UR sig nD τ) ℕ (cfg0 a) c) w t (fun b => hclip w _ b) _ _

/-- The word of a table an index map reads. -/
theorem pfAt (pf : S65.Idx → BitVec 32) (t : Fin grid0.N) (h : 0 < S1.numel) :
    pf ((Rect.unit (s := S65) (k0_off1 (grid0.coords t)) S1.size (k0_off1_inb (grid0.coords t))).emb (Shape.Idx.first h)) = at65 pf (grid0.coords t 1).val := by
  unfold at65
  refine congrArg pf (funext fun b => Fin.ext ?_)
  fin_cases b
  have e := congrFun (k0_off1_eq (grid0.coords t)) 0
  have hv : (grid0.coords t 1).val < 65 := (grid0.coords t 1).isLt
  have hf : (Shape.Idx.first h (0 : Fin 1)).val < 1 := (Shape.Idx.first h (0 : Fin 1)).isLt
  change k0_off1 (grid0.coords t) 0 + 1 * (Shape.Idx.first h (0 : Fin 1)).val = min _ 64
  have e' : k0_off1 (grid0.coords t) 0 = (grid0.coords t 1).val := e
  rw [e']
  omega

/-- The block index of the rows' window is the visit's tile. -/
theorem index0 (t : Fin grid0.N) : ((cfg0 a).win 0).index t = ![(at65 (tb a 0) (grid0.coords t 1).val).toNat, 0] := by
  refine Eq.trans ?_ (congrArg (fun w : BitVec 32 => ![w.toNat, 0]) (pfAt (tb a 0) t (numel1_S1 ▸ Nat.one_pos)))
  rfl

theorem ofNat_col (t : Fin grid0.N) : (BitVec.ofNat 32 (grid0.coords t 0).val).toNat = (grid0.coords t 0).val := by
  have : (grid0.coords t 0).val < 8 := (grid0.coords t 0).isLt
  rw [BitVec.toNat_ofNat]; omega

/-- The block index of a weight window is the visit's expert and column. -/
theorem index1 (t : Fin grid0.N) : ((cfg0 a).win 1).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index2 (t : Fin grid0.N) : ((cfg0 a).win 2).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index3 (t : Fin grid0.N) : ((cfg0 a).win 3).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index4 (t : Fin grid0.N) : ((cfg0 a).win 4).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index5 (t : Fin grid0.N) : ((cfg0 a).win 5).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

/-- The block index of the output's window is the visit's tile and the column. -/
theorem index8 (t : Fin grid0.N) : ((cfg0 a).win 8).index t = ![(at65 (tb a 0) (grid0.coords t 1).val).toNat, (grid0.coords t 0).val] := by
  refine Eq.trans ?_ (congrArg₂ (fun (w : BitVec 32) (n : ℕ) => ![w.toNat, n]) (pfAt (tb a 0) t (numel1_S1 ▸ Nat.one_pos)) (ofNat_col t))
  rfl

/-- The expert of a visit is one of the eighteen. -/
theorem ex_lt (t : Fin grid0.N) : (at65 (tb a 1) (grid0.coords t 1).val).toNat < 18 := by
  obtain ⟨h, _⟩ := a.2.2.1 (grid0.coords t)
  have h0 := h (0 : Fin 3)
  have e : cc0_transform_1 k0_off1_inb numel1_S1 a.1 (grid0.coords t) (0 : Fin 3) = (at65 (tb a 1) (grid0.coords t 1).val).toNat := congrFun (index1 a t) (0 : Fin 3)
  rw [e] at h0
  have h1 : ((at65 (tb a 1) (grid0.coords t 1).val).toNat + 1) * 1 ≤ 18 := h0
  omega

/-- A block is fetched the same at two points of one block index. -/
theorem inp_congr (w : Fin 9) (t u : Fin grid0.N) (h : ((cfg0 a).win w).index t = ((cfg0 a).win w).index u) : inp a A c w t = inp a A c w u :=
  (rd0 a A c).fetched_congr w h (by funext b; fin_cases w <;> rfl) _

/-- A visit that keeps the expert of the visit before it finds the scratch it needs. -/
theorem scr1_stale (t u : Fin grid0.N) (hu : u.val + 1 = t.val) (h : ¬ fresh (tb a 1) (grid0.coords t 1).val) : scr1 a A c u = scr1 a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr1
  rw [inp_congr a A c 1 u t (by rw [index1, index1, e0, e1, h1]), inp_congr a A c 2 u t (by rw [index2, index2, e0, e1, h1])]

/-- What the body leaves in the scratch is the visit's block, made now or kept from the point before. -/
theorem scr1_next (t : Fin grid0.N) (D D' : Vec F S7168x256 .bf16) (hD : ∀ u : Fin grid0.N, u.val + 1 = t.val → D = scr1 a A c u)
    (h : D' = if fresh (tb a 1) (grid0.coords t 1).val then deq (inp a A c 1 t) (inp a A c 2 t) else D) : D' = scr1 a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr1_stale a A c t ⟨n, hlt⟩ hn hf]

/-- A visit that keeps the expert of the visit before it finds the scratch it needs. -/
theorem scr3_stale (t u : Fin grid0.N) (hu : u.val + 1 = t.val) (h : ¬ fresh (tb a 1) (grid0.coords t 1).val) : scr3 a A c u = scr3 a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr3
  rw [inp_congr a A c 3 u t (by rw [index3, index3, e0, e1, h1]), inp_congr a A c 4 u t (by rw [index4, index4, e0, e1, h1])]

/-- What the body leaves in the scratch is the visit's block, made now or kept from the point before. -/
theorem scr3_next (t : Fin grid0.N) (D D' : Vec F S7168x256 .bf16) (hD : ∀ u : Fin grid0.N, u.val + 1 = t.val → D = scr3 a A c u)
    (h : D' = if fresh (tb a 1) (grid0.coords t 1).val then deq (inp a A c 3 t) (inp a A c 4 t) else D) : D' = scr3 a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr3_stale a A c t ⟨n, hlt⟩ hn hf]

theorem owns_whole (b : Ref sig .tc) (q : PosShare TreeShare) (X : b.ty.Contents (Elt F)) :
    (owns (c : Thread nD τ) (Memref.whole b) q X : sProp 𝕄G) = ((c.tc : Thread nD τ).loc b ↦{q} X) := by
  have hs : (Memref.whole b).view.set = Finset.univ := View.set_whole _
  unfold owns
  rw [hs]
  have h1 : iprop(∃ f, ⌜(Memref.whole b).view.read (Elt F) f = X⌝ ∗ ((Memref.whole b).view.loc (c : Thread nD τ) ↦[Finset.univ]{q} f))
      ⊢ ((c.tc : Thread nD τ).loc b ↦{q} X : sProp 𝕄G) := by
    iintro ⟨%f, %hf, H⟩
    have : f = X := hf
    subst this
    iexact H
  have h2 : ((c.tc : Thread nD τ).loc b ↦{q} X : sProp 𝕄G)
      ⊢ iprop(∃ f, ⌜(Memref.whole b).view.read (Elt F) f = X⌝ ∗ ((Memref.whole b).view.loc (c : Thread nD τ) ↦[Finset.univ]{q} f)) := by
    iintro H
    iexists X
    isplitr
    · ipureintro; rfl
    iexact H
  exact BI.equiv_iff.mp ⟨h1, h2⟩

theorem held_eq : (Pipeline.prefHeld (Ix := Unit) (Name := ℕ) (U := UR sig nD τ) (Lvl := ℕ) pre0 c (fun _ => fullShare.right) a.1 : sProp 𝕄G)
    = iprop(owns (c : Thread nD τ) (Memref.whole main_v49) fullShare.right (tb a 0) ∗ owns (c : Thread nD τ) (Memref.whole main_v25) fullShare.right (tb a 1)
      ∗ owns (c : Thread nD τ) (Memref.whole main_v56) fullShare.right (tb a 2) ∗ owns (c : Thread nD τ) (Memref.whole main_v63) fullShare.right (tb a 3)
      ∗ owns (c : Thread nD τ) (Memref.whole main_v66) fullShare.right (tb a 4)) := by
  unfold Pipeline.prefHeld
  refine (bigSep_univ_eq_bigSepL [(0 : Fin 5), (1 : Fin 5), (2 : Fin 5), (3 : Fin 5), (4 : Fin 5)] (by decide) (by decide) _).trans ?_
  rw [owns_whole, owns_whole, owns_whole, owns_whole, owns_whole]
  rfl

/-- The staging buffer of a window at a point. -/
abbrev st (w : Fin 9) (t : Fin grid0.N) := ((cfg0 a).win w).stage ((cfg0 a).slots t w)

/-- The body at a point, from the invariant and the blocks to the invariant after it. -/
theorem point_run (t : Fin grid0.N) (O : Vec F S256x256 .fp8e4m3) :
    iprop(inv a A c t.castSucc
        ∗ owns (c : Thread nD τ) (st a 0 t) fullShare (inp a A c 0 t) ∗ owns (c : Thread nD τ) (st a 1 t) fullShare (inp a A c 1 t) ∗ owns (c : Thread nD τ) (st a 2 t) fullShare (inp a A c 2 t) ∗ owns (c : Thread nD τ) (st a 3 t) fullShare (inp a A c 3 t) ∗ owns (c : Thread nD τ) (st a 4 t) fullShare (inp a A c 4 t) ∗ owns (c : Thread nD τ) (st a 5 t) fullShare (inp a A c 5 t) ∗ owns (c : Thread nD τ) (st a 6 t) fullShare (inp a A c 6 t) ∗ owns (c : Thread nD τ) (st a 7 t) fullShare (inp a A c 7 t)
        ∗ owns (c : Thread nD τ) (st a 8 t) fullShare O)
      ⊢ wp (M := 𝕄G) frame (wpE (defs₀ (F := F)) Variants.none (c : Thread nD τ) none) Set.univ
          (cc0_gate_up (F := F) (grid0.coords t) (Memref.whole main_v49) (Memref.isWhole_whole _) (Memref.whole main_v25) (Memref.isWhole_whole _) (Memref.whole main_v56) (Memref.isWhole_whole _) (Memref.whole main_v63) (Memref.isWhole_whole _) (Memref.whole main_v66) (Memref.isWhole_whole _)
            (spec0_0.stage ((cfg0 a).slots t 0)) (hstage0_0 (((cfg0 a).slots t 0).cast nbuf0_0))
            (spec0_1.stage ((cfg0 a).slots t 1)) (hstage0_1 (((cfg0 a).slots t 1).cast nbuf0_1))
            (spec0_2.stage ((cfg0 a).slots t 2)) (hstage0_2 (((cfg0 a).slots t 2).cast nbuf0_2))
            (spec0_3.stage ((cfg0 a).slots t 3)) (hstage0_3 (((cfg0 a).slots t 3).cast nbuf0_3))
            (spec0_4.stage ((cfg0 a).slots t 4)) (hstage0_4 (((cfg0 a).slots t 4).cast nbuf0_4))
            (spec0_5.stage ((cfg0 a).slots t 5)) (hstage0_5 (((cfg0 a).slots t 5).cast nbuf0_5))
            (spec0_6.stage ((cfg0 a).slots t 6)) (hstage0_6 (((cfg0 a).slots t 6).cast nbuf0_6))
            (spec0_7.stage ((cfg0 a).slots t 7)) (hstage0_7 (((cfg0 a).slots t 7).cast nbuf0_7))
            (spec0_8.stage ((cfg0 a).slots t 8)) (hstage0_8 (((cfg0 a).slots t 8).cast nbuf0_8))
            (Memref.whole cc0_scratch0) (Memref.isWhole_whole _) (Memref.whole cc0_scratch1) (Memref.isWhole_whole _))
          fun _ => iprop(inv a A c t.succ
        ∗ owns (c : Thread nD τ) (st a 0 t) fullShare (inp a A c 0 t) ∗ owns (c : Thread nD τ) (st a 1 t) fullShare (inp a A c 1 t) ∗ owns (c : Thread nD τ) (st a 2 t) fullShare (inp a A c 2 t) ∗ owns (c : Thread nD τ) (st a 3 t) fullShare (inp a A c 3 t) ∗ owns (c : Thread nD τ) (st a 4 t) fullShare (inp a A c 4 t) ∗ owns (c : Thread nD τ) (st a 5 t) fullShare (inp a A c 5 t) ∗ owns (c : Thread nD τ) (st a 6 t) fullShare (inp a A c 6 t) ∗ owns (c : Thread nD τ) (st a 7 t) fullShare (inp a A c 7 t)
        ∗ owns (c : Thread nD τ) (st a 8 t) fullShare (outF a A c t O)) := by
  unfold inv
  rw [held_eq]
  iintro ⟨⟨⟨T0, T1, T2, T3, T4⟩, HR, ⟨%D1, %hD1, HD1⟩, ⟨%D3, %hD3, HD3⟩⟩, W0, W1, W2, W3, W4, W5, W6, W7, W8⟩
  iapply (wp_wand (M := 𝕄G)) $$ [T0 T1 T2 T3 T4 W0 W1 W2 W3 W4 W5 W6 W7 W8 HD1 HD3]
  · iapply (body_run (F := F) Variants.none c none Set.univ (grid0.coords t) _ _ _ _ _ _ _ _ _ _ _ _ _ _ _ _ _ _ _ _ _ _ _ _ _ _ _ _ _ _ _ _
      fullShare.right (tb a 0) (tb a 1) (tb a 2) (tb a 3) (tb a 4) (inp a A c 0 t) (inp a A c 1 t) (inp a A c 2 t) (inp a A c 3 t) (inp a A c 4 t) (inp a A c 5 t) (inp a A c 6 t) (inp a A c 7 t) O D1 D3 (ex_lt a t))
    isplitl [T0]; · iexact T0
    isplitl [T1]; · iexact T1
    isplitl [T2]; · iexact T2
    isplitl [T3]; · iexact T3
    isplitl [T4]; · iexact T4
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [HD1]; · iexact HD1
    iexact HD3
  iintro %r ⟨T0, T1, T2, T3, T4, W0, W1, W2, W3, W4, W5, W6, W7, ⟨%D1', %hD1', HD1, %D3', %hD3', HD3, %O', %hO, W8⟩⟩
  have hscr1 : D1' = scr1 a A c t := scr1_next a A c t D1 D1' hD1 hD1'
  subst hscr1
  have hscr3 : D3' = scr3 a A c t := scr3_next a A c t D3 D3' hD3 hD3'
  subst hscr3
  have hOF : O' = outF a A c t O := hO
  subst hOF
  isplitl [T0 T1 T2 T3 T4 HR HD1 HD3]
  · isplitl [T0 T1 T2 T3 T4]
    · isplitl [T0]; · iexact T0
      isplitl [T1]; · iexact T1
      isplitl [T2]; · iexact T2
      isplitl [T3]; · iexact T3
      iexact T4
    isplitl [HR]; · iexact HR
    isplitl [HD1]
    · iexists (scr1 a A c t)
      isplitr
      · ipureintro
        intro u hu
        have : u = t := Fin.ext (by have : t.succ.val = t.val + 1 := rfl; omega)
        rw [this]
      iexact HD1
    iexists (scr3 a A c t)
    isplitr
    · ipureintro
      intro u hu
      have : u = t := Fin.ext (by have : t.succ.val = t.val + 1 := rfl; omega)
      rw [this]
    iexact HD3
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iexact W8

theorem owesAt_eq (t : Fin grid0.N) : ((rd a A c).owesAt () t.castSucc : sProp 𝕄G) = (rd a A c).owesAt () t.succ := rfl

/-- The body at every point takes the invariant and the blocks to those of the next point. -/
theorem body_ob : (rd a A c).BodyObligation defs₀ Variants.none () Set.univ := by
  intro t Y hY
  have h0 : Y 0 = inp a A c 0 t := finds_inp a A c 0 (by decide) t _ (hY 0)
  have h1 : Y 1 = inp a A c 1 t := finds_inp a A c 1 (by decide) t _ (hY 1)
  have h2 : Y 2 = inp a A c 2 t := finds_inp a A c 2 (by decide) t _ (hY 2)
  have h3 : Y 3 = inp a A c 3 t := finds_inp a A c 3 (by decide) t _ (hY 3)
  have h4 : Y 4 = inp a A c 4 t := finds_inp a A c 4 (by decide) t _ (hY 4)
  have h5 : Y 5 = inp a A c 5 t := finds_inp a A c 5 (by decide) t _ (hY 5)
  have h6 : Y 6 = inp a A c 6 t := finds_inp a A c 6 (by decide) t _ (hY 6)
  have h7 : Y 7 = inp a A c 7 t := finds_inp a A c 7 (by decide) t _ (hY 7)
  rw [bigSep_W0, bigSep_W0, h0, h1, h2, h3, h4, h5, h6, h7]
  have key := point_run a A c t (Y 8)
  refine BIBase.Entails.trans ?_ ((sep_mono_left key (Q := (rd a A c).owesAt () t.castSucc)).trans ((wp_frame_r (M := 𝕄G) _ _ _).trans (wp_mono (M := 𝕄G) _ _ _ fun r => ?_)))
  · change iprop(inv a A c t.castSucc ∗ _) ⊢ _
    iintro ⟨HI, HO, W0, W1, W2, W3, W4, W5, W6, W7, W8⟩
    isplitr [HO]
    · isplitl [HI]; · iexact HI
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      iexact W8
    iexact HO
  · change _ ⊢ iprop(inv a A c t.succ ∗ _)
    iintro ⟨⟨HI, W0, W1, W2, W3, W4, W5, W6, W7, W8⟩, HO⟩
    isplitl [HI]; · iexact HI
    isplitl [HO]; · iexact HO
    isplitl [W0]
    · iexists (inp a A c 0 t); isplitr; · ipureintro; rfl
      iexact W0
    isplitl [W1]
    · iexists (inp a A c 1 t); isplitr; · ipureintro; rfl
      iexact W1
    isplitl [W2]
    · iexists (inp a A c 2 t); isplitr; · ipureintro; rfl
      iexact W2
    isplitl [W3]
    · iexists (inp a A c 3 t); isplitr; · ipureintro; rfl
      iexact W3
    isplitl [W4]
    · iexists (inp a A c 4 t); isplitr; · ipureintro; rfl
      iexact W4
    isplitl [W5]
    · iexists (inp a A c 5 t); isplitr; · ipureintro; rfl
      iexact W5
    isplitl [W6]
    · iexists (inp a A c 6 t); isplitr; · ipureintro; rfl
      iexact W6
    isplitl [W7]
    · iexists (inp a A c 7 t); isplitr; · ipureintro; rfl
      iexact W7
    iexists (outF a A c t (Y 8)); isplitr; · ipureintro; rfl
    iexact W8

end
end Cert.GateUp.Hand
-- ==== Proof.GateUpLaunch.lean ====
module
public import proofs.«01_k».proof.Proof.GateUpRun
public import proofs.«01_k».proof.Proof.Gen.GateUp.Launch
public import Idealize.ShloMosaic.Lib.StableHlo.RunRead
/-! # The run of the gate and up program

The host's operations build the tables, and the kernel runs over its grid with them. -/
@[expose] public section
set_option maxRecDepth 16384
set_option maxHeartbeats 400000
noncomputable section
namespace Cert.GateUp.Hand
open Idealize.ShloMosaic Idealize.ShloMosaic.TcCoe Idealize.ShloMosaic.Tactic
open Cert.GateUp Cert.GateUp.Gen Cert.W4
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-- The lines of the host before the kernel. -/
abbrev lines : List (List (HloOp τ sig (Elt F))) :=
  [hostOps0, hostOps0_1, hostOps0_2, hostOps0_3, hostOps0_4, hostOps0_5, hostOps0_6, hostOps0_7, hostOps0_8]

/-- The buffers as the kernel finds them. -/
def V (m : (ℓ : Loc nD τ sig) → Buf (Elt F) ℓ) (c : Dev nD) (b : Ref sig .tc) : Buf (Elt F) ((c.tc : Thread nD τ).loc b) :=
  StableHlo.after (lines (F := F)).flatten (fun b => m (c, b)) b

variable (m : (ℓ : Loc nD τ sig) → Buf (Elt F) ℓ) (g : Dev nD → PrngReg)

theorem hmain : Pipeline.HMainP (Ix := Unit) (Name := ℕ) (U := UR sig nD τ) (Lvl := ℕ) (pcfgs (F := F)) 0 (defs₀ (F := F)) Variants.none m (main (F := F)) (V m) :=
  Pipeline.hmainP_prefixes pcfgs 0 defs₀ Variants.none m main lines
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl

attribute [irreducible] V

/-- The proof data at the buffers the kernel finds. -/
abbrev rdV (a : (pcfg0 (F := F)).Adm) (c : Dev nD) := rd a (fun b c => V m c b) c

theorem rd_in (a : (pcfg0 (F := F)).Adm) (c : Dev nD) :
    iprop(Pipeline.ΦA spec0 c ∗ Pipeline.ΦT pre0 a.1 c) ⊢ (inv a (fun b c => V m c b) c 0 : sProp 𝕄G) := by
  unfold Pipeline.ΦA Pipeline.ΦT inv
  rw [scopedRest0_eq]
  simp only [owns_whole]
  iintro ⟨⟨⟨⟨%f, HS⟩, ⟨%f', HS'⟩⟩, HR⟩, HT⟩
  isplitl [HT]; · iexact HT
  isplitl [HR]; · iexact HR
  isplitl [HS]
  · iexists f
    isplitr
    · ipureintro
      intro u hu
      exact absurd hu (Nat.succ_ne_zero _)
    iexact HS
  iexists f'
  isplitr
  · ipureintro
    intro u hu
    exact absurd hu (Nat.succ_ne_zero _)
  iexact HS'

theorem rd_out (a : (pcfg0 (F := F)).Adm) (c : Dev nD) :
    (inv a (fun b c => V m c b) c (Fin.last grid0.N) : sProp 𝕄G) ⊢ Pipeline.ΦA spec0 c := by
  unfold Pipeline.ΦA inv
  rw [scopedRest0_eq]
  simp only [owns_whole]
  iintro ⟨HT, HR, ⟨%D, %hD, HD⟩, ⟨%D', %hD', HD'⟩⟩
  isplitl [HD HD']
  · isplitl [HD]
    · iexists D
      iexact HD
    iexists D'
    iexact HD'
  iexact HR

set_option backward.isDefEq.respectTransparency.types false in
/-- The program runs, whenever the tables the host builds are admissible. -/
theorem run_main (a : (pcfg0 (F := F)).Adm) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_track (pcfgs (F := F)) (fun _ => a) (0 : Fin 1) launch0 defs₀ Variants.none (rdV m a) m g main
    (fun c => body_ob a _ c) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)

theorem arg6_rest : main_arg6 ∈ Pipeline.restRefs sig spec0 := Pipeline.mem_restRefs_of _ rfl (by decide)

theorem A_0 (a : (pcfg0 (F := F)).Adm) (c : Dev nD) : (rdV m a c).A 0 = m ((c : Thread nD τ).loc main_arg1) := V_arg1 m c
theorem A_1 (a : (pcfg0 (F := F)).Adm) (c : Dev nD) : (rdV m a c).A 1 = m ((c : Thread nD τ).loc main_arg2) := V_arg2 m c
theorem A_2 (a : (pcfg0 (F := F)).Adm) (c : Dev nD) : (rdV m a c).A 2 = m ((c : Thread nD τ).loc main_arg3) := V_arg3 m c
theorem A_3 (a : (pcfg0 (F := F)).Adm) (c : Dev nD) : (rdV m a c).A 3 = m ((c : Thread nD τ).loc main_arg4) := V_arg4 m c
theorem A_4 (a : (pcfg0 (F := F)).Adm) (c : Dev nD) : (rdV m a c).A 4 = m ((c : Thread nD τ).loc main_arg5) := V_arg5 m c
theorem A_6 (a : (pcfg0 (F := F)).Adm) (c : Dev nD) : (rdV m a c).A 6 = m ((c : Thread nD τ).loc main_arg7) := V_arg7 m c
theorem A_7 (a : (pcfg0 (F := F)).Adm) (c : Dev nD) : (rdV m a c).A 7 = m ((c : Thread nD τ).loc main_arg8) := V_arg8 m c

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact ((h c).2 main_arg0 arg0_rest).trans (V_arg0 m c)
  · have e := h.arr_in c 0 rfl
    rw [A_0] at e; exact e
  · have e := h.arr_in c 1 rfl
    rw [A_1] at e; exact e
  · have e := h.arr_in c 2 rfl
    rw [A_2] at e; exact e
  · have e := h.arr_in c 3 rfl
    rw [A_3] at e; exact e
  · have e := h.arr_in c 4 rfl
    rw [A_4] at e; exact e
  · exact ((h c).2 main_arg6 arg6_rest).trans (V_arg6 m c)
  · have e := h.arr_in c 6 rfl
    rw [A_6] at e; exact e
  · have e := h.arr_in c 7 rfl
    rw [A_7] at e; exact e

end Cert.GateUp.Hand
-- ==== Proof.GateUpTables.lean ====
module
public import proofs.«01_k».proof.Proof.GateUpLaunch
public import proofs.«01_k».proof.Proof.Rows
/-! # The tables the host hands to the kernel -/
@[expose] public section
set_option maxRecDepth 16384
set_option maxHeartbeats 400000
noncomputable section
namespace Cert.GateUp.Hand
open Idealize.ShloMosaic Idealize.ShloMosaic.TcCoe Idealize.ShloMosaic.Tactic
open Cert.GateUp Cert.GateUp.Gen Cert.W4
open Idealize.ShloMosaic.Routing Idealize.ShloMosaic.ValueIdx
variable {F : FTy → Type} [FloatOps F]
variable (m : (ℓ : Loc nD τ sig) → Buf (Elt F) ℓ) (c : Dev nD)

theorem sh : Sh where
  b00 := bcast_S_S_
  win := reduceWindows_S18_S18_w18s1p17_0
  h0 := h_S_
  b18 := bcast_S_S18
  sl := slices_S18_S1_17
  sc := shapeCasts_S1_S_
  b65 := bcast_S_S65
  col := bcast_S65_S65x1_0
  row := bcast_S18_S1x18_1
  cols := bcast_S65x1_S65x18_0_1
  rows := bcast_S1x18_S65x18_0_1
  red := reducesTo_S65x18_S65_d1
  lt := natLt_1_32

/-- The experts' row counts. -/
abbrev gs : IVec (shape1 18) 32 := m ((c : Thread nD τ).loc main_arg0)

theorem V_ex : V m c main_v25 = wEx sh (gs m c) := by
  unfold V
  after_reads_simp
  simp -implicitDefEqProofs only [StableHlo.TRef.toBuf, StableHlo.TRef.ofBuf, cast_cast, cast_eq, id]
  rfl
theorem V_live : V m c main_v66 = wLive sh (gs m c) := by
  unfold V
  after_reads_simp
  simp -implicitDefEqProofs only [StableHlo.TRef.toBuf, StableHlo.TRef.ofBuf, cast_cast, cast_eq, id]
  rfl
theorem V_lo : V m c main_v56 = wTake sh gather_S18_S65x1_S65_n_0_n_n_0_1_1 (gs m c) (wStart sh (gs m c)) := by
  unfold V
  after_reads_simp
  simp -implicitDefEqProofs only [StableHlo.TRef.toBuf, StableHlo.TRef.ofBuf, cast_cast, cast_eq, id]
  rfl
theorem V_hi : V m c main_v63 = wTake sh gather_S18_S65x1_S65_n_0_n_n_0_1_1 (gs m c) (wCum sh (gs m c)) := by
  unfold V
  after_reads_simp
  simp -implicitDefEqProofs only [StableHlo.TRef.toBuf, StableHlo.TRef.ofBuf, cast_cast, cast_eq, id]
  rfl
theorem V_tile : V m c main_v49 = wTile sh gather_S18_S65x1_S65_n_0_n_n_0_1_1 (gs m c) := by
  unfold V
  after_reads_simp
  simp -implicitDefEqProofs only [StableHlo.TRef.toBuf, StableHlo.TRef.ofBuf, cast_cast, cast_eq, id]
  rfl

end Cert.GateUp.Hand
-- ==== Proof.GateUpAdm.lean ====
module
public import proofs.«01_k».proof.Proof.GateUpTables
/-! # The tables are admissible

Under the precondition every visit's tile is one of the 48 and its expert one of the eighteen, so that every block lies inside its array. -/
@[expose] public section
set_option maxRecDepth 16384
set_option maxHeartbeats 400000
noncomputable section
namespace Cert.GateUp.Hand
open Idealize.ShloMosaic Idealize.ShloMosaic.TcCoe Idealize.ShloMosaic.Tactic
open Cert.GateUp Cert.GateUp.Gen Cert.W4
open Idealize.ShloMosaic.Routing
open Idealize.SL.Sem
variable {F : FTy → Type} [FloatOps F]
variable (m : (ℓ : Loc nD τ sig) → Buf (Elt F) ℓ)

/-- The tables as the kernel finds them. -/
def pf0 : pre0.Contents (Elt F) := fun k => V m 0 (pre0.ref k)

/-- The number of rows of an expert. -/
abbrev gn : ℕ → ℕ := cnt (gs m 0)

variable (hs : sm (gn m) 18 = 12288)
include hs

omit hs in
theorem at65_lt (T : S65.Idx → BitVec 32) (v : ℕ) (hv : v < 65) : at65 T v = T (ValueIdx.ix1 ⟨v, hv⟩) := by
  unfold at65
  have e : min v 64 = v := by omega
  simp only [e]
  rfl

theorem tile_at (v : ℕ) (hv : v < 65) : at65 (V m 0 main_v49) v = BitVec.ofNat 32 (tile (gn m) v) := by
  rw [at65_lt _ v hv]
  exact (congrFun (V_tile m 0) _).trans (wTile_ap sh _ (gs m 0) (gn m) (cnt_word _) hs rfl rfl rfl rfl ⟨v, hv⟩)

theorem ex_at (v : ℕ) (hv : v < 65) : at65 (V m 0 main_v25) v = BitVec.ofNat 32 (ex (gn m) v) := by
  rw [at65_lt _ v hv]
  exact (congrFun (V_ex m 0) _).trans (wEx_ap sh (gs m 0) (gn m) (cnt_word _) hs ⟨v, hv⟩)

theorem lo_at (v : ℕ) (hv : v < 65) : at65 (V m 0 main_v56) v = BitVec.ofNat 32 (sm (gn m) (ex (gn m) v)) := by
  rw [at65_lt _ v hv]
  exact (congrFun (V_lo m 0) _).trans ((wTake_ap sh _ (gs m 0) (gn m) (cnt_word _) hs rfl rfl rfl rfl _ ⟨v, hv⟩ (ex_place (gn m) hs v).1).trans
    (wStart_ap sh (gs m 0) (gn m) (cnt_word _) hs _))

theorem hi_at (v : ℕ) (hv : v < 65) : at65 (V m 0 main_v63) v = BitVec.ofNat 32 (sm (gn m) (ex (gn m) v + 1)) := by
  rw [at65_lt _ v hv]
  exact (congrFun (V_hi m 0) _).trans ((wTake_ap sh _ (gs m 0) (gn m) (cnt_word _) hs rfl rfl rfl rfl _ ⟨v, hv⟩ (ex_place (gn m) hs v).1).trans
    (wCum_ap sh (gs m 0) (gn m) (cnt_word _) _ (gn m) (cnt_word _) _))

theorem live_at (v : ℕ) (hv : v < 65) : at65 (V m 0 main_v66) v = BitVec.ofNat 32 (if v < total (gn m) then 1 else 0) := by
  rw [at65_lt _ v hv]
  exact (congrFun (V_live m 0) _).trans (wLive_ap sh (gs m 0) (gn m) (cnt_word _) hs ⟨v, hv⟩)

omit hs in
/-- The word of a table an index map reads. -/
theorem pfAtI (pf : S65.Idx → BitVec 32) (i : grid0.Coords) (h : 0 < S1.numel) :
    pf ((Rect.unit (s := S65) (k0_off1 i) S1.size (k0_off1_inb i)).emb (Shape.Idx.first h)) = at65 pf (i 1).val := by
  unfold at65
  refine congrArg pf (funext fun b => Fin.ext ?_)
  fin_cases b
  have e := congrFun (k0_off1_eq i) 0
  have hv : (i 1).val < 65 := (i 1).isLt
  have hf : (Shape.Idx.first h (0 : Fin 1)).val < 1 := (Shape.Idx.first h (0 : Fin 1)).isLt
  change k0_off1 i 0 + 1 * (Shape.Idx.first h (0 : Fin 1)).val = min _ 64
  have e' : k0_off1 i 0 = (i 1).val := e
  rw [e']
  omega

omit hs in
theorem ix_row (i : grid0.Coords) : cc0_transform_0 k0_off1_inb numel1_S1 (pf0 m) i = ![(at65 (V m 0 main_v49) (i 1).val).toNat, 0] := by
  refine Eq.trans ?_ (congrArg (fun w : BitVec 32 => ![w.toNat, 0]) (pfAtI (V m 0 main_v49) i (numel1_S1 ▸ Nat.one_pos)))
  rfl

omit hs in
theorem colI (i : grid0.Coords) : (BitVec.ofNat 32 (i 0).val).toNat = (i 0).val := by
  have : (i 0).val < 8 := (i 0).isLt
  rw [BitVec.toNat_ofNat]; omega

omit hs in
theorem ix_1 (i : grid0.Coords) : cc0_transform_1 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_2 (i : grid0.Coords) : cc0_transform_2 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_3 (i : grid0.Coords) : cc0_transform_3 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_4 (i : grid0.Coords) : cc0_transform_4 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_5 (i : grid0.Coords) : cc0_transform_5 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_o (i : grid0.Coords) : cc0_transform_8 k0_off1_inb numel1_S1 (pf0 m) i = ![(at65 (V m 0 main_v49) (i 1).val).toNat, (i 0).val] := by
  refine Eq.trans ?_ (congrArg₂ (fun (w : BitVec 32) (n : ℕ) => ![w.toNat, n]) (pfAtI (V m 0 main_v49) i (numel1_S1 ▸ Nat.one_pos)) (colI i))
  rfl

theorem tile_toNat (v : ℕ) (hv : v < 65) : (at65 (V m 0 main_v49) v).toNat = tile (gn m) v := by
  have h := tile_lt (gn m) hs v
  rw [tile_at m hs v hv, BitVec.toNat_ofNat]
  omega

theorem ex_toNat (v : ℕ) (hv : v < 65) : (at65 (V m 0 main_v25) v).toNat = ex (gn m) v := by
  have h := (ex_place (gn m) hs v).1
  rw [ex_at m hs v hv, BitVec.toNat_ofNat]
  omega

theorem adm : ok0 (pf0 m) := by
  refine ⟨fun i => ?_, fun i => ?_, fun i => ?_, fun i => ?_, fun i => ?_, fun i => ?_, fun i => ?_⟩
  · have hv : (i 1).val < 65 := (i 1).isLt
    have h1 := tile_lt (gn m) hs (i 1).val
    have h : ∀ a, (cc0_transform_0 k0_off1_inb numel1_S1 (pf0 m) i a + 1) * S256x7168.size a ≤ S12288x7168.size a := by
      rw [ix_row, tile_toNat m hs _ hv]
      intro a; fin_cases a
      · show (tile (gn m) (i 1).val + 1) * 256 ≤ 12288; omega
      · show (0 + 1) * 7168 ≤ 7168; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_1 k0_off1_inb numel1_S1 (pf0 m) i a + 1) * S1x3584x256.size a ≤ S18x3584x2048.size a := by
      rw [ix_1, ex_toNat m hs _ hv]
      intro a; fin_cases a
      · show (ex (gn m) (i 1).val + 1) * 1 ≤ 18; omega
      · show (0 + 1) * 3584 ≤ 3584; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_2 k0_off1_inb numel1_S1 (pf0 m) i a + 1) * S1x56x256.size a ≤ S18x56x2048.size a := by
      rw [ix_2, ex_toNat m hs _ hv]
      intro a; fin_cases a
      · show (ex (gn m) (i 1).val + 1) * 1 ≤ 18; omega
      · show (0 + 1) * 56 ≤ 56; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_3 k0_off1_inb numel1_S1 (pf0 m) i a + 1) * S1x3584x256.size a ≤ S18x3584x2048.size a := by
      rw [ix_3, ex_toNat m hs _ hv]
      intro a; fin_cases a
      · show (ex (gn m) (i 1).val + 1) * 1 ≤ 18; omega
      · show (0 + 1) * 3584 ≤ 3584; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_4 k0_off1_inb numel1_S1 (pf0 m) i a + 1) * S1x56x256.size a ≤ S18x56x2048.size a := by
      rw [ix_4, ex_toNat m hs _ hv]
      intro a; fin_cases a
      · show (ex (gn m) (i 1).val + 1) * 1 ≤ 18; omega
      · show (0 + 1) * 56 ≤ 56; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_5 k0_off1_inb numel1_S1 (pf0 m) i a + 1) * S1x1x256.size a ≤ S18x1x2048.size a := by
      rw [ix_5, ex_toNat m hs _ hv]
      intro a; fin_cases a
      · show (ex (gn m) (i 1).val + 1) * 1 ≤ 18; omega
      · show (0 + 1) * 1 ≤ 1; omega
      · show ((i 0).val + 1) * 256 ≤ 2048; omega
    exact ⟨h, .inl rfl⟩
  · have hv : (i 1).val < 65 := (i 1).isLt
    have hc : (i 0).val < 8 := (i 0).isLt
    have h1 := tile_lt (gn m) hs (i 1).val
    have h : ∀ a, (cc0_transform_8 k0_off1_inb numel1_S1 (pf0 m) i a + 1) * S256x256.size a ≤ S12288x2048.size a := by
      rw [ix_o, tile_toNat m hs _ hv]
      intro a; fin_cases a
      · show (tile (gn m) (i 1).val + 1) * 256 ≤ 12288; omega
      · show ((i 0).val + 1) * 256 ≤ 2048; omega
    exact ⟨h, .inr (Affine.block_words_dvd (by decide) (by decide))⟩

/-- The tables, admissible. -/
def ad : (pcfg0 (F := F)).Adm := ⟨pf0 m, adm m hs⟩

theorem hpf (c : Dev nD) (k) : V m c (pre0.ref k) = (ad m hs).1 k := by
  obtain rfl : c = 0 := Subsingleton.elim _ _
  rfl

/-- The frame of the program, for memories whose row counts sum to the number of rows. -/
theorem frame (g : Dev nD → PrngReg) : θ_run defs (onTc (τ := τ) (main (F := F))) ⟨m, fun _ => 0, g⟩
    (fun r => (∀ c : Dev nD, (r.2.mem ((c.tc : Thread nD τ).loc main_arg0) = m ((c.tc : Thread nD τ).loc main_arg0)) ∧ (r.2.mem ((c.tc : Thread nD τ).loc main_arg1) = m ((c.tc : Thread nD τ).loc main_arg1)) ∧ (r.2.mem ((c.tc : Thread nD τ).loc main_arg2) = m ((c.tc : Thread nD τ).loc main_arg2)) ∧ (r.2.mem ((c.tc : Thread nD τ).loc main_arg3) = m ((c.tc : Thread nD τ).loc main_arg3)) ∧ (r.2.mem ((c.tc : Thread nD τ).loc main_arg4) = m ((c.tc : Thread nD τ).loc main_arg4)) ∧ (r.2.mem ((c.tc : Thread nD τ).loc main_arg5) = m ((c.tc : Thread nD τ).loc main_arg5)) ∧ (r.2.mem ((c.tc : Thread nD τ).loc main_arg6) = m ((c.tc : Thread nD τ).loc main_arg6)) ∧ (r.2.mem ((c.tc : Thread nD τ).loc main_arg7) = m ((c.tc : Thread nD τ).loc main_arg7)) ∧ (r.2.mem ((c.tc : Thread nD τ).loc main_arg8) = m ((c.tc : Thread nD τ).loc main_arg8))) ∧ r.2.sem = fun _ => 0) :=
  (θ_run defs _ _).mono (fun r h => ⟨fun c => args_of m (ad m hs) r h.1 c, h.2⟩) (run_main m g (ad m hs) (hpf m hs))

end Cert.GateUp.Hand
-- ==== Proof.GateUpIdealDeq.lean ====
module
public import proofs.«01_k».proof.Proof.Gen.GateUpIdeal.Loops
public import proofs.«01_k».proof.Proof.Gen.GateUpIdeal.Launch
public import proofs.«01_k».proof.Proof.Nibble
/-! # The dequantised block

The program dequantises the weights of an expert, column block by column block, into two buffers of its own; here is what the buffers hold afterwards. -/
@[expose] public section
set_option maxRecDepth 16384
set_option maxHeartbeats 4000000
noncomputable section
namespace Cert.GateUpIdeal.Hand
open Idealize.ShloMosaic Idealize.ShloMosaic.TcCoe Idealize.ShloMosaic.Tactic
open Idealize.SL Idealize.SL.RA Idealize.SL.BI
open Cert.GateUpIdeal Cert.GateUpIdeal.Gen Cert.W4
variable {F : FTy → Type} [FloatOps F]

/-- The dequantised block: row `p`, column `n` is the four-bit value of row `p` times the scale of group `p / 128`. -/
def deq (W : Vec F S1x3584x256 .i8) (S : Vec F S1x56x256 .bf16) : Vec F S7168x256 .bf16 := fun y =>
  dqe (W (ix3 0 ⟨(y 0).val / 2, by have := (y 0).isLt; change (y 0).val < 7168 at this; omega⟩ (y 1))) (y 0).val
    (S (ix3 0 ⟨(y 0).val / 128, by have := (y 0).isLt; change (y 0).val < 7168 at this; omega⟩ (y 1)))

/-- A payload of the loop is group `g` of the eight scales `s` with the 64 rows of bytes `w`. -/
def IsSlab (g : Fin 8) (s : FVec F S8x256 .bf16) (w : Vec F S1x64x256 .i8) (P : FVec F S128x256 .bf16) : Prop :=
  ∀ (q : Fin 128) (n : Fin 256), P (ix2 q n) = dqe (w (ix3 0 ⟨q.val / 2, by omega⟩ n)) q.val (s (ix2 g n))

theorem slab10 (s : Vec F S1x8x256 .bf16) (w) : IsSlab (F := F) 0 (k0_pay4 s) w (k0_pay5 s w) := fun q n => by
  pointwise [k0_pay5, k0_pay4]; rfl
theorem slab11 (s : FVec F S8x256 .bf16) (w) : IsSlab (F := F) 1 s w (k0_pay8 s (k0_pay6 w) k0_pay7) := fun q n => by
  pointwise [k0_pay8, k0_pay6, k0_pay7]; rfl
theorem slab12 (s : FVec F S8x256 .bf16) (w) : IsSlab (F := F) 2 s w (k0_pay9 s w) := fun q n => by
  pointwise [k0_pay9]; rfl
theorem slab13 (s : FVec F S8x256 .bf16) (w) : IsSlab (F := F) 3 s w (k0_pay10 s w) := fun q n => by
  pointwise [k0_pay10]; rfl
theorem slab14 (s : FVec F S8x256 .bf16) (w) : IsSlab (F := F) 4 s w (k0_pay14 s (k0_pay12 w) (k0_pay13 w)) := fun q n => by
  pointwise [k0_pay14, k0_pay12, k0_pay13, k0_pay11]; rfl
theorem slab15 (s : FVec F S8x256 .bf16) (w) : IsSlab (F := F) 5 s w (k0_pay15 s w) := fun q n => by
  pointwise [k0_pay15]; rfl
theorem slab16 (s : FVec F S8x256 .bf16) (w) : IsSlab (F := F) 6 s w (k0_pay16 s w) := fun q n => by
  pointwise [k0_pay16]; rfl
theorem slab17 (s : FVec F S8x256 .bf16) (w) : IsSlab (F := F) 7 s w (k0_pay1 (k0_pay17 s w)) := fun q n => by
  pointwise [k0_pay1, k0_pay17]; rfl

theorem slab20 (s : Vec F S1x8x256 .bf16) (w) : IsSlab (F := F) 0 (k0_pay18 s) w (k0_pay19 s w) := fun q n => by
  pointwise [k0_pay19, k0_pay18]; rfl
theorem slab21 (s : FVec F S8x256 .bf16) (w) : IsSlab (F := F) 1 s w (k0_pay22 s (k0_pay20 w) k0_pay21) := fun q n => by
  pointwise [k0_pay22, k0_pay20, k0_pay21]; rfl
theorem slab22 (s : FVec F S8x256 .bf16) (w) : IsSlab (F := F) 2 s w (k0_pay23 s w) := fun q n => by
  pointwise [k0_pay23]; rfl
theorem slab23 (s : FVec F S8x256 .bf16) (w) : IsSlab (F := F) 3 s w (k0_pay24 s w) := fun q n => by
  pointwise [k0_pay24]; rfl
theorem slab24 (s : FVec F S8x256 .bf16) (w) : IsSlab (F := F) 4 s w (k0_pay28 s (k0_pay26 w) (k0_pay27 w)) := fun q n => by
  pointwise [k0_pay28, k0_pay26, k0_pay27, k0_pay25]; rfl
theorem slab25 (s : FVec F S8x256 .bf16) (w) : IsSlab (F := F) 5 s w (k0_pay29 s w) := fun q n => by
  pointwise [k0_pay29]; rfl
theorem slab26 (s : FVec F S8x256 .bf16) (w) : IsSlab (F := F) 6 s w (k0_pay30 s w) := fun q n => by
  pointwise [k0_pay30]; rfl
theorem slab27 (s : FVec F S8x256 .bf16) (w) : IsSlab (F := F) 7 s w (k0_pay2 (k0_pay31 s w)) := fun q n => by
  pointwise [k0_pay2, k0_pay31]; rfl

theorem trips_eq1 : k0_t1_loop.trips = 7 := by decide
theorem trips_eq2 : k0_t2_loop.trips = 7 := by decide

/-- What a trip stores for group `r` agrees with the dequantised block, its accesses at the offsets of trip `k`. -/
theorem slab_agrees_at (pay : Vec F S1x8x256 .bf16 → FVec F S8x256 .bf16) (hpay : ∀ s, pay s = k0_pay4 s) (argW : Memref sig .tc .vmem S1x3584x256 .i8) (argS : Memref sig .tc .vmem S1x56x256 .bf16) (k : ℕ) (hk : k < 7) (r : Fin 8) {o3 : Fin 3 → ℕ} {o4 : Fin 3 → ℕ} {o5 : Fin 2 → ℕ}
    (e3 : o3 = ![0, 8 * k, 0]) (e4 : o4 = ![0, 512 * k + 64 * r.val, 0]) (e5 : o5 = ![1024 * k + 128 * r.val, 0])
    (i3 : ∀ a, o3 a + S1x8x256.size a ≤ S1x56x256.size a) (i4 : ∀ a, o4 a + S1x64x256.size a ≤ S1x3584x256.size a)
    (i5 : ∀ a, o5 a + S128x256.size a ≤ S7168x256.size a)
    (XW : BufTy.Contents (Elt F) argW.view.ty) (XS : BufTy.Contents (Elt F) argS.view.ty)
    (P : FVec F S128x256 .bf16)
    (hP : IsSlab r (pay (View.readAt (Elt F) argS.view (Rect.unit (s := S1x56x256) o3 S1x8x256.size i3).toLoadRect XS))
      (View.readAt (Elt F) argW.view (Rect.unit (s := S1x3584x256) o4 S1x64x256.size i4).toLoadRect XW) P)
    (x : S128x256.Idx) :
    P x = deq (argW.view.read (Elt F) XW) (argS.view.read (Elt F) XS)
      ((Rect.unit (s := S7168x256) o5 S128x256.size i5).emb x) := by
  subst e3 e4 e5
  obtain rfl : pay = k0_pay4 := funext hpay
  idx_vars x
  rw [hP x0 x1, View.readAt_eq_ld, View.readAt_eq_ld]
  generalize View.read (Elt F) argW.view XW = W
  generalize View.read (Elt F) argS.view XS = S
  unfold deq
  pointwise [k0_pay4]
  have hq := x0.isLt
  have hr := r.isLt
  have he : (Rect.unit (s := S7168x256) ![1024 * k + 128 * r.val, 0] ![128, 256] i5).emb (ix2 x0 x1)
      = ix2 (⟨1024 * k + 128 * r.val + x0.val, by omega⟩ : Fin 7168) x1 :=
    Rect.emb_eq_of_coords _ _ _ fun a => by
      fin_cases a <;> simp [Rect.unit, ix2]
  rw [he]
  have h1 : 512 * k + 64 * r.val + x0.val / 2 = (1024 * k + 128 * r.val + x0.val) / 2 := by omega
  have h2 : 8 * k + r.val = (1024 * k + 128 * r.val + x0.val) / 128 := by omega
  rw [dqe_congr _ _ (show x0.val % 2 = (1024 * k + 128 * r.val + x0.val) % 2 by omega)]
  congr 1
  · congr 2; exact Fin.ext h1
  · congr 2; exact Fin.ext h2

/-- A row of trip `k` lies in one of the eight pieces the trip writes. -/
theorem mem_slab (k : ℕ) (r : Fin 8) {o5 : Fin 2 → ℕ} (e5 : o5 = ![1024 * k + 128 * r.val, 0])
    (i5 : ∀ a, o5 a + S128x256.size a ≤ S7168x256.size a) (y : S7168x256.Idx)
    (h : (y 0).val / 128 = 8 * k + r.val) : y ∈ (Rect.unit (s := S7168x256) o5 S128x256.size i5).set := by
  subst e5
  rw [Rect.mem_set_unit]
  have h1 := (y 1).isLt
  intro a
  fin_cases a
  · simp only [Fin.zero_eta, Matrix.cons_val_zero]
    change 1024 * k + 128 * r.val ≤ (y 0).val ∧ (y 0).val < 1024 * k + 128 * r.val + 128
    omega
  · exact ⟨Nat.zero_le _, by change (y 1).val < 0 + 256; exact (by omega : (y 1).val < 0 + (y 1).val + 1).trans_le (by change (y 1).val < 256 at h1; omega)⟩

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x7168 .fp8e4m3) (harg7 : arg7.IsWhole) (arg8 : Memref sig .tc .vmem S1x3584x256 .i8) (harg8 : arg8.IsWhole) (arg9 : Memref sig .tc .vmem S1x56x256 .bf16) (harg9 : arg9.IsWhole) (arg10 : Memref sig .tc .vmem S1x3584x256 .i8) (harg10 : arg10.IsWhole) (arg11 : Memref sig .tc .vmem S1x56x256 .bf16) (harg11 : arg11.IsWhole) (arg12 : Memref sig .tc .vmem S1x1x256 .f32) (harg12 : arg12.IsWhole) (arg13 : Memref sig .tc .smem S18 .f32) (harg13 : arg13.IsWhole) (arg14 : Memref sig .tc .smem S18 .f32) (harg14 : arg14.IsWhole) (arg15 : Memref sig .tc .vmem S256x256 .fp8e4m3) (harg15 : arg15.IsWhole) (arg16 : Memref sig .tc .vmem S7168x256 .bf16) (harg16 : arg16.IsWhole) (arg17 : Memref sig .tc .vmem S7168x256 .bf16) (harg17 : arg17.IsWhole)

/-! ### The first weight -/

/-- Every piece one trip writes agrees with the dequantised block. -/
theorem trip_agrees1 (k : Fin k0_t1_loop.trips) (XW : BufTy.Contents (Elt F) arg8.view.ty) (XS : BufTy.Contents (Elt F) arg9.view.ty) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, ∀ x : p.1.shape.Idx,
      p.2 x = deq (arg8.view.read (Elt F) XW) (arg9.view.read (Elt F) XS) (p.1.emb x) := by
  have hk : k.val < 7 := trips_eq1 ▸ k.isLt
  unfold tripL_k0_t1 trip_k0_t1; dsimp only
  simp only [List.forall_mem_cons, List.not_mem_nil, false_imp_iff, implies_true, and_true]
  refine ⟨?_, ?_, ?_, ?_, ?_, ?_, ?_, ?_⟩
  · exact slab_agrees_at (F := F) k0_pay4 (fun _ => rfl) arg8 arg9 k.val hk 7 (k0_off3_eq k) (k0_off4_eq k 7) (k0_off5_eq k 7) _ _ _ XW XS _ (slab17 _ _)
  · exact slab_agrees_at (F := F) k0_pay4 (fun _ => rfl) arg8 arg9 k.val hk 6 (k0_off3_eq k) (k0_off4_eq k 6) (k0_off5_eq k 6) _ _ _ XW XS _ (slab16 _ _)
  · exact slab_agrees_at (F := F) k0_pay4 (fun _ => rfl) arg8 arg9 k.val hk 5 (k0_off3_eq k) (k0_off4_eq k 5) (k0_off5_eq k 5) _ _ _ XW XS _ (slab15 _ _)
  · exact slab_agrees_at (F := F) k0_pay4 (fun _ => rfl) arg8 arg9 k.val hk 4 (k0_off3_eq k) (k0_off4_eq k 4) (k0_off5_eq k 4) _ _ _ XW XS _ (slab14 _ _)
  · exact slab_agrees_at (F := F) k0_pay4 (fun _ => rfl) arg8 arg9 k.val hk 3 (k0_off3_eq k) (k0_off4_eq k 3) (k0_off5_eq k 3) _ _ _ XW XS _ (slab13 _ _)
  · exact slab_agrees_at (F := F) k0_pay4 (fun _ => rfl) arg8 arg9 k.val hk 2 (k0_off3_eq k) (k0_off4_eq k 2) (k0_off5_eq k 2) _ _ _ XW XS _ (slab12 _ _)
  · exact slab_agrees_at (F := F) k0_pay4 (fun _ => rfl) arg8 arg9 k.val hk 1 (k0_off3_eq k) (k0_off4_eq k 1) (k0_off5_eq k 1) _ _ _ XW XS _ (slab11 _ _)
  · exact slab_agrees_at (F := F) k0_pay4 (fun _ => rfl) arg8 arg9 k.val hk 0 (k0_off3_eq k) (k0_off4_eq k 0) (k0_off5_eq k 0) _ _ _ XW XS _ (slab10 _ _)

theorem trip_covers1 (k : Fin k0_t1_loop.trips) (XW : BufTy.Contents (Elt F) arg8.view.ty) (XS : BufTy.Contents (Elt F) arg9.view.ty)
    (y : S7168x256.Idx) (hy : (y 0).val / 1024 = k.val) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t1 trip_k0_t1; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off5_eq k 7) _ y (by change _ = 8 * k.val + 7; omega)
  · exact mem_slab k.val 6 (k0_off5_eq k 6) _ y (by change _ = 8 * k.val + 6; omega)
  · exact mem_slab k.val 5 (k0_off5_eq k 5) _ y (by change _ = 8 * k.val + 5; omega)
  · exact mem_slab k.val 4 (k0_off5_eq k 4) _ y (by change _ = 8 * k.val + 4; omega)
  · exact mem_slab k.val 3 (k0_off5_eq k 3) _ y (by change _ = 8 * k.val + 3; omega)
  · exact mem_slab k.val 2 (k0_off5_eq k 2) _ y (by change _ = 8 * k.val + 2; omega)
  · exact mem_slab k.val 1 (k0_off5_eq k 1) _ y (by change _ = 8 * k.val + 1; omega)
  · exact mem_slab k.val 0 (k0_off5_eq k 0) _ y (by change _ = 8 * k.val + 0; omega)

/-- The pieces of the first `n` trips agree with the dequantised block and cover its first `1024 * n` rows. -/
theorem pb_agrees1 (XW : BufTy.Contents (Elt F) arg8.view.ty) (XS : BufTy.Contents (Elt F) arg9.view.ty) (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, ∀ x : p.1.shape.Idx,
      p.2 x = deq (arg8.view.read (Elt F) XW) (arg9.view.read (Elt F) XS) (p.1.emb x))
    ∧ ∀ y : S7168x256.Idx, (y 0).val < 1024 * n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, y ∈ p.1.set := by
  induction n with
  | zero => exact ⟨fun p hp => absurd hp List.not_mem_nil, fun y hy => absurd hy (by omega)⟩
  | succ n ih =>
    obtain ⟨ih1, ih2⟩ := ih (by omega)
    have es := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS ⟨n, hn⟩
    dsimp only at es
    rw [es]
    refine ⟨fun p hp => ?_, fun y hy => ?_⟩
    · rcases List.mem_append.mp hp with h | h
      · exact trip_agrees1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS p h
      · exact ih1 p h
    · by_cases h : (y 0).val < 1024 * n
      · obtain ⟨p, hp, hy⟩ := ih2 y h
        exact ⟨p, List.mem_append_right _ hp, hy⟩
      · obtain ⟨p, hp, hy⟩ := trip_covers1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS y (by change _ = n; omega)
        exact ⟨p, List.mem_append_left _ hp, hy⟩

/-- After the loop the scratch holds the dequantised block, whatever it held before. -/
theorem scratch_eq1 (XW : BufTy.Contents (Elt F) arg8.view.ty) (XS : BufTy.Contents (Elt F) arg9.view.ty) (XD : BufTy.Contents (Elt F) arg16.view.ty) :
    arg16.view.read (Elt F) (arg16.view.writes (Elt F) XD (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k0_t1_loop.trips))
      = deq (arg8.view.read (Elt F) XW) (arg9.view.read (Elt F) XS) := by
  obtain ⟨h1, h2⟩ := pb_agrees1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS _ le_rfl
  funext y
  refine View.read_writes_apply_of_pieces _ _ _ _ h1 y (h2 y ?_)
  rw [trips_eq1]; exact (y 0).isLt

/-! ### The second weight -/

/-- Every piece one trip writes agrees with the dequantised block. -/
theorem trip_agrees2 (k : Fin k0_t2_loop.trips) (XW : BufTy.Contents (Elt F) arg10.view.ty) (XS : BufTy.Contents (Elt F) arg11.view.ty) :
    ∀ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, ∀ x : p.1.shape.Idx,
      p.2 x = deq (arg10.view.read (Elt F) XW) (arg11.view.read (Elt F) XS) (p.1.emb x) := by
  have hk : k.val < 7 := trips_eq2 ▸ k.isLt
  unfold tripL_k0_t2 trip_k0_t2; dsimp only
  simp only [List.forall_mem_cons, List.not_mem_nil, false_imp_iff, implies_true, and_true]
  refine ⟨?_, ?_, ?_, ?_, ?_, ?_, ?_, ?_⟩
  · exact slab_agrees_at (F := F) k0_pay18 (fun _ => rfl) arg10 arg11 k.val hk 7 (k0_off6_eq k) (k0_off7_eq k 7) (k0_off8_eq k 7) _ _ _ XW XS _ (slab27 _ _)
  · exact slab_agrees_at (F := F) k0_pay18 (fun _ => rfl) arg10 arg11 k.val hk 6 (k0_off6_eq k) (k0_off7_eq k 6) (k0_off8_eq k 6) _ _ _ XW XS _ (slab26 _ _)
  · exact slab_agrees_at (F := F) k0_pay18 (fun _ => rfl) arg10 arg11 k.val hk 5 (k0_off6_eq k) (k0_off7_eq k 5) (k0_off8_eq k 5) _ _ _ XW XS _ (slab25 _ _)
  · exact slab_agrees_at (F := F) k0_pay18 (fun _ => rfl) arg10 arg11 k.val hk 4 (k0_off6_eq k) (k0_off7_eq k 4) (k0_off8_eq k 4) _ _ _ XW XS _ (slab24 _ _)
  · exact slab_agrees_at (F := F) k0_pay18 (fun _ => rfl) arg10 arg11 k.val hk 3 (k0_off6_eq k) (k0_off7_eq k 3) (k0_off8_eq k 3) _ _ _ XW XS _ (slab23 _ _)
  · exact slab_agrees_at (F := F) k0_pay18 (fun _ => rfl) arg10 arg11 k.val hk 2 (k0_off6_eq k) (k0_off7_eq k 2) (k0_off8_eq k 2) _ _ _ XW XS _ (slab22 _ _)
  · exact slab_agrees_at (F := F) k0_pay18 (fun _ => rfl) arg10 arg11 k.val hk 1 (k0_off6_eq k) (k0_off7_eq k 1) (k0_off8_eq k 1) _ _ _ XW XS _ (slab21 _ _)
  · exact slab_agrees_at (F := F) k0_pay18 (fun _ => rfl) arg10 arg11 k.val hk 0 (k0_off6_eq k) (k0_off7_eq k 0) (k0_off8_eq k 0) _ _ _ XW XS _ (slab20 _ _)

theorem trip_covers2 (k : Fin k0_t2_loop.trips) (XW : BufTy.Contents (Elt F) arg10.view.ty) (XS : BufTy.Contents (Elt F) arg11.view.ty)
    (y : S7168x256.Idx) (hy : (y 0).val / 1024 = k.val) :
    ∃ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k, y ∈ p.1.set := by
  have hc : (y 0).val / 128 - 8 * k.val = 7 ∨ (y 0).val / 128 - 8 * k.val = 6 ∨ (y 0).val / 128 - 8 * k.val = 5 ∨ (y 0).val / 128 - 8 * k.val = 4
      ∨ (y 0).val / 128 - 8 * k.val = 3 ∨ (y 0).val / 128 - 8 * k.val = 2 ∨ (y 0).val / 128 - 8 * k.val = 1 ∨ (y 0).val / 128 - 8 * k.val = 0 := by omega
  unfold tripL_k0_t2 trip_k0_t2; dsimp only
  simp only [List.exists_mem_cons_iff, List.not_mem_nil, false_and, exists_false, or_false]
  refine hc.imp (fun h => ?_) (Or.imp (fun h => ?_) (Or.imp (fun h => ?_) (Or.imp (fun h => ?_) (Or.imp (fun h => ?_)
    (Or.imp (fun h => ?_) (Or.imp (fun h => ?_) (fun h => ?_)))))))
  · exact mem_slab k.val 7 (k0_off8_eq k 7) _ y (by change _ = 8 * k.val + 7; omega)
  · exact mem_slab k.val 6 (k0_off8_eq k 6) _ y (by change _ = 8 * k.val + 6; omega)
  · exact mem_slab k.val 5 (k0_off8_eq k 5) _ y (by change _ = 8 * k.val + 5; omega)
  · exact mem_slab k.val 4 (k0_off8_eq k 4) _ y (by change _ = 8 * k.val + 4; omega)
  · exact mem_slab k.val 3 (k0_off8_eq k 3) _ y (by change _ = 8 * k.val + 3; omega)
  · exact mem_slab k.val 2 (k0_off8_eq k 2) _ y (by change _ = 8 * k.val + 2; omega)
  · exact mem_slab k.val 1 (k0_off8_eq k 1) _ y (by change _ = 8 * k.val + 1; omega)
  · exact mem_slab k.val 0 (k0_off8_eq k 0) _ y (by change _ = 8 * k.val + 0; omega)

/-- The pieces of the first `n` trips agree with the dequantised block and cover its first `1024 * n` rows. -/
theorem pb_agrees2 (XW : BufTy.Contents (Elt F) arg10.view.ty) (XS : BufTy.Contents (Elt F) arg11.view.ty) (n : ℕ) (hn : n ≤ k0_t2_loop.trips) :
    (∀ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, ∀ x : p.1.shape.Idx,
      p.2 x = deq (arg10.view.read (Elt F) XW) (arg11.view.read (Elt F) XS) (p.1.emb x))
    ∧ ∀ y : S7168x256.Idx, (y 0).val < 1024 * n → ∃ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS n, y ∈ p.1.set := by
  induction n with
  | zero => exact ⟨fun p hp => absurd hp List.not_mem_nil, fun y hy => absurd hy (by omega)⟩
  | succ n ih =>
    obtain ⟨ih1, ih2⟩ := ih (by omega)
    have es := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS ⟨n, hn⟩
    dsimp only at es
    rw [es]
    refine ⟨fun p hp => ?_, fun y hy => ?_⟩
    · rcases List.mem_append.mp hp with h | h
      · exact trip_agrees2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS p h
      · exact ih1 p h
    · by_cases h : (y 0).val < 1024 * n
      · obtain ⟨p, hp, hy⟩ := ih2 y h
        exact ⟨p, List.mem_append_right _ hp, hy⟩
      · obtain ⟨p, hp, hy⟩ := trip_covers2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, hn⟩ XW XS y (by change _ = n; omega)
        exact ⟨p, List.mem_append_left _ hp, hy⟩

/-- After the loop the scratch holds the dequantised block, whatever it held before. -/
theorem scratch_eq2 (XW : BufTy.Contents (Elt F) arg10.view.ty) (XS : BufTy.Contents (Elt F) arg11.view.ty) (XD : BufTy.Contents (Elt F) arg17.view.ty) :
    arg17.view.read (Elt F) (arg17.view.writes (Elt F) XD (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS k0_t2_loop.trips))
      = deq (arg10.view.read (Elt F) XW) (arg11.view.read (Elt F) XS) := by
  obtain ⟨h1, h2⟩ := pb_agrees2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 XW XS _ le_rfl
  funext y
  refine View.read_writes_apply_of_pieces _ _ _ _ h1 y (h2 y ?_)
  rw [trips_eq2]; exact (y 0).isLt

end
end Cert.GateUpIdeal.Hand
-- ==== Proof.GateUpIdealBody.lean ====
module
public import proofs.«01_k».proof.Proof.GateUpIdealDeq
public import Idealize.ShloMosaic.Lib.VecWindow
/-! # What one grid point of the gate and up kernel does

The body dequantises the two weight blocks into the scratches at the first visit of an expert, and at a live visit replaces the rows
of the output block that the visit owns. -/
@[expose] public section
set_option maxRecDepth 16384
set_option maxHeartbeats 4000000
noncomputable section
namespace Cert.GateUpIdeal.Hand
open Idealize.ShloMosaic Idealize.ShloMosaic.TcCoe Idealize.ShloMosaic.Tactic
open Cert.GateUpIdeal Cert.GateUpIdeal.Gen Cert.W4

variable {F : FTy → Type} [FloatOps F]

/-- The word of visit `v` in a table. -/
def at65 (T : S65.Idx → BitVec 32) (v : ℕ) : BitVec 32 := T (ix1 ⟨min v 64, by omega⟩)

/-- A table's word read at the grid's visit. -/
theorem word_eq (arg : Memref sig .tc .smem S65 .i32) (X : BufTy.Contents (Elt F) arg.view.ty) {o : Fin 1 → ℕ} (n : ℕ) (hn : n < 65)
    (e : o = ![n]) (inb : ∀ a, o a + S1.size a ≤ S65.size a) (h : 0 < S1.numel) :
    View.readAt (Elt F) arg.view (Rect.unit (s := S65) o S1.size inb).toLoadRect X (Shape.Idx.first h)
      = at65 (arg.view.read (Elt F) X) n := by
  subst e
  rw [View.readAt_eq_ld]
  unfold at65
  refine congrArg (arg.view.read (Elt F) X) (funext fun a => Fin.ext ?_)
  fin_cases a
  have hz : (Shape.Idx.first h (0 : Fin 1)).val < 1 := (Shape.Idx.first h (0 : Fin 1)).isLt
  change n + 1 * (Shape.Idx.first h (0 : Fin 1)).val = min n 64
  omega

/-- A scale read at an expert's word. -/
def at18 (A : S18.Idx → F .f32) (e : BitVec 32) : F .f32 := A (ix1 ⟨min e.toNat 17, by omega⟩)

theorem scale_eq (arg : Memref sig .tc .smem S18 .f32) (X : BufTy.Contents (Elt F) arg.view.ty) (w : BitVec 32) {o : Fin 1 → ℕ}
    (e : o = ![w.toNat]) (inb : ∀ a, o a + S1.size a ≤ S18.size a) (h : 0 < S1.numel) :
    View.readAt (Elt F) arg.view (Rect.unit (s := S18) o S1.size inb).toLoadRect X (Shape.Idx.first h)
      = at18 (arg.view.read (Elt F) X) w := by
  subst e
  rw [View.readAt_eq_ld]
  unfold at18
  refine congrArg (arg.view.read (Elt F) X) (funext fun a => Fin.ext ?_)
  fin_cases a
  have hz : (Shape.Idx.first h (0 : Fin 1)).val < 1 := (Shape.Idx.first h (0 : Fin 1)).isLt
  change w.toNat + 1 * (Shape.Idx.first h (0 : Fin 1)).val = min w.toNat 17
  have := inb 0
  change w.toNat + 1 ≤ 18 at this
  omega

theorem k0_off2_eq (i : grid0.Coords) : k0_off2 i = ![(i 1).val - 1] := by
  have r_i1 : (i 1).val < 65 := (i 1).isLt
  have h_arg1 : Affine.IsInt (BitVec.ofNat 32 (i 1).val) (((i 1).val : Int)) := Affine.ofNat _ (by omega)
  have h_c1_i32 : Affine.IsInt 1#32 (1) := Affine.ofNat _ (by omega)
  have h_v3 : Affine.IsInt _ (((i 1).val : Int) - 1) := Affine.subi h_arg1 h_c1_i32 (by omega)
  have h_c0_i32_0 : Affine.IsInt 0#32 (0) := Affine.ofNat _ (by omega)
  have h_v4 : Affine.IsInt _ ((max (((i 1).val : Int) - 1) 0)) := Affine.maxsi h_v3 h_c0_i32_0 (by omega)
  have h_v5 : Affine.IsInt _ ((max (((i 1).val : Int) - 1) 0)) := Affine.indexCast h_v4
  exact Affine.vec_cons h_v5 (by omega) <| Affine.vec_nil

/-- The visit is the first one of its column, or visits another expert than the visit before. -/
def fresh (T3 : S65.Idx → BitVec 32) (v : ℕ) : Prop := v = 0 ∨ at65 T3 v ≠ at65 T3 (v - 1)

instance (T3 : S65.Idx → BitVec 32) (v : ℕ) : Decidable (fresh T3 v) := inferInstanceAs (Decidable (_ ∨ _))

/-- The visit has work to do. -/
def live (T6 : S65.Idx → BitVec 32) (v : ℕ) : Prop := at65 T6 v = 1#32

instance (T6 : S65.Idx → BitVec 32) (v : ℕ) : Decidable (live T6 v) := inferInstanceAs (Decidable (_ = _))

/-- What a live visit stores into the output block. -/
def outv (T2 T3 T4 T5 : S65.Idx → BitVec 32) (v : ℕ) (X7 : Vec F S256x7168 .fp8e4m3) (D1 D3 : Vec F S7168x256 .bf16)
    (P : Vec F S1x1x256 .f32) (A1 A2 : S18.Idx → F .f32) (Y : Vec F S256x256 .fp8e4m3) : Vec F S256x256 .fp8e4m3 :=
  k0_pay3 (k0_pay32 X7 D1 (at18 A1 (at65 T3 v)) D3 (at18 A1 (at65 T3 v)) P (at18 A2 (at65 T3 v))) (k0_pay33 (F := F) (at65 T2 v))
    (k0_pay34 (F := F) (at65 T2 v) (at65 T4 v)) (k0_pay35 (F := F) (at65 T5 v)) Y

theorem cond2_iff (w : BitVec 32) : k0_cond2 w = 1#1 ↔ w = 1#32 := by
  unfold k0_cond2
  simp only [Scalar.cmpi, Scalar.extui, IntOp.cmpi]
  by_cases h : w = 1#32
  · subst h; decide
  · have e : (w == 1#32) = false := by simpa using h
    rw [e]; simp [h]

theorem cond1_iff (v : ℕ) (hv : v < 65) (a b : BitVec 32) :
    Scalar.cmpi .ne (Scalar.extui (Scalar.ori (Scalar.cmpi .eq (BitVec.ofNat 32 v) 0#32) (Scalar.cmpi .ne a b))) 0#32 = 1#1
      ↔ (v = 0 ∨ a ≠ b) := by
  have h0 : BitVec.ofNat 32 v = 0#32 ↔ v = 0 := by
    constructor
    · intro h; have := congrArg BitVec.toNat h; simp at this; omega
    · rintro rfl; rfl
  have e1 : (BitVec.ofNat 32 v == 0#32) = decide (v = 0) := by rw [← decide_eq_decide.mpr h0]; rfl
  have e2 : (a != b) = decide (a ≠ b) := by by_cases h : a = b <;> simp [h]
  simp only [Scalar.cmpi, Scalar.extui, Scalar.ori, IntOp.cmpi, IntOp.ori]
  rw [e1, e2]
  by_cases h1 : v = 0 <;> by_cases h2 : a = b <;> simp [h1, h2]

theorem chk_of (a b : BitVec 32) (hb : b.toNat < 18) : k0_chk1 a b := by
  intro _ x
  fin_cases x
  change b.toNat + 1 ≤ 18
  omega

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

theorem pay3_congr {q q' : FVec F S256x256 .fp8e4m3} {r r' : IVec S256x256 32} {s s' : IVec S256x256 1} {t t' : IVec S256x256 32} {y y' : Vec F S256x256 .fp8e4m3}
    (h1 : q = q') (h2 : r = r') (h3 : s = s') (h4 : t = t') (h5 : y = y') : k0_pay3 q r s t y = k0_pay3 q' r' s' t' y' := by
  rw [h1, h2, h3, h4, h5]

theorem pay32_congr {X X' : Vec F S256x7168 .fp8e4m3} {D1 D1' D3 D3' : Vec F S7168x256 .bf16} {a a' b b' : F .f32} {P P' : Vec F S1x1x256 .f32}
    (h1 : X = X') (h2 : D1 = D1') (h3 : a = a') (h4 : D3 = D3') (h5 : P = P') (h6 : b = b') :
    k0_pay32 X D1 a D3 a P b = k0_pay32 X' D1' a' D3' a' P' b' := by
  rw [h1, h2, h3, h4, h5, h6]

section
variable (𝒱 : Variants) (c : Dev nD) (bd : Option 𝒱.V) (E : Set ℕ) (i : grid0.Coords) (arg2 : Memref sig .tc .smem S65 .i32) (harg2 : arg2.IsWhole) (arg3 : Memref sig .tc .smem S65 .i32) (harg3 : arg3.IsWhole) (arg4 : Memref sig .tc .smem S65 .i32) (harg4 : arg4.IsWhole) (arg5 : Memref sig .tc .smem S65 .i32) (harg5 : arg5.IsWhole) (arg6 : Memref sig .tc .smem S65 .i32) (harg6 : arg6.IsWhole) (arg7 : Memref sig .tc .vmem S256x7168 .fp8e4m3) (harg7 : arg7.IsWhole) (arg8 : Memref sig .tc .vmem S1x3584x256 .i8) (harg8 : arg8.IsWhole) (arg9 : Memref sig .tc .vmem S1x56x256 .bf16) (harg9 : arg9.IsWhole) (arg10 : Memref sig .tc .vmem S1x3584x256 .i8) (harg10 : arg10.IsWhole) (arg11 : Memref sig .tc .vmem S1x56x256 .bf16) (harg11 : arg11.IsWhole) (arg12 : Memref sig .tc .vmem S1x1x256 .f32) (harg12 : arg12.IsWhole) (arg13 : Memref sig .tc .smem S18 .f32) (harg13 : arg13.IsWhole) (arg14 : Memref sig .tc .smem S18 .f32) (harg14 : arg14.IsWhole) (arg15 : Memref sig .tc .vmem S256x256 .fp8e4m3) (harg15 : arg15.IsWhole) (arg16 : Memref sig .tc .vmem S7168x256 .bf16) (harg16 : arg16.IsWhole) (arg17 : Memref sig .tc .vmem S7168x256 .bf16) (harg17 : arg17.IsWhole)

set_option maxHeartbeats 8000000 in
/-- One grid point, run on blocks of any contents. -/
theorem body_run (q : PosShare TreeShare) (X2 : Vec F S65 .i32) (X3 : Vec F S65 .i32) (X4 : Vec F S65 .i32) (X5 : Vec F S65 .i32) (X6 : Vec F S65 .i32) (X7 : Vec F S256x7168 .fp8e4m3) (X8 : Vec F S1x3584x256 .i8) (X9 : Vec F S1x56x256 .bf16) (X10 : Vec F S1x3584x256 .i8) (X11 : Vec F S1x56x256 .bf16) (X12 : Vec F S1x1x256 .f32) (X13 : Vec F S18 .f32) (X14 : Vec F S18 .f32) (X15 : Vec F S256x256 .fp8e4m3) (X16 : Vec F S7168x256 .bf16) (X17 : Vec F S7168x256 .bf16) (hex : (at65 X3 (i 1).val).toNat < 18) :
    iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17)
      ⊢ wp (M := 𝕄G) frame (wpE (defs₀ (F := F)) 𝒱 (c : Thread nD τ) bd) E (cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg2 q X2 ∗ owns (c : Thread nD τ) arg3 q X3 ∗ owns (c : Thread nD τ) arg4 q X4 ∗ owns (c : Thread nD τ) arg5 q X5 ∗ owns (c : Thread nD τ) arg6 q X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
            ∗ (∃ D, ⌜D = if fresh X3 (i 1).val then deq X8 X9 else X16⌝ ∗ owns (c : Thread nD τ) arg16 fullShare D
               ∗ (∃ D', ⌜D' = if fresh X3 (i 1).val then deq X10 X11 else X17⌝ ∗ owns (c : Thread nD τ) arg17 fullShare D'
                 ∗ (∃ O, ⌜O = if live X6 (i 1).val then outv X2 X3 X4 X5 (i 1).val X7 D D' X12 X13 X14 X15 else X15⌝ ∗ owns (c : Thread nD τ) arg15 fullShare O))))) := by
  have hv : (i 1).val < 65 := (i 1).isLt
  rw [Gen.cc0_gate_up_eq_skeleton]; unfold Gen.cc0_gate_up_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  have hw3 : (View.readAt (Elt F) arg3.view (Rect.unit (s := S65) (k0_off10 i) S1.size (k0_off10_inb i)).toLoadRect f3
      (Shape.Idx.first (numel1_S1 ▸ Nat.one_pos))).toNat < 18 := by
    rw [word_eq arg3 f3 _ hv (k0_off10_eq i), e3]; exact hex
  have hk : ∀ a b, b.toNat < 18 → k0_chk1 a b := fun a b hb => chk_of a b hb
  sl_exec
  by_cases h1 : body_run.sl.v10 c i arg3 f3 = 1#1
  · sl_exec (disch := first | sl_exact h1 | exact hk _ _ hw3)
    sl_step
    have hlive : k0_cond2 (body_run.sl.r_2 c i arg6 f6) = 1#1 ↔ live X6 (i 1).val := by
      rw [cond2_iff]; unfold live
      rw [show body_run.sl.r_2 c i arg6 f6 = at65 X6 (i 1).val from
        (word_eq arg6 f6 _ hv (k0_off9_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD1 : View.read (Elt F) arg16.view (arg16.view.writes (Elt F) f16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f8 f9 (Scf.trips k0_t1_loop.lb k0_t1_loop.ub k0_t1_loop.st))) = if fresh X3 (i 1).val then deq X8 X9 else X16 := by
      rw [if_pos (hfr.mp h1), ← e8, ← e9]; exact scratch_eq1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f8 f9 f16
    have hD2 : View.read (Elt F) arg17.view (arg17.view.writes (Elt F) f17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f10 f11 (Scf.trips k0_t2_loop.lb k0_t2_loop.ub k0_t2_loop.st))) = if fresh X3 (i 1).val then deq X10 X11 else X17 := by
      rw [if_pos (hfr.mp h1), ← e10, ← e11]; exact scratch_eq2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f10 f11 f17
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists f13; isplitr; · ipureintro; exact e13
      iexact H13
    isplitl [H14]
    · iexists f14; isplitr; · ipureintro; exact e14
      iexact H14
    iexists (if fresh X3 (i 1).val then deq X8 X9 else X16)
    isplitr
    · ipureintro; rfl
    isplitl [H16]
    · iexists _; isplitr
      swap
      · iexact H16
      · ipureintro; exact hD1
    iexists (if fresh X3 (i 1).val then deq X10 X11 else X17)
    isplitr
    · ipureintro; rfl
    isplitl [H17]
    · iexists _; isplitr
      swap
      · iexact H17
      · ipureintro; exact hD2
    iexists _
    isplitr
    swap
    · iexists _; isplitr
      swap
      · iexact H15
      · ipureintro; rfl
    · ipureintro
      rw [← hD1, ← hD2]
      split
      · rename_i hl
        rw [if_pos (hlive.mp hl)]
        refine (View.read_writes_full _ _ _ _ _).trans ?_
        unfold outv
        have t3 := (word_eq arg3 f3 _ hv (k0_off10_eq i) (k0_off10_inb i) (numel1_S1 ▸ Nat.one_pos)).trans (congrArg (fun T => at65 T (i 1).val) e3)
        refine pay3_congr ?_ ?_ ?_ ?_ ?_
        · unfold body_run.sl.r_9
          refine pay32_congr ?_ ?_ ?_ ?_ ?_ ?_
          · rw [View.readAt_full]; exact e7
          · unfold body_run.sl.v20; rw [View.readAt_full]
          · unfold body_run.sl.r_4
            exact (scale_eq arg13 f13 _ rfl _ _).trans (congrArg₂ at18 e13 t3)
          · unfold body_run.sl.v26; rw [View.readAt_full]
          · rw [View.readAt_full]; exact e12
          · unfold body_run.sl.r_5
            exact (scale_eq arg14 f14 _ rfl _ _).trans (congrArg₂ at18 e14 t3)
        · unfold body_run.sl.r_10 body_run.sl.r_6; exact congrArg (k0_pay33 (F := F)) ((word_eq arg2 f2 _ hv (k0_off12_eq i) _ _).trans (congrArg (fun T => at65 T (i 1).val) e2))
        · unfold body_run.sl.r_11 body_run.sl.r_6 body_run.sl.r_7
          exact congrArg₂ (k0_pay34 (F := F)) ((word_eq arg2 f2 _ hv (k0_off12_eq i) _ _).trans (congrArg (fun T => at65 T (i 1).val) e2)) ((word_eq arg4 f4 _ hv (k0_off12_eq i) _ _).trans (congrArg (fun T => at65 T (i 1).val) e4))
        · unfold body_run.sl.r_12 body_run.sl.r_8; exact congrArg (k0_pay35 (F := F)) ((word_eq arg5 f5 _ hv (k0_off12_eq i) _ _).trans (congrArg (fun T => at65 T (i 1).val) e5))
        · rw [View.readAt_full]; exact e15
      · rename_i hl
        rw [if_neg (fun h => hl (hlive.mpr h))]; exact e15
  · sl_exec (disch := first | sl_exact h1 | exact hk _ _ hw3)
    sl_step
    have hlive : k0_cond2 (body_run.sl.r_8 c i arg6 f6) = 1#1 ↔ live X6 (i 1).val := by
      rw [cond2_iff]; unfold live
      rw [show body_run.sl.r_8 c i arg6 f6 = at65 X6 (i 1).val from
        (word_eq arg6 f6 _ hv (k0_off9_eq i) _ _).trans (by rw [e6])]
    have hfr : body_run.sl.v10 c i arg3 f3 = 1#1 ↔ fresh X3 (i 1).val := by
      have ha := (word_eq arg3 f3 _ hv (k0_off1_eq i) (k0_off1_inb i) (numel1_S1 ▸ Nat.one_pos)).trans (by rw [e3])
      have hb := (word_eq arg3 f3 _ (by omega : (i 1).val - 1 < 65) (k0_off2_eq i) (k0_off2_inb i) (numel1_S1 ▸ Nat.one_pos)).trans (by rw [e3])
      unfold fresh
      rw [← ha, ← hb]
      exact cond1_iff _ hv _ _
    have hD1 : View.read (Elt F) arg16.view f16 = if fresh X3 (i 1).val then deq X8 X9 else X16 := by
      rw [if_neg (fun h => h1 (hfr.mpr h))]; exact e16
    have hD2 : View.read (Elt F) arg17.view f17 = if fresh X3 (i 1).val then deq X10 X11 else X17 := by
      rw [if_neg (fun h => h1 (hfr.mpr h))]; exact e17
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists f13; isplitr; · ipureintro; exact e13
      iexact H13
    isplitl [H14]
    · iexists f14; isplitr; · ipureintro; exact e14
      iexact H14
    iexists (if fresh X3 (i 1).val then deq X8 X9 else X16)
    isplitr
    · ipureintro; rfl
    isplitl [H16]
    · iexists _; isplitr
      swap
      · iexact H16
      · ipureintro; exact hD1
    iexists (if fresh X3 (i 1).val then deq X10 X11 else X17)
    isplitr
    · ipureintro; rfl
    isplitl [H17]
    · iexists _; isplitr
      swap
      · iexact H17
      · ipureintro; exact hD2
    iexists _
    isplitr
    swap
    · iexists _; isplitr
      swap
      · iexact H15
      · ipureintro; rfl
    · ipureintro
      rw [← hD1, ← hD2]
      split
      · rename_i hl
        rw [if_pos (hlive.mp hl)]
        refine (View.read_writes_full _ _ _ _ _).trans ?_
        unfold outv
        have t3 := (word_eq arg3 f3 _ hv (k0_off10_eq i) (k0_off10_inb i) (numel1_S1 ▸ Nat.one_pos)).trans (congrArg (fun T => at65 T (i 1).val) e3)
        refine pay3_congr ?_ ?_ ?_ ?_ ?_
        · unfold body_run.sl.r_20
          refine pay32_congr ?_ ?_ ?_ ?_ ?_ ?_
          · rw [View.readAt_full]; exact e7
          · rw [View.readAt_full]
          · unfold body_run.sl.r_15
            exact (scale_eq arg13 f13 _ rfl _ _).trans (congrArg₂ at18 e13 t3)
          · rw [View.readAt_full]
          · rw [View.readAt_full]; exact e12
          · unfold body_run.sl.r_16
            exact (scale_eq arg14 f14 _ rfl _ _).trans (congrArg₂ at18 e14 t3)
        · unfold body_run.sl.r_21 body_run.sl.r_17; exact congrArg (k0_pay33 (F := F)) ((word_eq arg2 f2 _ hv (k0_off12_eq i) _ _).trans (congrArg (fun T => at65 T (i 1).val) e2))
        · unfold body_run.sl.r_22 body_run.sl.r_17 body_run.sl.r_18
          exact congrArg₂ (k0_pay34 (F := F)) ((word_eq arg2 f2 _ hv (k0_off12_eq i) _ _).trans (congrArg (fun T => at65 T (i 1).val) e2)) ((word_eq arg4 f4 _ hv (k0_off12_eq i) _ _).trans (congrArg (fun T => at65 T (i 1).val) e4))
        · unfold body_run.sl.r_23 body_run.sl.r_19; exact congrArg (k0_pay35 (F := F)) ((word_eq arg5 f5 _ hv (k0_off12_eq i) _ _).trans (congrArg (fun T => at65 T (i 1).val) e5))
        · rw [View.readAt_full]; exact e15
      · rename_i hl
        rw [if_neg (fun h => hl (hlive.mpr h))]; exact e15
end
end Cert.GateUpIdeal.Hand
-- ==== Proof.GateUpIdealRun.lean ====
module
public import proofs.«01_k».proof.Proof.GateUpIdealBody
public import Idealize.ShloMosaic.Lib.Pipeline.Frame
public import Idealize.ShloMosaic.Lib.Pipeline.FrameBody
public import Idealize.ShloMosaic.Lib.Pipeline.TableIdle
/-! # The gate and up kernel over its whole grid

What the body leaves at a grid point, as a relation to what it found, and the run of the program by it. -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4

variable {F : FTy → Type} [FloatOps F]

/-- The column and the visit of a grid point. -/
theorem coords_val (t : Fin grid0.N) : (grid0.coords t 0).val = t.val / 65 ∧ (grid0.coords t 1).val = t.val % 65 := by
  have ht : t.val < 520 := t.isLt.trans_eq N_0
  have h0 : grid0.stride 0 = 65 := by decide
  have h1 : grid0.stride 1 = 1 := by decide
  refine ⟨?_, ?_⟩
  · change t.val / grid0.stride 0 % 8 = _
    rw [h0]; omega
  · change t.val / grid0.stride 1 % 65 = _
    rw [h1, Nat.div_one]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (UR sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (UR sig nD τ) ℕ (cfg0 a) c where
  A w := A (Pipeline.arrRef spec0 w) c
  after w t Y X := X = Y
  Φ _ := iprop(emp)
  q _ := fullShare
  owed _ := 0

/-- The block of an input window at a point. -/
def inp (w : Fin 9) (t : Fin grid0.N) : ((cfg0 a).win w).block.Idx → Elt F ((cfg0 a).win w).elt :=
  (rd0 a A c).fetched w t (Classical.arbitrary _)

/-- The tables. -/
def tb (k : Fin 5) : S65.Idx → BitVec 32 := match k with
  | 0 => a.1 0 | 1 => a.1 1 | 2 => a.1 2 | 3 => a.1 3 | 4 => a.1 4

/-- The first scratch after point `t`: the first weight's block of its visit, dequantised. -/
def scr1 (t : Fin grid0.N) : Vec F S7168x256 .bf16 := deq (inp a A c 1 t) (inp a A c 2 t)

/-- The second scratch after point `t`: the third weight's block of its visit, dequantised. -/
def scr3 (t : Fin grid0.N) : Vec F S7168x256 .bf16 := deq (inp a A c 3 t) (inp a A c 4 t)

/-- What the output block holds after point `t`, if it held `Y` before. -/
def outF (t : Fin grid0.N) (Y : Vec F S256x256 .fp8e4m3) : Vec F S256x256 .fp8e4m3 :=
  if live (tb a 4) (grid0.coords t 1).val then
    outv (tb a 0) (tb a 1) (tb a 2) (tb a 3) (grid0.coords t 1).val (inp a A c 0 t) (scr1 a A c t) (scr3 a A c t) (inp a A c 5 t) (inp a A c 6 t) (inp a A c 7 t) Y
  else Y

/-- Before point `t` the scratches hold what the point before left in them. -/
def inv (t : Fin (grid0.N + 1)) : sProp 𝕄G :=
  iprop(Pipeline.prefHeld (Ix := Unit) (Name := ℕ) (U := UR sig nD τ) (Lvl := ℕ) pre0 c (fun _ => fullShare.right) a.1
    ∗ (∃ r, prngReg c r)
    ∗ (∃ D, ⌜∀ u : Fin grid0.N, u.val + 1 = t.val → D = scr1 a A c u⌝ ∗ owns (c : Thread nD τ) (Memref.whole cc0_scratch0) fullShare D)
    ∗ ∃ D, ⌜∀ u : Fin grid0.N, u.val + 1 = t.val → D = scr3 a A c u⌝ ∗ owns (c : Thread nD τ) (Memref.whole cc0_scratch1) fullShare D)

/-- The proof data of the run. -/
def rd : Pipeline.RDat τ (Elt F) Unit ℕ (UR sig nD τ) ℕ (cfg0 a) c where
  A w := A (Pipeline.arrRef spec0 w) c
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => X = outF a A c t Y
    | ⟨_ + 9, h⟩ => absurd h (Nat.not_lt.2 (Nat.le_add_left _ _))
  Φ t := inv a A c t
  q _ := fullShare
  owed _ := 0

/-- A buffer of an input window holds the window's block at every point. -/
theorem finds_inp (w : Fin 9) (hw : w ≠ 8) (t : Fin grid0.N) (Y : ((cfg0 a).win w).block.Idx → Elt F ((cfg0 a).win w).elt)
    (h : (rd a A c).Finds w t Y) : Y = inp a A c w t := by
  have hclip : ∀ (w : Fin 9) (i : grid0.Coords) (b), ((cfg0 a).win w).clip i b = none := by
    intro w i b; fin_cases w <;> rfl
  obtain ⟨d, rfl⟩ := (rd a A c).finds_in_eq_fetched w (by fin_cases w <;> first | rfl | exact absurd rfl hw)
    (fun t t' _ => by funext b; rw [hclip])
    (fun t Y X h => by fin_cases w <;> first | exact h | exact absurd rfl hw) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (UR sig nD τ) ℕ (cfg0 a) c) w t (fun b => hclip w _ b) _ _

/-- The word of a table an index map reads. -/
theorem pfAt (pf : S65.Idx → BitVec 32) (t : Fin grid0.N) (h : 0 < S1.numel) :
    pf ((Rect.unit (s := S65) (k0_off1 (grid0.coords t)) S1.size (k0_off1_inb (grid0.coords t))).emb (Shape.Idx.first h)) = at65 pf (grid0.coords t 1).val := by
  unfold at65
  refine congrArg pf (funext fun b => Fin.ext ?_)
  fin_cases b
  have e := congrFun (k0_off1_eq (grid0.coords t)) 0
  have hv : (grid0.coords t 1).val < 65 := (grid0.coords t 1).isLt
  have hf : (Shape.Idx.first h (0 : Fin 1)).val < 1 := (Shape.Idx.first h (0 : Fin 1)).isLt
  change k0_off1 (grid0.coords t) 0 + 1 * (Shape.Idx.first h (0 : Fin 1)).val = min _ 64
  have e' : k0_off1 (grid0.coords t) 0 = (grid0.coords t 1).val := e
  rw [e']
  omega

/-- The block index of the rows' window is the visit's tile. -/
theorem index0 (t : Fin grid0.N) : ((cfg0 a).win 0).index t = ![(at65 (tb a 0) (grid0.coords t 1).val).toNat, 0] := by
  refine Eq.trans ?_ (congrArg (fun w : BitVec 32 => ![w.toNat, 0]) (pfAt (tb a 0) t (numel1_S1 ▸ Nat.one_pos)))
  rfl

theorem ofNat_col (t : Fin grid0.N) : (BitVec.ofNat 32 (grid0.coords t 0).val).toNat = (grid0.coords t 0).val := by
  have : (grid0.coords t 0).val < 8 := (grid0.coords t 0).isLt
  rw [BitVec.toNat_ofNat]; omega

/-- The block index of a weight window is the visit's expert and column. -/
theorem index1 (t : Fin grid0.N) : ((cfg0 a).win 1).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index2 (t : Fin grid0.N) : ((cfg0 a).win 2).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index3 (t : Fin grid0.N) : ((cfg0 a).win 3).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index4 (t : Fin grid0.N) : ((cfg0 a).win 4).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

theorem index5 (t : Fin grid0.N) : ((cfg0 a).win 5).index t = ![(at65 (tb a 1) (grid0.coords t 1).val).toNat, 0, (grid0.coords t 0).val] := by
  refine Eq.trans ?_ (congrArg₂ (fun (w : BitVec 32) (n : ℕ) => ![w.toNat, 0, n]) (pfAt (tb a 1) t (numel1_S1 ▸ Nat.one_pos)) (ofNat_col t))
  rfl

/-- The block index of the output's window is the visit's tile and the column. -/
theorem index8 (t : Fin grid0.N) : ((cfg0 a).win 8).index t = ![(at65 (tb a 0) (grid0.coords t 1).val).toNat, (grid0.coords t 0).val] := by
  refine Eq.trans ?_ (congrArg₂ (fun (w : BitVec 32) (n : ℕ) => ![w.toNat, n]) (pfAt (tb a 0) t (numel1_S1 ▸ Nat.one_pos)) (ofNat_col t))
  rfl

/-- The expert of a visit is one of the eighteen. -/
theorem ex_lt (t : Fin grid0.N) : (at65 (tb a 1) (grid0.coords t 1).val).toNat < 18 := by
  obtain ⟨h, _⟩ := a.2.2.1 (grid0.coords t)
  have h0 := h (0 : Fin 3)
  have e : cc0_transform_1 k0_off1_inb numel1_S1 a.1 (grid0.coords t) (0 : Fin 3) = (at65 (tb a 1) (grid0.coords t 1).val).toNat := congrFun (index1 a t) (0 : Fin 3)
  rw [e] at h0
  have h1 : ((at65 (tb a 1) (grid0.coords t 1).val).toNat + 1) * 1 ≤ 18 := h0
  omega

/-- A block is fetched the same at two points of one block index. -/
theorem inp_congr (w : Fin 9) (t u : Fin grid0.N) (h : ((cfg0 a).win w).index t = ((cfg0 a).win w).index u) : inp a A c w t = inp a A c w u :=
  (rd0 a A c).fetched_congr w h (by funext b; fin_cases w <;> rfl) _

/-- A visit that keeps the expert of the visit before it finds the scratch it needs. -/
theorem scr1_stale (t u : Fin grid0.N) (hu : u.val + 1 = t.val) (h : ¬ fresh (tb a 1) (grid0.coords t 1).val) : scr1 a A c u = scr1 a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr1
  rw [inp_congr a A c 1 u t (by rw [index1, index1, e0, e1, h1]), inp_congr a A c 2 u t (by rw [index2, index2, e0, e1, h1])]

/-- What the body leaves in the scratch is the visit's block, made now or kept from the point before. -/
theorem scr1_next (t : Fin grid0.N) (D D' : Vec F S7168x256 .bf16) (hD : ∀ u : Fin grid0.N, u.val + 1 = t.val → D = scr1 a A c u)
    (h : D' = if fresh (tb a 1) (grid0.coords t 1).val then deq (inp a A c 1 t) (inp a A c 2 t) else D) : D' = scr1 a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr1_stale a A c t ⟨n, hlt⟩ hn hf]

/-- A visit that keeps the expert of the visit before it finds the scratch it needs. -/
theorem scr3_stale (t u : Fin grid0.N) (hu : u.val + 1 = t.val) (h : ¬ fresh (tb a 1) (grid0.coords t 1).val) : scr3 a A c u = scr3 a A c t := by
  unfold fresh at h
  rw [not_or, not_not] at h
  obtain ⟨h0, h1⟩ := h
  obtain ⟨t0, t1⟩ := coords_val t
  obtain ⟨u0, u1⟩ := coords_val u
  have e0 : (grid0.coords u 0).val = (grid0.coords t 0).val := by omega
  have e1 : (grid0.coords u 1).val = (grid0.coords t 1).val - 1 := by omega
  unfold scr3
  rw [inp_congr a A c 3 u t (by rw [index3, index3, e0, e1, h1]), inp_congr a A c 4 u t (by rw [index4, index4, e0, e1, h1])]

/-- What the body leaves in the scratch is the visit's block, made now or kept from the point before. -/
theorem scr3_next (t : Fin grid0.N) (D D' : Vec F S7168x256 .bf16) (hD : ∀ u : Fin grid0.N, u.val + 1 = t.val → D = scr3 a A c u)
    (h : D' = if fresh (tb a 1) (grid0.coords t 1).val then deq (inp a A c 3 t) (inp a A c 4 t) else D) : D' = scr3 a A c t := by
  rw [h]
  by_cases hf : fresh (tb a 1) (grid0.coords t 1).val
  · rw [if_pos hf]; rfl
  · rw [if_neg hf]
    have hp : 0 < t.val := by
      rcases Nat.eq_zero_or_pos t.val with h | h
      · refine absurd (Or.inl ?_) hf
        rw [(coords_val t).2, h]
      · exact h
    obtain ⟨n, hn⟩ : ∃ n, n + 1 = t.val := ⟨t.val - 1, by omega⟩
    have hlt : n < grid0.N := by have := t.isLt; omega
    rw [hD ⟨n, hlt⟩ hn, scr3_stale a A c t ⟨n, hlt⟩ hn hf]

theorem owns_whole (b : Ref sig .tc) (q : PosShare TreeShare) (X : b.ty.Contents (Elt F)) :
    (owns (c : Thread nD τ) (Memref.whole b) q X : sProp 𝕄G) = ((c.tc : Thread nD τ).loc b ↦{q} X) := by
  have hs : (Memref.whole b).view.set = Finset.univ := View.set_whole _
  unfold owns
  rw [hs]
  have h1 : iprop(∃ f, ⌜(Memref.whole b).view.read (Elt F) f = X⌝ ∗ ((Memref.whole b).view.loc (c : Thread nD τ) ↦[Finset.univ]{q} f))
      ⊢ ((c.tc : Thread nD τ).loc b ↦{q} X : sProp 𝕄G) := by
    iintro ⟨%f, %hf, H⟩
    have : f = X := hf
    subst this
    iexact H
  have h2 : ((c.tc : Thread nD τ).loc b ↦{q} X : sProp 𝕄G)
      ⊢ iprop(∃ f, ⌜(Memref.whole b).view.read (Elt F) f = X⌝ ∗ ((Memref.whole b).view.loc (c : Thread nD τ) ↦[Finset.univ]{q} f)) := by
    iintro H
    iexists X
    isplitr
    · ipureintro; rfl
    iexact H
  exact BI.equiv_iff.mp ⟨h1, h2⟩

theorem held_eq : (Pipeline.prefHeld (Ix := Unit) (Name := ℕ) (U := UR sig nD τ) (Lvl := ℕ) pre0 c (fun _ => fullShare.right) a.1 : sProp 𝕄G)
    = iprop(owns (c : Thread nD τ) (Memref.whole main_v49) fullShare.right (tb a 0) ∗ owns (c : Thread nD τ) (Memref.whole main_v25) fullShare.right (tb a 1)
      ∗ owns (c : Thread nD τ) (Memref.whole main_v56) fullShare.right (tb a 2) ∗ owns (c : Thread nD τ) (Memref.whole main_v63) fullShare.right (tb a 3)
      ∗ owns (c : Thread nD τ) (Memref.whole main_v66) fullShare.right (tb a 4)) := by
  unfold Pipeline.prefHeld
  refine (bigSep_univ_eq_bigSepL [(0 : Fin 5), (1 : Fin 5), (2 : Fin 5), (3 : Fin 5), (4 : Fin 5)] (by decide) (by decide) _).trans ?_
  rw [owns_whole, owns_whole, owns_whole, owns_whole, owns_whole]
  rfl

/-- The staging buffer of a window at a point. -/
abbrev st (w : Fin 9) (t : Fin grid0.N) := ((cfg0 a).win w).stage ((cfg0 a).slots t w)

/-- The body at a point, from the invariant and the blocks to the invariant after it. -/
theorem point_run (t : Fin grid0.N) (O : Vec F S256x256 .fp8e4m3) :
    iprop(inv a A c t.castSucc
        ∗ owns (c : Thread nD τ) (st a 0 t) fullShare (inp a A c 0 t) ∗ owns (c : Thread nD τ) (st a 1 t) fullShare (inp a A c 1 t) ∗ owns (c : Thread nD τ) (st a 2 t) fullShare (inp a A c 2 t) ∗ owns (c : Thread nD τ) (st a 3 t) fullShare (inp a A c 3 t) ∗ owns (c : Thread nD τ) (st a 4 t) fullShare (inp a A c 4 t) ∗ owns (c : Thread nD τ) (st a 5 t) fullShare (inp a A c 5 t) ∗ owns (c : Thread nD τ) (st a 6 t) fullShare (inp a A c 6 t) ∗ owns (c : Thread nD τ) (st a 7 t) fullShare (inp a A c 7 t)
        ∗ owns (c : Thread nD τ) (st a 8 t) fullShare O)
      ⊢ wp (M := 𝕄G) frame (wpE (defs₀ (F := F)) Variants.none (c : Thread nD τ) none) Set.univ
          (cc0_gate_up (F := F) (grid0.coords t) (Memref.whole main_v49) (Memref.isWhole_whole _) (Memref.whole main_v25) (Memref.isWhole_whole _) (Memref.whole main_v56) (Memref.isWhole_whole _) (Memref.whole main_v63) (Memref.isWhole_whole _) (Memref.whole main_v66) (Memref.isWhole_whole _)
            (spec0_0.stage ((cfg0 a).slots t 0)) (hstage0_0 (((cfg0 a).slots t 0).cast nbuf0_0))
            (spec0_1.stage ((cfg0 a).slots t 1)) (hstage0_1 (((cfg0 a).slots t 1).cast nbuf0_1))
            (spec0_2.stage ((cfg0 a).slots t 2)) (hstage0_2 (((cfg0 a).slots t 2).cast nbuf0_2))
            (spec0_3.stage ((cfg0 a).slots t 3)) (hstage0_3 (((cfg0 a).slots t 3).cast nbuf0_3))
            (spec0_4.stage ((cfg0 a).slots t 4)) (hstage0_4 (((cfg0 a).slots t 4).cast nbuf0_4))
            (spec0_5.stage ((cfg0 a).slots t 5)) (hstage0_5 (((cfg0 a).slots t 5).cast nbuf0_5))
            (spec0_6.stage ((cfg0 a).slots t 6)) (hstage0_6 (((cfg0 a).slots t 6).cast nbuf0_6))
            (spec0_7.stage ((cfg0 a).slots t 7)) (hstage0_7 (((cfg0 a).slots t 7).cast nbuf0_7))
            (spec0_8.stage ((cfg0 a).slots t 8)) (hstage0_8 (((cfg0 a).slots t 8).cast nbuf0_8))
            (Memref.whole cc0_scratch0) (Memref.isWhole_whole _) (Memref.whole cc0_scratch1) (Memref.isWhole_whole _))
          fun _ => iprop(inv a A c t.succ
        ∗ owns (c : Thread nD τ) (st a 0 t) fullShare (inp a A c 0 t) ∗ owns (c : Thread nD τ) (st a 1 t) fullShare (inp a A c 1 t) ∗ owns (c : Thread nD τ) (st a 2 t) fullShare (inp a A c 2 t) ∗ owns (c : Thread nD τ) (st a 3 t) fullShare (inp a A c 3 t) ∗ owns (c : Thread nD τ) (st a 4 t) fullShare (inp a A c 4 t) ∗ owns (c : Thread nD τ) (st a 5 t) fullShare (inp a A c 5 t) ∗ owns (c : Thread nD τ) (st a 6 t) fullShare (inp a A c 6 t) ∗ owns (c : Thread nD τ) (st a 7 t) fullShare (inp a A c 7 t)
        ∗ owns (c : Thread nD τ) (st a 8 t) fullShare (outF a A c t O)) := by
  unfold inv
  rw [held_eq]
  iintro ⟨⟨⟨T0, T1, T2, T3, T4⟩, HR, ⟨%D1, %hD1, HD1⟩, ⟨%D3, %hD3, HD3⟩⟩, W0, W1, W2, W3, W4, W5, W6, W7, W8⟩
  iapply (wp_wand (M := 𝕄G)) $$ [T0 T1 T2 T3 T4 W0 W1 W2 W3 W4 W5 W6 W7 W8 HD1 HD3]
  · iapply (body_run (F := F) Variants.none c none Set.univ (grid0.coords t) _ _ _ _ _ _ _ _ _ _ _ _ _ _ _ _ _ _ _ _ _ _ _ _ _ _ _ _ _ _ _ _
      fullShare.right (tb a 0) (tb a 1) (tb a 2) (tb a 3) (tb a 4) (inp a A c 0 t) (inp a A c 1 t) (inp a A c 2 t) (inp a A c 3 t) (inp a A c 4 t) (inp a A c 5 t) (inp a A c 6 t) (inp a A c 7 t) O D1 D3 (ex_lt a t))
    isplitl [T0]; · iexact T0
    isplitl [T1]; · iexact T1
    isplitl [T2]; · iexact T2
    isplitl [T3]; · iexact T3
    isplitl [T4]; · iexact T4
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [HD1]; · iexact HD1
    iexact HD3
  iintro %r ⟨T0, T1, T2, T3, T4, W0, W1, W2, W3, W4, W5, W6, W7, ⟨%D1', %hD1', HD1, %D3', %hD3', HD3, %O', %hO, W8⟩⟩
  have hscr1 : D1' = scr1 a A c t := scr1_next a A c t D1 D1' hD1 hD1'
  subst hscr1
  have hscr3 : D3' = scr3 a A c t := scr3_next a A c t D3 D3' hD3 hD3'
  subst hscr3
  have hOF : O' = outF a A c t O := hO
  subst hOF
  isplitl [T0 T1 T2 T3 T4 HR HD1 HD3]
  · isplitl [T0 T1 T2 T3 T4]
    · isplitl [T0]; · iexact T0
      isplitl [T1]; · iexact T1
      isplitl [T2]; · iexact T2
      isplitl [T3]; · iexact T3
      iexact T4
    isplitl [HR]; · iexact HR
    isplitl [HD1]
    · iexists (scr1 a A c t)
      isplitr
      · ipureintro
        intro u hu
        have : u = t := Fin.ext (by have : t.succ.val = t.val + 1 := rfl; omega)
        rw [this]
      iexact HD1
    iexists (scr3 a A c t)
    isplitr
    · ipureintro
      intro u hu
      have : u = t := Fin.ext (by have : t.succ.val = t.val + 1 := rfl; omega)
      rw [this]
    iexact HD3
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iexact W8

theorem owesAt_eq (t : Fin grid0.N) : ((rd a A c).owesAt () t.castSucc : sProp 𝕄G) = (rd a A c).owesAt () t.succ := rfl

/-- The body at every point takes the invariant and the blocks to those of the next point. -/
theorem body_ob : (rd a A c).BodyObligation defs₀ Variants.none () Set.univ := by
  intro t Y hY
  have h0 : Y 0 = inp a A c 0 t := finds_inp a A c 0 (by decide) t _ (hY 0)
  have h1 : Y 1 = inp a A c 1 t := finds_inp a A c 1 (by decide) t _ (hY 1)
  have h2 : Y 2 = inp a A c 2 t := finds_inp a A c 2 (by decide) t _ (hY 2)
  have h3 : Y 3 = inp a A c 3 t := finds_inp a A c 3 (by decide) t _ (hY 3)
  have h4 : Y 4 = inp a A c 4 t := finds_inp a A c 4 (by decide) t _ (hY 4)
  have h5 : Y 5 = inp a A c 5 t := finds_inp a A c 5 (by decide) t _ (hY 5)
  have h6 : Y 6 = inp a A c 6 t := finds_inp a A c 6 (by decide) t _ (hY 6)
  have h7 : Y 7 = inp a A c 7 t := finds_inp a A c 7 (by decide) t _ (hY 7)
  rw [bigSep_W0, bigSep_W0, h0, h1, h2, h3, h4, h5, h6, h7]
  have key := point_run a A c t (Y 8)
  refine BIBase.Entails.trans ?_ ((sep_mono_left key (Q := (rd a A c).owesAt () t.castSucc)).trans ((wp_frame_r (M := 𝕄G) _ _ _).trans (wp_mono (M := 𝕄G) _ _ _ fun r => ?_)))
  · change iprop(inv a A c t.castSucc ∗ _) ⊢ _
    iintro ⟨HI, HO, W0, W1, W2, W3, W4, W5, W6, W7, W8⟩
    isplitr [HO]
    · isplitl [HI]; · iexact HI
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      iexact W8
    iexact HO
  · change _ ⊢ iprop(inv a A c t.succ ∗ _)
    iintro ⟨⟨HI, W0, W1, W2, W3, W4, W5, W6, W7, W8⟩, HO⟩
    isplitl [HI]; · iexact HI
    isplitl [HO]; · iexact HO
    isplitl [W0]
    · iexists (inp a A c 0 t); isplitr; · ipureintro; rfl
      iexact W0
    isplitl [W1]
    · iexists (inp a A c 1 t); isplitr; · ipureintro; rfl
      iexact W1
    isplitl [W2]
    · iexists (inp a A c 2 t); isplitr; · ipureintro; rfl
      iexact W2
    isplitl [W3]
    · iexists (inp a A c 3 t); isplitr; · ipureintro; rfl
      iexact W3
    isplitl [W4]
    · iexists (inp a A c 4 t); isplitr; · ipureintro; rfl
      iexact W4
    isplitl [W5]
    · iexists (inp a A c 5 t); isplitr; · ipureintro; rfl
      iexact W5
    isplitl [W6]
    · iexists (inp a A c 6 t); isplitr; · ipureintro; rfl
      iexact W6
    isplitl [W7]
    · iexists (inp a A c 7 t); isplitr; · ipureintro; rfl
      iexact W7
    iexists (outF a A c t (Y 8)); isplitr; · ipureintro; rfl
    iexact W8

end
end Cert.GateUpIdeal.Hand
-- ==== Proof.GateUpIdealLaunch.lean ====
module
public import proofs.«01_k».proof.Proof.GateUpIdealRun
public import proofs.«01_k».proof.Proof.Gen.GateUpIdeal.Launch
public import Idealize.ShloMosaic.Lib.StableHlo.RunRead
/-! # The run of the gate and up program

The host's operations build the tables, and the kernel runs over its grid with them. -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-- The lines of the host before the kernel. -/
abbrev lines : List (List (HloOp τ sig (Elt F))) :=
  [hostOps0, hostOps0_1, hostOps0_2, hostOps0_3, hostOps0_4, hostOps0_5, hostOps0_6, hostOps0_7, hostOps0_8]

/-- The buffers as the kernel finds them. -/
def V (m : (ℓ : Loc nD τ sig) → Buf (Elt F) ℓ) (c : Dev nD) (b : Ref sig .tc) : Buf (Elt F) ((c.tc : Thread nD τ).loc b) :=
  StableHlo.after (lines (F := F)).flatten (fun b => m (c, b)) b

variable (m : (ℓ : Loc nD τ sig) → Buf (Elt F) ℓ) (g : Dev nD → PrngReg)

theorem hmain : Pipeline.HMainP (Ix := Unit) (Name := ℕ) (U := UR sig nD τ) (Lvl := ℕ) (pcfgs (F := F)) 0 (defs₀ (F := F)) Variants.none m (main (F := F)) (V m) :=
  Pipeline.hmainP_prefixes pcfgs 0 defs₀ Variants.none m main lines
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl

attribute [irreducible] V

/-- The proof data at the buffers the kernel finds. -/
abbrev rdV (a : (pcfg0 (F := F)).Adm) (c : Dev nD) := rd a (fun b c => V m c b) c

theorem rd_in (a : (pcfg0 (F := F)).Adm) (c : Dev nD) :
    iprop(Pipeline.ΦA spec0 c ∗ Pipeline.ΦT pre0 a.1 c) ⊢ (inv a (fun b c => V m c b) c 0 : sProp 𝕄G) := by
  unfold Pipeline.ΦA Pipeline.ΦT inv
  rw [scopedRest0_eq]
  simp only [owns_whole]
  iintro ⟨⟨⟨⟨%f, HS⟩, ⟨%f', HS'⟩⟩, HR⟩, HT⟩
  isplitl [HT]; · iexact HT
  isplitl [HR]; · iexact HR
  isplitl [HS]
  · iexists f
    isplitr
    · ipureintro
      intro u hu
      exact absurd hu (Nat.succ_ne_zero _)
    iexact HS
  iexists f'
  isplitr
  · ipureintro
    intro u hu
    exact absurd hu (Nat.succ_ne_zero _)
  iexact HS'

theorem rd_out (a : (pcfg0 (F := F)).Adm) (c : Dev nD) :
    (inv a (fun b c => V m c b) c (Fin.last grid0.N) : sProp 𝕄G) ⊢ Pipeline.ΦA spec0 c := by
  unfold Pipeline.ΦA inv
  rw [scopedRest0_eq]
  simp only [owns_whole]
  iintro ⟨HT, HR, ⟨%D, %hD, HD⟩, ⟨%D', %hD', HD'⟩⟩
  isplitl [HD HD']
  · isplitl [HD]
    · iexists D
      iexact HD
    iexists D'
    iexact HD'
  iexact HR

set_option backward.isDefEq.respectTransparency.types false in
/-- The program runs, whenever the tables the host builds are admissible. -/
theorem run_main (a : (pcfg0 (F := F)).Adm) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_track (pcfgs (F := F)) (fun _ => a) (0 : Fin 1) launch0 defs₀ Variants.none (rdV m a) m g main
    (fun c => body_ob a _ c) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)

theorem arg6_rest : main_arg6 ∈ Pipeline.restRefs sig spec0 := Pipeline.mem_restRefs_of _ rfl (by decide)

theorem A_0 (a : (pcfg0 (F := F)).Adm) (c : Dev nD) : (rdV m a c).A 0 = m ((c : Thread nD τ).loc main_arg1) := V_arg1 m c
theorem A_1 (a : (pcfg0 (F := F)).Adm) (c : Dev nD) : (rdV m a c).A 1 = m ((c : Thread nD τ).loc main_arg2) := V_arg2 m c
theorem A_2 (a : (pcfg0 (F := F)).Adm) (c : Dev nD) : (rdV m a c).A 2 = m ((c : Thread nD τ).loc main_arg3) := V_arg3 m c
theorem A_3 (a : (pcfg0 (F := F)).Adm) (c : Dev nD) : (rdV m a c).A 3 = m ((c : Thread nD τ).loc main_arg4) := V_arg4 m c
theorem A_4 (a : (pcfg0 (F := F)).Adm) (c : Dev nD) : (rdV m a c).A 4 = m ((c : Thread nD τ).loc main_arg5) := V_arg5 m c
theorem A_6 (a : (pcfg0 (F := F)).Adm) (c : Dev nD) : (rdV m a c).A 6 = m ((c : Thread nD τ).loc main_arg7) := V_arg7 m c
theorem A_7 (a : (pcfg0 (F := F)).Adm) (c : Dev nD) : (rdV m a c).A 7 = m ((c : Thread nD τ).loc main_arg8) := V_arg8 m c

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact ((h c).2 main_arg0 arg0_rest).trans (V_arg0 m c)
  · have e := h.arr_in c 0 rfl
    rw [A_0] at e; exact e
  · have e := h.arr_in c 1 rfl
    rw [A_1] at e; exact e
  · have e := h.arr_in c 2 rfl
    rw [A_2] at e; exact e
  · have e := h.arr_in c 3 rfl
    rw [A_3] at e; exact e
  · have e := h.arr_in c 4 rfl
    rw [A_4] at e; exact e
  · exact ((h c).2 main_arg6 arg6_rest).trans (V_arg6 m c)
  · have e := h.arr_in c 6 rfl
    rw [A_6] at e; exact e
  · have e := h.arr_in c 7 rfl
    rw [A_7] at e; exact e

end Cert.GateUpIdeal.Hand
-- ==== Proof.GateUpIdealTables.lean ====
module
public import proofs.«01_k».proof.Proof.GateUpIdealLaunch
public import proofs.«01_k».proof.Proof.Rows
/-! # The tables the host hands to the kernel -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4
open Idealize.ShloMosaic.Routing Idealize.ShloMosaic.ValueIdx
variable {F : FTy → Type} [FloatOps F]
variable (m : (ℓ : Loc nD τ sig) → Buf (Elt F) ℓ) (c : Dev nD)

theorem sh : Sh where
  b00 := bcast_S_S_
  win := reduceWindows_S18_S18_w18s1p17_0
  h0 := h_S_
  b18 := bcast_S_S18
  sl := slices_S18_S1_17
  sc := shapeCasts_S1_S_
  b65 := bcast_S_S65
  col := bcast_S65_S65x1_0
  row := bcast_S18_S1x18_1
  cols := bcast_S65x1_S65x18_0_1
  rows := bcast_S1x18_S65x18_0_1
  red := reducesTo_S65x18_S65_d1
  lt := natLt_1_32

/-- The experts' row counts. -/
abbrev gs : IVec (shape1 18) 32 := m ((c : Thread nD τ).loc main_arg0)

theorem V_ex : V m c main_v25 = wEx sh (gs m c) := by
  unfold V
  after_reads_simp
  simp -implicitDefEqProofs only [StableHlo.TRef.toBuf, StableHlo.TRef.ofBuf, cast_cast, cast_eq, id]
  rfl
theorem V_live : V m c main_v66 = wLive sh (gs m c) := by
  unfold V
  after_reads_simp
  simp -implicitDefEqProofs only [StableHlo.TRef.toBuf, StableHlo.TRef.ofBuf, cast_cast, cast_eq, id]
  rfl
theorem V_lo : V m c main_v56 = wTake sh gather_S18_S65x1_S65_n_0_n_n_0_1_1 (gs m c) (wStart sh (gs m c)) := by
  unfold V
  after_reads_simp
  simp -implicitDefEqProofs only [StableHlo.TRef.toBuf, StableHlo.TRef.ofBuf, cast_cast, cast_eq, id]
  rfl
theorem V_hi : V m c main_v63 = wTake sh gather_S18_S65x1_S65_n_0_n_n_0_1_1 (gs m c) (wCum sh (gs m c)) := by
  unfold V
  after_reads_simp
  simp -implicitDefEqProofs only [StableHlo.TRef.toBuf, StableHlo.TRef.ofBuf, cast_cast, cast_eq, id]
  rfl
theorem V_tile : V m c main_v49 = wTile sh gather_S18_S65x1_S65_n_0_n_n_0_1_1 (gs m c) := by
  unfold V
  after_reads_simp
  simp -implicitDefEqProofs only [StableHlo.TRef.toBuf, StableHlo.TRef.ofBuf, cast_cast, cast_eq, id]
  rfl

end Cert.GateUpIdeal.Hand
-- ==== Proof.GateUpIdealAdm.lean ====
module
public import proofs.«01_k».proof.Proof.GateUpIdealTables
/-! # The tables are admissible

Under the precondition every visit's tile is one of the 48 and its expert one of the eighteen, so that every block lies inside its array. -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4
open Idealize.ShloMosaic.Routing
open Idealize.SL.Sem
variable {F : FTy → Type} [FloatOps F]
variable (m : (ℓ : Loc nD τ sig) → Buf (Elt F) ℓ)

/-- The tables as the kernel finds them. -/
def pf0 : pre0.Contents (Elt F) := fun k => V m 0 (pre0.ref k)

/-- The number of rows of an expert. -/
abbrev gn : ℕ → ℕ := cnt (gs m 0)

variable (hs : sm (gn m) 18 = 12288)
include hs

omit hs in
theorem at65_lt (T : S65.Idx → BitVec 32) (v : ℕ) (hv : v < 65) : at65 T v = T (ValueIdx.ix1 ⟨v, hv⟩) := by
  unfold at65
  have e : min v 64 = v := by omega
  simp only [e]
  rfl

theorem tile_at (v : ℕ) (hv : v < 65) : at65 (V m 0 main_v49) v = BitVec.ofNat 32 (tile (gn m) v) := by
  rw [at65_lt _ v hv]
  exact (congrFun (V_tile m 0) _).trans (wTile_ap sh _ (gs m 0) (gn m) (cnt_word _) hs rfl rfl rfl rfl ⟨v, hv⟩)

theorem ex_at (v : ℕ) (hv : v < 65) : at65 (V m 0 main_v25) v = BitVec.ofNat 32 (ex (gn m) v) := by
  rw [at65_lt _ v hv]
  exact (congrFun (V_ex m 0) _).trans (wEx_ap sh (gs m 0) (gn m) (cnt_word _) hs ⟨v, hv⟩)

theorem lo_at (v : ℕ) (hv : v < 65) : at65 (V m 0 main_v56) v = BitVec.ofNat 32 (sm (gn m) (ex (gn m) v)) := by
  rw [at65_lt _ v hv]
  exact (congrFun (V_lo m 0) _).trans ((wTake_ap sh _ (gs m 0) (gn m) (cnt_word _) hs rfl rfl rfl rfl _ ⟨v, hv⟩ (ex_place (gn m) hs v).1).trans
    (wStart_ap sh (gs m 0) (gn m) (cnt_word _) hs _))

theorem hi_at (v : ℕ) (hv : v < 65) : at65 (V m 0 main_v63) v = BitVec.ofNat 32 (sm (gn m) (ex (gn m) v + 1)) := by
  rw [at65_lt _ v hv]
  exact (congrFun (V_hi m 0) _).trans ((wTake_ap sh _ (gs m 0) (gn m) (cnt_word _) hs rfl rfl rfl rfl _ ⟨v, hv⟩ (ex_place (gn m) hs v).1).trans
    (wCum_ap sh (gs m 0) (gn m) (cnt_word _) _ (gn m) (cnt_word _) _))

theorem live_at (v : ℕ) (hv : v < 65) : at65 (V m 0 main_v66) v = BitVec.ofNat 32 (if v < total (gn m) then 1 else 0) := by
  rw [at65_lt _ v hv]
  exact (congrFun (V_live m 0) _).trans (wLive_ap sh (gs m 0) (gn m) (cnt_word _) hs ⟨v, hv⟩)

omit hs in
/-- The word of a table an index map reads. -/
theorem pfAtI (pf : S65.Idx → BitVec 32) (i : grid0.Coords) (h : 0 < S1.numel) :
    pf ((Rect.unit (s := S65) (k0_off1 i) S1.size (k0_off1_inb i)).emb (Shape.Idx.first h)) = at65 pf (i 1).val := by
  unfold at65
  refine congrArg pf (funext fun b => Fin.ext ?_)
  fin_cases b
  have e := congrFun (k0_off1_eq i) 0
  have hv : (i 1).val < 65 := (i 1).isLt
  have hf : (Shape.Idx.first h (0 : Fin 1)).val < 1 := (Shape.Idx.first h (0 : Fin 1)).isLt
  change k0_off1 i 0 + 1 * (Shape.Idx.first h (0 : Fin 1)).val = min _ 64
  have e' : k0_off1 i 0 = (i 1).val := e
  rw [e']
  omega

omit hs in
theorem ix_row (i : grid0.Coords) : cc0_transform_0 k0_off1_inb numel1_S1 (pf0 m) i = ![(at65 (V m 0 main_v49) (i 1).val).toNat, 0] := by
  refine Eq.trans ?_ (congrArg (fun w : BitVec 32 => ![w.toNat, 0]) (pfAtI (V m 0 main_v49) i (numel1_S1 ▸ Nat.one_pos)))
  rfl

omit hs in
theorem colI (i : grid0.Coords) : (BitVec.ofNat 32 (i 0).val).toNat = (i 0).val := by
  have : (i 0).val < 8 := (i 0).isLt
  rw [BitVec.toNat_ofNat]; omega

omit hs in
theorem ix_1 (i : grid0.Coords) : cc0_transform_1 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_2 (i : grid0.Coords) : cc0_transform_2 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_3 (i : grid0.Coords) : cc0_transform_3 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_4 (i : grid0.Coords) : cc0_transform_4 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_5 (i : grid0.Coords) : cc0_transform_5 k0_off1_inb numel1_S1 (pf0 m) i = ![(at65 (V m 0 main_v25) (i 1).val).toNat, 0, (i 0).val] := by
  refine Eq.trans ?_ (congrArg₂ (fun (w : BitVec 32) (n : ℕ) => ![w.toNat, 0, n]) (pfAtI (V m 0 main_v25) i (numel1_S1 ▸ Nat.one_pos)) (colI i))
  rfl

omit hs in
theorem ix_o (i : grid0.Coords) : cc0_transform_8 k0_off1_inb numel1_S1 (pf0 m) i = ![(at65 (V m 0 main_v49) (i 1).val).toNat, (i 0).val] := by
  refine Eq.trans ?_ (congrArg₂ (fun (w : BitVec 32) (n : ℕ) => ![w.toNat, n]) (pfAtI (V m 0 main_v49) i (numel1_S1 ▸ Nat.one_pos)) (colI i))
  rfl

theorem tile_toNat (v : ℕ) (hv : v < 65) : (at65 (V m 0 main_v49) v).toNat = tile (gn m) v := by
  have h := tile_lt (gn m) hs v
  rw [tile_at m hs v hv, BitVec.toNat_ofNat]
  omega

theorem ex_toNat (v : ℕ) (hv : v < 65) : (at65 (V m 0 main_v25) v).toNat = ex (gn m) v := by
  have h := (ex_place (gn m) hs v).1
  rw [ex_at m hs v hv, BitVec.toNat_ofNat]
  omega

theorem adm : ok0 (pf0 m) := by
  refine ⟨fun i => ?_, fun i => ?_, fun i => ?_, fun i => ?_, fun i => ?_, fun i => ?_, fun i => ?_⟩
  · have hv : (i 1).val < 65 := (i 1).isLt
    have h1 := tile_lt (gn m) hs (i 1).val
    have h : ∀ a, (cc0_transform_0 k0_off1_inb numel1_S1 (pf0 m) i a + 1) * S256x7168.size a ≤ S12288x7168.size a := by
      rw [ix_row, tile_toNat m hs _ hv]
      intro a; fin_cases a
      · show (tile (gn m) (i 1).val + 1) * 256 ≤ 12288; omega
      · show (0 + 1) * 7168 ≤ 7168; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_1 k0_off1_inb numel1_S1 (pf0 m) i a + 1) * S1x3584x256.size a ≤ S18x3584x2048.size a := by
      rw [ix_1, ex_toNat m hs _ hv]
      intro a; fin_cases a
      · show (ex (gn m) (i 1).val + 1) * 1 ≤ 18; omega
      · show (0 + 1) * 3584 ≤ 3584; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_2 k0_off1_inb numel1_S1 (pf0 m) i a + 1) * S1x56x256.size a ≤ S18x56x2048.size a := by
      rw [ix_2, ex_toNat m hs _ hv]
      intro a; fin_cases a
      · show (ex (gn m) (i 1).val + 1) * 1 ≤ 18; omega
      · show (0 + 1) * 56 ≤ 56; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_3 k0_off1_inb numel1_S1 (pf0 m) i a + 1) * S1x3584x256.size a ≤ S18x3584x2048.size a := by
      rw [ix_3, ex_toNat m hs _ hv]
      intro a; fin_cases a
      · show (ex (gn m) (i 1).val + 1) * 1 ≤ 18; omega
      · show (0 + 1) * 3584 ≤ 3584; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_4 k0_off1_inb numel1_S1 (pf0 m) i a + 1) * S1x56x256.size a ≤ S18x56x2048.size a := by
      rw [ix_4, ex_toNat m hs _ hv]
      intro a; fin_cases a
      · show (ex (gn m) (i 1).val + 1) * 1 ≤ 18; omega
      · show (0 + 1) * 56 ≤ 56; omega
      · show ((i 0).val + 1) * 256 ≤ 2048; omega
    exact ⟨h, .inr (Affine.block_words_dvd (by decide) (by decide))⟩
  · have hv : (i 1).val < 65 := (i 1).isLt
    have hc : (i 0).val < 8 := (i 0).isLt
    have h1 := (ex_place (gn m) hs (i 1).val).1
    have h : ∀ a, (cc0_transform_5 k0_off1_inb numel1_S1 (pf0 m) i a + 1) * S1x1x256.size a ≤ S18x1x2048.size a := by
      rw [ix_5, ex_toNat m hs _ hv]
      intro a; fin_cases a
      · show (ex (gn m) (i 1).val + 1) * 1 ≤ 18; omega
      · show (0 + 1) * 1 ≤ 1; omega
      · show ((i 0).val + 1) * 256 ≤ 2048; omega
    exact ⟨h, .inl rfl⟩
  · have hv : (i 1).val < 65 := (i 1).isLt
    have hc : (i 0).val < 8 := (i 0).isLt
    have h1 := tile_lt (gn m) hs (i 1).val
    have h : ∀ a, (cc0_transform_8 k0_off1_inb numel1_S1 (pf0 m) i a + 1) * S256x256.size a ≤ S12288x2048.size a := by
      rw [ix_o, tile_toNat m hs _ hv]
      intro a; fin_cases a
      · show (tile (gn m) (i 1).val + 1) * 256 ≤ 12288; omega
      · show ((i 0).val + 1) * 256 ≤ 2048; omega
    exact ⟨h, .inr (Affine.block_words_dvd (by decide) (by decide))⟩

/-- The tables, admissible. -/
def ad : (pcfg0 (F := F)).Adm := ⟨pf0 m, adm m hs⟩

theorem hpf (c : Dev nD) (k) : V m c (pre0.ref k) = (ad m hs).1 k := by
  obtain rfl : c = 0 := Subsingleton.elim _ _
  rfl

/-- The frame of the program, for memories whose row counts sum to the number of rows. -/
theorem frame (g : Dev nD → PrngReg) : θ_run defs (onTc (τ := τ) (main (F := F))) ⟨m, fun _ => 0, g⟩
    (fun r => (∀ c : Dev nD, (r.2.mem ((c.tc : Thread nD τ).loc main_arg0) = m ((c.tc : Thread nD τ).loc main_arg0)) ∧ (r.2.mem ((c.tc : Thread nD τ).loc main_arg1) = m ((c.tc : Thread nD τ).loc main_arg1)) ∧ (r.2.mem ((c.tc : Thread nD τ).loc main_arg2) = m ((c.tc : Thread nD τ).loc main_arg2)) ∧ (r.2.mem ((c.tc : Thread nD τ).loc main_arg3) = m ((c.tc : Thread nD τ).loc main_arg3)) ∧ (r.2.mem ((c.tc : Thread nD τ).loc main_arg4) = m ((c.tc : Thread nD τ).loc main_arg4)) ∧ (r.2.mem ((c.tc : Thread nD τ).loc main_arg5) = m ((c.tc : Thread nD τ).loc main_arg5)) ∧ (r.2.mem ((c.tc : Thread nD τ).loc main_arg6) = m ((c.tc : Thread nD τ).loc main_arg6)) ∧ (r.2.mem ((c.tc : Thread nD τ).loc main_arg7) = m ((c.tc : Thread nD τ).loc main_arg7)) ∧ (r.2.mem ((c.tc : Thread nD τ).loc main_arg8) = m ((c.tc : Thread nD τ).loc main_arg8))) ∧ r.2.sem = fun _ => 0) :=
  (θ_run defs _ _).mono (fun r h => ⟨fun c => args_of m (ad m hs) r h.1 c, h.2⟩) (run_main m g (ad m hs) (hpf m hs))

end Cert.GateUpIdeal.Hand
-- ==== Proof.Act.lean ====
module
public import Idealize.ShloMosaic.Lib.Pointwise
/-! # One entry of the activation

`silu(g) * u`, times the expert's per-channel factor, divided by the expert's scale and clipped to the range of an 8-bit float. -/
@[expose] public section
noncomputable section
namespace Cert.W4
open Idealize.ShloMosaic

/-- The gated activation of a gate entry `g` and an up entry `u`, with factor `q` and scale `a`. -/
def act (g u q a : EReal) : EReal :=
  min (Ideal.ofBits .f32 0x43E00000#32) (max (Ideal.ofBits .f32 0xC3E00000#32) (Ideal.div (g * Ideal.logistic g * u * q) a))

theorem act_congr {g g' u u' q q' a a' : EReal} (h1 : g = g') (h2 : u = u') (h3 : q = q') (h4 : a = a') : act g u q a = act g' u' q' a' := by
  rw [h1, h2, h3, h4]

end Cert.W4
-- ==== Proof.GateUpIdealValue.lean ====
module
public import proofs.«01_k».proof.Proof.GateUpIdealAdm
public import proofs.«01_k».proof.Proof.Act
public import Idealize.ShloMosaic.Lib.Pointwise
public import Idealize.ShloMosaic.Lib.Pipeline.Covers
public import Idealize.ShloMosaic.Lib.Pipeline.ArrRel
public import Idealize.ShloMosaic.Lib.Pipeline.ValueKit
/-! # What the gate and up program computes

Every row of the output is its own expert's: the row's block is stored first or last at the visit of the row's expert, and no other visit changes the row. -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4
open Idealize.ShloMosaic.WordCmp
open Idealize.SL.Sem

/-- Row `r` of the codes times column `k` of expert `e`'s dequantised matrix, times the expert's scale. -/
def proj (H : Vec Ideal S12288x7168 .fp8e4m3) (W : Vec Ideal S18x3584x2048 .i8) (S : Vec Ideal S18x56x2048 .bf16) (A : Vec Ideal S18 .f32)
    (e : Fin 18) (r : Fin 12288) (k : Fin 2048) : EReal :=
  (∑ p : Fin 7168, H (ix2 r p) * dqe (F := Ideal) (W (ix3 e ⟨p.val / 2, by omega⟩ k)) p.val (S (ix3 e ⟨p.val / 128, by omega⟩ k))) * A (ix1 e)

/-- Entry `(r, k)` of the activation codes: the gate's and the up projection's entries through `act`. -/
def entry (H : Vec Ideal S12288x7168 .fp8e4m3) (W1 : Vec Ideal S18x3584x2048 .i8) (S1 : Vec Ideal S18x56x2048 .bf16)
    (W3 : Vec Ideal S18x3584x2048 .i8) (S3 : Vec Ideal S18x56x2048 .bf16) (P : Vec Ideal S18x1x2048 .f32) (A1 A2 : Vec Ideal S18 .f32)
    (e : Fin 18) (r : Fin 12288) (k : Fin 2048) : EReal :=
  act (proj H W1 S1 A1 e r k) (proj H W3 S3 A1 e r k) (P (ix3 e 0 k)) (A2 (ix1 e))

/-- Where a visit's expert owns the row, the visit stores its entry. -/
theorem outv_in (T2 T3 T4 T5 : S65.Idx → BitVec 32) (v : ℕ) (X : Vec Ideal S256x7168 .fp8e4m3) (D1 D3 : Vec Ideal S7168x256 .bf16)
    (P : Vec Ideal S1x1x256 .f32) (A1 A2 : S18.Idx → EReal) (Y : Vec Ideal S256x256 .fp8e4m3) (t lo hi : ℕ) (ht : t < 48) (hlo : lo ≤ 12288) (hhi : hi ≤ 12288)
    (e2 : at65 T2 v = BitVec.ofNat 32 t) (e4 : at65 T4 v = BitVec.ofNat 32 lo) (e5 : at65 T5 v = BitVec.ofNat 32 hi)
    (j : Fin 256) (k : Fin 256) :
    outv (F := Ideal) T2 T3 T4 T5 v X D1 D3 P A1 A2 Y (ix2 j k)
      = if lo ≤ t * 256 + j.val ∧ t * 256 + j.val < hi then
          act ((∑ p : Fin 7168, X (ix2 j p) * D1 (ix2 p k)) * at18 (F := Ideal) A1 (at65 T3 v)) ((∑ p : Fin 7168, X (ix2 j p) * D3 (ix2 p k)) * at18 (F := Ideal) A1 (at65 T3 v))
            (P (ix3 0 0 k)) (at18 (F := Ideal) A2 (at65 T3 v)) else Y (ix2 j k) := by
  unfold outv
  rw [e2, e4, e5]
  generalize at18 (F := Ideal) A1 (at65 T3 v) = s1
  generalize at18 (F := Ideal) A2 (at65 T3 v) = s2
  pointwise [k0_pay3, k0_pay32, k0_pay33, k0_pay34, k0_pay35]
  have hw : IntOp.addi (Scalar.muli (BitVec.ofNat 32 t) 256#32) (BitVec.ofNat 32 j.val) = BitVec.ofNat 32 (t * 256 + j.val) := by
    rw [BitVec.ofNat_add, BitVec.ofNat_mul]; rfl
  have hj := j.isLt
  rw [hw, cmpi_sge_ofNat (by omega) (by omega), cmpi_slt_ofNat (by omega) (by omega)]
  by_cases h1 : lo ≤ t * 256 + j.val <;> by_cases h2 : t * 256 + j.val < hi <;>
    simp [h1, h2, Scalar.select, IntOp.andi, act]

section
variable (a : (pcfg0 (F := Ideal)).Adm) (A : (b : Ref sig .tc) → (c : Dev nD) → Buf (Elt Ideal) ((c.tc : Thread nD τ).loc b)) (c : Dev nD)

theorem inp0_ap (t : Fin grid0.N) (T : ℕ) (hT : (at65 (tb a 0) (grid0.coords t 1).val).toNat = T) (j : Fin 256) (p : Fin 7168) (h : T * 256 + j.val < 12288) :
    inp a A c 0 t (ix2 j p) = A main_arg1 c (ix2 ⟨T * 256 + j.val, h⟩ p) := by
  unfold inp Pipeline.RDat.fetched Pipeline.Window.fill
  have hm : ((cfg0 a).win 0).moved ((cfg0 a).grid.coords t) (ix2 j p) = true :=
    (((cfg0 a).win 0).moved_iff _ _).mpr fun b => (ix2 j p b).isLt
  refine (dif_pos hm).trans ?_
  refine congrArg (A main_arg1 c) (funext fun b => Fin.ext ?_)
  refine (((cfg0 a).win 0).rect_emb_val t _ b rfl).trans ?_
  rw [index0, hT]
  fin_cases b
  · rfl
  · change 0 * 7168 + p.val = p.val
    omega

theorem inp1_ap (t : Fin grid0.N) (e n : ℕ) (he : (at65 (tb a 1) (grid0.coords t 1).val).toNat = e) (hn : (grid0.coords t 0).val = n)
    (p : Fin 3584) (k : Fin 256) (h : e < 18) (hk : n * 256 + k.val < 2048) :
    inp a A c 1 t (ix3 0 p k) = A main_arg2 c (ix3 ⟨e, h⟩ p ⟨n * 256 + k.val, hk⟩) := by
  unfold inp Pipeline.RDat.fetched Pipeline.Window.fill
  have hm : ((cfg0 a).win 1).moved ((cfg0 a).grid.coords t) (ix3 0 p k) = true :=
    (((cfg0 a).win 1).moved_iff _ _).mpr fun b => (ix3 0 p k b).isLt
  refine (dif_pos hm).trans ?_
  refine congrArg (A main_arg2 c) (funext fun b => Fin.ext ?_)
  refine (((cfg0 a).win 1).rect_emb_val t _ b rfl).trans ?_
  rw [index1, he, hn]
  fin_cases b
  · change e * 1 + 0 = e; omega
  · change 0 * 3584 + p.val = p.val; omega
  · rfl

theorem inp2_ap (t : Fin grid0.N) (e n : ℕ) (he : (at65 (tb a 1) (grid0.coords t 1).val).toNat = e) (hn : (grid0.coords t 0).val = n)
    (p : Fin 56) (k : Fin 256) (h : e < 18) (hk : n * 256 + k.val < 2048) :
    inp a A c 2 t (ix3 0 p k) = A main_arg3 c (ix3 ⟨e, h⟩ p ⟨n * 256 + k.val, hk⟩) := by
  unfold inp Pipeline.RDat.fetched Pipeline.Window.fill
  have hm : ((cfg0 a).win 2).moved ((cfg0 a).grid.coords t) (ix3 0 p k) = true :=
    (((cfg0 a).win 2).moved_iff _ _).mpr fun b => (ix3 0 p k b).isLt
  refine (dif_pos hm).trans ?_
  refine congrArg (A main_arg3 c) (funext fun b => Fin.ext ?_)
  refine (((cfg0 a).win 2).rect_emb_val t _ b rfl).trans ?_
  rw [index2, he, hn]
  fin_cases b
  · change e * 1 + 0 = e; omega
  · change 0 * 56 + p.val = p.val; omega
  · rfl

theorem inp3_ap (t : Fin grid0.N) (e n : ℕ) (he : (at65 (tb a 1) (grid0.coords t 1).val).toNat = e) (hn : (grid0.coords t 0).val = n)
    (p : Fin 3584) (k : Fin 256) (h : e < 18) (hk : n * 256 + k.val < 2048) :
    inp a A c 3 t (ix3 0 p k) = A main_arg4 c (ix3 ⟨e, h⟩ p ⟨n * 256 + k.val, hk⟩) := by
  unfold inp Pipeline.RDat.fetched Pipeline.Window.fill
  have hm : ((cfg0 a).win 3).moved ((cfg0 a).grid.coords t) (ix3 0 p k) = true :=
    (((cfg0 a).win 3).moved_iff _ _).mpr fun b => (ix3 0 p k b).isLt
  refine (dif_pos hm).trans ?_
  refine congrArg (A main_arg4 c) (funext fun b => Fin.ext ?_)
  refine (((cfg0 a).win 3).rect_emb_val t _ b rfl).trans ?_
  rw [index3, he, hn]
  fin_cases b
  · change e * 1 + 0 = e; omega
  · change 0 * 3584 + p.val = p.val; omega
  · rfl

theorem inp4_ap (t : Fin grid0.N) (e n : ℕ) (he : (at65 (tb a 1) (grid0.coords t 1).val).toNat = e) (hn : (grid0.coords t 0).val = n)
    (p : Fin 56) (k : Fin 256) (h : e < 18) (hk : n * 256 + k.val < 2048) :
    inp a A c 4 t (ix3 0 p k) = A main_arg5 c (ix3 ⟨e, h⟩ p ⟨n * 256 + k.val, hk⟩) := by
  unfold inp Pipeline.RDat.fetched Pipeline.Window.fill
  have hm : ((cfg0 a).win 4).moved ((cfg0 a).grid.coords t) (ix3 0 p k) = true :=
    (((cfg0 a).win 4).moved_iff _ _).mpr fun b => (ix3 0 p k b).isLt
  refine (dif_pos hm).trans ?_
  refine congrArg (A main_arg5 c) (funext fun b => Fin.ext ?_)
  refine (((cfg0 a).win 4).rect_emb_val t _ b rfl).trans ?_
  rw [index4, he, hn]
  fin_cases b
  · change e * 1 + 0 = e; omega
  · change 0 * 56 + p.val = p.val; omega
  · rfl

theorem inp5_ap (t : Fin grid0.N) (e n : ℕ) (he : (at65 (tb a 1) (grid0.coords t 1).val).toNat = e) (hn : (grid0.coords t 0).val = n)
    (p : Fin 1) (k : Fin 256) (h : e < 18) (hk : n * 256 + k.val < 2048) :
    inp a A c 5 t (ix3 0 p k) = A main_v67 c (ix3 ⟨e, h⟩ p ⟨n * 256 + k.val, hk⟩) := by
  unfold inp Pipeline.RDat.fetched Pipeline.Window.fill
  have hm : ((cfg0 a).win 5).moved ((cfg0 a).grid.coords t) (ix3 0 p k) = true :=
    (((cfg0 a).win 5).moved_iff _ _).mpr fun b => (ix3 0 p k b).isLt
  refine (dif_pos hm).trans ?_
  refine congrArg (A main_v67 c) (funext fun b => Fin.ext ?_)
  refine (((cfg0 a).win 5).rect_emb_val t _ b rfl).trans ?_
  rw [index5, he, hn]
  fin_cases b
  · change e * 1 + 0 = e; omega
  · change 0 * 1 + p.val = p.val; omega
  · rfl

theorem inp6_ap (t : Fin grid0.N) (p : Fin 18) : inp a A c 6 t (ix1 p) = A main_arg7 c (ix1 p) := by
  unfold inp Pipeline.RDat.fetched Pipeline.Window.fill
  have hm : ((cfg0 a).win 6).moved ((cfg0 a).grid.coords t) (ix1 p) = true :=
    (((cfg0 a).win 6).moved_iff _ _).mpr fun b => (ix1 p b).isLt
  refine (dif_pos hm).trans ?_
  refine congrArg (A main_arg7 c) (funext fun b => Fin.ext ?_)
  refine (((cfg0 a).win 6).rect_emb_val t _ b rfl).trans ?_
  fin_cases b
  change 0 * 18 + p.val = p.val; omega

theorem inp7_ap (t : Fin grid0.N) (p : Fin 18) : inp a A c 7 t (ix1 p) = A main_arg8 c (ix1 p) := by
  unfold inp Pipeline.RDat.fetched Pipeline.Window.fill
  have hm : ((cfg0 a).win 7).moved ((cfg0 a).grid.coords t) (ix1 p) = true :=
    (((cfg0 a).win 7).moved_iff _ _).mpr fun b => (ix1 p b).isLt
  refine (dif_pos hm).trans ?_
  refine congrArg (A main_arg8 c) (funext fun b => Fin.ext ?_)
  refine (((cfg0 a).win 7).rect_emb_val t _ b rfl).trans ?_
  fin_cases b
  change 0 * 18 + p.val = p.val; omega

/-- The blocks of a point, as matrices of numbers. -/
def hb (t : Fin grid0.N) : S256x7168.Idx → EReal := inp a A c 0 t
def d1b (t : Fin grid0.N) : S7168x256.Idx → EReal := scr1 a A c t
def d3b (t : Fin grid0.N) : S7168x256.Idx → EReal := scr3 a A c t
def pb (t : Fin grid0.N) : S1x1x256.Idx → EReal := inp a A c 5 t
def s1b (t : Fin grid0.N) : S18.Idx → EReal := inp a A c 6 t
def s2b (t : Fin grid0.N) : S18.Idx → EReal := inp a A c 7 t

theorem d1b_ap (t : Fin grid0.N) (e n : ℕ) (hE : (at65 (tb a 1) (grid0.coords t 1).val).toNat = e) (hn : (grid0.coords t 0).val = n)
    (he : e < 18) (p : Fin 7168) (k : Fin 256) (hk : n * 256 + k.val < 2048) :
    d1b a A c t (ix2 p k) = dqe (F := Ideal) (A main_arg2 c (ix3 ⟨e, he⟩ ⟨p.val / 2, by omega⟩ ⟨n * 256 + k.val, hk⟩)) p.val
            (A main_arg3 c (ix3 ⟨e, he⟩ ⟨p.val / 128, by omega⟩ ⟨n * 256 + k.val, hk⟩)) := by
  unfold d1b scr1 deq
  refine congrArg₂ (fun x y => dqe (F := Ideal) x p.val y) ?_ ?_
  · exact inp1_ap a A c t _ n hE hn _ k he hk
  · exact inp2_ap a A c t _ n hE hn _ k he hk

theorem d3b_ap (t : Fin grid0.N) (e n : ℕ) (hE : (at65 (tb a 1) (grid0.coords t 1).val).toNat = e) (hn : (grid0.coords t 0).val = n)
    (he : e < 18) (p : Fin 7168) (k : Fin 256) (hk : n * 256 + k.val < 2048) :
    d3b a A c t (ix2 p k) = dqe (F := Ideal) (A main_arg4 c (ix3 ⟨e, he⟩ ⟨p.val / 2, by omega⟩ ⟨n * 256 + k.val, hk⟩)) p.val
            (A main_arg5 c (ix3 ⟨e, he⟩ ⟨p.val / 128, by omega⟩ ⟨n * 256 + k.val, hk⟩)) := by
  unfold d3b scr3 deq
  refine congrArg₂ (fun x y => dqe (F := Ideal) x p.val y) ?_ ?_
  · exact inp3_ap a A c t _ n hE hn _ k he hk
  · exact inp4_ap a A c t _ n hE hn _ k he hk

theorem s1b_ap (t : Fin grid0.N) (w : BitVec 32) (e : ℕ) (hE : w.toNat = e) (he : e < 18) :
    at18 (F := Ideal) (s1b a A c t) w = A main_arg7 c (ix1 ⟨e, he⟩) := by
  subst hE
  unfold at18
  have h17 : min w.toNat 17 = w.toNat := Nat.min_eq_left (Nat.le_of_lt_succ he)
  simp only [h17]
  exact inp6_ap a A c t _

theorem s2b_ap (t : Fin grid0.N) (w : BitVec 32) (e : ℕ) (hE : w.toNat = e) (he : e < 18) :
    at18 (F := Ideal) (s2b a A c t) w = A main_arg8 c (ix1 ⟨e, he⟩) := by
  subst hE
  unfold at18
  have h17 : min w.toNat 17 = w.toNat := Nat.min_eq_left (Nat.le_of_lt_succ he)
  simp only [h17]
  exact inp7_ap a A c t _

/-- The product with matrix 1 a visit makes for a row of its expert. -/
theorem proj1_eq (t : Fin grid0.N) (T e n : ℕ) (hT : (at65 (tb a 0) (grid0.coords t 1).val).toNat = T) (hE : (at65 (tb a 1) (grid0.coords t 1).val).toNat = e)
    (hn : (grid0.coords t 0).val = n) (j : Fin 256) (k : Fin 256) (hr : T * 256 + j.val < 12288) (hk : n * 256 + k.val < 2048) (he : e < 18) :
    (∑ p : Fin 7168, hb a A c t (ix2 j p) * d1b a A c t (ix2 p k)) * at18 (F := Ideal) (s1b a A c t) (at65 (tb a 1) (grid0.coords t 1).val)
      = proj (A main_arg1 c) (A main_arg2 c) (A main_arg3 c) (A main_arg7 c) ⟨e, he⟩ ⟨T * 256 + j.val, hr⟩ ⟨n * 256 + k.val, hk⟩ := by
  unfold proj
  refine congrArg₂ (fun x y : EReal => x * y) (Finset.sum_congr rfl fun p _ => congrArg₂ (fun x y : EReal => x * y) ?_ ?_) ?_
  · exact inp0_ap a A c t T hT j p hr
  · exact d1b_ap a A c t e n hE hn he p k hk
  · exact s1b_ap a A c t _ e hE he

/-- The product with matrix 3 a visit makes for a row of its expert. -/
theorem proj3_eq (t : Fin grid0.N) (T e n : ℕ) (hT : (at65 (tb a 0) (grid0.coords t 1).val).toNat = T) (hE : (at65 (tb a 1) (grid0.coords t 1).val).toNat = e)
    (hn : (grid0.coords t 0).val = n) (j : Fin 256) (k : Fin 256) (hr : T * 256 + j.val < 12288) (hk : n * 256 + k.val < 2048) (he : e < 18) :
    (∑ p : Fin 7168, hb a A c t (ix2 j p) * d3b a A c t (ix2 p k)) * at18 (F := Ideal) (s1b a A c t) (at65 (tb a 1) (grid0.coords t 1).val)
      = proj (A main_arg1 c) (A main_arg4 c) (A main_arg5 c) (A main_arg7 c) ⟨e, he⟩ ⟨T * 256 + j.val, hr⟩ ⟨n * 256 + k.val, hk⟩ := by
  unfold proj
  refine congrArg₂ (fun x y : EReal => x * y) (Finset.sum_congr rfl fun p _ => congrArg₂ (fun x y : EReal => x * y) ?_ ?_) ?_
  · exact inp0_ap a A c t T hT j p hr
  · exact d3b_ap a A c t e n hE hn he p k hk
  · exact s1b_ap a A c t _ e hE he

/-- What a live visit leaves in an entry of the output block. -/
theorem outF_live (t : Fin grid0.N) (v T e n lo hi : ℕ) (hv : (grid0.coords t 1).val = v) (hl : at65 (tb a 4) v = 1#32)
    (eT : at65 (tb a 0) v = BitVec.ofNat 32 T) (elo : at65 (tb a 2) v = BitVec.ofNat 32 lo) (ehi : at65 (tb a 3) v = BitVec.ofNat 32 hi)
    (hT : T < 48) (hlo : lo ≤ 12288) (hhi : hi ≤ 12288) (hE : (at65 (tb a 1) v).toNat = e)
    (hn : (grid0.coords t 0).val = n) (Y : Vec Ideal S256x256 .fp8e4m3) (j : Fin 256) (k : Fin 256) (hr : T * 256 + j.val < 12288) (hk : n * 256 + k.val < 2048) (he : e < 18) :
    outF a A c t Y (ix2 j k) = if lo ≤ T * 256 + j.val ∧ T * 256 + j.val < hi
      then entry (A main_arg1 c) (A main_arg2 c) (A main_arg3 c) (A main_arg4 c) (A main_arg5 c) (A main_v67 c) (A main_arg7 c) (A main_arg8 c)
        ⟨e, he⟩ ⟨T * 256 + j.val, hr⟩ ⟨n * 256 + k.val, hk⟩ else Y (ix2 j k) := by
  subst hv
  unfold outF
  rw [if_pos (show live (tb a 4) (grid0.coords t 1).val from hl)]
  refine (outv_in _ _ _ _ _ _ _ _ _ _ _ Y T lo hi hT hlo hhi eT elo ehi j k).trans ?_
  have hT' : (at65 (tb a 0) (grid0.coords t 1).val).toNat = T := by rw [eT, BitVec.toNat_ofNat]; exact Nat.mod_eq_of_lt (by omega)
  have h1 := proj1_eq a A c t T e n hT' hE hn j k hr hk he
  have h3 := proj3_eq a A c t T e n hT' hE hn j k hr hk he
  have h5 : pb a A c t (ix3 0 0 k) = A main_v67 c (ix3 ⟨e, he⟩ 0 ⟨n * 256 + k.val, hk⟩) := inp5_ap a A c t e n hE hn 0 k he hk
  have h7 := s2b_ap a A c t _ e hE he
  refine if_congr Iff.rfl ?_ rfl
  unfold entry
  exact act_congr h1 h3 h5 h7

theorem outF_idle (t : Fin grid0.N) (hl : at65 (tb a 4) (grid0.coords t 1).val ≠ 1#32) (Y : Vec Ideal S256x256 .fp8e4m3) : outF a A c t Y = Y := if_neg hl

end
end Cert.GateUpIdeal.Hand
-- ==== Proof.GateUpIdealOut.lean ====
module
public import proofs.«01_k».proof.Proof.GateUpIdealValue
/-! # What the gate and up program leaves in its output array -/
@[expose] public section
set_option maxRecDepth 16384
set_option maxHeartbeats 400000
noncomputable section
namespace Cert.GateUpIdeal.Hand
open Idealize.ShloMosaic Idealize.ShloMosaic.TcCoe Idealize.ShloMosaic.Tactic
open Cert.GateUpIdeal Cert.GateUpIdeal.Gen Cert.W4
open Idealize.ShloMosaic.WordCmp
open Idealize.SL.Sem

variable (m : (ℓ : Loc nD τ sig) → Buf (Elt Ideal) ℓ) (hs : sm (gn m) 18 = 12288)

/-- The expert that owns a row. -/
def own (r : Fin 12288) : Fin 18 := ⟨owner (gn m) r.val, (owner_place (gn m) hs r.val r.isLt).1⟩

/-- The result in full. -/
def result (c : Dev nD) : S12288x2048.Idx → EReal := fun i =>
  entry (V m c main_arg1) (V m c main_arg2) (V m c main_arg3) (V m c main_arg4) (V m c main_arg5) (V m c main_v67) (V m c main_arg7) (V m c main_arg8)
    (own m hs (i 0)) (i 0) (i 1)

/-- Before the last point of a tile nothing is written back. -/
theorem same_block (t u : Fin grid0.N) (h0 : t.val / 65 = u.val / 65) (h1 : tile (gn m) (t.val % 65) = tile (gn m) (u.val % 65)) :
    ((cfg0 (ad m hs)).win 8).index t = ((cfg0 (ad m hs)).win 8).index u := by
  have ht := Nat.mod_lt t.val (show 65 > 0 by decide)
  have hu := Nat.mod_lt u.val (show 65 > 0 by decide)
  rw [index8, index8, (coords_val t).1, (coords_val u).1, (coords_val t).2, (coords_val u).2]
  have e1 : (at65 (tb (ad m hs) 0) (t.val % 65)).toNat = tile (gn m) (t.val % 65) := tile_toNat m hs _ ht
  have e2 : (at65 (tb (ad m hs) 0) (u.val % 65)).toNat = tile (gn m) (u.val % 65) := tile_toNat m hs _ hu
  rw [e1, e2, h0, h1]

/-- A visit of a row's tile stores the row's product if the visit's expert owns the row, and leaves the row as it was otherwise. -/
theorem row_step (c : Dev nD) (r : Fin 12288) (t : Fin grid0.N) (v : ℕ) (hv : t.val % 65 = v) (htl : tile (gn m) v = r.val / 256)
    (j : Fin 256) (hj : j.val = r.val % 256) (n : ℕ) (hn : t.val / 65 = n) (k : Fin 256) (hk : n * 256 + k.val < 2048) (Y : Vec Ideal S256x256 .fp8e4m3) :
    outF (ad m hs) (fun b c => V m c b) c t Y (ix2 j k)
      = if v < total (gn m) ∧ ex (gn m) v = owner (gn m) r.val then result m hs c (ix2 r ⟨n * 256 + k.val, hk⟩) else Y (ix2 j k) := by
  have hv65 : v < 65 := hv ▸ Nat.mod_lt _ (by decide)
  have hcv : (grid0.coords t 1).val = v := (coords_val t).2.trans hv
  have hcn : (grid0.coords t 0).val = n := (coords_val t).1.trans hn
  have hl := live_at m hs v hv65
  by_cases hlt : v < total (gn m)
  · rw [if_pos hlt] at hl
    have he := (ex_place (gn m) hs v).1
    have hr : tile (gn m) v * 256 + j.val = r.val := by rw [htl, hj]; omega
    have ho := owner_place (gn m) hs r.val r.isLt
    have key := outF_live (ad m hs) (fun b c => V m c b) c t v (tile (gn m) v) (ex (gn m) v) n (sm (gn m) (ex (gn m) v)) (sm (gn m) (ex (gn m) v + 1)) hcv hl
      (tile_at m hs v hv65) (lo_at m hs v hv65) (hi_at m hs v hv65) (tile_lt (gn m) hs v) (ends_le (gn m) hs _ (by omega)) (ends_le (gn m) hs _ (by omega))
      (ex_toNat m hs v hv65) hcn Y j k (by rw [hr]; exact r.isLt) hk he
    refine key.trans ?_
    have hre : (⟨tile (gn m) v * 256 + j.val, by rw [hr]; exact r.isLt⟩ : Fin 12288) = r := Fin.ext hr
    rw [hre, hr]
    by_cases hm : ex (gn m) v = owner (gn m) r.val
    · rw [if_pos (show v < total (gn m) ∧ ex (gn m) v = owner (gn m) r.val from ⟨hlt, hm⟩),
        if_pos (show sm (gn m) (ex (gn m) v) ≤ r.val ∧ r.val < sm (gn m) (ex (gn m) v + 1) from hm ▸ ho.2)]
      have : (⟨ex (gn m) v, he⟩ : Fin 18) = own m hs r := Fin.ext hm
      rw [this]
      rfl
    · rw [if_neg (show ¬ (v < total (gn m) ∧ ex (gn m) v = owner (gn m) r.val) from fun h => hm h.2),
        if_neg (show ¬ (sm (gn m) (ex (gn m) v) ≤ r.val ∧ r.val < sm (gn m) (ex (gn m) v + 1)) from fun h => hm (owner_eq (gn m) _ r.val he h.1 h.2).symm)]
  · rw [if_neg hlt] at hl
    rw [if_neg (fun h => hlt h.1), outF_idle]
    rw [hcv]
    intro h
    exact absurd (hl.symm.trans h) (by decide)

/-- From the visit of its own expert on, a row of the output block holds its product. -/
theorem row_inv (c : Dev nD) (r : Fin 12288) (v0 : ℕ) (h0 : v0 < total (gn m)) (hex : ex (gn m) v0 = owner (gn m) r.val) (htl : tile (gn m) v0 = r.val / 256)
    (j : Fin 256) (hj : j.val = r.val % 256) (n : ℕ) (k : Fin 256) (hk : n * 256 + k.val < 2048) (d : ℕ) :
    ∀ (t : Fin grid0.N), t.val / 65 = n → t.val % 65 = v0 + d → tile (gn m) (v0 + d) = r.val / 256 → ∀ X : S256x256.Idx → EReal,
      (rdV m (ad m hs) c).Leaves 8 t X → X (ix2 j k) = result m hs c (ix2 r ⟨n * 256 + k.val, hk⟩) := by
  induction d with
  | zero =>
    rintro t hn hv ht X ⟨(Y : Vec Ideal S256x256 .fp8e4m3), hY, hX⟩
    have hX' : X = outF (ad m hs) (fun b c => V m c b) c t Y := hX
    rw [hX', row_step m hs c r t _ hv ht j hj n hn k hk Y, if_pos (show v0 + 0 < total (gn m) ∧ ex (gn m) (v0 + 0) = owner (gn m) r.val from ⟨h0, hex⟩)]
  | succ d ih =>
    rintro t hn hv ht X ⟨(Y : Vec Ideal S256x256 .fp8e4m3), hY, hX⟩
    have hX' : X = outF (ad m hs) (fun b c => V m c b) c t Y := hX
    rw [hX', row_step m hs c r t _ hv ht j hj n hn k hk Y]
    split
    · rfl
    · have hpos : t.val ≠ 0 := by omega
      obtain ⟨u, hu⟩ : ∃ u : Fin grid0.N, u.val + 1 = t.val := ⟨⟨t.val - 1, by omega⟩, by show t.val - 1 + 1 = _; omega⟩
      have hun : u.val / 65 = n := by omega
      have huv : u.val % 65 = v0 + d := by omega
      have hut : tile (gn m) (v0 + d) = r.val / 256 := by
        have a := tile_mono (gn m) hs (show v0 ≤ v0 + d by omega)
        have b := tile_mono (gn m) hs (show v0 + d ≤ v0 + (d + 1) by omega)
        omega
      have hY' := ((rdV m (ad m hs) c).finds_of_pos (w := 8) (t := t) (Pipeline.Window.fetch_out _ rfl t) hpos Y).1 hY
      have eu : (⟨t.val - 1, Nat.lt_of_le_of_lt (Nat.sub_le _ _) t.isLt⟩ : Fin grid0.N) = u := Fin.ext (by show t.val - 1 = _; omega)
      refine ih u hun huv hut Y ?_
      rcases hY' with hf | hf
      · have hf' : ((cfg0 (ad m hs)).win 8).flush u = true := by rw [← eu]; exact hf
        rcases (Pipeline.Window.flush_out _ rfl u).1 hf' with h | ⟨h, hne⟩
        · exact absurd h (by have := t.isLt; show ¬ (u.val + 1 = grid0.N); omega)
        · refine absurd ?_ hne
          have e2 : (⟨u.val + 1, h⟩ : Fin grid0.N) = t := Fin.ext hu
          rw [e2]
          exact same_block m hs t u (by omega) (by rw [hv, huv, ht, hut])
      · rw [← eu]; exact hf

/-- A point that writes a row's block back comes no earlier than the visit of the row's expert. -/
theorem flush_after (t : Fin grid0.N) (hf : ((cfg0 (ad m hs)).win 8).flush t = true) (v0 : ℕ) (h0 : v0 < 65) (h : tile (gn m) (t.val % 65) = tile (gn m) v0) :
    v0 ≤ t.val % 65 := by
  by_contra hlt
  have hN : t.val < 520 := t.isLt.trans_eq N_0
  rcases (Pipeline.Window.flush_out _ rfl t).1 hf with h1 | ⟨h1, hne⟩
  · have h1' : t.val + 1 = 520 := h1.trans N_0
    omega
  · refine hne (same_block m hs ⟨t.val + 1, h1⟩ t (by show (t.val + 1) / 65 = _; omega) ?_)
    have e : (t.val + 1) % 65 = t.val % 65 + 1 := by omega
    show tile (gn m) ((t.val + 1) % 65) = _
    rw [e]
    have a := tile_mono (gn m) hs (show t.val % 65 ≤ t.val % 65 + 1 by omega)
    have b := tile_mono (gn m) hs (show t.val % 65 + 1 ≤ v0 by omega)
    omega

/-- The output array after the run. -/
theorem out_eq (c : Dev nD) (x : PUnit × MemSt nD τ sig (Elt Ideal)) (h : Pipeline.RDat.FramePost (cfg0 (ad m hs)) (rdV m (ad m hs)) (V m) x) :
    x.2.mem ((c.tc : Thread nD τ).loc main_v68) = result m hs c := by
  obtain ⟨after, hL, hA⟩ := h.exists_exact c
  refine (hA 8).trans (((rdV m (ad m hs) c).withAfter after).arrAt_eq_of_emb 8 (result m hs c) (fun t hf y => ?_) (fun i => ?_))
  · have hX := hL 8 t hf
    have ht := Nat.mod_lt t.val (show 65 > 0 by decide)
    have hy0 : (y (0 : Fin 2)).val < 256 := (y (0 : Fin 2)).isLt
    have hy1 : (y (1 : Fin 2)).val < 256 := (y (1 : Fin 2)).isLt
    have htn : t.val / 65 < 8 := by have : t.val < 520 := t.isLt.trans_eq N_0; omega
    have hT := tile_lt (gn m) hs (t.val % 65)
    obtain ⟨r, hr⟩ : ∃ r : Fin 12288, r.val = tile (gn m) (t.val % 65) * 256 + (y (0 : Fin 2)).val := ⟨⟨_, by omega⟩, rfl⟩
    have hk : t.val / 65 * 256 + (y (1 : Fin 2)).val < 2048 := by omega
    have ho := owner_place (gn m) hs r.val r.isLt
    obtain ⟨v0, h0, hex, htl⟩ := visit_of_row (gn m) hs _ r.val ho.1 ho.2.1 ho.2.2
    have htr : tile (gn m) (t.val % 65) = r.val / 256 := by omega
    have hle : v0 ≤ t.val % 65 := flush_after m hs t hf v0 (lt_of_lt_of_le h0 (total_le (gn m) hs)) (htr.trans htl.symm)
    have hd : v0 + (t.val % 65 - v0) = t.val % 65 := by omega
    have key := row_inv m hs c r v0 h0 hex htl ⟨(y (0 : Fin 2)).val, hy0⟩ (by show (y (0 : Fin 2)).val = _; omega) (t.val / 65) ⟨(y (1 : Fin 2)).val, hy1⟩ hk
      (t.val % 65 - v0) t rfl hd.symm (by rw [hd]; exact htr) _ hX
    refine Eq.trans ?_ (key.trans (congrArg (result m hs c) (funext fun b => Fin.ext ?_)))
    · refine congrArg (after 8 t) (funext fun b => Fin.ext ?_)
      fin_cases b <;> rfl
    · refine Eq.trans ?_ (((cfg0 (ad m hs)).win 8).rect_emb_val t y b rfl).symm
      rw [index8, (coords_val t).1, (coords_val t).2]
      have e1 : (at65 (tb (ad m hs) 0) (t.val % 65)).toNat = tile (gn m) (t.val % 65) := tile_toNat m hs _ ht
      rw [e1]
      fin_cases b
      · exact hr
      · rfl
  · have i1 : (i (1 : Fin 2)).val < 2048 := (i (1 : Fin 2)).isLt
    have i0 : (i (0 : Fin 2)).val < 12288 := (i (0 : Fin 2)).isLt
    have ho := owner_place (gn m) hs (i (0 : Fin 2)).val i0
    obtain ⟨v0, h0, hex, htl⟩ := visit_of_row (gn m) hs _ (i (0 : Fin 2)).val ho.1 ho.2.1 ho.2.2
    have hv65 : v0 < 65 := lt_of_lt_of_le h0 (total_le (gn m) hs)
    obtain ⟨t0, ht0⟩ : ∃ t0 : Fin grid0.N, t0.val = (i (1 : Fin 2)).val / 256 * 65 + v0 := ⟨⟨_, lt_of_lt_of_eq (by omega) N_0.symm⟩, rfl⟩
    obtain ⟨t, hle, hf, hix⟩ := Pipeline.Window.exists_flush_same_index ((cfg0 (ad m hs)).win 8) rfl t0
    refine ⟨t, hf, (Pipeline.Window.emb_mem_blk_iff ((cfg0 (ad m hs)).win 8) t i rfl).2 fun b => ?_⟩
    have e1 : (at65 (tb (ad m hs) 0) (t0.val % 65)).toNat = (i (0 : Fin 2)).val / 256 := by
      rw [show t0.val % 65 = v0 by omega]; exact (tile_toNat m hs _ hv65).trans htl
    rw [hix, index8, (coords_val t0).1, (coords_val t0).2, e1]
    fin_cases b
    · show (i (0 : Fin 2)).val / 256 * 256 ≤ (i (0 : Fin 2)).val ∧ (i (0 : Fin 2)).val < (i (0 : Fin 2)).val / 256 * 256 + 256
      omega
    · show t0.val / 65 * 256 ≤ (i (1 : Fin 2)).val ∧ (i (1 : Fin 2)).val < t0.val / 65 * 256 + 256
      omega

end Cert.GateUpIdeal.Hand
-- ==== Proof.GateUpRows.lean ====
module
public import proofs.«01_k».proof.Proof.Rows
public import proofs.«01_k».proof.Proof.Gen.Pre_gate_up_rows_in_groups
/-! # The gate and up program's precondition, in numbers -/
@[expose] public section
set_option maxRecDepth 16384
set_option maxHeartbeats 400000
noncomputable section
namespace Cert.W4
open Idealize.ShloMosaic Idealize.ShloMosaic.Routing Idealize.ShloMosaic.ValueIdx Idealize.ShloMosaic.WordCmp

/-- The precondition gives row counts that sum to the number of rows. -/
theorem gate_up_rows_sum {F : FTy → Type} [FloatOps F] (x : IVec (shape1 18) 32) (b1 b2 b3 b4 b5 b6 b7 b8)
    (h : Cert.Pre_gate_up_rows_in_groups.fn (F := F) x b1 b2 b3 b4 b5 b6 b7 b8 = fun _ => 1#1) : sm (cnt x) 18 = 12288 := by
  have h0 := congrFun h ix0
  unfold Cert.Pre_gate_up_rows_in_groups.fn at h0
  obtain ⟨h1, h2⟩ := IntOp.andi_eq_one.1 h0
  obtain ⟨h3, h4⟩ := IntOp.andi_eq_one.1 h1
  haveI : Subsingleton (Cert.Pre_gate_up_rows_in_groups.S_).Idx := ⟨fun a b => funext fun k => k.elim0⟩
  have hle : ∀ i : Fin 18, (x (ix1 i)).toNat ≤ 12288 := fun i => by
    have a := Host.reduce_andi_all _ _ _ _ _ h3 (ix1 i)
    have b := Host.reduce_andi_all _ _ _ _ _ h4 (ix1 i)
    have a' : IntOp.cmpi .sge (x (ix1 i)) 0#32 = 1#1 := a
    have b' : IntOp.cmpi .sle (x (ix1 i)) (BitVec.ofNat 32 12288) = 1#1 := b
    rw [cmpi_sge_zero, ofBool_decide_eq_one_iff] at a'
    generalize hy : x (ix1 i) = y at a' b' ⊢
    have hy2 : y = BitVec.ofNat 32 y.toNat := by simp
    rw [hy2, cmpi_sle_ofNat_eq_one_iff (by omega) (by decide)] at b'
    exact b'
  have hb : sm (cnt x) 18 ≤ 18 * 12288 := sm_le _ _ _ fun i hi => by
    unfold cnt
    rw [dif_pos hi]
    exact hle _
  have hr := reduce_sum (N := 18) x (cnt x) (cnt_word x) Cert.Pre_gate_up_rows_in_groups.Facts.reducesTo_S18_S_d0 Cert.Pre_gate_up_rows_in_groups.Facts.h_S_
  have h2' : IntOp.cmpi .eq (BitVec.ofNat 32 (sm (cnt x) 18)) (BitVec.ofNat 32 12288) = 1#1 := by
    rw [← h2]
    exact congrArg (fun z => IntOp.cmpi .eq z (BitVec.ofNat 32 12288)) hr.symm
  rw [cmpi_eq_ofNat (w := 32) (by omega) (by decide), ofBool_decide_eq_one_iff] at h2'
  exact h2'

end Cert.W4
-- ==== Proof.GateUpReferenceOps.lean ====
module
public import proofs.«01_k».proof.Proof.Gen.GateUpReferenceIdeal.Frame
public import proofs.«01_k».proof.Proof.Visits
public import Idealize.ShloMosaic.Lib.StableHlo.RunRead
/-! # What the lines of the reference after its casts compute

The reference first casts its three operands; the lines that follow compute the result from the casts and from the
arguments. They are read here as one expression. -/
@[expose] public section
set_option maxRecDepth 16384
set_option maxHeartbeats 400000
noncomputable section
namespace Cert.GateUpReferenceIdeal.Hand
open Idealize.ShloMosaic Idealize.ShloMosaic.TcCoe Idealize.ShloMosaic.Tactic
open Cert.GateUpReferenceIdeal Cert.GateUpReferenceIdeal.Gen Cert.W4
variable {F : FTy → Type} [FloatOps F]

/-- One past the last row of each expert. -/
def ends (g : IVec S18 32) : IVec S18 32 :=
  Host.reduceWindow IntOp.addi ![18] ![1] ![17] ![0] g (broadcastInDim S_ ![] bcast_S_S_ (constantI S_ 32 0#32))
    reduceWindows_S18_S18_w18s1p17_0 h_S_

/-- Which rows belong to which expert. -/
def mask (g : IVec S18 32) : IVec S12288x18 1 :=
  andi
    (cmpi .sge (broadcastInDim S12288x18 ![0, 1] bcast_S12288x1_S12288x18_0_1 (broadcastInDim S12288x1 ![0] bcast_S12288_S12288x1_0 (iotaInDim S12288 32 0)))
      (broadcastInDim S12288x18 ![0, 1] bcast_S1x18_S12288x18_0_1 (broadcastInDim S1x18 ![1] bcast_S18_S1x18_1 (subi (ends g) g))))
    (cmpi .slt (broadcastInDim S12288x18 ![0, 1] bcast_S12288x1_S12288x18_0_1 (broadcastInDim S12288x1 ![0] bcast_S12288_S12288x1_0 (iotaInDim S12288 32 0)))
      (broadcastInDim S12288x18 ![0, 1] bcast_S1x18_S12288x18_0_1 (broadcastInDim S1x18 ![1] bcast_S18_S1x18_1 (ends g))))

/-- The scale of each byte of weights: 64 bytes along the sum share one. -/
def scales (s : FVec F S18x56x2048 .bf16) : FVec F S18x3584x2048 .bf16 :=
  shapeCast S18x3584x2048 (broadcastInDim S18x56x64x2048 ![0, 1, 3] bcast_S18x56x2048_S18x56x64x2048_0_1_3 s) shapeCasts_S18x56x64x2048_S18x3584x2048

/-- The zero that fills the rows of other experts. -/
def zero : FVec F S_ .f32 := constant S_ .f32 0x00000000#32

/-- One half of the sum: every expert's product over the codes `x` and the weights `w`, masked to the expert's rows and added up. -/
def half (k : IVec S12288x18 1) (w s : FVec F S18x3584x2048 .bf16) (x : FVec F S12288x3584 .bf16) : FVec F S12288x2048 .f32 :=
  Host.reduceAdd
    (select (broadcastInDim S18x12288x2048 ![0, 1, 2] bcast_S18x12288x1_S18x12288x2048_0_1_2
        (broadcastInDim S18x12288x1 ![0, 1] bcast_S18x12288_S18x12288x1_0_1 (transpose S18x12288 [1, 0] k transposes_S12288x18_S18x12288_1_0)))
      (transpose S18x12288x2048 [0, 2, 1]
        (Host.dotGeneral dot_S18x3584x2048_S12288x3584_S18x2048x12288_1_1_02_0_n_n none (mulf w s) x) transposes_S18x2048x12288_S18x12288x2048_0_2_1)
      (broadcastInDim S18x12288x2048 ![] bcast_S_S18x12288x2048 zero))
    zero reducesTo_S18x12288x2048_S12288x2048_d0 h_S_

/-- The activation scale of each row's expert. -/
def rowScale (k : IVec S12288x18 1) (a : FVec F S18 .f32) : FVec F S12288 .f32 :=
  Host.reduceAdd
    (select k (broadcastInDim S12288x18 ![0, 1] bcast_S1x18_S12288x18_0_1 (broadcastInDim S1x18 ![1] bcast_S18_S1x18_1 a))
      (broadcastInDim S12288x18 ![] bcast_S_S12288x18 zero))
    zero reducesTo_S12288x18_S12288_d1 h_S_

/-- One projection from the casts of the codes (`x`) and of the even and the odd weights (`l`, `h`). -/
def projv (g : IVec S18 32) (s : FVec F S18x56x2048 .bf16) (a : FVec F S18 .f32) (x : FVec F S12288x7168 .bf16)
    (l h : FVec F S18x3584x2048 .bf16) : FVec F S12288x2048 .f32 :=
  mulf
    (addf (half (mask g) l (scales s) (Host.slice S12288x3584 ![0, 0] ![1, 2] x slicesBy_S12288x7168_S12288x3584_0s1_0s2))
      (half (mask g) h (scales s) (Host.slice S12288x3584 ![0, 1] ![1, 2] x slicesBy_S12288x7168_S12288x3584_0s1_1s2)))
    (broadcastInDim S12288x2048 ![0, 1] bcast_S12288x1_S12288x2048_0_1
      (broadcastInDim S12288x1 ![0] bcast_S12288_S12288x1_0 (rowScale (mask g) a)))

/-- The factors of each row's expert. -/
def rowFactors (k : IVec S12288x18 1) (p : FVec F S18x2048 .f32) : FVec F S12288x2048 .f32 :=
  Host.reduceAdd
    (select (broadcastInDim S12288x18x2048 ![0, 1, 2] bcast_S12288x18x1_S12288x18x2048_0_1_2 (shapeCast S12288x18x1 k shapeCasts_S12288x18_S12288x18x1))
      (broadcastInDim S12288x18x2048 ![0, 1, 2] bcast_S1x18x2048_S12288x18x2048_0_1_2 (broadcastInDim S1x18x2048 ![1, 2] bcast_S18x2048_S1x18x2048_1_2 p))
      (broadcastInDim S12288x18x2048 ![] bcast_S_S12288x18x2048 zero))
    zero reducesTo_S12288x18x2048_S12288x2048_d1 h_S_

/-- The gate's nonlinearity. -/
def silu (v : FVec F S12288x2048 .f32) : FVec F S12288x2048 .f32 :=
  mulf v (Host.divf (broadcastInDim S12288x2048 ![] bcast_S_S12288x2048 (constant S_ .f32 0x3F800000#32))
    (addf (broadcastInDim S12288x2048 ![] bcast_S_S12288x2048 (constant S_ .f32 0x3F800000#32)) (Host.exp (Host.negf v))))

/-- The codes from the gate (`v`), the up projection (`u`), the factors and the scales. -/
def actv (g : IVec S18 32) (p : FVec F S18x2048 .f32) (a : FVec F S18 .f32) (v u : FVec F S12288x2048 .f32) : FVec F S12288x2048 .fp8e4m3 :=
  Host.convertf .fp8e4m3
    (minimumf (broadcastInDim S12288x2048 ![] bcast_S_S12288x2048 (constant S_ .f32 0x43E00000#32))
      (maximumf (broadcastInDim S12288x2048 ![] bcast_S_S12288x2048 (constant S_ .f32 0xC3E00000#32))
        (Host.divf (mulf (mulf (silu v) u) (rowFactors (mask g) p))
          (broadcastInDim S12288x2048 ![0, 1] bcast_S12288x1_S12288x2048_0_1
            (broadcastInDim S12288x1 ![0] bcast_S12288_S12288x1_0 (rowScale (mask g) a))))))

/-- The lines leave the codes in the result. -/
theorem after_result (W : Valuation τ sig (Elt F)) :
    (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]) W (Proc.devRef .tc main_v74) : FVec F S12288x2048 .fp8e4m3)
      = actv (W (Proc.devRef .tc main_arg0)) (W (Proc.devRef .tc main_arg6)) (W (Proc.devRef .tc main_arg8))
          (projv (W (Proc.devRef .tc main_arg0)) (W (Proc.devRef .tc main_arg3)) (W (Proc.devRef .tc main_arg7)) (W (Proc.devRef .tc main_v0_0))
            (W (Proc.devRef .tc main_v0_1)) (W (Proc.devRef .tc main_v0_2)))
          (projv (W (Proc.devRef .tc main_arg0)) (W (Proc.devRef .tc main_arg5)) (W (Proc.devRef .tc main_arg7)) (W (Proc.devRef .tc main_v0_0))
            (W (Proc.devRef .tc main_v0_3)) (W (Proc.devRef .tc main_v0_4))) := by
  after_reads_simp
  simp -implicitDefEqProofs only [StableHlo.TRef.toBuf, StableHlo.TRef.ofBuf, cast_cast, cast_eq, id]
  rfl

end Cert.GateUpReferenceIdeal.Hand
-- ==== Proof.GateUpReferenceCasts.lean ====
module
public import proofs.«01_k».proof.Proof.GateUpReferenceOps
public import Idealize.ShloMosaic.Lib.Pipeline.ValueKit
/-! # What the casts of the reference leave -/
@[expose] public section
set_option maxRecDepth 16384
set_option maxHeartbeats 400000
noncomputable section
namespace Cert.GateUpReferenceIdeal.Hand
open Idealize.ShloMosaic Idealize.ShloMosaic.TcCoe Idealize.ShloMosaic.Tactic
open Cert.GateUpReferenceIdeal Cert.GateUpReferenceIdeal.Gen Cert.W4
variable {F : FTy → Type} [FloatOps F]
variable (m : (ℓ : Loc nD τ sig) → Buf (Elt F) ℓ) (c : Dev nD)

/-- The one point of the casts. -/
abbrev p0 : Fin cfg0.N := ⟨0, by decide⟩

/-- The codes and the weights, as launched. -/
def codes : Vec F S12288x7168 .fp8e4m3 := m ((c.tc : Thread nD τ).loc main_arg1)
def bytes1 : Vec F S18x3584x2048 .i8 := m ((c.tc : Thread nD τ).loc main_arg2)
def bytes3 : Vec F S18x3584x2048 .i8 := m ((c.tc : Thread nD τ).loc main_arg4)

theorem iblk0 : (iblk m c 0 p0 : Vec F S12288x7168 .fp8e4m3) = codes m c := by
  funext i
  unfold iblk codes
  refine congrArg (V m c main_arg1) (funext fun b => Fin.ext ?_)
  refine ((cfg0.win 0).rect_emb_val p0 _ b rfl).trans ?_
  fin_cases b
  · change 0 * 12288 + (i 0).val = (i 0).val; omega
  · change 0 * 7168 + (i 1).val = (i 1).val; omega

theorem iblk1 : (iblk m c 1 p0 : Vec F S18x3584x2048 .i8) = bytes1 m c := by
  funext i
  unfold iblk bytes1
  refine congrArg (V m c main_arg2) (funext fun b => Fin.ext ?_)
  refine ((cfg0.win 1).rect_emb_val p0 _ b rfl).trans ?_
  fin_cases b
  · change 0 * 18 + (i 0).val = (i 0).val; omega
  · change 0 * 3584 + (i 1).val = (i 1).val; omega
  · change 0 * 2048 + (i 2).val = (i 2).val; omega

theorem iblk2 : (iblk m c 2 p0 : Vec F S18x3584x2048 .i8) = bytes3 m c := by
  funext i
  unfold iblk bytes3
  refine congrArg (V m c main_arg4) (funext fun b => Fin.ext ?_)
  refine ((cfg0.win 2).rect_emb_val p0 _ b rfl).trans ?_
  fin_cases b
  · change 0 * 18 + (i 0).val = (i 0).val; omega
  · change 0 * 3584 + (i 1).val = (i 1).val; omega
  · change 0 * 2048 + (i 2).val = (i 2).val; omega

theorem z2 : ∀ a : Fin S12288x7168.rank, (![0, 0] : Fin 2 → Nat) a = 0 := by intro a; fin_cases a <;> rfl
theorem z3 : ∀ a : Fin S18x3584x2048.rank, (![0, 0, 0] : Fin 3 → Nat) a = 0 := by intro a; fin_cases a <;> rfl

theorem out3 (x0 : Vec F S12288x7168 .fp8e4m3) (x1 x2 : Vec F S18x3584x2048 .i8) : out0_3 x0 x1 x2 = k0_pay1 x0 := by
  unfold out0_3
  rw [View.canon_cons_unit_lit _ _ _ z2, View.ld_unit_lit _ _ z2]
theorem out4 (x0 : Vec F S12288x7168 .fp8e4m3) (x1 x2 : Vec F S18x3584x2048 .i8) : out0_4 x0 x1 x2 = k0_pay3 x1 := by
  unfold out0_4
  rw [View.canon_cons_unit_lit _ _ _ z3, View.ld_unit_lit _ _ z3]
theorem out5 (x0 : Vec F S12288x7168 .fp8e4m3) (x1 x2 : Vec F S18x3584x2048 .i8) : out0_5 x0 x1 x2 = k0_pay4 x1 := by
  unfold out0_5
  rw [View.canon_cons_unit_lit _ _ _ z3, View.ld_unit_lit _ _ z3]
theorem out6 (x0 : Vec F S12288x7168 .fp8e4m3) (x1 x2 : Vec F S18x3584x2048 .i8) : out0_6 x0 x1 x2 = k0_pay6 x2 := by
  unfold out0_6
  rw [View.canon_cons_unit_lit _ _ _ z3, View.ld_unit_lit _ _ z3]
theorem out7 (x0 : Vec F S12288x7168 .fp8e4m3) (x1 x2 : Vec F S18x3584x2048 .i8) : out0_7 x0 x1 x2 = k0_pay7 x2 := by
  unfold out0_7
  rw [View.canon_cons_unit_lit _ _ _ z3, View.ld_unit_lit _ _ z3]

theorem arr3 : ((dats m 0 c).arrAt 3 cfg0.N : Vec F S12288x7168 .bf16) = k0_pay1 (codes m c) := by
  refine (dats m 0 c).arrAt_eq_of_after_last 3 p0 (by decide +kernel) _ fun j => ?_
  refine congrFun (?_ : (dats m 0 c).after 3 p0 = k0_pay1 (codes m c)) j
  rw [after0_3]
  refine (out3 _ _ _).trans ?_
  rw [iblk0]
theorem arr4 : ((dats m 0 c).arrAt 4 cfg0.N : Vec F S18x3584x2048 .bf16) = k0_pay3 (bytes1 m c) := by
  refine (dats m 0 c).arrAt_eq_of_after_last 4 p0 (by decide +kernel) _ fun j => ?_
  refine congrFun (?_ : (dats m 0 c).after 4 p0 = k0_pay3 (bytes1 m c)) j
  rw [after0_4]
  refine (out4 _ _ _).trans ?_
  rw [iblk1]
theorem arr5 : ((dats m 0 c).arrAt 5 cfg0.N : Vec F S18x3584x2048 .bf16) = k0_pay4 (bytes1 m c) := by
  refine (dats m 0 c).arrAt_eq_of_after_last 5 p0 (by decide +kernel) _ fun j => ?_
  refine congrFun (?_ : (dats m 0 c).after 5 p0 = k0_pay4 (bytes1 m c)) j
  rw [after0_5]
  refine (out5 _ _ _).trans ?_
  rw [iblk1]
theorem arr6 : ((dats m 0 c).arrAt 6 cfg0.N : Vec F S18x3584x2048 .bf16) = k0_pay6 (bytes3 m c) := by
  refine (dats m 0 c).arrAt_eq_of_after_last 6 p0 (by decide +kernel) _ fun j => ?_
  refine congrFun (?_ : (dats m 0 c).after 6 p0 = k0_pay6 (bytes3 m c)) j
  rw [after0_6]
  refine (out6 _ _ _).trans ?_
  rw [iblk2]
theorem arr7 : ((dats m 0 c).arrAt 7 cfg0.N : Vec F S18x3584x2048 .bf16) = k0_pay7 (bytes3 m c) := by
  refine (dats m 0 c).arrAt_eq_of_after_last 7 p0 (by decide +kernel) _ fun j => ?_
  refine congrFun (?_ : (dats m 0 c).after 7 p0 = k0_pay7 (bytes3 m c)) j
  rw [after0_7]
  refine (out7 _ _ _).trans ?_
  rw [iblk2]

theorem inj : Function.Injective (Pipeline.arrRef spec0) := by decide +kernel

/-- What the reference's run leaves in its result. -/
theorem value (x) (h : Pipeline.FramePost cfgs (dats m) 0 (Pipeline.afterTail₀ cfgs (dats m) 0 (V0 m)
      [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]) x) :
    (x.2.mem ((c.tc : Thread nD τ).loc main_v74) : FVec F S12288x2048 .fp8e4m3)
      = actv (m ((c.tc : Thread nD τ).loc main_arg0)) (m ((c.tc : Thread nD τ).loc main_arg6)) (m ((c.tc : Thread nD τ).loc main_arg8))
          (projv (m ((c.tc : Thread nD τ).loc main_arg0)) (m ((c.tc : Thread nD τ).loc main_arg3)) (m ((c.tc : Thread nD τ).loc main_arg7)) (k0_pay1 (codes m c)) (k0_pay3 (bytes1 m c)) (k0_pay4 (bytes1 m c)))
          (projv (m ((c.tc : Thread nD τ).loc main_arg0)) (m ((c.tc : Thread nD τ).loc main_arg5)) (m ((c.tc : Thread nD τ).loc main_arg7)) (k0_pay1 (codes m c)) (k0_pay6 (bytes3 m c)) (k0_pay7 (bytes3 m c))) := by
  refine ((h c).2 main_v74 (Pipeline.mem_restRefs_of main_v74 (by decide) (by decide))).trans ?_
  unfold Pipeline.afterTail₀
  refine (after_result _).trans ?_
  have e0 := Pipeline.withArrays_of_ne spec0 c (V0 m c) (fun w => (dats m 0 c).arrAt w cfg0.N) main_arg0 (by exact (by decide : ∀ w, Pipeline.arrRef spec0 w ≠ main_arg0))
  have e3 := Pipeline.withArrays_of_ne spec0 c (V0 m c) (fun w => (dats m 0 c).arrAt w cfg0.N) main_arg3 (by exact (by decide : ∀ w, Pipeline.arrRef spec0 w ≠ main_arg3))
  have e5 := Pipeline.withArrays_of_ne spec0 c (V0 m c) (fun w => (dats m 0 c).arrAt w cfg0.N) main_arg5 (by exact (by decide : ∀ w, Pipeline.arrRef spec0 w ≠ main_arg5))
  have e6 := Pipeline.withArrays_of_ne spec0 c (V0 m c) (fun w => (dats m 0 c).arrAt w cfg0.N) main_arg6 (by exact (by decide : ∀ w, Pipeline.arrRef spec0 w ≠ main_arg6))
  have e7 := Pipeline.withArrays_of_ne spec0 c (V0 m c) (fun w => (dats m 0 c).arrAt w cfg0.N) main_arg7 (by exact (by decide : ∀ w, Pipeline.arrRef spec0 w ≠ main_arg7))
  have e8 := Pipeline.withArrays_of_ne spec0 c (V0 m c) (fun w => (dats m 0 c).arrAt w cfg0.N) main_arg8 (by exact (by decide : ∀ w, Pipeline.arrRef spec0 w ≠ main_arg8))
  have a3 := (Pipeline.withArrays_arr spec0 inj c (V0 m c) (fun w => (dats m 0 c).arrAt w cfg0.N) 3).trans (arr3 m c)
  have a4 := (Pipeline.withArrays_arr spec0 inj c (V0 m c) (fun w => (dats m 0 c).arrAt w cfg0.N) 4).trans (arr4 m c)
  have a5 := (Pipeline.withArrays_arr spec0 inj c (V0 m c) (fun w => (dats m 0 c).arrAt w cfg0.N) 5).trans (arr5 m c)
  have a6 := (Pipeline.withArrays_arr spec0 inj c (V0 m c) (fun w => (dats m 0 c).arrAt w cfg0.N) 6).trans (arr6 m c)
  have a7 := (Pipeline.withArrays_arr spec0 inj c (V0 m c) (fun w => (dats m 0 c).arrAt w cfg0.N) 7).trans (arr7 m c)
  generalize Pipeline.withArrays spec0 c (V0 m c) (fun w => (dats m 0 c).arrAt w cfg0.N) = W at e0 e3 e5 e6 e7 e8 a3 a4 a5 a6 a7
  have e0' : W (Proc.devRef .tc main_arg0) = m ((c.tc : Thread nD τ).loc main_arg0) := e0
  have e3' : W (Proc.devRef .tc main_arg3) = m ((c.tc : Thread nD τ).loc main_arg3) := e3
  have e5' : W (Proc.devRef .tc main_arg5) = m ((c.tc : Thread nD τ).loc main_arg5) := e5
  have e6' : W (Proc.devRef .tc main_arg6) = m ((c.tc : Thread nD τ).loc main_arg6) := e6
  have e7' : W (Proc.devRef .tc main_arg7) = m ((c.tc : Thread nD τ).loc main_arg7) := e7
  have e8' : W (Proc.devRef .tc main_arg8) = m ((c.tc : Thread nD τ).loc main_arg8) := e8
  have a3' : W (Proc.devRef .tc main_v0_0) = (k0_pay1 (codes m c)) := a3
  have a4' : W (Proc.devRef .tc main_v0_1) = (k0_pay3 (bytes1 m c)) := a4
  have a5' : W (Proc.devRef .tc main_v0_2) = (k0_pay4 (bytes1 m c)) := a5
  have a6' : W (Proc.devRef .tc main_v0_3) = (k0_pay6 (bytes3 m c)) := a6
  have a7' : W (Proc.devRef .tc main_v0_4) = (k0_pay7 (bytes3 m c)) := a7
  show actv (W (Proc.devRef .tc main_arg0)) (W (Proc.devRef .tc main_arg6)) (W (Proc.devRef .tc main_arg8))
          (projv (W (Proc.devRef .tc main_arg0)) (W (Proc.devRef .tc main_arg3)) (W (Proc.devRef .tc main_arg7)) (W (Proc.devRef .tc main_v0_0)) (W (Proc.devRef .tc main_v0_1)) (W (Proc.devRef .tc main_v0_2)))
          (projv (W (Proc.devRef .tc main_arg0)) (W (Proc.devRef .tc main_arg5)) (W (Proc.devRef .tc main_arg7)) (W (Proc.devRef .tc main_v0_0)) (W (Proc.devRef .tc main_v0_3)) (W (Proc.devRef .tc main_v0_4))) = _
  rw [e0', e3', e5', e6', e7', e8', a3', a4', a5', a6', a7']

end Cert.GateUpReferenceIdeal.Hand
-- ==== Proof.GateUpReferenceMath.lean ====
module
public import proofs.«01_k».proof.Proof.GateUpReferenceOps
public import proofs.«01_k».proof.Proof.GateUpIdealValue
public import Idealize.ShloMosaic.Lib.Pointwise
/-! # The lines of the reference, entry by entry -/
@[expose] public section
set_option maxRecDepth 16384
set_option maxHeartbeats 400000
noncomputable section
namespace Cert.GateUpReferenceIdeal.Hand
open Idealize.ShloMosaic Idealize.ShloMosaic.TcCoe Idealize.ShloMosaic.Tactic
open Cert.GateUpReferenceIdeal Cert.GateUpReferenceIdeal.Gen Cert.W4
open Idealize.ShloMosaic.WordCmp

/-- The even and the odd weights, cast. -/
abbrev evens (B : Vec Ideal S18x3584x2048 .i8) : FVec Ideal S18x3584x2048 .bf16 := k0_pay3 B
abbrev odds (B : Vec Ideal S18x3584x2048 .i8) : FVec Ideal S18x3584x2048 .bf16 := k0_pay4 B

theorem select_one {α : Type} (k : BitVec 1) (a b : α) : Scalar.select k a b = if k = 1#1 then a else b := rfl

theorem half_ap (k : IVec S12288x18 1) (w s : FVec Ideal S18x3584x2048 .bf16) (x : FVec Ideal S12288x3584 .bf16) (r : Fin 12288) (c : Fin 2048) :
    half k w s x (ix2 r c) = ∑ e : Fin 18, if k (ix2 r e) = 1#1 then (∑ q : Fin 3584, (w (ix3 e q c) * s (ix3 e q c)) * x (ix2 r q) : EReal) else 0 := by
  pointwise [half, zero]
  rfl
theorem rowScale_ap (k : IVec S12288x18 1) (a : FVec Ideal S18 .f32) (r : Fin 12288) :
    rowScale k a (ix1 r) = ∑ e : Fin 18, if k (ix2 r e) = 1#1 then (a (ix1 e) : EReal) else 0 := by
  pointwise [rowScale, zero]
  rfl
theorem scales_ap (s : FVec Ideal S18x56x2048 .bf16) (e : Fin 18) (q : Fin 3584) (c : Fin 2048) :
    scales s (ix3 e q c) = s (ix3 e ⟨q.val / 64, by omega⟩ c) := by
  pointwise [scales]
theorem mask_ap (g : IVec S18 32) (r : Fin 12288) (e : Fin 18) :
    mask g (ix2 r e) = IntOp.andi (IntOp.cmpi .sge (BitVec.ofNat 32 r.val) (IntOp.subi (ends g (ix1 e)) (g (ix1 e)))) (IntOp.cmpi .slt (BitVec.ofNat 32 r.val) (ends g (ix1 e))) := by
  pointwise [mask]

/-- The mask says which expert owns a row. -/
theorem mask_iff (x : IVec S18 32) (g : ℕ → ℕ) (hx : ∀ i : Fin 18, x (ix1 i) = BitVec.ofNat 32 (g i.val)) (hs : sm g 18 = 12288)
    (r : Fin 12288) (e : Fin 18) : mask x (ix2 r e) = 1#1 ↔ sm g e.val ≤ r.val ∧ r.val < sm g (e.val + 1) := by
  have hr := r.isLt
  have h1 := ends_le g hs (e.val + 1) (by omega)
  have h2 := sm_succ g e.val
  have he : ends x (ix1 e) = BitVec.ofNat 32 (sm g (e.val + 1)) :=
    cum18 x g hx e _ rfl reduceWindows_S18_S18_w18s1p17_0 h_S_
  have hst : IntOp.subi (ends x (ix1 e)) (x (ix1 e)) = BitVec.ofNat 32 (sm g e.val) := by
    rw [he, hx]
    refine (Idealize.ShloMosaic.Routing.ofNat32_sub (by omega)).trans ?_
    rw [h2, Nat.add_sub_cancel]
  rw [mask_ap, hst, he, IntOp.andi_eq_one, cmpi_sge_ofNat_eq_one_iff (by omega) (by omega), cmpi_slt_ofNat_eq_one_iff (by omega) (by omega)]

/-- A sum over the experts, masked to the owner of a row, is the owner's term. -/
theorem masked_sum (x : IVec S18 32) (g : ℕ → ℕ) (hx : ∀ i : Fin 18, x (ix1 i) = BitVec.ofNat 32 (g i.val)) (hs : sm g 18 = 12288)
    (r : Fin 12288) (f : Fin 18 → EReal) :
    (∑ e : Fin 18, if mask x (ix2 r e) = 1#1 then f e else 0) = f ⟨owner g r.val, (owner_place g hs r.val r.isLt).1⟩ := by
  have ho := owner_place g hs r.val r.isLt
  refine (Finset.sum_congr rfl fun e _ => ?_).trans (Finset.sum_ite_eq' Finset.univ (⟨owner g r.val, ho.1⟩ : Fin 18) f |>.trans (if_pos (Finset.mem_univ _)))
  refine if_congr ((mask_iff x g hx hs r e).trans ⟨fun h => ?_, fun h => ?_⟩) rfl rfl
  · exact Fin.ext (owner_eq g e.val r.val e.isLt h.1 h.2).symm
  · subst h
    exact ho.2

theorem even_ap (x : FVec Ideal S12288x7168 .bf16) (r : Fin 12288) (q : Fin 3584) :
    Host.slice S12288x3584 ![0, 0] ![1, 2] x slicesBy_S12288x7168_S12288x3584_0s1_0s2 (ix2 r q) = x (ix2 r ⟨q.val * 2 + 0, by omega⟩) := by
  pointwise
  exact congrArg x (congrArg (ix2 r) (Fin.ext (by show _ = q.val * 2 + 0; simp; try omega)))
theorem odd_ap (x : FVec Ideal S12288x7168 .bf16) (r : Fin 12288) (q : Fin 3584) :
    Host.slice S12288x3584 ![0, 1] ![1, 2] x slicesBy_S12288x7168_S12288x3584_0s1_1s2 (ix2 r q) = x (ix2 r ⟨q.val * 2 + 1, by omega⟩) := by
  pointwise
  exact congrArg x (congrArg (ix2 r) (Fin.ext (by show _ = q.val * 2 + 1; simp; try omega)))

theorem projv_ap (g : IVec S18 32) (s : FVec Ideal S18x56x2048 .bf16) (a : FVec Ideal S18 .f32) (x : FVec Ideal S12288x7168 .bf16)
    (l h : FVec Ideal S18x3584x2048 .bf16) (r : Fin 12288) (c : Fin 2048) :
    projv g s a x l h (ix2 r c)
      = ((half (mask g) l (scales s) (Host.slice S12288x3584 ![0, 0] ![1, 2] x slicesBy_S12288x7168_S12288x3584_0s1_0s2) (ix2 r c)
          + half (mask g) h (scales s) (Host.slice S12288x3584 ![0, 1] ![1, 2] x slicesBy_S12288x7168_S12288x3584_0s1_1s2) (ix2 r c)
          : EReal)) * rowScale (mask g) a (ix1 r) := by
  pointwise [projv]

/-- A projection's entries are the products of the owners. -/
theorem projv_entry (x : IVec S18 32) (g : ℕ → ℕ) (hx : ∀ i : Fin 18, x (ix1 i) = BitVec.ofNat 32 (g i.val)) (hs : sm g 18 = 12288)
    (H : Vec Ideal S12288x7168 .fp8e4m3) (B : Vec Ideal S18x3584x2048 .i8) (s : Vec Ideal S18x56x2048 .bf16) (a : Vec Ideal S18 .f32)
    (r : Fin 12288) (c : Fin 2048) :
    projv (F := Ideal) x s a (k0_pay1 H) (evens B) (odds B) (ix2 r c)
      = Cert.GateUpIdeal.Hand.proj H B s a ⟨owner g r.val, (owner_place g hs r.val r.isLt).1⟩ r c := by
  rw [projv_ap, half_ap, half_ap, rowScale_ap, masked_sum x g hx hs, masked_sum x g hx hs, masked_sum x g hx hs]
  generalize (⟨owner g r.val, (owner_place g hs r.val r.isLt).1⟩ : Fin 18) = e
  unfold Cert.GateUpIdeal.Hand.proj
  refine congrArg (fun z : EReal => z * a (ix1 e)) ?_
  refine Eq.trans ?_ (Fin.sum_univ_tiles (N := 7168) 3584 2 (by norm_num) _).symm
  rw [← Finset.sum_add_distrib]
  refine Finset.sum_congr rfl fun q _ => ?_
  rw [Fin.sum_univ_two, even_ap, odd_ap, scales_ap, mul_comm, mul_comm (odds B (ix3 e q c) * _ : EReal)]
  have hq := q.isLt
  refine congrArg₂ (fun y z : EReal => y + z) ?_ ?_
  · refine congrArg (fun z : EReal => H (ix2 r ⟨q.val * 2 + 0, by omega⟩) * z) ?_
    have e1 : (⟨(q.val * 2 + 0) / 2, by omega⟩ : Fin 3584) = q := Fin.ext (by show (q.val * 2 + 0) / 2 = q.val; omega)
    have e2 : (⟨(q.val * 2 + 0) / 128, by omega⟩ : Fin 56) = ⟨q.val / 64, by omega⟩ := Fin.ext (by show (q.val * 2 + 0) / 128 = q.val / 64; omega)
    show _ = dqe (F := Ideal) (B (ix3 e (⟨(q.val * 2 + 0) / 2, by omega⟩ : Fin 3584) c)) (q.val * 2 + 0) (s (ix3 e (⟨(q.val * 2 + 0) / 128, by omega⟩ : Fin 56) c))
    rw [e1, e2]
    unfold dqe nib
    rw [if_pos (show (q.val * 2 + 0) % 2 < 1 by omega)]
    rfl
  · refine congrArg (fun z : EReal => H (ix2 r ⟨q.val * 2 + 1, by omega⟩) * z) ?_
    have e1 : (⟨(q.val * 2 + 1) / 2, by omega⟩ : Fin 3584) = q := Fin.ext (by show (q.val * 2 + 1) / 2 = q.val; omega)
    have e2 : (⟨(q.val * 2 + 1) / 128, by omega⟩ : Fin 56) = ⟨q.val / 64, by omega⟩ := Fin.ext (by show (q.val * 2 + 1) / 128 = q.val / 64; omega)
    show _ = dqe (F := Ideal) (B (ix3 e (⟨(q.val * 2 + 1) / 2, by omega⟩ : Fin 3584) c)) (q.val * 2 + 1) (s (ix3 e (⟨(q.val * 2 + 1) / 128, by omega⟩ : Fin 56) c))
    rw [e1, e2]
    unfold dqe nib
    rw [if_neg (show ¬ (q.val * 2 + 1) % 2 < 1 by omega)]
    rfl

/-- The projections of the second matrix are those of the first, at its own bytes. -/
theorem evens3 (B : Vec Ideal S18x3584x2048 .i8) : k0_pay6 (F := Ideal) B = evens B := rfl
theorem odds3 (B : Vec Ideal S18x3584x2048 .i8) : k0_pay7 (F := Ideal) B = odds B := rfl

theorem rowFactors_ap (k : IVec S12288x18 1) (p : FVec Ideal S18x2048 .f32) (r : Fin 12288) (c : Fin 2048) :
    rowFactors k p (ix2 r c) = ∑ e : Fin 18, if k (ix2 r e) = 1#1 then (p (ix2 e c) : EReal) else 0 := by
  pointwise [rowFactors, zero]
  rfl

theorem actv_ap (g : IVec S18 32) (p : FVec Ideal S18x2048 .f32) (a : FVec Ideal S18 .f32) (v u : FVec Ideal S12288x2048 .f32) (r : Fin 12288) (c : Fin 2048) :
    actv g p a v u (ix2 r c) = act (v (ix2 r c)) (u (ix2 r c)) (rowFactors (mask g) p (ix2 r c)) (rowScale (mask g) a (ix1 r)) := by
  pointwise [actv, silu]
  rfl

/-- The reference's codes are the owners' entries. -/
theorem actv_entry (x : IVec S18 32) (g : ℕ → ℕ) (hx : ∀ i : Fin 18, x (ix1 i) = BitVec.ofNat 32 (g i.val)) (hs : sm g 18 = 12288)
    (H : Vec Ideal S12288x7168 .fp8e4m3) (B1 : Vec Ideal S18x3584x2048 .i8) (s1 : Vec Ideal S18x56x2048 .bf16)
    (B3 : Vec Ideal S18x3584x2048 .i8) (s3 : Vec Ideal S18x56x2048 .bf16) (p : Vec Ideal S18x2048 .f32) (P : Vec Ideal Cert.GateUpIdeal.S18x1x2048 .f32)
    (hP : ∀ (e : Fin 18) (k : Fin 2048), P (ix3 e 0 k) = p (ix2 e k)) (a1 a2 : Vec Ideal S18 .f32)
    (r : Fin 12288) (c : Fin 2048) :
    actv (F := Ideal) x p a2 (projv x s1 a1 (k0_pay1 H) (k0_pay3 B1) (k0_pay4 B1)) (projv x s3 a1 (k0_pay1 H) (k0_pay6 B3) (k0_pay7 B3)) (ix2 r c)
      = Cert.GateUpIdeal.Hand.entry H B1 s1 B3 s3 P a1 a2 ⟨owner g r.val, (owner_place g hs r.val r.isLt).1⟩ r c := by
  rw [actv_ap, rowFactors_ap, rowScale_ap, masked_sum x g hx hs, masked_sum x g hx hs]
  unfold Cert.GateUpIdeal.Hand.entry
  refine act_congr ?_ ?_ (hP _ _).symm rfl
  · exact projv_entry x g hx hs H B1 s1 a1 r c
  · exact projv_entry x g hx hs H B3 s3 a1 r c

end Cert.GateUpReferenceIdeal.Hand
-- ==== Proof.GateUpEqual.lean ====
module
public import proofs.«01_k».proof.Defs
public import proofs.«01_k».proof.Proof.GateUpIdealOut
public import proofs.«01_k».proof.Proof.GateUpRows
public import proofs.«01_k».proof.Proof.GateUpReferenceCasts
public import proofs.«01_k».proof.Proof.GateUpReferenceMath
public import proofs.«01_k».proof.Proof.Gen.GateUpIdeal
public import proofs.«01_k».proof.Proof.Gen.GateUpReferenceIdeal
/-! # The gate and up program and its reference compute the same matrix -/
@[expose] public section
set_option maxRecDepth 16384
set_option maxHeartbeats 400000
noncomputable section
namespace Cert.GateUpEqual
open Idealize.ShloMosaic Idealize.ShloMosaic.TcCoe Idealize.ShloMosaic.Tactic Idealize.SL.Sem
open Cert.W4

section
open Cert.GateUpIdeal Cert.GateUpIdeal.Gen Cert.GateUpIdeal.Hand

/-- The factors as the kernel receives them are the argument, reshaped. -/
theorem V_factors (m : (ℓ : Loc nD τ sig) → Buf (Elt Ideal) ℓ) (c : Dev nD) :
    (V m c main_v67 : S18x1x2048.Idx → EReal) = shapeCast S18x1x2048 (m ((c.tc : Thread nD τ).loc main_arg6) : S18x2048.Idx → EReal) shapeCasts_S18x2048_S18x1x2048 := by
  unfold V
  after_reads_simp
  rfl

theorem factors_ap (p : FVec Ideal S18x2048 .f32) (e : Fin 18) (k : Fin 2048) :
    shapeCast S18x1x2048 p shapeCasts_S18x2048_S18x1x2048 (ix3 e 0 k) = p (ix2 e k) := by
  pointwise
end

/-- The reference's result, from the arguments, is the program's. -/
theorem value_eq (m : (ℓ : Loc Cert.GateUpIdeal.nD Cert.GateUpIdeal.τ Cert.GateUpIdeal.sig) → Buf (Elt Ideal) ℓ) (hs : sm (Cert.GateUpIdeal.Hand.gn m) 18 = 12288)
    (c : Dev Cert.GateUpIdeal.nD) (x : IVec Cert.GateUpReferenceIdeal.S18 32) (H : Vec Ideal Cert.GateUpReferenceIdeal.S12288x7168 .fp8e4m3)
    (B1 : Vec Ideal Cert.GateUpReferenceIdeal.S18x3584x2048 .i8) (s1 : Vec Ideal Cert.GateUpReferenceIdeal.S18x56x2048 .bf16)
    (B3 : Vec Ideal Cert.GateUpReferenceIdeal.S18x3584x2048 .i8) (s3 : Vec Ideal Cert.GateUpReferenceIdeal.S18x56x2048 .bf16)
    (p : Vec Ideal Cert.GateUpReferenceIdeal.S18x2048 .f32) (a1 a2 : Vec Ideal Cert.GateUpReferenceIdeal.S18 .f32)
    (h0 : x = m ((c.tc : Thread Cert.GateUpIdeal.nD Cert.GateUpIdeal.τ).loc Cert.GateUpIdeal.main_arg0))
    (h1 : H = m ((c.tc : Thread Cert.GateUpIdeal.nD Cert.GateUpIdeal.τ).loc Cert.GateUpIdeal.main_arg1))
    (h2 : B1 = m ((c.tc : Thread Cert.GateUpIdeal.nD Cert.GateUpIdeal.τ).loc Cert.GateUpIdeal.main_arg2))
    (h3 : s1 = m ((c.tc : Thread Cert.GateUpIdeal.nD Cert.GateUpIdeal.τ).loc Cert.GateUpIdeal.main_arg3))
    (h4 : B3 = m ((c.tc : Thread Cert.GateUpIdeal.nD Cert.GateUpIdeal.τ).loc Cert.GateUpIdeal.main_arg4))
    (h5 : s3 = m ((c.tc : Thread Cert.GateUpIdeal.nD Cert.GateUpIdeal.τ).loc Cert.GateUpIdeal.main_arg5))
    (h6 : p = m ((c.tc : Thread Cert.GateUpIdeal.nD Cert.GateUpIdeal.τ).loc Cert.GateUpIdeal.main_arg6))
    (h7 : a1 = m ((c.tc : Thread Cert.GateUpIdeal.nD Cert.GateUpIdeal.τ).loc Cert.GateUpIdeal.main_arg7))
    (h8 : a2 = m ((c.tc : Thread Cert.GateUpIdeal.nD Cert.GateUpIdeal.τ).loc Cert.GateUpIdeal.main_arg8)) :
    Cert.GateUpReferenceIdeal.Hand.actv (F := Ideal) x p a2
      (Cert.GateUpReferenceIdeal.Hand.projv x s1 a1 (Cert.GateUpReferenceIdeal.Gen.k0_pay1 H) (Cert.GateUpReferenceIdeal.Gen.k0_pay3 B1) (Cert.GateUpReferenceIdeal.Gen.k0_pay4 B1))
      (Cert.GateUpReferenceIdeal.Hand.projv x s3 a1 (Cert.GateUpReferenceIdeal.Gen.k0_pay1 H) (Cert.GateUpReferenceIdeal.Gen.k0_pay6 B3) (Cert.GateUpReferenceIdeal.Gen.k0_pay7 B3)) = Cert.GateUpIdeal.Hand.result m hs c := by
  obtain rfl : c = 0 := Subsingleton.elim _ _
  funext i
  obtain ⟨r, k, rfl⟩ : ∃ (r : Fin 12288) (k : Fin 2048), i = ix2 r k := ⟨i 0, i 1, by funext b; fin_cases b <;> rfl⟩
  have hx : ∀ j : Fin 18, x (ix1 j) = BitVec.ofNat 32 (Cert.GateUpIdeal.Hand.gn m j.val) := fun j => by
    rw [h0]
    exact cnt_word _ j
  have hP : ∀ (e : Fin 18) (k : Fin 2048), (Cert.GateUpIdeal.Hand.V m 0 Cert.GateUpIdeal.main_v67 : Cert.GateUpIdeal.S18x1x2048.Idx → EReal) (ix3 e 0 k) = p (ix2 e k) := fun e k => by
    rw [V_factors, h6]
    exact factors_ap _ e k
  rw [Cert.GateUpReferenceIdeal.Hand.actv_entry x (Cert.GateUpIdeal.Hand.gn m) hx hs H B1 s1 B3 s3 p _ hP a1 a2 r k]
  unfold Cert.GateUpIdeal.Hand.result Cert.GateUpIdeal.Hand.own
  rw [Cert.GateUpIdeal.Hand.V_arg1, Cert.GateUpIdeal.Hand.V_arg2, Cert.GateUpIdeal.Hand.V_arg3, Cert.GateUpIdeal.Hand.V_arg4, Cert.GateUpIdeal.Hand.V_arg5,
    Cert.GateUpIdeal.Hand.V_arg7, Cert.GateUpIdeal.Hand.V_arg8, h1, h2, h3, h4, h5, h7, h8]
  rfl

theorem algebraic : Cert.algebraic_GateUpIdeal_GateUpReferenceIdeal (hGateUpIdeal := Cert.GateUpIdeal.Gen.facts)
    (hGateUpReferenceIdeal := Cert.GateUpReferenceIdeal.Gen.facts) (hPre_gate_up_rows_in_groups := Cert.Pre_gate_up_rows_in_groups.Gen.facts) := by
  intro m g m' g' hpre hag
  have hs : sm (Cert.GateUpIdeal.Hand.gn m) 18 = 12288 := Cert.W4.gate_up_rows_sum _ _ _ _ _ _ _ _ _ (hpre 0)
  refine ⟨fun c => Cert.GateUpIdeal.Hand.result m hs c, ?_, ?_⟩
  · exact (θ_run _ _ _).mono (fun r h c => ⟨Cert.GateUpIdeal.Hand.out_eq m hs c r h.1, Cert.GateUpIdeal.Hand.args_of m (Cert.GateUpIdeal.Hand.ad m hs) r h.1 c⟩)
      (Cert.GateUpIdeal.Hand.run_main m g (Cert.GateUpIdeal.Hand.ad m hs) (Cert.GateUpIdeal.Hand.hpf m hs))
  · refine (θ_run _ _ _).mono (fun r h c => ⟨?_, h.2 c⟩)
      (θ_run_and (Cert.GateUpReferenceIdeal.Gen.run_main m' g') (Cert.GateUpReferenceIdeal.Gen.unchanged m' g'))
    refine (Cert.GateUpReferenceIdeal.Hand.value m' c r h.1).trans ?_
    obtain ⟨h0, h1, h2, h3, h4, h5, h6, h7, h8⟩ := hag c
    exact value_eq m hs c _ _ _ _ _ _ _ _ _ h0 h1 h2 h3 h4 h5 h6 h7 h8

end Cert.GateUpEqual
-- ==== Proof.CombineBody.lean ====
module
public import proofs.«01_k».proof.Proof.Gen.Combine.Skeleton
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # What one grid point of the combine kernel does

The body copies 256 rows of the experts' output into the scratch, one transfer per row, waits for all of them, and stores the
weighted sums of eight rows each. -/
@[expose] public section
set_option maxRecDepth 16384
set_option maxHeartbeats 4000000
noncomputable section
namespace Cert.Combine.Hand
open Idealize.ShloMosaic Idealize.ShloMosaic.TcCoe Idealize.ShloMosaic.Tactic
open Cert.Combine Cert.Combine.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

theorem trips1 : k0_t1_loop.trips = 256 := by decide
theorem trips2 : k0_t2_loop.trips = 256 := by decide

/-- The position in the table that row `k` of point `i` reads. -/
theorem pos_lt (i : grid0.Coords) (k : Fin k0_t1_loop.trips) : 256 * (i 0).val + k.val < 12288 := by
  have h1 : (i 0).val < 48 := (i 0).isLt
  have h2 : k.val < 256 := k.isLt.trans_eq trips1
  omega

/-- The word of the table that row `k` of point `i` reads. -/
def word (P : S12288.Idx → BitVec 32) (i : grid0.Coords) (k : Fin k0_t1_loop.trips) : BitVec 32 := P (ix1 ⟨256 * (i 0).val + k.val, pos_lt i k⟩)

/-- Every word of the table is the number of a row. -/
def InRange (P : S12288.Idx → BitVec 32) : Prop := ∀ j, (P j).toNat < 12288

/-- The word read off the table at a stated position. -/
theorem word_eq (P : S12288.Idx → BitVec 32) {o : Fin 1 → ℕ} (n : ℕ) (hn : n < 12288)
    (e : o = ![n]) (inb : ∀ a, o a + S1.size a ≤ S12288.size a) (h : 0 < S1.numel) :
    View.readAt (Elt F) (Memref.whole main_v0).view (Rect.unit (s := S12288) o S1.size inb).toLoadRect P (Shape.Idx.first h) = P (ix1 ⟨n, hn⟩) := by
  subst e
  rw [View.readAt_eq_ld]
  refine congrArg P (funext fun a => Fin.ext ?_)
  fin_cases a
  have hz : (Shape.Idx.first h (0 : Fin 1)).val < 1 := (Shape.Idx.first h (0 : Fin 1)).isLt
  change n + 1 * (Shape.Idx.first h (0 : Fin 1)).val = n
  omega

theorem chk_of (w : BitVec 32) (h : w.toNat < 12288) : k0_chk1 w := by
  intro a
  fin_cases a
  · show w.toNat + 1 ≤ 12288
    omega
  · show 0 + 7168 ≤ 7168
    omega

/-- Row `k` of the scratch. -/
def dRow (k : Fin k0_t1_loop.trips) : Memref sig .tc .vmem S1x7168 .f32 :=
  (Memref.whole cc0_scratch0).slice (Rect.unit (s := S256x7168) (k0_off2 k) S1x7168.size (k0_off2_inb k)) (fun _ => rfl)

/-- Row `w` of the experts' output. -/
def sRow (w : BitVec 32) (h : k0_chk1 w) : Memref sig .tc .hbm S1x7168 .f32 :=
  (Memref.whole main_arg2).slice (Rect.unit (s := S12288x7168) (k0_off3 w) S1x7168.size (k0_off3_inb w h)) (fun _ => rfl)

/-- The elements of a row of the scratch. -/
abbrev dset (k : Fin k0_t1_loop.trips) : Finset S256x7168.Idx := (Rect.unit (s := S256x7168) (k0_off2 k) S1x7168.size (k0_off2_inb k)).set

theorem dRow_set (k : Fin k0_t1_loop.trips) : (dRow k).view.set = dset k := View.set_slice_whole _ _

theorem mem_dset (k : Fin k0_t1_loop.trips) (y : S256x7168.Idx) : y ∈ dset k ↔ (y 0).val = k.val := by
  rw [Rect.mem_set_unit]
  have h2 : (y 1).val < 7168 := (y 1).isLt
  have e0 : k0_off2 k 0 = k.val := congrFun (k0_off2_eq k) 0
  have e1 : k0_off2 k 1 = 0 := congrFun (k0_off2_eq k) 1
  constructor
  · intro H
    have a0 : k0_off2 k 0 ≤ (y 0).val ∧ (y 0).val < k0_off2 k 0 + 1 := H 0
    omega
  · intro H a
    fin_cases a
    · show k0_off2 k 0 ≤ (y 0).val ∧ (y 0).val < k0_off2 k 0 + 1
      omega
    · show k0_off2 k 1 ≤ (y 1).val ∧ (y 1).val < k0_off2 k 1 + 7168
      omega

theorem dset_disjoint : ∀ b b' : Fin k0_t1_loop.trips, b ≠ b' → Disjoint (dset b) (dset b') := fun b b' hne => by
  rw [Finset.disjoint_left]; intro y hy hy'; rw [mem_dset] at hy hy'; exact hne (Fin.ext (by omega))

theorem dset_cover : Finset.univ.biUnion dset = Finset.univ := by
  ext y
  simp only [Finset.mem_biUnion, Finset.mem_univ, true_and, iff_true]
  have h : (y 0).val < 256 := (y 0).isLt
  exact ⟨⟨(y 0).val, h.trans_eq trips1.symm⟩, (mem_dset _ _).mpr rfl⟩

/-- What the scratch holds once every row has landed. -/
def gathered (P : S12288.Idx → BitVec 32) (i : grid0.Coords) (X : S12288x7168.Idx → F .f32) : S256x7168.Idx → F .f32 :=
  fun y => X (ix2 ⟨min (word P i ⟨(y 0).val, (show (y 0).val < 256 from (y 0).isLt).trans_eq trips1.symm⟩).toNat 12287, by omega⟩ (y 1))

/-- A row landed is that row of what the scratch holds in the end. -/
theorem landed (P : S12288.Idx → BitVec 32) (hP : InRange P) (i : grid0.Coords) (X : S12288x7168.Idx → F .f32) (k : Fin k0_t1_loop.trips)
    (h : k0_chk1 (word P i k)) (g : S256x7168.Idx → F .f32) (y : S256x7168.Idx) (hy : y ∈ dset k) :
    (dRow k).view.write (Elt F) g ((sRow (word P i k) h).view.read (Elt F) X) Finset.univ y = gathered P i X y := by
  rw [mem_dset] at hy
  let x : S1x7168.Idx := ix2 (0 : Fin 1) (y 1)
  have e0 : k0_off2 k 0 = k.val := congrFun (k0_off2_eq k) 0
  have e1 : k0_off2 k 1 = 0 := congrFun (k0_off2_eq k) 1
  have hx : (dRow k).view.emb x = y := by
    funext a
    refine Fin.ext ?_
    fin_cases a
    · show k0_off2 k 0 + 1 * 0 = (y 0).val
      omega
    · show k0_off2 k 1 + 1 * (y 1).val = (y 1).val
      omega
  have hw : (⟨(y 0).val, (show (y 0).val < 256 from (y 0).isLt).trans_eq trips1.symm⟩ : Fin k0_t1_loop.trips) = k := Fin.ext hy
  have hl : (word P i k).toNat < 12288 := hP _
  refine (congrArg ((dRow k).view.write (Elt F) g ((sRow (word P i k) h).view.read (Elt F) X) Finset.univ) hx.symm).trans ((View.write_emb_of_mem (v := (dRow k).view) _ _ (Finset.mem_univ x)).trans ?_)
  have hw' : word P i ⟨(y 0).val, (show (y 0).val < 256 from (y 0).isLt).trans_eq trips1.symm⟩ = word P i k := congrArg (word P i) hw
  unfold gathered
  show X ((sRow (word P i k) h).view.emb x) = _
  refine congrArg X (funext fun a => Fin.ext ?_)
  fin_cases a
  · show (word P i k).toNat + 1 * 0 = min (word P i ⟨(y 0).val, (show (y 0).val < 256 from (y 0).isLt).trans_eq trips1.symm⟩).toNat 12287
    rw [hw']
    omega
  · show 0 + 1 * (y 1).val = (y 1).val
    omega

section
variable (c : Dev nD) (P : S12288.Idx → BitVec 32) (hP : InRange P) (i : grid0.Coords) (X : S12288x7168.Idx → F .f32)

theorem chk (hP : InRange P) (k : Fin k0_t1_loop.trips) : k0_chk1 (word P i k) := chk_of _ (hP _)

/-- A row of the scratch, owned. -/
abbrev rowAny (k : Fin k0_t1_loop.trips) : sProp 𝕄G := iprop(∃ g, (dRow k).view.loc (c : Thread nD τ) ↦[(dRow k).view.set]{fullShare} g)

/-- The row of the experts' output that transfer `k` reads, under its token. -/
abbrev srcTok (k : Fin k0_t1_loop.trips) : sProp 𝕄G :=
  iprop((sRow (word P i k) (chk P i hP k)).view.loc (c : Thread nD τ) ↦[(sRow (word P i k) (chk P i hP k)).view.set]{Transfers.shareTokN fullShare k.val} X)

/-- What transfer `k` delivers. -/
abbrev deliv (k : Fin k0_t1_loop.trips) : sProp 𝕄G :=
  iprop(((dRow k).view.loc (c : Thread nD τ) ↦[(dRow k).view.set]{fullShare} gathered P i X) ∗ srcTok c P hP i X k)

theorem srcTok_eq (k : Fin k0_t1_loop.trips) (w : BitVec 32) (e : w = word P i k) (h : k0_chk1 w) :
    srcTok c P hP i X k = iprop((sRow w h).view.loc (c : Thread nD τ) ↦[(sRow w h).view.set]{Transfers.shareTokN fullShare k.val} X) := by
  subst e; rfl

/-- The units of a row. -/
abbrev NN : ℕ := 896

abbrev batch (j u : ℕ) : sProp 𝕄G :=
  Transfers.Batch (countersEmb (U := Pipeline.UD sig nD τ)) (c : Thread nD τ) (.dma cc0_scratch1.sem) () NN (deliv c P hP i X) j u

theorem amount_eq (k : Fin k0_t1_loop.trips) : (dRow k).view.amount (.dma cc0_scratch1.sem) = NN := rfl

/-- What lands in row `k` and the row it came from are what transfer `k` delivers. -/
theorem deliver (k : Fin k0_t1_loop.trips) (w : BitVec 32) (e : w = word P i k) (h : k0_chk1 w) (g : S256x7168.Idx → F .f32) :
    iprop(((dRow k).view.loc (c : Thread nD τ) ↦[(dRow k).view.set]{fullShare} (dRow k).view.write (Elt F) g ((sRow w h).view.read (Elt F) X) Finset.univ)
      ∗ ((sRow w h).view.loc (c : Thread nD τ) ↦[(sRow w h).view.set]{Transfers.shareTokN fullShare k.val} X)) ⊢ deliv c P hP i X k := by
  subst e
  unfold deliv srcTok
  refine Idealize.SL.BI.Laws.sep_mono (Entails.of_eq (pointsTo_congr fun y hy => ?_)) Entails.rfl
  exact landed P hP i X k h g y (by rw [← dRow_set k]; exact hy)

theorem issue_one (𝒱 : Variants) (bd : Option 𝒱.V) (k : Fin k0_t1_loop.trips) (w : BitVec 32) (e : w = word P i k) (h : k0_chk1 w) (g : S256x7168.Idx → F .f32)
    {hsrc : (sRow w h).view.WordExact} {hdst : (dRow k).view.WordExact} {hsem : DmaTarget.Typed (nD := nD) (p := (c : Thread nD τ).2) (sig := sig) .hbm (.dma cc0_scratch1.sem) (.here (dRow k))}
    {kont : PUnit → Prog (TpuEff nD τ sig (Elt F) Λ₀ .tc) Unit} {Q : Unit → sProp 𝕄G} :
    iprop(((sRow w h).view.loc (c : Thread nD τ) ↦[(sRow w h).view.set]{Transfers.shareTokN fullShare k.val} X)
      ∗ ((dRow k).view.loc (c : Thread nD τ) ↦[(dRow k).view.set]{fullShare} g) ∗ batch c P hP i X k.val 0)
    ⊢ iprop((batch c P hP i X (k.val + 1) 0 -∗ wp (M := 𝕄G) frame (wpE (defs₀ (F := F)) 𝒱 (c : Thread nD τ) bd) Set.univ (kont ⟨⟩) Q)
      -∗ wp (M := 𝕄G) frame (wpE (defs₀ (F := F)) 𝒱 (c : Thread nD τ) bd) Set.univ (.op (.enqueueDma (sRow w h) (.here (dRow k)) (.dma cc0_scratch1.sem) hsrc hdst hsem) kont) Q) :=
  Transfers.wp_dmaBatch (countersEmb (U := Pipeline.UD sig nD τ)) 𝒱 (c : Thread nD τ) bd () NN (j := k.val) (u := 0) (dst := dRow k) (src := sRow w h) (amount_eq k) (Finset.Subset.refl _) k.isLt (Nat.zero_le _) (deliver c P hP i X k w e h g)

/-- The table, held. -/
abbrev tab (q : PosShare TreeShare) (P : S12288.Idx → BitVec 32) : sProp 𝕄G := (Memref.whole main_v0).view.loc (c : Thread nD τ) ↦{q} P

/-- Before trip `k` of the first loop: `k` transfers issued, the rows from `k` on in hand. -/
def issueAt (q : PosShare TreeShare) (k : ℕ) : sProp 𝕄G :=
  iprop(batch c P hP i X k 0 ∗ bigSep (Ring.rangeSet k0_t1_loop.trips k k0_t1_loop.trips) (rowAny c)
    ∗ bigSep (Ring.rangeSet k0_t1_loop.trips k k0_t1_loop.trips) (srcTok c P hP i X)
    ∗ tab c q P)

theorem issue_step (𝒱 : Variants) (bd : Option 𝒱.V) (q : PosShare TreeShare) (arg2 : Memref sig .tc .vmem S256x1 .f32) (harg2 : arg2.IsWhole) (arg4 : Memref sig .tc .vmem S32x7168 .bf16) (harg4 : arg4.IsWhole) (k : Fin k0_t1_loop.trips) (acc : Unit) :
    issueAt c P hP i X q k ⊢ wp (M := 𝕄G) frame (wpE (defs₀ (F := F)) 𝒱 (c : Thread nD τ) bd) Set.univ
      (k0_t1_body (F := F) i (Memref.whole main_v0) (Memref.isWhole_whole _) arg2 harg2 (Memref.whole main_arg2) (Memref.isWhole_whole _) arg4 harg4 (Memref.whole cc0_scratch0) (Memref.isWhole_whole _) cc0_scratch1 k acc)
      (fun _ => issueAt c P hP i X q (k.val + 1)) := by
  have hk := k.isLt
  unfold issueAt
  rw [Ring.bigSep_rangeSet_head (Φ := rowAny c) hk hk, Ring.bigSep_rangeSet_head (Φ := srcTok c P hP i X) hk hk]
  unfold rowAny srcTok
  iintro ⟨HB, ⟨⟨%gk, HK⟩, HKs⟩, ⟨HS, HSs⟩, HP⟩
  unfold k0_t1_body
  have hv := (word_eq (F := F) P (256 * (i 0).val + k.val) (pos_lt i k) (k0_off1_eq i k) (k0_off1_inb i k) (by decide)).trans (show _ = word P i k from rfl)
  have hchk := chk_of _ ((congrArg BitVec.toNat hv).trans_lt (hP _))
  ihave HS' := (Entails.of_eq (srcTok_eq c P hP i X k _ hv hchk)) $$ HS
  sl_exec
  iapply (issue_one c P hP i X 𝒱 bd k _ hv hchk gk) $$ [HS' HK HB]
  · isplitl [HS']
    · iexact HS'
    isplitl [HK]
    · iexact HK
    iexact HB
  iintro HB
  sl_step
  isplitl [HB]; · iexact HB
  isplitl [HKs]; · iexact HKs
  isplitl [HSs]; · iexact HSs
  iexact HP

end
end Cert.Combine.Hand
-- ==== Proof.CombineDrain.lean ====
module
public import proofs.«01_k».proof.Proof.CombineBody
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # The second loop of the combine kernel: waiting for every row -/
@[expose] public section
set_option maxRecDepth 16384
set_option maxHeartbeats 4000000
noncomputable section
namespace Cert.Combine.Hand
open Idealize.ShloMosaic Idealize.ShloMosaic.TcCoe Idealize.ShloMosaic.Tactic
open Cert.Combine Cert.Combine.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (c : Dev nD) (P : S12288.Idx → BitVec 32) (hP : InRange P) (i : grid0.Coords) (X : S12288x7168.Idx → F .f32)

/-- Before trip `k` of the second loop: the units of `k` rows consumed, or, after the last, every row delivered. -/
def drainAt (k : ℕ) : sProp 𝕄G :=
  iprop((∃ W, owes (c : Thread nD τ) 0 W)
    ∗ (if k < k0_t1_loop.trips then batch c P hP i X k0_t1_loop.trips (k * NN)
       else iprop(semVal ((c : Thread nD τ), SemLoc.dma cc0_scratch1.sem) 0 ∗ bigSep Finset.univ (deliv c P hP i X))))

/-- The row a wait names. -/
def wRow (k : Fin k0_t2_loop.trips) : Memref sig .tc .vmem S1x7168 .f32 :=
  (Memref.whole cc0_scratch0).slice (Rect.unit (s := S256x7168) (k0_off4 k) S1x7168.size (k0_off4_inb k)) (fun _ => rfl)

theorem credit_eq (k : Fin k0_t2_loop.trips) : (wRow k).view.dmaCredit = NN := rfl

theorem drainAt_of_lt (k : ℕ) (h : k < k0_t1_loop.trips) :
    drainAt c P hP i X k = iprop((∃ W, owes (c : Thread nD τ) 0 W) ∗ batch c P hP i X k0_t1_loop.trips (k * NN)) := by
  unfold drainAt; rw [if_pos h]

theorem drainAt_of_ge (k : ℕ) (h : k0_t1_loop.trips ≤ k) :
    drainAt c P hP i X k = iprop((∃ W, owes (c : Thread nD τ) 0 W)
      ∗ (semVal ((c : Thread nD τ), SemLoc.dma cc0_scratch1.sem) 0 ∗ bigSep Finset.univ (deliv c P hP i X))) := by
  unfold drainAt; rw [if_neg (Nat.not_lt.mpr h)]

theorem drain_step (𝒱 : Variants) (bd : Option 𝒱.V) (arg2 : Memref sig .tc .vmem S256x1 .f32) (harg2 : arg2.IsWhole) (arg4 : Memref sig .tc .vmem S32x7168 .bf16) (harg4 : arg4.IsWhole) (k : Fin k0_t2_loop.trips) (acc : Unit) :
    drainAt c P hP i X k.val ⊢ wp (M := 𝕄G) frame (wpE (defs₀ (F := F)) 𝒱 (c : Thread nD τ) bd) Set.univ
      (k0_t2_body (F := F) i (Memref.whole main_v0) (Memref.isWhole_whole _) arg2 harg2 (Memref.whole main_arg2) (Memref.isWhole_whole _) arg4 harg4 (Memref.whole cc0_scratch0) (Memref.isWhole_whole _) cc0_scratch1 k acc)
      (fun _ => drainAt c P hP i X (k.val + 1)) := by
  have hk : k.val < k0_t1_loop.trips := k.isLt.trans_eq (trips2.trans trips1.symm)
  rw [drainAt_of_lt c P hP i X k.val hk]
  rcases Nat.lt_or_ge (k.val + 1) k0_t1_loop.trips with h1 | h1
  · rw [drainAt_of_lt c P hP i X _ h1]
    have hu : k.val * NN + NN < NN * k0_t1_loop.trips := by
      have h2 := h1.trans_eq trips1
      rw [show NN * k0_t1_loop.trips = 896 * 256 from congrArg (NN * ·) trips1]
      show k.val * 896 + 896 < 896 * 256
      omega
    iintro ⟨⟨%W, HO⟩, HB⟩
    unfold k0_t2_body
    iapply (Transfers.wp_waitBatch (countersEmb (U := Pipeline.UD sig nD τ)) 𝒱 (c : Thread nD τ) bd () (dstw := wRow k) (credit_eq k) hu) $$ [HO HB]
    · isplitl [HB]
      · iexact HB
      iexact HO
    iintro ⟨HB, HO⟩
    simp only [Prog.bind]
    sl_step
    isplitl [HO]; · iexists _; iexact HO
    rw [show (k.val + 1) * NN = k.val * NN + NN from Nat.succ_mul _ _]
    iexact HB
  · rw [drainAt_of_ge c P hP i X _ h1]
    have hu : k.val * NN + NN = NN * k0_t1_loop.trips := by
      have h2 := trips1.symm.trans_le h1
      have h3 := hk.trans_eq trips1
      rw [show NN * k0_t1_loop.trips = 896 * 256 from congrArg (NN * ·) trips1]
      show k.val * 896 + 896 = 896 * 256
      omega
    iintro ⟨⟨%W, HO⟩, HB⟩
    unfold k0_t2_body
    iapply (Transfers.wp_waitBatchLast (countersEmb (U := Pipeline.UD sig nD τ)) 𝒱 (c : Thread nD τ) bd () (dstw := wRow k) (credit_eq k) (by decide) hu) $$ [HO HB]
    · isplitl [HB]
      · iexact HB
      iexact HO
    iintro ⟨HD, Hc, HO⟩
    simp only [Prog.bind]
    sl_step
    isplitl [HO]; · iexists _; iexact HO
    isplitl [Hc]; · iexact Hc
    iexact HD

end
end Cert.Combine.Hand
-- ==== Proof.CombinePoint.lean ====
module
public import proofs.«01_k».proof.Proof.CombineDrain
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # One grid point of the combine kernel, from its buffers whole to its buffers whole -/
@[expose] public section
set_option maxRecDepth 16384
set_option maxHeartbeats 4000000
noncomputable section
namespace Cert.Combine.Hand
open Idealize.ShloMosaic Idealize.ShloMosaic.TcCoe Idealize.ShloMosaic.Tactic
open Cert.Combine Cert.Combine.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (c : Dev nD) (P : S12288.Idx → BitVec 32) (hP : InRange P) (i : grid0.Coords) (X : S12288x7168.Idx → F .f32)

/-- What of the experts' output is not row `k`, under the token of transfer `k`. -/
abbrev srcRest (k : Fin k0_t1_loop.trips) : sProp 𝕄G :=
  iprop((Memref.whole main_arg2).view.loc (c : Thread nD τ) ↦[Finset.univ \ (sRow (word P i k) (chk P i hP k)).view.set]{Transfers.shareTokN fullShare k.val} X)

/-- The experts' output whole, under some share. -/
abbrev src (q : PosShare TreeShare) (X : S12288x7168.Idx → F .f32) : sProp 𝕄G := iprop((Memref.whole main_arg2).view.loc (c : Thread nD τ) ↦{q} X)

/-- The experts' output whole is one token's row and one token's rest per transfer, and what is left of the share. -/
theorem src_split : (src c fullShare X : sProp 𝕄G) ⊣⊢ iprop(src c (Transfers.shareDrop fullShare k0_t1_loop.trips) X
    ∗ bigSep Finset.univ (srcTok c P hP i X) ∗ bigSep Finset.univ (srcRest c P hP i X)) := by
  have e1 := Transfers.pointsTo_toks_range (Ix := Unit) (Val := Elt F) (Name := ℕ) (U := Pipeline.UD sig nD τ) (Lvl := ℕ) (ℓ := (Memref.whole main_arg2).view.loc (c : Thread nD τ)) (S := Finset.univ) (f := X) fullShare k0_t1_loop.trips
  have e2 : (bigSep (Finset.range k0_t1_loop.trips) (fun k => src c (Transfers.shareTokN fullShare k) X) : sProp 𝕄G)
      = bigSep Finset.univ (fun k : Fin k0_t1_loop.trips => src c (Transfers.shareTokN fullShare k.val) X) := by
    rw [← Ring.rangeSet_univ]
    exact (Ring.bigSep_rangeSet_eq_range (NB := k0_t1_loop.trips) (lo := 0) (hi := k0_t1_loop.trips)
      (Φ := fun k : Fin k0_t1_loop.trips => src c (Transfers.shareTokN fullShare k.val) X) le_rfl (fun k => src c (Transfers.shareTokN fullShare k) X) (fun k hk => congrArg (fun n => src c (Transfers.shareTokN fullShare n) X) (Nat.zero_add k).symm)).symm
  have e3 : (bigSep Finset.univ (fun k : Fin k0_t1_loop.trips => src c (Transfers.shareTokN fullShare k.val) X) : sProp 𝕄G)
      = iprop(bigSep Finset.univ (srcTok c P hP i X) ∗ bigSep Finset.univ (srcRest c P hP i X)) := by
    refine (BI.bigSep_congr fun k _ => ?_).trans (BI.bigSep_sep _ _ _)
    have h := (pointsTo_split_subset (Ix := Unit) (Val := Elt F) (Name := ℕ) (U := Pipeline.UD sig nD τ) (Lvl := ℕ) (ℓ := (Memref.whole main_arg2).view.loc (c : Thread nD τ)) (q := Transfers.shareTokN fullShare k.val) (f := X)
      (I := (sRow (word P i k) (chk P i hP k)).view.set) (Finset.subset_univ _))
    exact Entails.antisymm h.1 h.2
  rw [← e3, ← e2]
  exact e1

/-- A buffer whole is its parts. -/
theorem parts_gen {ℓ : Loc nD τ sig} (n : ℕ) (I : Fin n → Finset (Idx ℓ)) (hd : ∀ b b', b ≠ b' → Disjoint (I b) (I b')) (hc : ∀ y, ∃ b, y ∈ I b) (g : Buf (Elt F) ℓ) :
    (iprop(ℓ ↦{fullShare} g) : sProp 𝕄G) = bigSep Finset.univ (fun k : Fin n => iprop(ℓ ↦[I k]{fullShare} g)) :=
  Ring.pointsTo_blocks I hd (Finset.eq_univ_iff_forall.mpr fun y => Finset.mem_biUnion.mpr ⟨(hc y).choose, Finset.mem_univ _, (hc y).choose_spec⟩) g

/-- The scratch whole. -/
abbrev scr (g : S256x7168.Idx → F .f32) : sProp 𝕄G := iprop((Memref.whole cc0_scratch0).view.loc (c : Thread nD τ) ↦{fullShare} g)

theorem scr_parts (n : ℕ) (I : Fin n → Finset S256x7168.Idx) (hd : ∀ b b', b ≠ b' → Disjoint (I b) (I b')) (hc : ∀ y, ∃ b, y ∈ I b) (g : S256x7168.Idx → F .f32) :
    (scr c g : sProp 𝕄G) = bigSep Finset.univ (fun k : Fin n => iprop((Memref.whole cc0_scratch0).view.loc (c : Thread nD τ) ↦[I k]{fullShare} g)) :=
  parts_gen (ℓ := (Memref.whole cc0_scratch0).view.loc (c : Thread nD τ)) n I hd hc g

theorem scr_rows (g : S256x7168.Idx → F .f32) :
    (scr c g : sProp 𝕄G) = bigSep Finset.univ (fun k : Fin k0_t1_loop.trips => iprop((dRow k).view.loc (c : Thread nD τ) ↦[(dRow k).view.set]{fullShare} g)) := by
  refine (scr_parts c k0_t1_loop.trips dset dset_disjoint (fun y => ⟨⟨(y 0).val, (show (y 0).val < 256 from (y 0).isLt).trans_eq trips1.symm⟩, (mem_dset _ _).mpr rfl⟩) g).trans ?_
  refine BI.bigSep_congr fun k _ => ?_
  exact congrArg (fun S : Finset S256x7168.Idx => (iprop((Memref.whole cc0_scratch0).view.loc (c : Thread nD τ) ↦[S]{fullShare} g) : sProp 𝕄G)) (dRow_set k).symm

theorem scr_any (g : S256x7168.Idx → F .f32) : (scr c g : sProp 𝕄G) ⊢ bigSep Finset.univ (rowAny c) := by
  refine (Entails.of_eq (scr_rows c g)).trans (BI.bigSep_mono fun k _ => ?_)
  exact (show (iprop((dRow k).view.loc (c : Thread nD τ) ↦[(dRow k).view.set]{fullShare} g) : sProp 𝕄G) ⊢ rowAny c k from by
    unfold rowAny
    iintro H
    iexists g
    iexact H)

/-- Every row delivered is the scratch whole and the tokens back. -/
theorem delivered : (bigSep Finset.univ (deliv c P hP i X) : sProp 𝕄G) ⊢ iprop(scr c (gathered P i X) ∗ bigSep Finset.univ (srcTok c P hP i X)) := by
  refine (Entails.of_eq (BI.bigSep_sep _ _ _)).trans (Idealize.SL.BI.Laws.sep_mono (Entails.of_eq ?_) Entails.rfl)
  exact (scr_rows c (gathered P i X)).symm

/-- What the point stores. -/
def outF (G : S256x7168.Idx → F .f32) (B : S256x1.Idx → F .f32) : S32x7168.Idx → F .bf16 := fun y =>
  if h : (y 0).val < 16 then k0_pay1 (View.ld G (Rect.unit (s := S256x7168) ![0, 0] S128x7168.size inb_S256x7168_S128x7168_0_0)) (View.ld B (Rect.unit (s := S256x1) ![0, 0] S128x1.size inb_S256x1_S128x1_0_0)) (ix2 ⟨(y 0).val, h⟩ (y 1))
  else k0_pay2 (View.ld G (Rect.unit (s := S256x7168) ![128, 0] S128x7168.size inb_S256x7168_S128x7168_128_0)) (View.ld B (Rect.unit (s := S256x1) ![128, 0] S128x1.size inb_S256x1_S128x1_128_0)) (ix2 ⟨(y 0).val - 16, by have : (y 0).val < 32 := (y 0).isLt; omega⟩ (y 1))

theorem pt_storable {ℓ : Loc nD τ sig} {S : Finset (Idx ℓ)} {q : PosShare TreeShare} {f : Buf (Elt F) ℓ} : BI.Storable (upEmb : UEmb _ 𝕄G) (iprop(ℓ ↦[S]{q} f) : sProp 𝕄G) := inferInstance

instance deliv_storable (k : Fin k0_t1_loop.trips) : BI.Storable (upEmb : UEmb _ 𝕄G) (deliv c P hP i X k) := by
  haveI h1 : BI.Storable (upEmb : UEmb _ 𝕄G) (iprop((dRow k).view.loc (c : Thread nD τ) ↦[(dRow k).view.set]{fullShare} gathered P i X) : sProp 𝕄G) := pt_storable
  haveI h2 : BI.Storable (upEmb : UEmb _ 𝕄G) (srcTok c P hP i X k) := pt_storable
  exact BI.Storable.sep upEmb _ _

/-- The two halves stored are what the point stores. -/
theorem out_eq (m : Memref sig .tc .vmem S32x7168 .bf16) (f : m.view.ty.Contents (Elt F)) (G : S256x7168.Idx → F .f32) (B : S256x1.Idx → F .f32) :
    m.view.read (Elt F) ((m.view.slice (Rect.unit (s := S32x7168) ![16, 0] S16x7168.size inb_S32x7168_S16x7168_16_0)).write (Elt F)
      ((m.view.slice (Rect.unit (s := S32x7168) ![0, 0] S16x7168.size inb_S32x7168_S16x7168_0_0)).write (Elt F) f
        (k0_pay1 (View.ld G (Rect.unit (s := S256x7168) ![0, 0] S128x7168.size inb_S256x7168_S128x7168_0_0)) (View.ld B (Rect.unit (s := S256x1) ![0, 0] S128x1.size inb_S256x1_S128x1_0_0))) Finset.univ)
      (k0_pay2 (View.ld G (Rect.unit (s := S256x7168) ![128, 0] S128x7168.size inb_S256x7168_S128x7168_128_0)) (View.ld B (Rect.unit (s := S256x1) ![128, 0] S128x1.size inb_S256x1_S128x1_128_0))) Finset.univ)
    = outF G B := by
  funext y
  have h0 : (y 0).val < 32 := (y 0).isLt
  have h1 : (y 1).val < 7168 := (y 1).isLt
  unfold outF
  by_cases h : (y 0).val < 16
  · rw [dif_pos h]
    rw [View.read_slice_write_of_not_mem]
    · have hy : y = (Rect.unit (s := S32x7168) ![0, 0] S16x7168.size inb_S32x7168_S16x7168_0_0).emb (ix2 ⟨(y 0).val, h⟩ (y 1)) := by
        funext a
        refine Fin.ext ?_
        fin_cases a
        · show (y 0).val = 0 + 1 * (y 0).val
          omega
        · show (y 1).val = 0 + 1 * (y 1).val
          omega
      conv_lhs => rw [hy]
      exact View.read_slice_write_emb _ _ _ (Finset.mem_univ _)
    · intro hm
      obtain ⟨x, -, hx⟩ := Finset.mem_map.mp hm
      have h3 : 16 + 1 * (x 0).val = (y 0).val := congrArg (fun z : S32x7168.Idx => (z 0).val) hx
      omega
  · rw [dif_neg h]
    have hy : y = (Rect.unit (s := S32x7168) ![16, 0] S16x7168.size inb_S32x7168_S16x7168_16_0).emb (ix2 ⟨(y 0).val - 16, by omega⟩ (y 1)) := by
      funext a
      refine Fin.ext ?_
      fin_cases a
      · show (y 0).val = 16 + 1 * ((y 0).val - 16)
        omega
      · show (y 1).val = 0 + 1 * (y 1).val
        omega
    conv_lhs => rw [hy]
    exact View.read_slice_write_emb _ _ _ (Finset.mem_univ _)

theorem body_run (hP : InRange P) (𝒱 : Variants) (bd : Option 𝒱.V) (q : PosShare TreeShare) (arg2 : Memref sig .tc .vmem S256x1 .f32) (harg2 : arg2.IsWhole) (arg4 : Memref sig .tc .vmem S32x7168 .bf16) (harg4 : arg4.IsWhole)
    (g : S256x7168.Idx → F .f32) (B : S256x1.Idx → F .f32) (Y : S32x7168.Idx → F .bf16) (W : Waits sig Unit) :
    iprop(tab c q P ∗ src c fullShare X ∗ scr c g ∗ semVal ((c : Thread nD τ), SemLoc.dma cc0_scratch1.sem) 0 ∗ owes (c : Thread nD τ) 0 W
      ∗ owns (c : Thread nD τ) arg2 fullShare B ∗ owns (c : Thread nD τ) arg4 fullShare Y)
    ⊢ wp (M := 𝕄G) frame (wpE (defs₀ (F := F)) 𝒱 (c : Thread nD τ) bd) Set.univ
      (cc0_combine (F := F) i (Memref.whole main_v0) (Memref.isWhole_whole _) arg2 harg2 (Memref.whole main_arg2) (Memref.isWhole_whole _) arg4 harg4 (Memref.whole cc0_scratch0) (Memref.isWhole_whole _) cc0_scratch1)
      (fun _ => iprop(tab c q P ∗ src c fullShare X ∗ (∃ g, scr c g) ∗ semVal ((c : Thread nD τ), SemLoc.dma cc0_scratch1.sem) 0 ∗ (∃ W, owes (c : Thread nD τ) 0 W)
      ∗ owns (c : Thread nD τ) arg2 fullShare B ∗ owns (c : Thread nD τ) arg4 fullShare (outF (gathered P i X) B))) := by
  iintro ⟨HP, HX, Hg, Hc, HO, HB2, HY⟩
  rw [Gen.cc0_combine_eq_skeleton]
  ihave HX' := ((src_split c P hP i X).1) $$ HX
  icases HX' with ⟨HXd, HXt, HXr⟩
  ihave Hg' := (scr_any c g) $$ Hg
  imod (Transfers.batch_alloc' (Lvl := ℕ) (countersEmb (U := Pipeline.UD sig nD τ)) (c : Thread nD τ) () NN (deliv c P hP i X) (sm := .dma cc0_scratch1.sem) (E := Set.univ)) $$ Hc with HB
  sl_unfold [cc0_combine_skel]
  sl_for (fun k _ => issueAt c P hP i X q k) $$ [HB Hg' HXt HP]
  · intro k acc; exact issue_step c P hP i X 𝒱 bd q arg2 harg2 arg4 harg4 k acc
  · dsimp only [issueAt]
    rw [Ring.rangeSet_univ]
    isplitl [HB]; · iexact HB
    isplitl [Hg']; · iexact Hg'
    isplitl [HXt]; · iexact HXt
    iexact HP
  iintro %acc HL
  dsimp only [issueAt]
  icases HL with ⟨HB, Hg0, HXt0, HP⟩
  sl_for (fun k _ => drainAt c P hP i X k) $$ [HB HO]
  · intro k acc; exact drain_step c P hP i X 𝒱 bd arg2 harg2 arg4 harg4 k acc
  · rw [drainAt_of_lt c P hP i X 0 (by rw [trips1]; decide)]
    isplitl [HO]; · iexists _; iexact HO
    rw [show 0 * NN = 0 from rfl]
    iexact HB
  iintro %acc HL
  ihave HL' := (Entails.of_eq (drainAt_of_ge c P hP i X k0_t2_loop.trips (le_of_eq (trips1.trans trips2.symm)))) $$ HL
  icases HL' with ⟨⟨%W', HO⟩, Hc, HD⟩
  ihave HD' := (delivered c P hP i X) $$ HD
  icases HD' with ⟨Hg, HXt⟩
  ihave HX := ((src_split c P hP i X).2) $$ [HXd HXt HXr]
  · isplitl [HXd]; · iexact HXd
    isplitl [HXt]; · iexact HXt
    iexact HXr
  generalize hG : gathered P i X = G
  unfold owns
  icases HB2 with ⟨%f2, %e2, HB2⟩
  icases HY with ⟨%f4, %e4, HY⟩
  sl_exec
  sl_step
  isplitl [HP]; · iexact HP
  isplitl [HX]; · iexact HX
  isplitl [Hg]
  · iexists G
    iexact Hg
  isplitl [Hc]; · iexact Hc
  isplitl [HO]
  · iexists _
    iexact HO
  isplitl [HB2]
  · iexists f2
    isplitr
    · ipureintro; exact e2
    iexact HB2
  iexists _
  isplitr
  rotate_left
  · iexact HY
  ipureintro
  subst e2
  exact out_eq arg4 f4 G (arg2.view.read (Elt F) f2)

end
end Cert.Combine.Hand
-- ==== Proof.CombineRun.lean ====
module
public import proofs.«01_k».proof.Proof.CombinePoint
public import proofs.«01_k».proof.Proof.Gen.Combine.Launch
public import Idealize.ShloMosaic.Lib.Pipeline.Frame
public import Idealize.ShloMosaic.Lib.Pipeline.FrameBody
public import Idealize.ShloMosaic.Lib.Pipeline.TableIdle
public import Idealize.ShloMosaic.Lib.StableHlo.RunRead
/-! # The combining kernel over its whole grid

What the body leaves at a grid point, as a relation to what it found, and the run of the program by it. -/
@[expose] public section
set_option maxRecDepth 16384
set_option maxHeartbeats 400000
noncomputable section
namespace Cert.Combine.Hand
open Idealize.ShloMosaic Idealize.ShloMosaic.TcCoe Idealize.ShloMosaic.Tactic
open Cert.Combine Cert.Combine.Gen

variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (Pipeline.UD sig nD τ) ℕ (cfg0 a) c where
  A w := A (Pipeline.arrRef spec0 w) c
  after w t Y X := X = Y
  Φ _ := iprop(emp)
  q _ := fullShare
  owed _ := 0

/-- The block of an input window at a point. -/
def inp (w : Fin 2) (t : Fin grid0.N) : ((cfg0 a).win w).block.Idx → Elt F ((cfg0 a).win w).elt :=
  (rd0 a A c).fetched w t (Classical.arbitrary _)

/-- The table of row numbers. -/
def tb : S12288.Idx → BitVec 32 := a.1 0

/-- The experts' output. -/
def rows : S12288x7168.Idx → F .f32 := A main_arg2 c

/-- What the output block holds after point `t`. -/
def pointF (t : Fin grid0.N) : S32x7168.Idx → F .bf16 := outF (gathered (tb a) (grid0.coords t) (rows A c)) (inp a A c 0 t)

/-- What is held between the points: the table, the experts' output, the scratch and the semaphore at zero. -/
def inv : sProp 𝕄G :=
  iprop(Pipeline.prefHeld (Ix := Unit) (Name := ℕ) (U := Pipeline.UD sig nD τ) (Lvl := ℕ) pre0 c (fun _ => fullShare.right) a.1
    ∗ (∃ r, prngReg c r) ∗ src c fullShare (rows A c) ∗ (∃ g, scr c g) ∗ semVal ((c : Thread nD τ), SemLoc.dma cc0_scratch1.sem) 0)

/-- The proof data of the run. -/
def rd : Pipeline.RDat τ (Elt F) Unit ℕ (Pipeline.UD sig nD τ) ℕ (cfg0 a) c where
  A w := A (Pipeline.arrRef spec0 w) c
  after := fun
    | 0 => fun _ Y X => X = Y
    | 1 => fun t Y X => X = pointF a A c t
    | ⟨_ + 2, h⟩ => absurd h (Nat.not_lt.2 (Nat.le_add_left _ _))
  Φ _ := inv a A c
  q _ := fullShare
  owed _ := 0

/-- The buffer of the weights' window holds the window's block at every point. -/
theorem finds_inp (t : Fin grid0.N) (Y : ((cfg0 a).win 0).block.Idx → Elt F ((cfg0 a).win 0).elt)
    (h : (rd a A c).Finds 0 t Y) : Y = inp a A c 0 t := by
  have hclip : ∀ (w : Fin 2) (i : grid0.Coords) (b), ((cfg0 a).win w).clip i b = none := by
    intro w i b; fin_cases w <;> rfl
  obtain ⟨d, rfl⟩ := (rd a A c).finds_in_eq_fetched 0 rfl
    (fun t t' _ => by funext b; rw [hclip])
    (fun t Y X h => h) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (Pipeline.UD sig nD τ) ℕ (cfg0 a) c) 0 t (fun b => hclip 0 _ b) _ _

theorem held_eq : (Pipeline.prefHeld (Ix := Unit) (Name := ℕ) (U := Pipeline.UD sig nD τ) (Lvl := ℕ) pre0 c (fun _ => fullShare.right) a.1 : sProp 𝕄G)
    = tab c fullShare.right (tb a) := by
  unfold Pipeline.prefHeld
  refine (bigSep_univ_eq_bigSepL [(0 : Fin 1)] (by decide) (by decide) _).trans ?_
  rfl

/-- The staging buffer of a window at a point. -/
abbrev st (w : Fin 2) (t : Fin grid0.N) := ((cfg0 a).win w).stage ((cfg0 a).slots t w)

/-- The body at a point, from the invariant and the blocks to the invariant after it. -/
theorem point_run (hP : InRange (tb a)) (t : Fin grid0.N) (O : S32x7168.Idx → F .bf16) :
    iprop(inv a A c ∗ (rd a A c).owesAt () t.castSucc
        ∗ owns (c : Thread nD τ) (st a 0 t) fullShare (inp a A c 0 t) ∗ owns (c : Thread nD τ) (st a 1 t) fullShare O)
      ⊢ wp (M := 𝕄G) frame (wpE (defs₀ (F := F)) Variants.none (c : Thread nD τ) none) Set.univ
          (cc0_combine (F := F) (grid0.coords t) (Memref.whole main_v0) (Memref.isWhole_whole _)
            (spec0_0.stage ((cfg0 a).slots t 0)) (hstage0_0 (((cfg0 a).slots t 0).cast nbuf0_0)) (Memref.whole main_arg2) (Memref.isWhole_whole _)
            (spec0_1.stage ((cfg0 a).slots t 1)) (hstage0_1 (((cfg0 a).slots t 1).cast nbuf0_1))
            (Memref.whole cc0_scratch0) (Memref.isWhole_whole _) cc0_scratch1)
          fun _ => iprop(inv a A c ∗ (rd a A c).owesAt () t.succ
        ∗ owns (c : Thread nD τ) (st a 0 t) fullShare (inp a A c 0 t) ∗ owns (c : Thread nD τ) (st a 1 t) fullShare (pointF a A c t)) := by
  unfold inv Pipeline.RDat.owesAt Pipeline.owesWithin
  rw [held_eq]
  iintro ⟨⟨T, HR, HS, ⟨%g, HG⟩, HM⟩, ⟨%W, -, HO⟩, W0, W1⟩
  iapply (wp_wand (M := 𝕄G)) $$ [T HS HG HM HO W0 W1]
  · iapply (body_run (F := F) c (tb a) (grid0.coords t) (rows A c) hP Variants.none none fullShare.right _ _ _ _ g (inp a A c 0 t) O W)
    isplitl [T]; · iexact T
    isplitl [HS]; · iexact HS
    isplitl [HG]; · iexact HG
    isplitl [HM]; · iexact HM
    isplitl [HO]; · iexact HO
    isplitl [W0]; · iexact W0
    iexact W1
  iintro %r ⟨T, HS, HG, HM, ⟨%W', HO⟩, W0, W1⟩
  isplitl [T HR HS HG HM]
  · isplitl [T]; · iexact T
    isplitl [HR]; · iexact HR
    isplitl [HS]; · iexact HS
    isplitl [HG]; · iexact HG
    iexact HM
  isplitl [HO]
  · iexists W'
    isplitr
    · ipureintro; exact fun _ _ => Or.inl trivial
    iexact HO
  isplitl [W0]; · iexact W0
  iexact W1

/-- The body at every point takes the invariant and the blocks to those of the next point. -/
theorem body_ob (hP : InRange (tb a)) : (rd a A c).BodyObligation defs₀ Variants.none () Set.univ := by
  intro t Y hY
  have h0 : Y 0 = inp a A c 0 t := finds_inp a A c t _ (hY 0)
  rw [bigSep_W0, bigSep_W0, h0]
  have key := point_run a A c hP t (Y 1)
  refine BIBase.Entails.trans ?_ (key.trans (wp_mono (M := 𝕄G) _ _ _ fun r => ?_))
  · change iprop(inv a A c ∗ _) ⊢ _
    iintro ⟨HI, HO, W0, W1⟩
    isplitl [HI]; · iexact HI
    isplitl [HO]; · iexact HO
    isplitl [W0]; · iexact W0
    iexact W1
  · change _ ⊢ iprop(inv a A c ∗ _)
    iintro ⟨HI, HO, W0, W1⟩
    isplitl [HI]; · iexact HI
    isplitl [HO]; · iexact HO
    isplitl [W0]
    · iexists (inp a A c 0 t); isplitr; · ipureintro; rfl
      iexact W0
    iexists (pointF a A c t); isplitr; · ipureintro; rfl
    iexact W1

end

/-- The buffers as the kernel finds them. -/
def V (m : (ℓ : Loc nD τ sig) → Buf (Elt F) ℓ) (c : Dev nD) (b : Ref sig .tc) : Buf (Elt F) ((c.tc : Thread nD τ).loc b) :=
  StableHlo.after (hostOps0 (F := F)) (fun b => m (c, b)) b

variable (m : (ℓ : Loc nD τ sig) → Buf (Elt F) ℓ) (g : Dev nD → PrngReg)

theorem hmain : Pipeline.HMainP (Ix := Unit) (Name := ℕ) (U := Pipeline.UD sig nD τ) (Lvl := ℕ) (pcfgs (F := F)) 0 (defs₀ (F := F)) Variants.none m (main (F := F)) (V m) :=
  Pipeline.hmainP_prefixes pcfgs 0 defs₀ Variants.none m main [hostOps0]
    hostOps0_sub (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

theorem V_v0 (c : Dev nD) : V m c main_v0 = shapeCast S12288 (m ((c : Thread nD τ).loc main_arg0)) shapeCasts_S4x384x8_S12288 := by
  unfold V
  after_reads_simp
  rfl
theorem V_v1 (c : Dev nD) : V m c main_v1 = shapeCast S12288x1 (m ((c : Thread nD τ).loc main_arg1)) shapeCasts_S4x384x8_S12288x1 := by
  unfold V
  after_reads_simp
  rfl

attribute [irreducible] V

/-- The proof data at the buffers the kernel finds. -/
abbrev rdV (a : (pcfg0 (F := F)).Adm) (c : Dev nD) := rd a (fun b c => V m c b) c

/-- The kernel's one semaphore. -/
abbrev own : Fin 1 → SemLoc sig := fun _ => .dma cc0_scratch1.sem

theorem own_facts : Pipeline.OwnSemFacts spec0 own := by decide

theorem own_eq (c : Dev nD) : (Pipeline.ownSems0 (Ix := Unit) (Name := ℕ) (U := Pipeline.UD sig nD τ) (Lvl := ℕ) (Val := Elt F) (τ := τ) own c : sProp 𝕄G)
    = semVal ((c : Thread nD τ), SemLoc.dma cc0_scratch1.sem) 0 :=
  Pipeline.ownSems0_eq_of_list c own [0] (by decide) (by decide)

theorem reads_rest : {main_arg2} ⊆ Pipeline.restRefsP sig pre0 spec0 := by decide

theorem rd_in (a : (pcfg0 (F := F)).Adm) (c : Dev nD) :
    iprop(Pipeline.ΦD own spec0 {main_arg2} (V m) c ∗ Pipeline.ΦT pre0 a.1 c) ⊢ (inv a (fun b c => V m c b) c : sProp 𝕄G) := by
  rw [Pipeline.ΦD_eq]
  unfold Pipeline.ΦT inv
  rw [scopedRest0_eq, bigSep_singleton, own_eq]
  iintro ⟨⟨HS, HR, HM, HX⟩, HT⟩
  isplitl [HT]; · iexact HT
  isplitl [HR]; · iexact HR
  isplitl [HX]; · iexact HX
  isplitl [HS]; · iexact HS
  iexact HM

theorem rd_out (a : (pcfg0 (F := F)).Adm) (c : Dev nD) :
    (inv a (fun b c => V m c b) c : sProp 𝕄G) ⊢ Pipeline.ΦD own spec0 {main_arg2} (V m) c := by
  rw [Pipeline.ΦD_eq]
  unfold inv
  rw [scopedRest0_eq, bigSep_singleton, own_eq]
  iintro ⟨HT, HR, HX, HS, HM⟩
  isplitl [HS]; · iexact HS
  isplitl [HR]; · iexact HR
  isplitl [HM]; · iexact HM
  iexact HX

set_option backward.isDefEq.respectTransparency.types false in
/-- The program runs, whenever every word of the table names a row. -/
theorem run_main (a : (pcfg0 (F := F)).Adm) (hP : InRange (tb a)) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_dma (pcfgs (F := F)) (fun _ => a) (0 : Fin 1) launch0 own defs₀ Variants.none (rdV m a) own_facts {main_arg2} reads_rest m g main
    (fun c => body_ob a _ c hP) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)
theorem arg1_rest : main_arg1 ∈ Pipeline.restRefs sig spec0 := Pipeline.mem_restRefs_of _ rfl (by decide)
theorem arg2_rest : main_arg2 ∈ Pipeline.restRefs sig spec0 := Pipeline.mem_restRefs_of _ rfl (by decide)

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 arg0_rest).trans (V_arg0 m c), ((h c).2 main_arg1 arg1_rest).trans (V_arg1 m c), ((h c).2 main_arg2 arg2_rest).trans (V_arg2 m c)⟩

end Cert.Combine.Hand
-- ==== Proof.CombineAdm.lean ====
module
public import proofs.«01_k».proof.Proof.CombineRun
/-! # The program runs

Under the precondition every word of the table names a row, so that every copy lies inside its array. -/
@[expose] public section
set_option maxRecDepth 16384
set_option maxHeartbeats 400000
noncomputable section
namespace Cert.Combine.Hand
open Idealize.ShloMosaic Idealize.ShloMosaic.TcCoe Idealize.ShloMosaic.Tactic
open Cert.Combine Cert.Combine.Gen
open Idealize.SL.Sem
variable {F : FTy → Type} [FloatOps F]
variable (m : (ℓ : Loc nD τ sig) → Buf (Elt F) ℓ)

/-- The table as the kernel finds it. -/
def ad : (pcfg0 (F := F)).Adm := ⟨fun k => V m 0 (pre0.ref k), trivial⟩

theorem hpf (c : Dev nD) (k) : V m c (pre0.ref k) = (ad m).1 k := by
  obtain rfl : c = 0 := Subsingleton.elim _ _
  rfl

theorem tb_eq : tb (ad m) = shapeCast S12288 (m (((0 : Dev nD).tc : Thread nD τ).loc main_arg0)) shapeCasts_S4x384x8_S12288 := V_v0 m 0

theorem inRange (h : ∀ y : S4x384x8.Idx, (m (((0 : Dev nD).tc : Thread nD τ).loc main_arg0) y : BitVec 32).toNat < 12288) : InRange (tb (ad m)) := by
  rw [tb_eq]
  intro j
  exact h _

/-- The program runs, ends with its arguments unchanged and every counter at zero. -/
theorem frame (h : ∀ y : S4x384x8.Idx, (m (((0 : Dev nD).tc : Thread nD τ).loc main_arg0) y : BitVec 32).toNat < 12288) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => args_of m (ad m) r h.1 c, h.2⟩) (run_main m g (ad m) (inRange m h) (hpf m))

end Cert.Combine.Hand
-- ==== Proof.CombineIdealBody.lean ====
module
public import proofs.«01_k».proof.Proof.Gen.CombineIdeal.Skeleton
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # What one grid point of the combine kernel does

The body copies 256 rows of the experts' output into the scratch, one transfer per row, waits for all of them, and stores the
weighted sums of eight rows each. -/
@[expose] public section
set_option maxRecDepth 16384
set_option maxHeartbeats 4000000
noncomputable section
namespace Cert.CombineIdeal.Hand
open Idealize.ShloMosaic Idealize.ShloMosaic.TcCoe Idealize.ShloMosaic.Tactic
open Cert.CombineIdeal Cert.CombineIdeal.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

theorem trips1 : k0_t1_loop.trips = 256 := by decide
theorem trips2 : k0_t2_loop.trips = 256 := by decide

/-- The position in the table that row `k` of point `i` reads. -/
theorem pos_lt (i : grid0.Coords) (k : Fin k0_t1_loop.trips) : 256 * (i 0).val + k.val < 12288 := by
  have h1 : (i 0).val < 48 := (i 0).isLt
  have h2 : k.val < 256 := k.isLt.trans_eq trips1
  omega

/-- The word of the table that row `k` of point `i` reads. -/
def word (P : S12288.Idx → BitVec 32) (i : grid0.Coords) (k : Fin k0_t1_loop.trips) : BitVec 32 := P (ix1 ⟨256 * (i 0).val + k.val, pos_lt i k⟩)

/-- Every word of the table is the number of a row. -/
def InRange (P : S12288.Idx → BitVec 32) : Prop := ∀ j, (P j).toNat < 12288

/-- The word read off the table at a stated position. -/
theorem word_eq (P : S12288.Idx → BitVec 32) {o : Fin 1 → ℕ} (n : ℕ) (hn : n < 12288)
    (e : o = ![n]) (inb : ∀ a, o a + S1.size a ≤ S12288.size a) (h : 0 < S1.numel) :
    View.readAt (Elt F) (Memref.whole main_v0).view (Rect.unit (s := S12288) o S1.size inb).toLoadRect P (Shape.Idx.first h) = P (ix1 ⟨n, hn⟩) := by
  subst e
  rw [View.readAt_eq_ld]
  refine congrArg P (funext fun a => Fin.ext ?_)
  fin_cases a
  have hz : (Shape.Idx.first h (0 : Fin 1)).val < 1 := (Shape.Idx.first h (0 : Fin 1)).isLt
  change n + 1 * (Shape.Idx.first h (0 : Fin 1)).val = n
  omega

theorem chk_of (w : BitVec 32) (h : w.toNat < 12288) : k0_chk1 w := by
  intro a
  fin_cases a
  · show w.toNat + 1 ≤ 12288
    omega
  · show 0 + 7168 ≤ 7168
    omega

/-- Row `k` of the scratch. -/
def dRow (k : Fin k0_t1_loop.trips) : Memref sig .tc .vmem S1x7168 .f32 :=
  (Memref.whole cc0_scratch0).slice (Rect.unit (s := S256x7168) (k0_off2 k) S1x7168.size (k0_off2_inb k)) (fun _ => rfl)

/-- Row `w` of the experts' output. -/
def sRow (w : BitVec 32) (h : k0_chk1 w) : Memref sig .tc .hbm S1x7168 .f32 :=
  (Memref.whole main_arg2).slice (Rect.unit (s := S12288x7168) (k0_off3 w) S1x7168.size (k0_off3_inb w h)) (fun _ => rfl)

/-- The elements of a row of the scratch. -/
abbrev dset (k : Fin k0_t1_loop.trips) : Finset S256x7168.Idx := (Rect.unit (s := S256x7168) (k0_off2 k) S1x7168.size (k0_off2_inb k)).set

theorem dRow_set (k : Fin k0_t1_loop.trips) : (dRow k).view.set = dset k := View.set_slice_whole _ _

theorem mem_dset (k : Fin k0_t1_loop.trips) (y : S256x7168.Idx) : y ∈ dset k ↔ (y 0).val = k.val := by
  rw [Rect.mem_set_unit]
  have h2 : (y 1).val < 7168 := (y 1).isLt
  have e0 : k0_off2 k 0 = k.val := congrFun (k0_off2_eq k) 0
  have e1 : k0_off2 k 1 = 0 := congrFun (k0_off2_eq k) 1
  constructor
  · intro H
    have a0 : k0_off2 k 0 ≤ (y 0).val ∧ (y 0).val < k0_off2 k 0 + 1 := H 0
    omega
  · intro H a
    fin_cases a
    · show k0_off2 k 0 ≤ (y 0).val ∧ (y 0).val < k0_off2 k 0 + 1
      omega
    · show k0_off2 k 1 ≤ (y 1).val ∧ (y 1).val < k0_off2 k 1 + 7168
      omega

theorem dset_disjoint : ∀ b b' : Fin k0_t1_loop.trips, b ≠ b' → Disjoint (dset b) (dset b') := fun b b' hne => by
  rw [Finset.disjoint_left]; intro y hy hy'; rw [mem_dset] at hy hy'; exact hne (Fin.ext (by omega))

theorem dset_cover : Finset.univ.biUnion dset = Finset.univ := by
  ext y
  simp only [Finset.mem_biUnion, Finset.mem_univ, true_and, iff_true]
  have h : (y 0).val < 256 := (y 0).isLt
  exact ⟨⟨(y 0).val, h.trans_eq trips1.symm⟩, (mem_dset _ _).mpr rfl⟩

/-- What the scratch holds once every row has landed. -/
def gathered (P : S12288.Idx → BitVec 32) (i : grid0.Coords) (X : S12288x7168.Idx → F .f32) : S256x7168.Idx → F .f32 :=
  fun y => X (ix2 ⟨min (word P i ⟨(y 0).val, (show (y 0).val < 256 from (y 0).isLt).trans_eq trips1.symm⟩).toNat 12287, by omega⟩ (y 1))

/-- A row landed is that row of what the scratch holds in the end. -/
theorem landed (P : S12288.Idx → BitVec 32) (hP : InRange P) (i : grid0.Coords) (X : S12288x7168.Idx → F .f32) (k : Fin k0_t1_loop.trips)
    (h : k0_chk1 (word P i k)) (g : S256x7168.Idx → F .f32) (y : S256x7168.Idx) (hy : y ∈ dset k) :
    (dRow k).view.write (Elt F) g ((sRow (word P i k) h).view.read (Elt F) X) Finset.univ y = gathered P i X y := by
  rw [mem_dset] at hy
  let x : S1x7168.Idx := ix2 (0 : Fin 1) (y 1)
  have e0 : k0_off2 k 0 = k.val := congrFun (k0_off2_eq k) 0
  have e1 : k0_off2 k 1 = 0 := congrFun (k0_off2_eq k) 1
  have hx : (dRow k).view.emb x = y := by
    funext a
    refine Fin.ext ?_
    fin_cases a
    · show k0_off2 k 0 + 1 * 0 = (y 0).val
      omega
    · show k0_off2 k 1 + 1 * (y 1).val = (y 1).val
      omega
  have hw : (⟨(y 0).val, (show (y 0).val < 256 from (y 0).isLt).trans_eq trips1.symm⟩ : Fin k0_t1_loop.trips) = k := Fin.ext hy
  have hl : (word P i k).toNat < 12288 := hP _
  refine (congrArg ((dRow k).view.write (Elt F) g ((sRow (word P i k) h).view.read (Elt F) X) Finset.univ) hx.symm).trans ((View.write_emb_of_mem (v := (dRow k).view) _ _ (Finset.mem_univ x)).trans ?_)
  have hw' : word P i ⟨(y 0).val, (show (y 0).val < 256 from (y 0).isLt).trans_eq trips1.symm⟩ = word P i k := congrArg (word P i) hw
  unfold gathered
  show X ((sRow (word P i k) h).view.emb x) = _
  refine congrArg X (funext fun a => Fin.ext ?_)
  fin_cases a
  · show (word P i k).toNat + 1 * 0 = min (word P i ⟨(y 0).val, (show (y 0).val < 256 from (y 0).isLt).trans_eq trips1.symm⟩).toNat 12287
    rw [hw']
    omega
  · show 0 + 1 * (y 1).val = (y 1).val
    omega

section
variable (c : Dev nD) (P : S12288.Idx → BitVec 32) (hP : InRange P) (i : grid0.Coords) (X : S12288x7168.Idx → F .f32)

theorem chk (hP : InRange P) (k : Fin k0_t1_loop.trips) : k0_chk1 (word P i k) := chk_of _ (hP _)

/-- A row of the scratch, owned. -/
abbrev rowAny (k : Fin k0_t1_loop.trips) : sProp 𝕄G := iprop(∃ g, (dRow k).view.loc (c : Thread nD τ) ↦[(dRow k).view.set]{fullShare} g)

/-- The row of the experts' output that transfer `k` reads, under its token. -/
abbrev srcTok (k : Fin k0_t1_loop.trips) : sProp 𝕄G :=
  iprop((sRow (word P i k) (chk P i hP k)).view.loc (c : Thread nD τ) ↦[(sRow (word P i k) (chk P i hP k)).view.set]{Transfers.shareTokN fullShare k.val} X)

/-- What transfer `k` delivers. -/
abbrev deliv (k : Fin k0_t1_loop.trips) : sProp 𝕄G :=
  iprop(((dRow k).view.loc (c : Thread nD τ) ↦[(dRow k).view.set]{fullShare} gathered P i X) ∗ srcTok c P hP i X k)

theorem srcTok_eq (k : Fin k0_t1_loop.trips) (w : BitVec 32) (e : w = word P i k) (h : k0_chk1 w) :
    srcTok c P hP i X k = iprop((sRow w h).view.loc (c : Thread nD τ) ↦[(sRow w h).view.set]{Transfers.shareTokN fullShare k.val} X) := by
  subst e; rfl

/-- The units of a row. -/
abbrev NN : ℕ := 896

abbrev batch (j u : ℕ) : sProp 𝕄G :=
  Transfers.Batch (countersEmb (U := Pipeline.UD sig nD τ)) (c : Thread nD τ) (.dma cc0_scratch1.sem) () NN (deliv c P hP i X) j u

theorem amount_eq (k : Fin k0_t1_loop.trips) : (dRow k).view.amount (.dma cc0_scratch1.sem) = NN := rfl

/-- What lands in row `k` and the row it came from are what transfer `k` delivers. -/
theorem deliver (k : Fin k0_t1_loop.trips) (w : BitVec 32) (e : w = word P i k) (h : k0_chk1 w) (g : S256x7168.Idx → F .f32) :
    iprop(((dRow k).view.loc (c : Thread nD τ) ↦[(dRow k).view.set]{fullShare} (dRow k).view.write (Elt F) g ((sRow w h).view.read (Elt F) X) Finset.univ)
      ∗ ((sRow w h).view.loc (c : Thread nD τ) ↦[(sRow w h).view.set]{Transfers.shareTokN fullShare k.val} X)) ⊢ deliv c P hP i X k := by
  subst e
  unfold deliv srcTok
  refine Idealize.SL.BI.Laws.sep_mono (Entails.of_eq (pointsTo_congr fun y hy => ?_)) Entails.rfl
  exact landed P hP i X k h g y (by rw [← dRow_set k]; exact hy)

theorem issue_one (𝒱 : Variants) (bd : Option 𝒱.V) (k : Fin k0_t1_loop.trips) (w : BitVec 32) (e : w = word P i k) (h : k0_chk1 w) (g : S256x7168.Idx → F .f32)
    {hsrc : (sRow w h).view.WordExact} {hdst : (dRow k).view.WordExact} {hsem : DmaTarget.Typed (nD := nD) (p := (c : Thread nD τ).2) (sig := sig) .hbm (.dma cc0_scratch1.sem) (.here (dRow k))}
    {kont : PUnit → Prog (TpuEff nD τ sig (Elt F) Λ₀ .tc) Unit} {Q : Unit → sProp 𝕄G} :
    iprop(((sRow w h).view.loc (c : Thread nD τ) ↦[(sRow w h).view.set]{Transfers.shareTokN fullShare k.val} X)
      ∗ ((dRow k).view.loc (c : Thread nD τ) ↦[(dRow k).view.set]{fullShare} g) ∗ batch c P hP i X k.val 0)
    ⊢ iprop((batch c P hP i X (k.val + 1) 0 -∗ wp (M := 𝕄G) frame (wpE (defs₀ (F := F)) 𝒱 (c : Thread nD τ) bd) Set.univ (kont ⟨⟩) Q)
      -∗ wp (M := 𝕄G) frame (wpE (defs₀ (F := F)) 𝒱 (c : Thread nD τ) bd) Set.univ (.op (.enqueueDma (sRow w h) (.here (dRow k)) (.dma cc0_scratch1.sem) hsrc hdst hsem) kont) Q) :=
  Transfers.wp_dmaBatch (countersEmb (U := Pipeline.UD sig nD τ)) 𝒱 (c : Thread nD τ) bd () NN (j := k.val) (u := 0) (dst := dRow k) (src := sRow w h) (amount_eq k) (Finset.Subset.refl _) k.isLt (Nat.zero_le _) (deliver c P hP i X k w e h g)

/-- The table, held. -/
abbrev tab (q : PosShare TreeShare) (P : S12288.Idx → BitVec 32) : sProp 𝕄G := (Memref.whole main_v0).view.loc (c : Thread nD τ) ↦{q} P

/-- Before trip `k` of the first loop: `k` transfers issued, the rows from `k` on in hand. -/
def issueAt (q : PosShare TreeShare) (k : ℕ) : sProp 𝕄G :=
  iprop(batch c P hP i X k 0 ∗ bigSep (Ring.rangeSet k0_t1_loop.trips k k0_t1_loop.trips) (rowAny c)
    ∗ bigSep (Ring.rangeSet k0_t1_loop.trips k k0_t1_loop.trips) (srcTok c P hP i X)
    ∗ tab c q P)

theorem issue_step (𝒱 : Variants) (bd : Option 𝒱.V) (q : PosShare TreeShare) (arg2 : Memref sig .tc .vmem S256x1 .f32) (harg2 : arg2.IsWhole) (arg4 : Memref sig .tc .vmem S32x7168 .bf16) (harg4 : arg4.IsWhole) (k : Fin k0_t1_loop.trips) (acc : Unit) :
    issueAt c P hP i X q k ⊢ wp (M := 𝕄G) frame (wpE (defs₀ (F := F)) 𝒱 (c : Thread nD τ) bd) Set.univ
      (k0_t1_body (F := F) i (Memref.whole main_v0) (Memref.isWhole_whole _) arg2 harg2 (Memref.whole main_arg2) (Memref.isWhole_whole _) arg4 harg4 (Memref.whole cc0_scratch0) (Memref.isWhole_whole _) cc0_scratch1 k acc)
      (fun _ => issueAt c P hP i X q (k.val + 1)) := by
  have hk := k.isLt
  unfold issueAt
  rw [Ring.bigSep_rangeSet_head (Φ := rowAny c) hk hk, Ring.bigSep_rangeSet_head (Φ := srcTok c P hP i X) hk hk]
  unfold rowAny srcTok
  iintro ⟨HB, ⟨⟨%gk, HK⟩, HKs⟩, ⟨HS, HSs⟩, HP⟩
  unfold k0_t1_body
  have hv := (word_eq (F := F) P (256 * (i 0).val + k.val) (pos_lt i k) (k0_off1_eq i k) (k0_off1_inb i k) (by decide)).trans (show _ = word P i k from rfl)
  have hchk := chk_of _ ((congrArg BitVec.toNat hv).trans_lt (hP _))
  ihave HS' := (Entails.of_eq (srcTok_eq c P hP i X k _ hv hchk)) $$ HS
  sl_exec
  iapply (issue_one c P hP i X 𝒱 bd k _ hv hchk gk) $$ [HS' HK HB]
  · isplitl [HS']
    · iexact HS'
    isplitl [HK]
    · iexact HK
    iexact HB
  iintro HB
  sl_step
  isplitl [HB]; · iexact HB
  isplitl [HKs]; · iexact HKs
  isplitl [HSs]; · iexact HSs
  iexact HP

end
end Cert.CombineIdeal.Hand
-- ==== Proof.CombineIdealDrain.lean ====
module
public import proofs.«01_k».proof.Proof.CombineIdealBody
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # The second loop of the combine kernel: waiting for every row -/
@[expose] public section
set_option maxRecDepth 16384
set_option maxHeartbeats 4000000
noncomputable section
namespace Cert.CombineIdeal.Hand
open Idealize.ShloMosaic Idealize.ShloMosaic.TcCoe Idealize.ShloMosaic.Tactic
open Cert.CombineIdeal Cert.CombineIdeal.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (c : Dev nD) (P : S12288.Idx → BitVec 32) (hP : InRange P) (i : grid0.Coords) (X : S12288x7168.Idx → F .f32)

/-- Before trip `k` of the second loop: the units of `k` rows consumed, or, after the last, every row delivered. -/
def drainAt (k : ℕ) : sProp 𝕄G :=
  iprop((∃ W, owes (c : Thread nD τ) 0 W)
    ∗ (if k < k0_t1_loop.trips then batch c P hP i X k0_t1_loop.trips (k * NN)
       else iprop(semVal ((c : Thread nD τ), SemLoc.dma cc0_scratch1.sem) 0 ∗ bigSep Finset.univ (deliv c P hP i X))))

/-- The row a wait names. -/
def wRow (k : Fin k0_t2_loop.trips) : Memref sig .tc .vmem S1x7168 .f32 :=
  (Memref.whole cc0_scratch0).slice (Rect.unit (s := S256x7168) (k0_off4 k) S1x7168.size (k0_off4_inb k)) (fun _ => rfl)

theorem credit_eq (k : Fin k0_t2_loop.trips) : (wRow k).view.dmaCredit = NN := rfl

theorem drainAt_of_lt (k : ℕ) (h : k < k0_t1_loop.trips) :
    drainAt c P hP i X k = iprop((∃ W, owes (c : Thread nD τ) 0 W) ∗ batch c P hP i X k0_t1_loop.trips (k * NN)) := by
  unfold drainAt; rw [if_pos h]

theorem drainAt_of_ge (k : ℕ) (h : k0_t1_loop.trips ≤ k) :
    drainAt c P hP i X k = iprop((∃ W, owes (c : Thread nD τ) 0 W)
      ∗ (semVal ((c : Thread nD τ), SemLoc.dma cc0_scratch1.sem) 0 ∗ bigSep Finset.univ (deliv c P hP i X))) := by
  unfold drainAt; rw [if_neg (Nat.not_lt.mpr h)]

theorem drain_step (𝒱 : Variants) (bd : Option 𝒱.V) (arg2 : Memref sig .tc .vmem S256x1 .f32) (harg2 : arg2.IsWhole) (arg4 : Memref sig .tc .vmem S32x7168 .bf16) (harg4 : arg4.IsWhole) (k : Fin k0_t2_loop.trips) (acc : Unit) :
    drainAt c P hP i X k.val ⊢ wp (M := 𝕄G) frame (wpE (defs₀ (F := F)) 𝒱 (c : Thread nD τ) bd) Set.univ
      (k0_t2_body (F := F) i (Memref.whole main_v0) (Memref.isWhole_whole _) arg2 harg2 (Memref.whole main_arg2) (Memref.isWhole_whole _) arg4 harg4 (Memref.whole cc0_scratch0) (Memref.isWhole_whole _) cc0_scratch1 k acc)
      (fun _ => drainAt c P hP i X (k.val + 1)) := by
  have hk : k.val < k0_t1_loop.trips := k.isLt.trans_eq (trips2.trans trips1.symm)
  rw [drainAt_of_lt c P hP i X k.val hk]
  rcases Nat.lt_or_ge (k.val + 1) k0_t1_loop.trips with h1 | h1
  · rw [drainAt_of_lt c P hP i X _ h1]
    have hu : k.val * NN + NN < NN * k0_t1_loop.trips := by
      have h2 := h1.trans_eq trips1
      rw [show NN * k0_t1_loop.trips = 896 * 256 from congrArg (NN * ·) trips1]
      show k.val * 896 + 896 < 896 * 256
      omega
    iintro ⟨⟨%W, HO⟩, HB⟩
    unfold k0_t2_body
    iapply (Transfers.wp_waitBatch (countersEmb (U := Pipeline.UD sig nD τ)) 𝒱 (c : Thread nD τ) bd () (dstw := wRow k) (credit_eq k) hu) $$ [HO HB]
    · isplitl [HB]
      · iexact HB
      iexact HO
    iintro ⟨HB, HO⟩
    simp only [Prog.bind]
    sl_step
    isplitl [HO]; · iexists _; iexact HO
    rw [show (k.val + 1) * NN = k.val * NN + NN from Nat.succ_mul _ _]
    iexact HB
  · rw [drainAt_of_ge c P hP i X _ h1]
    have hu : k.val * NN + NN = NN * k0_t1_loop.trips := by
      have h2 := trips1.symm.trans_le h1
      have h3 := hk.trans_eq trips1
      rw [show NN * k0_t1_loop.trips = 896 * 256 from congrArg (NN * ·) trips1]
      show k.val * 896 + 896 = 896 * 256
      omega
    iintro ⟨⟨%W, HO⟩, HB⟩
    unfold k0_t2_body
    iapply (Transfers.wp_waitBatchLast (countersEmb (U := Pipeline.UD sig nD τ)) 𝒱 (c : Thread nD τ) bd () (dstw := wRow k) (credit_eq k) (by decide) hu) $$ [HO HB]
    · isplitl [HB]
      · iexact HB
      iexact HO
    iintro ⟨HD, Hc, HO⟩
    simp only [Prog.bind]
    sl_step
    isplitl [HO]; · iexists _; iexact HO
    isplitl [Hc]; · iexact Hc
    iexact HD

end
end Cert.CombineIdeal.Hand
-- ==== Proof.CombineIdealPoint.lean ====
module
public import proofs.«01_k».proof.Proof.CombineIdealDrain
public import Idealize.ShloMosaic.Lib.Pipeline.Frame
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pointwise
/-! # One grid point of the combine kernel, from its buffers whole to its buffers whole -/
@[expose] public section
set_option maxRecDepth 16384
set_option maxHeartbeats 4000000
noncomputable section
namespace Cert.CombineIdeal.Hand
open Idealize.ShloMosaic Idealize.ShloMosaic.TcCoe Idealize.ShloMosaic.Tactic
open Cert.CombineIdeal Cert.CombineIdeal.Gen
variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (c : Dev nD) (P : S12288.Idx → BitVec 32) (hP : InRange P) (i : grid0.Coords) (X : S12288x7168.Idx → F .f32)

/-- What of the experts' output is not row `k`, under the token of transfer `k`. -/
abbrev srcRest (k : Fin k0_t1_loop.trips) : sProp 𝕄G :=
  iprop((Memref.whole main_arg2).view.loc (c : Thread nD τ) ↦[Finset.univ \ (sRow (word P i k) (chk P i hP k)).view.set]{Transfers.shareTokN fullShare k.val} X)

/-- The experts' output whole, under some share. -/
abbrev src (q : PosShare TreeShare) (X : S12288x7168.Idx → F .f32) : sProp 𝕄G := iprop((Memref.whole main_arg2).view.loc (c : Thread nD τ) ↦{q} X)

/-- The experts' output whole is one token's row and one token's rest per transfer, and what is left of the share. -/
theorem src_split : (src c fullShare X : sProp 𝕄G) ⊣⊢ iprop(src c (Transfers.shareDrop fullShare k0_t1_loop.trips) X
    ∗ bigSep Finset.univ (srcTok c P hP i X) ∗ bigSep Finset.univ (srcRest c P hP i X)) := by
  have e1 := Transfers.pointsTo_toks_range (Ix := Unit) (Val := Elt F) (Name := ℕ) (U := Pipeline.UD sig nD τ) (Lvl := ℕ) (ℓ := (Memref.whole main_arg2).view.loc (c : Thread nD τ)) (S := Finset.univ) (f := X) fullShare k0_t1_loop.trips
  have e2 : (bigSep (Finset.range k0_t1_loop.trips) (fun k => src c (Transfers.shareTokN fullShare k) X) : sProp 𝕄G)
      = bigSep Finset.univ (fun k : Fin k0_t1_loop.trips => src c (Transfers.shareTokN fullShare k.val) X) := by
    rw [← Ring.rangeSet_univ]
    exact (Ring.bigSep_rangeSet_eq_range (NB := k0_t1_loop.trips) (lo := 0) (hi := k0_t1_loop.trips)
      (Φ := fun k : Fin k0_t1_loop.trips => src c (Transfers.shareTokN fullShare k.val) X) le_rfl (fun k => src c (Transfers.shareTokN fullShare k) X) (fun k hk => congrArg (fun n => src c (Transfers.shareTokN fullShare n) X) (Nat.zero_add k).symm)).symm
  have e3 : (bigSep Finset.univ (fun k : Fin k0_t1_loop.trips => src c (Transfers.shareTokN fullShare k.val) X) : sProp 𝕄G)
      = iprop(bigSep Finset.univ (srcTok c P hP i X) ∗ bigSep Finset.univ (srcRest c P hP i X)) := by
    refine (BI.bigSep_congr fun k _ => ?_).trans (BI.bigSep_sep _ _ _)
    have h := (pointsTo_split_subset (Ix := Unit) (Val := Elt F) (Name := ℕ) (U := Pipeline.UD sig nD τ) (Lvl := ℕ) (ℓ := (Memref.whole main_arg2).view.loc (c : Thread nD τ)) (q := Transfers.shareTokN fullShare k.val) (f := X)
      (I := (sRow (word P i k) (chk P i hP k)).view.set) (Finset.subset_univ _))
    exact Entails.antisymm h.1 h.2
  rw [← e3, ← e2]
  exact e1

/-- A buffer whole is its parts. -/
theorem parts_gen {ℓ : Loc nD τ sig} (n : ℕ) (I : Fin n → Finset (Idx ℓ)) (hd : ∀ b b', b ≠ b' → Disjoint (I b) (I b')) (hc : ∀ y, ∃ b, y ∈ I b) (g : Buf (Elt F) ℓ) :
    (iprop(ℓ ↦{fullShare} g) : sProp 𝕄G) = bigSep Finset.univ (fun k : Fin n => iprop(ℓ ↦[I k]{fullShare} g)) :=
  Ring.pointsTo_blocks I hd (Finset.eq_univ_iff_forall.mpr fun y => Finset.mem_biUnion.mpr ⟨(hc y).choose, Finset.mem_univ _, (hc y).choose_spec⟩) g

/-- The scratch whole. -/
abbrev scr (g : S256x7168.Idx → F .f32) : sProp 𝕄G := iprop((Memref.whole cc0_scratch0).view.loc (c : Thread nD τ) ↦{fullShare} g)

theorem scr_parts (n : ℕ) (I : Fin n → Finset S256x7168.Idx) (hd : ∀ b b', b ≠ b' → Disjoint (I b) (I b')) (hc : ∀ y, ∃ b, y ∈ I b) (g : S256x7168.Idx → F .f32) :
    (scr c g : sProp 𝕄G) = bigSep Finset.univ (fun k : Fin n => iprop((Memref.whole cc0_scratch0).view.loc (c : Thread nD τ) ↦[I k]{fullShare} g)) :=
  parts_gen (ℓ := (Memref.whole cc0_scratch0).view.loc (c : Thread nD τ)) n I hd hc g

theorem scr_rows (g : S256x7168.Idx → F .f32) :
    (scr c g : sProp 𝕄G) = bigSep Finset.univ (fun k : Fin k0_t1_loop.trips => iprop((dRow k).view.loc (c : Thread nD τ) ↦[(dRow k).view.set]{fullShare} g)) := by
  refine (scr_parts c k0_t1_loop.trips dset dset_disjoint (fun y => ⟨⟨(y 0).val, (show (y 0).val < 256 from (y 0).isLt).trans_eq trips1.symm⟩, (mem_dset _ _).mpr rfl⟩) g).trans ?_
  refine BI.bigSep_congr fun k _ => ?_
  exact congrArg (fun S : Finset S256x7168.Idx => (iprop((Memref.whole cc0_scratch0).view.loc (c : Thread nD τ) ↦[S]{fullShare} g) : sProp 𝕄G)) (dRow_set k).symm

theorem scr_any (g : S256x7168.Idx → F .f32) : (scr c g : sProp 𝕄G) ⊢ bigSep Finset.univ (rowAny c) := by
  refine (Entails.of_eq (scr_rows c g)).trans (BI.bigSep_mono fun k _ => ?_)
  exact (show (iprop((dRow k).view.loc (c : Thread nD τ) ↦[(dRow k).view.set]{fullShare} g) : sProp 𝕄G) ⊢ rowAny c k from by
    unfold rowAny
    iintro H
    iexists g
    iexact H)

/-- Every row delivered is the scratch whole and the tokens back. -/
theorem delivered : (bigSep Finset.univ (deliv c P hP i X) : sProp 𝕄G) ⊢ iprop(scr c (gathered P i X) ∗ bigSep Finset.univ (srcTok c P hP i X)) := by
  refine (Entails.of_eq (BI.bigSep_sep _ _ _)).trans (Idealize.SL.BI.Laws.sep_mono (Entails.of_eq ?_) Entails.rfl)
  exact (scr_rows c (gathered P i X)).symm

/-- What the point stores. -/
def outF (G : S256x7168.Idx → F .f32) (B : S256x1.Idx → F .f32) : S32x7168.Idx → F .bf16 := fun y =>
  if h : (y 0).val < 16 then k0_pay1 (View.ld G (Rect.unit (s := S256x7168) ![0, 0] S128x7168.size inb_S256x7168_S128x7168_0_0)) (View.ld B (Rect.unit (s := S256x1) ![0, 0] S128x1.size inb_S256x1_S128x1_0_0)) (ix2 ⟨(y 0).val, h⟩ (y 1))
  else k0_pay2 (View.ld G (Rect.unit (s := S256x7168) ![128, 0] S128x7168.size inb_S256x7168_S128x7168_128_0)) (View.ld B (Rect.unit (s := S256x1) ![128, 0] S128x1.size inb_S256x1_S128x1_128_0)) (ix2 ⟨(y 0).val - 16, by have : (y 0).val < 32 := (y 0).isLt; omega⟩ (y 1))

theorem pt_storable {ℓ : Loc nD τ sig} {S : Finset (Idx ℓ)} {q : PosShare TreeShare} {f : Buf (Elt F) ℓ} : BI.Storable (upEmb : UEmb _ 𝕄G) (iprop(ℓ ↦[S]{q} f) : sProp 𝕄G) := inferInstance

instance deliv_storable (k : Fin k0_t1_loop.trips) : BI.Storable (upEmb : UEmb _ 𝕄G) (deliv c P hP i X k) := by
  haveI h1 : BI.Storable (upEmb : UEmb _ 𝕄G) (iprop((dRow k).view.loc (c : Thread nD τ) ↦[(dRow k).view.set]{fullShare} gathered P i X) : sProp 𝕄G) := pt_storable
  haveI h2 : BI.Storable (upEmb : UEmb _ 𝕄G) (srcTok c P hP i X k) := pt_storable
  exact BI.Storable.sep upEmb _ _

/-- The two halves stored are what the point stores. -/
theorem out_eq (m : Memref sig .tc .vmem S32x7168 .bf16) (f : m.view.ty.Contents (Elt F)) (G : S256x7168.Idx → F .f32) (B : S256x1.Idx → F .f32) :
    m.view.read (Elt F) ((m.view.slice (Rect.unit (s := S32x7168) ![16, 0] S16x7168.size inb_S32x7168_S16x7168_16_0)).write (Elt F)
      ((m.view.slice (Rect.unit (s := S32x7168) ![0, 0] S16x7168.size inb_S32x7168_S16x7168_0_0)).write (Elt F) f
        (k0_pay1 (View.ld G (Rect.unit (s := S256x7168) ![0, 0] S128x7168.size inb_S256x7168_S128x7168_0_0)) (View.ld B (Rect.unit (s := S256x1) ![0, 0] S128x1.size inb_S256x1_S128x1_0_0))) Finset.univ)
      (k0_pay2 (View.ld G (Rect.unit (s := S256x7168) ![128, 0] S128x7168.size inb_S256x7168_S128x7168_128_0)) (View.ld B (Rect.unit (s := S256x1) ![128, 0] S128x1.size inb_S256x1_S128x1_128_0))) Finset.univ)
    = outF G B := by
  funext y
  have h0 : (y 0).val < 32 := (y 0).isLt
  have h1 : (y 1).val < 7168 := (y 1).isLt
  unfold outF
  by_cases h : (y 0).val < 16
  · rw [dif_pos h]
    rw [View.read_slice_write_of_not_mem]
    · have hy : y = (Rect.unit (s := S32x7168) ![0, 0] S16x7168.size inb_S32x7168_S16x7168_0_0).emb (ix2 ⟨(y 0).val, h⟩ (y 1)) := by
        funext a
        refine Fin.ext ?_
        fin_cases a
        · show (y 0).val = 0 + 1 * (y 0).val
          omega
        · show (y 1).val = 0 + 1 * (y 1).val
          omega
      conv_lhs => rw [hy]
      exact View.read_slice_write_emb _ _ _ (Finset.mem_univ _)
    · intro hm
      obtain ⟨x, -, hx⟩ := Finset.mem_map.mp hm
      have h3 : 16 + 1 * (x 0).val = (y 0).val := congrArg (fun z : S32x7168.Idx => (z 0).val) hx
      omega
  · rw [dif_neg h]
    have hy : y = (Rect.unit (s := S32x7168) ![16, 0] S16x7168.size inb_S32x7168_S16x7168_16_0).emb (ix2 ⟨(y 0).val - 16, by omega⟩ (y 1)) := by
      funext a
      refine Fin.ext ?_
      fin_cases a
      · show (y 0).val = 16 + 1 * ((y 0).val - 16)
        omega
      · show (y 1).val = 0 + 1 * (y 1).val
        omega
    conv_lhs => rw [hy]
    exact View.read_slice_write_emb _ _ _ (Finset.mem_univ _)

theorem body_run (hP : InRange P) (𝒱 : Variants) (bd : Option 𝒱.V) (q : PosShare TreeShare) (arg2 : Memref sig .tc .vmem S256x1 .f32) (harg2 : arg2.IsWhole) (arg4 : Memref sig .tc .vmem S32x7168 .bf16) (harg4 : arg4.IsWhole)
    (g : S256x7168.Idx → F .f32) (B : S256x1.Idx → F .f32) (Y : S32x7168.Idx → F .bf16) (W : Waits sig Unit) :
    iprop(tab c q P ∗ src c fullShare X ∗ scr c g ∗ semVal ((c : Thread nD τ), SemLoc.dma cc0_scratch1.sem) 0 ∗ owes (c : Thread nD τ) 0 W
      ∗ owns (c : Thread nD τ) arg2 fullShare B ∗ owns (c : Thread nD τ) arg4 fullShare Y)
    ⊢ wp (M := 𝕄G) frame (wpE (defs₀ (F := F)) 𝒱 (c : Thread nD τ) bd) Set.univ
      (cc0_combine (F := F) i (Memref.whole main_v0) (Memref.isWhole_whole _) arg2 harg2 (Memref.whole main_arg2) (Memref.isWhole_whole _) arg4 harg4 (Memref.whole cc0_scratch0) (Memref.isWhole_whole _) cc0_scratch1)
      (fun _ => iprop(tab c q P ∗ src c fullShare X ∗ (∃ g, scr c g) ∗ semVal ((c : Thread nD τ), SemLoc.dma cc0_scratch1.sem) 0 ∗ (∃ W, owes (c : Thread nD τ) 0 W)
      ∗ owns (c : Thread nD τ) arg2 fullShare B ∗ owns (c : Thread nD τ) arg4 fullShare (outF (gathered P i X) B))) := by
  iintro ⟨HP, HX, Hg, Hc, HO, HB2, HY⟩
  rw [Gen.cc0_combine_eq_skeleton]
  ihave HX' := ((src_split c P hP i X).1) $$ HX
  icases HX' with ⟨HXd, HXt, HXr⟩
  ihave Hg' := (scr_any c g) $$ Hg
  imod (Transfers.batch_alloc' (Lvl := ℕ) (countersEmb (U := Pipeline.UD sig nD τ)) (c : Thread nD τ) () NN (deliv c P hP i X) (sm := .dma cc0_scratch1.sem) (E := Set.univ)) $$ Hc with HB
  sl_unfold [cc0_combine_skel]
  sl_for (fun k _ => issueAt c P hP i X q k) $$ [HB Hg' HXt HP]
  · intro k acc; exact issue_step c P hP i X 𝒱 bd q arg2 harg2 arg4 harg4 k acc
  · dsimp only [issueAt]
    rw [Ring.rangeSet_univ]
    isplitl [HB]; · iexact HB
    isplitl [Hg']; · iexact Hg'
    isplitl [HXt]; · iexact HXt
    iexact HP
  iintro %acc HL
  dsimp only [issueAt]
  icases HL with ⟨HB, Hg0, HXt0, HP⟩
  sl_for (fun k _ => drainAt c P hP i X k) $$ [HB HO]
  · intro k acc; exact drain_step c P hP i X 𝒱 bd arg2 harg2 arg4 harg4 k acc
  · rw [drainAt_of_lt c P hP i X 0 (by rw [trips1]; decide)]
    isplitl [HO]; · iexists _; iexact HO
    rw [show 0 * NN = 0 from rfl]
    iexact HB
  iintro %acc HL
  ihave HL' := (Entails.of_eq (drainAt_of_ge c P hP i X k0_t2_loop.trips (le_of_eq (trips1.trans trips2.symm)))) $$ HL
  icases HL' with ⟨⟨%W', HO⟩, Hc, HD⟩
  ihave HD' := (delivered c P hP i X) $$ HD
  icases HD' with ⟨Hg, HXt⟩
  ihave HX := ((src_split c P hP i X).2) $$ [HXd HXt HXr]
  · isplitl [HXd]; · iexact HXd
    isplitl [HXt]; · iexact HXt
    iexact HXr
  generalize hG : gathered P i X = G
  unfold owns
  icases HB2 with ⟨%f2, %e2, HB2⟩
  icases HY with ⟨%f4, %e4, HY⟩
  sl_exec
  sl_step
  isplitl [HP]; · iexact HP
  isplitl [HX]; · iexact HX
  isplitl [Hg]
  · iexists G
    iexact Hg
  isplitl [Hc]; · iexact Hc
  isplitl [HO]
  · iexists _
    iexact HO
  isplitl [HB2]
  · iexists f2
    isplitr
    · ipureintro; exact e2
    iexact HB2
  iexists _
  isplitr
  rotate_left
  · iexact HY
  ipureintro
  subst e2
  exact out_eq arg4 f4 G (arg2.view.read (Elt F) f2)

end
end Cert.CombineIdeal.Hand
-- ==== Proof.CombineIdealRun.lean ====
module
public import proofs.«01_k».proof.Proof.CombineIdealPoint
public import proofs.«01_k».proof.Proof.Gen.CombineIdeal.Launch
public import Idealize.ShloMosaic.Lib.Pipeline.Frame
public import Idealize.ShloMosaic.Lib.Pipeline.FrameBody
public import Idealize.ShloMosaic.Lib.Pipeline.TableIdle
public import Idealize.ShloMosaic.Lib.StableHlo.RunRead
/-! # The combining kernel over its whole grid

What the body leaves at a grid point, as a relation to what it found, and the run of the program by it. -/
@[expose] public section
set_option maxRecDepth 16384
set_option maxHeartbeats 400000
noncomputable section
namespace Cert.CombineIdeal.Hand
open Idealize.ShloMosaic Idealize.ShloMosaic.TcCoe Idealize.ShloMosaic.Tactic
open Cert.CombineIdeal Cert.CombineIdeal.Gen

variable {F : FTy → Type} [FloatOps F]

open Idealize.SL Idealize.SL.RA Idealize.SL.BI
open scoped Idealize.SL.BI
open Idealize.SL.BI.BIBase Idealize.SL.BI.Laws Idealize.SL.ProofMode Idealize.SL.Sem
local notation "𝕄G" => MT nD τ sig Unit (Elt F) ℕ (Pipeline.UD sig nD τ) ℕ

section
variable (a : (pcfg0 (F := F)).Adm) (A : (b : Ref sig .tc) → (c : Dev nD) → Buf (Elt F) ((c.tc : Thread nD τ).loc b)) (c : Dev nD)

/-- The proof data of the inputs: every window's buffer is left as found. -/
def rd0 : Pipeline.RDat τ (Elt F) Unit ℕ (Pipeline.UD sig nD τ) ℕ (cfg0 a) c where
  A w := A (Pipeline.arrRef spec0 w) c
  after w t Y X := X = Y
  Φ _ := iprop(emp)
  q _ := fullShare
  owed _ := 0

/-- The block of an input window at a point. -/
def inp (w : Fin 2) (t : Fin grid0.N) : ((cfg0 a).win w).block.Idx → Elt F ((cfg0 a).win w).elt :=
  (rd0 a A c).fetched w t (Classical.arbitrary _)

/-- The table of row numbers. -/
def tb : S12288.Idx → BitVec 32 := a.1 0

/-- The experts' output. -/
def rows : S12288x7168.Idx → F .f32 := A main_arg2 c

/-- What the output block holds after point `t`. -/
def pointF (t : Fin grid0.N) : S32x7168.Idx → F .bf16 := outF (gathered (tb a) (grid0.coords t) (rows A c)) (inp a A c 0 t)

/-- What is held between the points: the table, the experts' output, the scratch and the semaphore at zero. -/
def inv : sProp 𝕄G :=
  iprop(Pipeline.prefHeld (Ix := Unit) (Name := ℕ) (U := Pipeline.UD sig nD τ) (Lvl := ℕ) pre0 c (fun _ => fullShare.right) a.1
    ∗ (∃ r, prngReg c r) ∗ src c fullShare (rows A c) ∗ (∃ g, scr c g) ∗ semVal ((c : Thread nD τ), SemLoc.dma cc0_scratch1.sem) 0)

/-- The proof data of the run. -/
def rd : Pipeline.RDat τ (Elt F) Unit ℕ (Pipeline.UD sig nD τ) ℕ (cfg0 a) c where
  A w := A (Pipeline.arrRef spec0 w) c
  after := fun
    | 0 => fun _ Y X => X = Y
    | 1 => fun t Y X => X = pointF a A c t
    | ⟨_ + 2, h⟩ => absurd h (Nat.not_lt.2 (Nat.le_add_left _ _))
  Φ _ := inv a A c
  q _ := fullShare
  owed _ := 0

/-- The buffer of the weights' window holds the window's block at every point. -/
theorem finds_inp (t : Fin grid0.N) (Y : ((cfg0 a).win 0).block.Idx → Elt F ((cfg0 a).win 0).elt)
    (h : (rd a A c).Finds 0 t Y) : Y = inp a A c 0 t := by
  have hclip : ∀ (w : Fin 2) (i : grid0.Coords) (b), ((cfg0 a).win w).clip i b = none := by
    intro w i b; fin_cases w <;> rfl
  obtain ⟨d, rfl⟩ := (rd a A c).finds_in_eq_fetched 0 rfl
    (fun t t' _ => by funext b; rw [hclip])
    (fun t Y X h => h) t Y h
  exact Pipeline.Dat.fetched_of_clip_none ({ A := (rd0 a A c).A, after := fun _ _ _ => Classical.arbitrary _, Φ := (rd0 a A c).Φ, q := (rd0 a A c).q, owed := (rd0 a A c).owed } :
    Pipeline.Dat τ (Elt F) Unit ℕ (Pipeline.UD sig nD τ) ℕ (cfg0 a) c) 0 t (fun b => hclip 0 _ b) _ _

theorem held_eq : (Pipeline.prefHeld (Ix := Unit) (Name := ℕ) (U := Pipeline.UD sig nD τ) (Lvl := ℕ) pre0 c (fun _ => fullShare.right) a.1 : sProp 𝕄G)
    = tab c fullShare.right (tb a) := by
  unfold Pipeline.prefHeld
  refine (bigSep_univ_eq_bigSepL [(0 : Fin 1)] (by decide) (by decide) _).trans ?_
  rfl

/-- The staging buffer of a window at a point. -/
abbrev st (w : Fin 2) (t : Fin grid0.N) := ((cfg0 a).win w).stage ((cfg0 a).slots t w)

/-- The body at a point, from the invariant and the blocks to the invariant after it. -/
theorem point_run (hP : InRange (tb a)) (t : Fin grid0.N) (O : S32x7168.Idx → F .bf16) :
    iprop(inv a A c ∗ (rd a A c).owesAt () t.castSucc
        ∗ owns (c : Thread nD τ) (st a 0 t) fullShare (inp a A c 0 t) ∗ owns (c : Thread nD τ) (st a 1 t) fullShare O)
      ⊢ wp (M := 𝕄G) frame (wpE (defs₀ (F := F)) Variants.none (c : Thread nD τ) none) Set.univ
          (cc0_combine (F := F) (grid0.coords t) (Memref.whole main_v0) (Memref.isWhole_whole _)
            (spec0_0.stage ((cfg0 a).slots t 0)) (hstage0_0 (((cfg0 a).slots t 0).cast nbuf0_0)) (Memref.whole main_arg2) (Memref.isWhole_whole _)
            (spec0_1.stage ((cfg0 a).slots t 1)) (hstage0_1 (((cfg0 a).slots t 1).cast nbuf0_1))
            (Memref.whole cc0_scratch0) (Memref.isWhole_whole _) cc0_scratch1)
          fun _ => iprop(inv a A c ∗ (rd a A c).owesAt () t.succ
        ∗ owns (c : Thread nD τ) (st a 0 t) fullShare (inp a A c 0 t) ∗ owns (c : Thread nD τ) (st a 1 t) fullShare (pointF a A c t)) := by
  unfold inv Pipeline.RDat.owesAt Pipeline.owesWithin
  rw [held_eq]
  iintro ⟨⟨T, HR, HS, ⟨%g, HG⟩, HM⟩, ⟨%W, -, HO⟩, W0, W1⟩
  iapply (wp_wand (M := 𝕄G)) $$ [T HS HG HM HO W0 W1]
  · iapply (body_run (F := F) c (tb a) (grid0.coords t) (rows A c) hP Variants.none none fullShare.right _ _ _ _ g (inp a A c 0 t) O W)
    isplitl [T]; · iexact T
    isplitl [HS]; · iexact HS
    isplitl [HG]; · iexact HG
    isplitl [HM]; · iexact HM
    isplitl [HO]; · iexact HO
    isplitl [W0]; · iexact W0
    iexact W1
  iintro %r ⟨T, HS, HG, HM, ⟨%W', HO⟩, W0, W1⟩
  isplitl [T HR HS HG HM]
  · isplitl [T]; · iexact T
    isplitl [HR]; · iexact HR
    isplitl [HS]; · iexact HS
    isplitl [HG]; · iexact HG
    iexact HM
  isplitl [HO]
  · iexists W'
    isplitr
    · ipureintro; exact fun _ _ => Or.inl trivial
    iexact HO
  isplitl [W0]; · iexact W0
  iexact W1

/-- The body at every point takes the invariant and the blocks to those of the next point. -/
theorem body_ob (hP : InRange (tb a)) : (rd a A c).BodyObligation defs₀ Variants.none () Set.univ := by
  intro t Y hY
  have h0 : Y 0 = inp a A c 0 t := finds_inp a A c t _ (hY 0)
  rw [bigSep_W0, bigSep_W0, h0]
  have key := point_run a A c hP t (Y 1)
  refine BIBase.Entails.trans ?_ (key.trans (wp_mono (M := 𝕄G) _ _ _ fun r => ?_))
  · change iprop(inv a A c ∗ _) ⊢ _
    iintro ⟨HI, HO, W0, W1⟩
    isplitl [HI]; · iexact HI
    isplitl [HO]; · iexact HO
    isplitl [W0]; · iexact W0
    iexact W1
  · change _ ⊢ iprop(inv a A c ∗ _)
    iintro ⟨HI, HO, W0, W1⟩
    isplitl [HI]; · iexact HI
    isplitl [HO]; · iexact HO
    isplitl [W0]
    · iexists (inp a A c 0 t); isplitr; · ipureintro; rfl
      iexact W0
    iexists (pointF a A c t); isplitr; · ipureintro; rfl
    iexact W1

end

/-- The buffers as the kernel finds them. -/
def V (m : (ℓ : Loc nD τ sig) → Buf (Elt F) ℓ) (c : Dev nD) (b : Ref sig .tc) : Buf (Elt F) ((c.tc : Thread nD τ).loc b) :=
  StableHlo.after (hostOps0 (F := F)) (fun b => m (c, b)) b

variable (m : (ℓ : Loc nD τ sig) → Buf (Elt F) ℓ) (g : Dev nD → PrngReg)

theorem hmain : Pipeline.HMainP (Ix := Unit) (Name := ℕ) (U := Pipeline.UD sig nD τ) (Lvl := ℕ) (pcfgs (F := F)) 0 (defs₀ (F := F)) Variants.none m (main (F := F)) (V m) :=
  Pipeline.hmainP_prefixes pcfgs 0 defs₀ Variants.none m main [hostOps0]
    hostOps0_sub (by simp only [List.Forall]; repeat' constructor) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

theorem V_v0 (c : Dev nD) : V m c main_v0 = shapeCast S12288 (m ((c : Thread nD τ).loc main_arg0)) shapeCasts_S4x384x8_S12288 := by
  unfold V
  after_reads_simp
  rfl
theorem V_v1 (c : Dev nD) : V m c main_v1 = shapeCast S12288x1 (m ((c : Thread nD τ).loc main_arg1)) shapeCasts_S4x384x8_S12288x1 := by
  unfold V
  after_reads_simp
  rfl

attribute [irreducible] V

/-- The proof data at the buffers the kernel finds. -/
abbrev rdV (a : (pcfg0 (F := F)).Adm) (c : Dev nD) := rd a (fun b c => V m c b) c

/-- The kernel's one semaphore. -/
abbrev own : Fin 1 → SemLoc sig := fun _ => .dma cc0_scratch1.sem

theorem own_facts : Pipeline.OwnSemFacts spec0 own := by decide

theorem own_eq (c : Dev nD) : (Pipeline.ownSems0 (Ix := Unit) (Name := ℕ) (U := Pipeline.UD sig nD τ) (Lvl := ℕ) (Val := Elt F) (τ := τ) own c : sProp 𝕄G)
    = semVal ((c : Thread nD τ), SemLoc.dma cc0_scratch1.sem) 0 :=
  Pipeline.ownSems0_eq_of_list c own [0] (by decide) (by decide)

theorem reads_rest : {main_arg2} ⊆ Pipeline.restRefsP sig pre0 spec0 := by decide

theorem rd_in (a : (pcfg0 (F := F)).Adm) (c : Dev nD) :
    iprop(Pipeline.ΦD own spec0 {main_arg2} (V m) c ∗ Pipeline.ΦT pre0 a.1 c) ⊢ (inv a (fun b c => V m c b) c : sProp 𝕄G) := by
  rw [Pipeline.ΦD_eq]
  unfold Pipeline.ΦT inv
  rw [scopedRest0_eq, bigSep_singleton, own_eq]
  iintro ⟨⟨HS, HR, HM, HX⟩, HT⟩
  isplitl [HT]; · iexact HT
  isplitl [HR]; · iexact HR
  isplitl [HX]; · iexact HX
  isplitl [HS]; · iexact HS
  iexact HM

theorem rd_out (a : (pcfg0 (F := F)).Adm) (c : Dev nD) :
    (inv a (fun b c => V m c b) c : sProp 𝕄G) ⊢ Pipeline.ΦD own spec0 {main_arg2} (V m) c := by
  rw [Pipeline.ΦD_eq]
  unfold inv
  rw [scopedRest0_eq, bigSep_singleton, own_eq]
  iintro ⟨HT, HR, HX, HS, HM⟩
  isplitl [HS]; · iexact HS
  isplitl [HR]; · iexact HR
  isplitl [HM]; · iexact HM
  iexact HX

set_option backward.isDefEq.respectTransparency.types false in
/-- The program runs, whenever every word of the table names a row. -/
theorem run_main (a : (pcfg0 (F := F)).Adm) (hP : InRange (tb a)) (hpf : ∀ c k, V m c (pre0.ref k) = a.1 k) :
    θ_run defs (onTc (τ := τ) (main (F := F))) ⟨m, fun _ => 0, g⟩
      (fun r => Pipeline.RDat.FramePost (cfg0 a) (rdV m a) (V m) r ∧ r.2.sem = fun _ => 0) :=
  Pipeline.RDat.θ_run_frameP_dma (pcfgs (F := F)) (fun _ => a) (0 : Fin 1) launch0 own defs₀ Variants.none (rdV m a) own_facts {main_arg2} reads_rest m g main
    (fun c => body_ob a _ c hP) (fun c w => Pipeline.RDat.share_full (rdV m a c) (fun _ => rfl) w) (fun _ _ => rfl) (V m) (hmain m)
    (fun _ _ => rfl) hpf (fun c => rd_in m a c) (fun c => rd_out m a c) _ (fun _ h => h)

theorem arg0_rest : main_arg0 ∈ Pipeline.restRefs sig spec0 := Pipeline.mem_restRefs_of _ rfl (by decide)
theorem arg1_rest : main_arg1 ∈ Pipeline.restRefs sig spec0 := Pipeline.mem_restRefs_of _ rfl (by decide)
theorem arg2_rest : main_arg2 ∈ Pipeline.restRefs sig spec0 := Pipeline.mem_restRefs_of _ rfl (by decide)

/-- What the run leaves in the arguments. -/
theorem args_of (a : (pcfg0 (F := F)).Adm) (r : PUnit × MemSt nD τ sig (Elt F)) (h : Pipeline.RDat.FramePost (cfg0 a) (rdV m a) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 arg0_rest).trans (V_arg0 m c), ((h c).2 main_arg1 arg1_rest).trans (V_arg1 m c), ((h c).2 main_arg2 arg2_rest).trans (V_arg2 m c)⟩

end Cert.CombineIdeal.Hand
-- ==== Proof.CombineIdealAdm.lean ====
module
public import proofs.«01_k».proof.Proof.CombineIdealRun
/-! # The program runs

Under the precondition every word of the table names a row, so that every copy lies inside its array. -/
@[expose] public section
set_option maxRecDepth 16384
set_option maxHeartbeats 400000
noncomputable section
namespace Cert.CombineIdeal.Hand
open Idealize.ShloMosaic Idealize.ShloMosaic.TcCoe Idealize.ShloMosaic.Tactic
open Cert.CombineIdeal Cert.CombineIdeal.Gen
open Idealize.SL.Sem
variable {F : FTy → Type} [FloatOps F]
variable (m : (ℓ : Loc nD τ sig) → Buf (Elt F) ℓ)

/-- The table as the kernel finds it. -/
def ad : (pcfg0 (F := F)).Adm := ⟨fun k => V m 0 (pre0.ref k), trivial⟩

theorem hpf (c : Dev nD) (k) : V m c (pre0.ref k) = (ad m).1 k := by
  obtain rfl : c = 0 := Subsingleton.elim _ _
  rfl

theorem tb_eq : tb (ad m) = shapeCast S12288 (m (((0 : Dev nD).tc : Thread nD τ).loc main_arg0)) shapeCasts_S4x384x8_S12288 := V_v0 m 0

theorem inRange (h : ∀ y : S4x384x8.Idx, (m (((0 : Dev nD).tc : Thread nD τ).loc main_arg0) y : BitVec 32).toNat < 12288) : InRange (tb (ad m)) := by
  rw [tb_eq]
  intro j
  exact h _

/-- The program runs, ends with its arguments unchanged and every counter at zero. -/
theorem frame (h : ∀ y : S4x384x8.Idx, (m (((0 : Dev nD).tc : Thread nD τ).loc main_arg0) y : BitVec 32).toNat < 12288) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => args_of m (ad m) r h.1 c, h.2⟩) (run_main m g (ad m) (inRange m h) (hpf m))

end Cert.CombineIdeal.Hand
-- ==== Proof.CombineIdealValue.lean ====
module
public import proofs.«01_k».proof.Proof.CombineIdealRun
public import Idealize.ShloMosaic.Lib.Pointwise
public import Idealize.ShloMosaic.Lib.Pipeline.Covers
public import Idealize.ShloMosaic.Lib.Pipeline.ArrRel
public import Idealize.ShloMosaic.Lib.Pipeline.ValueKit
/-! # What the combining program computes

Every row of the output is the weighted sum of the eight rows the table names for it. -/
@[expose] public section
set_option maxRecDepth 16384
set_option maxHeartbeats 400000
noncomputable section
namespace Cert.CombineIdeal.Hand
open Idealize.ShloMosaic Idealize.ShloMosaic.TcCoe Idealize.ShloMosaic.Tactic
open Cert.CombineIdeal Cert.CombineIdeal.Gen
open Idealize.SL.Sem

/-- The row the table names in place `j`. -/
def rowAt (P : S12288.Idx → BitVec 32) (j : Fin 12288) : Fin 12288 := ⟨min (P (ix1 j)).toNat 12287, by omega⟩

/-- The result in full: the weighted sum of the eight rows named for an output row. -/
def total (P : S12288.Idx → BitVec 32) (B : S12288x1.Idx → EReal) (X : S12288x7168.Idx → EReal) : S1536x7168.Idx → EReal := fun y =>
  ∑ k : Fin 8, X (ix2 (rowAt P ⟨(y 0).val * 8 + k.val, by have : (y 0).val < 1536 := (y 0).isLt; omega⟩) (y 1))
    * B (ix2 ⟨(y 0).val * 8 + k.val, by have : (y 0).val < 1536 := (y 0).isLt; omega⟩ 0)

theorem pay1_ap (v2 : S128x7168.Idx → EReal) (v3 : S128x1.Idx → EReal) (j : Fin 16) (c : Fin 7168) :
    k0_pay1 (F := Ideal) v2 v3 (ix2 j c) = ∑ k : Fin 8, v2 (ix2 ⟨j.val * 8 + k.val, by omega⟩ c) * v3 (ix2 ⟨j.val * 8 + k.val, by omega⟩ 0) := by
  pointwise [k0_pay1]

theorem pay2_ap (v2 : S128x7168.Idx → EReal) (v3 : S128x1.Idx → EReal) (j : Fin 16) (c : Fin 7168) :
    k0_pay2 (F := Ideal) v2 v3 (ix2 j c) = ∑ k : Fin 8, v2 (ix2 ⟨j.val * 8 + k.val, by omega⟩ c) * v3 (ix2 ⟨j.val * 8 + k.val, by omega⟩ 0) := by
  pointwise [k0_pay2]

theorem outF_ap (G : S256x7168.Idx → EReal) (B : S256x1.Idx → EReal) (j : Fin 32) (c : Fin 7168) :
    outF (F := Ideal) G B (ix2 j c) = ∑ k : Fin 8, G (ix2 ⟨j.val * 8 + k.val, by omega⟩ c) * B (ix2 ⟨j.val * 8 + k.val, by omega⟩ 0) := by
  unfold outF
  have hj := j.isLt
  by_cases h : j.val < 16
  · refine (dif_pos h).trans ((pay1_ap _ _ ⟨j.val, h⟩ c).trans (Finset.sum_congr rfl fun k _ => ?_))
    refine congrArg₂ (fun x y : EReal => x * y) (congrArg G (funext fun a => Fin.ext ?_)) (congrArg B (funext fun a => Fin.ext ?_))
    · fin_cases a
      · show 0 + 1 * (j.val * 8 + k.val) = j.val * 8 + k.val; omega
      · show 0 + 1 * c.val = c.val; omega
    · fin_cases a
      · show 0 + 1 * (j.val * 8 + k.val) = j.val * 8 + k.val; omega
      · rfl
  · refine (dif_neg h).trans ((pay2_ap _ _ ⟨j.val - 16, by omega⟩ c).trans (Finset.sum_congr rfl fun k _ => ?_))
    refine congrArg₂ (fun x y : EReal => x * y) (congrArg G (funext fun a => Fin.ext ?_)) (congrArg B (funext fun a => Fin.ext ?_))
    · fin_cases a
      · show 128 + 1 * ((j.val - 16) * 8 + k.val) = j.val * 8 + k.val; omega
      · show 0 + 1 * c.val = c.val; omega
    · fin_cases a
      · show 128 + 1 * ((j.val - 16) * 8 + k.val) = j.val * 8 + k.val; omega
      · rfl

theorem coords_val (t : Fin grid0.N) : (grid0.coords t 0).val = t.val := by
  have ht : t.val < 48 := t.isLt.trans_eq N_0
  have h0 : grid0.stride 0 = 1 := by decide
  change t.val / grid0.stride 0 % 48 = _
  rw [h0, Nat.div_one]; omega

section
variable (a : (pcfg0 (F := Ideal)).Adm) (A : (b : Ref sig .tc) → (c : Dev nD) → Buf (Elt Ideal) ((c.tc : Thread nD τ).loc b)) (c : Dev nD)

theorem ofNat_val (t : Fin grid0.N) : (BitVec.ofNat 32 (grid0.coords t 0).val).toNat = t.val := by
  have ht : t.val < 48 := t.isLt.trans_eq N_0
  rw [coords_val, BitVec.toNat_ofNat]; omega

theorem index0 (t : Fin grid0.N) : ((cfg0 a).win 0).index t = ![t.val, 0] := by
  refine Eq.trans ?_ (congrArg (fun n : ℕ => ![n, 0]) (ofNat_val t))
  rfl

theorem index1 (t : Fin grid0.N) : ((cfg0 a).win 1).index t = ![t.val, 0] := by
  refine Eq.trans ?_ (congrArg (fun n : ℕ => ![n, 0]) (ofNat_val t))
  rfl

theorem inp0_ap (t : Fin grid0.N) (j : Fin 256) (h : t.val * 256 + j.val < 12288) :
    inp a A c 0 t (ix2 j 0) = A main_v1 c (ix2 ⟨t.val * 256 + j.val, h⟩ 0) := by
  unfold inp Pipeline.RDat.fetched Pipeline.Window.fill
  have hm : ((cfg0 a).win 0).moved ((cfg0 a).grid.coords t) (ix2 j 0) = true :=
    (((cfg0 a).win 0).moved_iff _ _).mpr fun b => (ix2 j 0 b).isLt
  refine (dif_pos hm).trans ?_
  refine congrArg (A main_v1 c) (funext fun b => Fin.ext ?_)
  refine (((cfg0 a).win 0).rect_emb_val t _ b rfl).trans ?_
  rw [index0]
  fin_cases b
  · rfl
  · rfl

/-- An entry of the block a point stores is the result's. -/
theorem pointF_ap (t : Fin grid0.N) (j : Fin 32) (k : Fin 7168) (h : t.val * 32 + j.val < 1536) :
    pointF a A c t (ix2 j k) = total (tb a) (A main_v1 c) (rows A c) (ix2 ⟨t.val * 32 + j.val, h⟩ k) := by
  unfold pointF total
  rw [outF_ap]
  refine Finset.sum_congr rfl fun q _ => ?_
  have hj := j.isLt
  have hq := q.isLt
  have e1 : t.val * 256 + (j.val * 8 + q.val) = (t.val * 32 + j.val) * 8 + q.val := by omega
  have hlt : (t.val * 32 + j.val) * 8 + q.val < 12288 := by omega
  have e2 : (⟨t.val * 256 + (j.val * 8 + q.val), by omega⟩ : Fin 12288) = ⟨(t.val * 32 + j.val) * 8 + q.val, hlt⟩ := Fin.ext e1
  refine congrArg₂ (fun x y : EReal => x * y) ?_ ?_
  · refine congrArg (rows A c) (congrArg (fun r : Fin 12288 => ix2 r k) (Fin.ext ?_))
    have e3 : word (tb a) (grid0.coords t) ⟨j.val * 8 + q.val, by rw [trips1]; omega⟩ = tb a (ix1 ⟨(t.val * 32 + j.val) * 8 + q.val, hlt⟩) := by
      unfold word
      refine congrArg (tb a) (congrArg ix1 (Fin.ext ?_))
      show 256 * (grid0.coords t 0).val + (j.val * 8 + q.val) = (t.val * 32 + j.val) * 8 + q.val
      rw [coords_val]; omega
    exact congrArg (fun w : BitVec 32 => min w.toNat 12287) e3
  · refine (inp0_ap a A c t ⟨j.val * 8 + q.val, by omega⟩ (by show t.val * 256 + (j.val * 8 + q.val) < 12288; omega)).trans ?_
    exact congrArg (A main_v1 c) (congrArg (fun r : Fin 12288 => ix2 r 0) e2)

end

variable (m : (ℓ : Loc nD τ sig) → Buf (Elt Ideal) ℓ)

/-- The result from the buffers the kernel finds. -/
def result (a : (pcfg0 (F := Ideal)).Adm) (c : Dev nD) : S1536x7168.Idx → EReal := total (tb a) (V m c main_v1) (V m c main_arg2)

/-- The output array after the run. -/
theorem out_total (a : (pcfg0 (F := Ideal)).Adm) (c : Dev nD) (x : PUnit × MemSt nD τ sig (Elt Ideal)) (h : Pipeline.RDat.FramePost (cfg0 a) (rdV m a) (V m) x) :
    x.2.mem ((c.tc : Thread nD τ).loc main_v2) = result m a c := by
  obtain ⟨after, hL, hA⟩ := h.exists_exact c
  refine (hA 1).trans (((rdV m a c).withAfter after).arrAt_eq_of_emb 1 (result m a c) (fun t hf y => ?_) (fun i => ?_))
  · obtain ⟨Y, hY, hX⟩ := hL 1 t hf
    have hX' : after 1 t = pointF a (fun b c => V m c b) c t := hX
    have hN : t.val < 48 := t.isLt.trans_eq N_0
    have hy0 : (y (0 : Fin 2)).val < 32 := (y (0 : Fin 2)).isLt
    have hy1 : (y (1 : Fin 2)).val < 7168 := (y (1 : Fin 2)).isLt
    have key := (congrFun hX' (ix2 ⟨(y (0 : Fin 2)).val, hy0⟩ ⟨(y (1 : Fin 2)).val, hy1⟩)).trans
      (pointF_ap a (fun b c => V m c b) c t ⟨(y (0 : Fin 2)).val, hy0⟩ ⟨(y (1 : Fin 2)).val, hy1⟩ (by show t.val * 32 + (y (0 : Fin 2)).val < 1536; omega))
    refine Eq.trans ?_ (key.trans (congrArg (result m a c) (funext fun b => Fin.ext ?_)))
    · refine congrArg (after 1 t) (funext fun b => Fin.ext ?_)
      fin_cases b <;> rfl
    · refine Eq.trans ?_ (((cfg0 a).win 1).rect_emb_val t y b rfl).symm
      rw [index1]
      fin_cases b
      · rfl
      · show (y (1 : Fin 2)).val = 0 * 7168 + (y (1 : Fin 2)).val; omega
  · have i1 : (i (1 : Fin 2)).val < 7168 := (i (1 : Fin 2)).isLt
    have i0 : (i (0 : Fin 2)).val < 1536 := (i (0 : Fin 2)).isLt
    obtain ⟨t0, ht0⟩ : ∃ t0 : Fin grid0.N, t0.val = (i (0 : Fin 2)).val / 32 := ⟨⟨_, lt_of_lt_of_eq (by omega) N_0.symm⟩, rfl⟩
    obtain ⟨t, hle, hf, hix⟩ := Pipeline.Window.exists_flush_same_index ((cfg0 a).win 1) rfl t0
    refine ⟨t, hf, (Pipeline.Window.emb_mem_blk_iff ((cfg0 a).win 1) t i rfl).2 fun b => ?_⟩
    rw [hix, index1, ht0]
    fin_cases b
    · show (i (0 : Fin 2)).val / 32 * 32 ≤ (i (0 : Fin 2)).val ∧ (i (0 : Fin 2)).val < (i (0 : Fin 2)).val / 32 * 32 + 32
      omega
    · show 0 * 7168 ≤ (i (1 : Fin 2)).val ∧ (i (1 : Fin 2)).val < 0 * 7168 + 7168
      omega

end Cert.CombineIdeal.Hand
-- ==== Proof.CombineReferenceOps.lean ====
module
public import proofs.«01_k».proof.Proof.Gen.CombineReferenceIdeal
public import Idealize.ShloMosaic.Lib.StableHlo.RunRead
public import Idealize.ShloMosaic.Lib.StableHlo.RunHlo
public import Idealize.ShloMosaic.Lib.StableHlo.Predicate
public import Idealize.ShloMosaic.Lib.Pointwise
/-! # The reference of the combining program

Its lines in order, and its result entry by entry. -/
@[expose] public section
set_option maxRecDepth 16384
set_option maxHeartbeats 400000
noncomputable section
namespace Cert.CombineReferenceIdeal.Hand
open Idealize.ShloMosaic Idealize.ShloMosaic.TcCoe Idealize.ShloMosaic.Tactic
open Cert.CombineReferenceIdeal Cert.CombineReferenceIdeal.Gen
open Idealize.SL.Sem
variable {F : FTy → Type} [FloatOps F]

/-- The reference's lines. -/
abbrev ops : List (HloOp τ sig (Elt F)) :=
  [ StableHlo.reshape main_arg0 main_v0 (rfl : (.i32 : EltTy) = .i32) shapeCasts_S4x384x8_S1536x8,
    StableHlo.nullary main_c (constantI S_ 32 0#32),
    StableHlo.unary main_c main_v1 (broadcastInDim S1536x8 ![] bcast_S_S1536x8 : (⟨S_, .i32⟩ : BufTy).Contents (Elt F) → (⟨S1536x8, .i32⟩ : BufTy).Contents (Elt F)),
    StableHlo.binary main_v0 main_v1 main_v2 (cmpi .slt : (⟨S1536x8, .i32⟩ : BufTy).Contents (Elt F) → (⟨S1536x8, .i32⟩ : BufTy).Contents (Elt F) → (⟨S1536x8, .i1⟩ : BufTy).Contents (Elt F)),
    StableHlo.nullary main_c_0 (constantI S_ 32 12288#32),
    StableHlo.unary main_c_0 main_v3 (broadcastInDim S1536x8 ![] bcast_S_S1536x8 : (⟨S_, .i32⟩ : BufTy).Contents (Elt F) → (⟨S1536x8, .i32⟩ : BufTy).Contents (Elt F)),
    StableHlo.binary main_v0 main_v3 main_v4 (addi : (⟨S1536x8, .i32⟩ : BufTy).Contents (Elt F) → (⟨S1536x8, .i32⟩ : BufTy).Contents (Elt F) → (⟨S1536x8, .i32⟩ : BufTy).Contents (Elt F)),
    StableHlo.ternary main_v2 main_v4 main_v0 main_v5 (select : (⟨S1536x8, .i1⟩ : BufTy).Contents (Elt F) → (⟨S1536x8, .i32⟩ : BufTy).Contents (Elt F) → (⟨S1536x8, .i32⟩ : BufTy).Contents (Elt F) → (⟨S1536x8, .i32⟩ : BufTy).Contents (Elt F)),
    StableHlo.unary main_v5 main_v6 (broadcastInDim S1536x8x1 ![0, 1] bcast_S1536x8_S1536x8x1_0_1 : (⟨S1536x8, .i32⟩ : BufTy).Contents (Elt F) → (⟨S1536x8x1, .i32⟩ : BufTy).Contents (Elt F)),
    StableHlo.binary main_arg2 main_v6 main_v7 ((fun x i => Host.gather gather_S12288x7168_S1536x8x1_S1536x8x7168_2_0_n_n_0_2_17168 x i) : (⟨S12288x7168, .f32⟩ : BufTy).Contents (Elt F) → (⟨S1536x8x1, .i32⟩ : BufTy).Contents (Elt F) → (⟨S1536x8x7168, .f32⟩ : BufTy).Contents (Elt F)),
    StableHlo.reshape main_arg1 main_v8 (rfl : (.f32 : EltTy) = .f32) shapeCasts_S4x384x8_S1536x8,
    StableHlo.unary main_v8 main_v9 (broadcastInDim S1536x8x1 ![0, 1] bcast_S1536x8_S1536x8x1_0_1 : (⟨S1536x8, .f32⟩ : BufTy).Contents (Elt F) → (⟨S1536x8x1, .f32⟩ : BufTy).Contents (Elt F)),
    StableHlo.unary main_v9 main_v10 (broadcastInDim S1536x8x7168 ![0, 1, 2] bcast_S1536x8x1_S1536x8x7168_0_1_2 : (⟨S1536x8x1, .f32⟩ : BufTy).Contents (Elt F) → (⟨S1536x8x7168, .f32⟩ : BufTy).Contents (Elt F)),
    StableHlo.binary main_v10 main_v7 main_v11 (mulf : (⟨S1536x8x7168, .f32⟩ : BufTy).Contents (Elt F) → (⟨S1536x8x7168, .f32⟩ : BufTy).Contents (Elt F) → (⟨S1536x8x7168, .f32⟩ : BufTy).Contents (Elt F)),
    StableHlo.nullary main_cst (constant S_ .f32 0x00000000#32),
    StableHlo.binary main_v11 main_cst main_v12 ((fun x v => Host.reduceAdd x v reducesTo_S1536x8x7168_S1536x7168_d1 h_S_) : (⟨S1536x8x7168, .f32⟩ : BufTy).Contents (Elt F) → (⟨S_, .f32⟩ : BufTy).Contents (Elt F) → (⟨S1536x7168, .f32⟩ : BufTy).Contents (Elt F)),
    StableHlo.unary main_v12 main_v13 ((truncf .bf16 · bitsLt_bf16_f32) : (⟨S1536x7168, .f32⟩ : BufTy).Contents (Elt F) → (⟨S1536x7168, .bf16⟩ : BufTy).Contents (Elt F)) ]

theorem main_eq (d : Dev nD) : main (F := F) d = StableHlo.seq ops := rfl

theorem ops_sub : (ops : List (HloOp τ sig (Elt F))).Forall fun op => op.bufs ⊆ StableHlo.tcRefs τ sig := by
  simp only [List.Forall]
  repeat' apply And.intro
  all_goals first
    | exact StableHlo.reshape_bufs_sub ..
    | exact StableHlo.nullary_bufs_sub ..
    | exact StableHlo.unary_bufs_sub ..
    | exact StableHlo.binary_bufs_sub ..
    | exact StableHlo.ternary_bufs_sub ..
    | trivial

/-- The program leaves in every buffer what its lines leave there. -/
theorem run_main (m : (ℓ : Loc nD τ sig) → Buf (Elt F) ℓ) (g : Dev nD → PrngReg) :
    θ_run defs (onTc (τ := τ) (main (F := F))) ⟨m, fun _ => 0, g⟩ fun r =>
      ∀ (d : Dev nD) (b : Ref sig .tc), r.2.mem ((d.tc : Thread nD τ).loc b) = StableHlo.after ops (StableHlo.launchContents m d) (Proc.devRef .tc b) :=
  StableHlo.run_seq (by decide) (by decide) defs main (fun _ => ops) main_eq (fun _ => ops_sub) m g

/-- No cell of a semaphore exists: any two settings of the counters are the same. -/
theorem sems (s s' : GSem nD τ sig → ℤ) : s = s' := by
  funext g
  exact (show False from by
    obtain ⟨t, l⟩ := g
    cases l <;> rename_i k <;> exact k.elim0).elim

end Cert.CombineReferenceIdeal.Hand
-- ==== Proof.CombineReferenceValue.lean ====
module
public import proofs.«01_k».proof.Proof.CombineReferenceOps
public import Idealize.ShloMosaic.Lib.ValueIdx
public import Idealize.ShloMosaic.Lib.WordCmp
/-! # The reference's result, entry by entry

Its arguments are unchanged; entry (r, c) of its result is the sum, over the eight places of row r, of the place's weight times the entry c of the row the
place names. -/
@[expose] public section
set_option maxRecDepth 16384
set_option maxHeartbeats 400000
noncomputable section
namespace Cert.CombineReferenceIdeal.Hand
open Idealize.ShloMosaic Idealize.ShloMosaic.TcCoe Idealize.ShloMosaic.Tactic
open Cert.CombineReferenceIdeal Cert.CombineReferenceIdeal.Gen
open Idealize.SL.Sem
variable {F : FTy → Type} [FloatOps F]

/-- The rows named, negative words counted from the end. -/
def named (x0 : IVec S4x384x8 32) : IVec S1536x8 32 :=
  select (cmpi .slt (shapeCast S1536x8 x0 shapeCasts_S4x384x8_S1536x8) (broadcastInDim S1536x8 ![] bcast_S_S1536x8 (constantI S_ 32 0#32)))
    (addi (shapeCast S1536x8 x0 shapeCasts_S4x384x8_S1536x8) (broadcastInDim S1536x8 ![] bcast_S_S1536x8 (constantI S_ 32 12288#32)))
    (shapeCast S1536x8 x0 shapeCasts_S4x384x8_S1536x8)

/-- The rows gathered. -/
def taken (x0 : IVec S4x384x8 32) (x2 : FVec F S12288x7168 .f32) : FVec F S1536x8x7168 .f32 :=
  Host.gather gather_S12288x7168_S1536x8x1_S1536x8x7168_2_0_n_n_0_2_17168 x2 (broadcastInDim S1536x8x1 ![0, 1] bcast_S1536x8_S1536x8x1_0_1 (named x0))

/-- The result. -/
def refv (x0 : IVec S4x384x8 32) (x1 : FVec F S4x384x8 .f32) (x2 : FVec F S12288x7168 .f32) : FVec F S1536x7168 .bf16 :=
  truncf .bf16 (Host.reduceAdd (mulf (broadcastInDim S1536x8x7168 ![0, 1, 2] bcast_S1536x8x1_S1536x8x7168_0_1_2
      (broadcastInDim S1536x8x1 ![0, 1] bcast_S1536x8_S1536x8x1_0_1 (shapeCast S1536x8 x1 shapeCasts_S4x384x8_S1536x8))) (taken x0 x2))
    (constant S_ .f32 0x00000000#32) reducesTo_S1536x8x7168_S1536x7168_d1 h_S_) bitsLt_bf16_f32

section
variable (m : (ℓ : Loc nD τ sig) → Buf (Elt F) ℓ) (d : Dev nD)
theorem after_arg0 : StableHlo.after ops (StableHlo.launchContents m d) (Proc.devRef .tc main_arg0) = m ((d.tc : Thread nD τ).loc main_arg0) := by
  after_reads_simp <;> rfl
theorem after_arg1 : StableHlo.after ops (StableHlo.launchContents m d) (Proc.devRef .tc main_arg1) = m ((d.tc : Thread nD τ).loc main_arg1) := by
  after_reads_simp <;> rfl
theorem after_arg2 : StableHlo.after ops (StableHlo.launchContents m d) (Proc.devRef .tc main_arg2) = m ((d.tc : Thread nD τ).loc main_arg2) := by
  after_reads_simp <;> rfl
theorem after_v13 : StableHlo.after ops (StableHlo.launchContents m d) (Proc.devRef .tc main_v13)
    = refv (m ((d.tc : Thread nD τ).loc main_arg0)) (m ((d.tc : Thread nD τ).loc main_arg1)) (m ((d.tc : Thread nD τ).loc main_arg2)) := by
  after_reads_simp
  rfl
end

/-- The reference runs: its result, its arguments unchanged, every counter at zero. -/
theorem run (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_v13)
        = refv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => ⟨(h c main_v13).trans (after_v13 m c), (h c main_arg0).trans (after_arg0 m c),
    (h c main_arg1).trans (after_arg1 m c), (h c main_arg2).trans (after_arg2 m c)⟩, sems _ _⟩) (run_main m g)

/-- The frame of the reference. -/
theorem frame (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h.1 c).2, h.2⟩) (run m g)

theorem named_ap (x0 : IVec S4x384x8 32) (h : ∀ y, (x0 y).toNat < 12288) (y : S1536x8.Idx) :
    named x0 y = shapeCast S1536x8 x0 shapeCasts_S4x384x8_S1536x8 y := by
  have hy : (shapeCast S1536x8 x0 shapeCasts_S4x384x8_S1536x8 y).toNat < 12288 := h _
  show (if IntOp.cmpi .slt (shapeCast S1536x8 x0 shapeCasts_S4x384x8_S1536x8 y) 0#32 = 1#1 then _ else shapeCast S1536x8 x0 shapeCasts_S4x384x8_S1536x8 y) = _
  generalize shapeCast S1536x8 x0 shapeCasts_S4x384x8_S1536x8 y = w at hy ⊢
  have hw : w = BitVec.ofNat 32 w.toNat := by simp
  rw [if_neg]
  intro e
  rw [hw, show (0#32) = BitVec.ofNat 32 0 from rfl, WordCmp.cmpi_slt_ofNat_eq_one_iff (by omega) (by decide)] at e
  omega

/-- The row place (r, k) names. -/
def rowOf (x0 : IVec S4x384x8 32) (y : S1536x8.Idx) : Fin 12288 := ⟨min (shapeCast S1536x8 x0 shapeCasts_S4x384x8_S1536x8 y).toNat 12287, by omega⟩

theorem taken_ap (x0 : IVec S4x384x8 32) (h : ∀ y, (x0 y).toNat < 12288) (x2 : FVec F S12288x7168 .f32) (r : Fin 1536) (k : Fin 8) (c : Fin 7168) :
    taken x0 x2 (ix3 r k c) = x2 (ix2 (rowOf x0 (ix2 r k)) c) := by
  unfold taken Host.gather
  refine congrArg x2 (funext fun a => Fin.ext ?_)
  set d := gather_S12288x7168_S1536x8x1_S1536x8x7168_2_0_n_n_0_2_17168 with hd
  set idx := broadcastInDim S1536x8x1 ![0, 1] bcast_S1536x8_S1536x8x1_0_1 (named x0) with hidx
  have hi : idx (ix3 r k 0) = shapeCast S1536x8 x0 shapeCasts_S4x384x8_S1536x8 (ix2 r k) := by
    refine Eq.trans ?_ (named_ap x0 h (ix2 r k))
    pointwise [hidx]
  have hlt : (shapeCast S1536x8 x0 shapeCasts_S4x384x8_S1536x8 (ix2 r k)).toNat < 12288 := h _
  match a with
  | ⟨0, _⟩ =>
    show d.start (ix3 r k c) idx 0 + d.batchCoord (ix3 r k c) 0 + d.offCoord (ix3 r k c) 0 = min _ 12287
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 r k c) ⟨List.idxOf (0 : Fin 2) d.startIndexMap, List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, hi]
    show min (BitVec.toInt _).toNat 12287 = min _ 12287
    rw [StableHlo.Predicate.toInt_eq_toNat_of_lt (by omega), Int.toNat_natCast]
  | ⟨1, _⟩ =>
    show d.start (ix3 r k c) idx 1 + d.batchCoord (ix3 r k c) 1 + d.offCoord (ix3 r k c) 1 = c.val
    rw [GatherDims.batchCoord_eq_zero _ _ _ List.not_mem_nil]
    unfold GatherDims.start GatherDims.offCoord
    rw [dif_neg (show ¬ (1 : Fin 2) ∈ d.startIndexMap from by decide), dif_pos (show (1 : Fin 2) ∈ d.sKept from by decide)]
    show 0 + 0 + c.val = c.val
    omega

theorem refv_ap (x0 : IVec S4x384x8 32) (h : ∀ y, (x0 y).toNat < 12288) (x1 : FVec Ideal S4x384x8 .f32) (x2 : FVec Ideal S12288x7168 .f32) (r : Fin 1536) (c : Fin 7168) :
    refv (F := Ideal) x0 x1 x2 (ix2 r c)
      = ∑ k : Fin 8, (shapeCast S1536x8 x1 shapeCasts_S4x384x8_S1536x8 (ix2 r k) : EReal) * x2 (ix2 (rowOf x0 (ix2 r k)) c) := by
  refine Eq.trans (b := ∑ k : Fin 8, (shapeCast S1536x8 x1 shapeCasts_S4x384x8_S1536x8 (ix2 r k) : EReal) * taken (F := Ideal) x0 x2 (ix3 r k c)) ?_
    (Finset.sum_congr rfl fun k _ => congrArg _ (taken_ap (F := Ideal) x0 h x2 r k c))

  unfold refv
  generalize taken (F := Ideal) x0 x2 = T
  generalize shapeCast S1536x8 x1 shapeCasts_S4x384x8_S1536x8 = W
  pointwise

end Cert.CombineReferenceIdeal.Hand
-- ==== Proof.CombineRows.lean ====
module
public import Idealize.ShloMosaic.Lib.Routing.Ops
public import proofs.«01_k».proof.Proof.Rows
public import proofs.«01_k».proof.Proof.Gen.Pre_rows_exist
/-! # The precondition of the combining program, in numbers -/
@[expose] public section
set_option maxRecDepth 16384
set_option maxHeartbeats 400000
noncomputable section
namespace Cert.W4
open Idealize.ShloMosaic Idealize.ShloMosaic.Routing Idealize.ShloMosaic.ValueIdx Idealize.ShloMosaic.WordCmp

/-- The precondition gives words below the number of rows. -/
theorem rows_exist {F : FTy → Type} [FloatOps F] (x : IVec Cert.Pre_rows_exist.S4x384x8 32) (b c)
    (h : Cert.Pre_rows_exist.fn (F := F) x b c = fun _ => 1#1) (y : Cert.Pre_rows_exist.S4x384x8.Idx) : (x y).toNat < 12288 := by
  have h0 := congrFun h ix0
  unfold Cert.Pre_rows_exist.fn at h0
  obtain ⟨h1, h2⟩ := IntOp.andi_eq_one.1 h0
  haveI : Subsingleton (Cert.Pre_rows_exist.S_).Idx := ⟨fun a b => funext fun k => k.elim0⟩
  have a := Host.reduce_andi_all _ _ _ _ _ h1 y
  have b := Host.reduce_andi_all _ _ _ _ _ h2 y
  have a' : IntOp.cmpi .sge (x y) 0#32 = 1#1 := a
  have b' : IntOp.cmpi .slt (x y) (BitVec.ofNat 32 12288) = 1#1 := b
  rw [cmpi_sge_zero, ofBool_decide_eq_one_iff] at a'
  generalize hy : x y = w at a' b' ⊢
  have hy2 : w = BitVec.ofNat 32 w.toNat := by simp
  rw [hy2, cmpi_slt_ofNat_eq_one_iff (by omega) (by decide)] at b'
  exact b'

end Cert.W4
-- ==== Proof.CombineEqual.lean ====
module
public import proofs.«01_k».proof.Defs
public import proofs.«01_k».proof.Proof.CombineIdealAdm
public import proofs.«01_k».proof.Proof.CombineIdealValue
public import proofs.«01_k».proof.Proof.CombineReferenceValue
public import proofs.«01_k».proof.Proof.CombineRows
public import Idealize.ShloMosaic.Lib.Pipeline.Value
public import proofs.«01_k».proof.Proof.Gen.CombineIdeal
public import proofs.«01_k».proof.Proof.Gen.CombineReferenceIdeal
/-! # The combining program and its reference compute the same matrix -/
@[expose] public section
set_option maxRecDepth 16384
set_option maxHeartbeats 400000
noncomputable section
namespace Cert.CombineEqual
open Idealize.ShloMosaic Idealize.ShloMosaic.TcCoe Idealize.SL.Sem

/-- The entry of a regrouped array of lists of eight, at place k of list r. -/
theorem regroup {α : Type} (x : Cert.CombineIdeal.S4x384x8.Idx → α) (h1 : Cert.CombineIdeal.S4x384x8.ShapeCasts Cert.CombineIdeal.S12288)
    (h2 : Cert.CombineIdeal.S4x384x8.ShapeCasts Cert.CombineReferenceIdeal.S1536x8) (r : Fin 1536) (k : Fin 8) (h : r.val * 8 + k.val < 12288) :
    shapeCast Cert.CombineIdeal.S12288 x h1 (ix1 ⟨r.val * 8 + k.val, h⟩) = shapeCast Cert.CombineReferenceIdeal.S1536x8 x h2 (ix2 r k) := by
  have hr := r.isLt
  have hk := k.isLt
  let j : Cert.CombineIdeal.S4x384x8.Idx := ix3 (⟨r.val / 384, by omega⟩ : Fin 4) (⟨r.val % 384, by omega⟩ : Fin 384) k
  have hj : (Cert.CombineIdeal.S4x384x8.rowMajor j).val = r.val * 8 + k.val := by
    rw [Shape.rowMajor_val_three]
    show (r.val / 384 * 384 + r.val % 384) * 8 + k.val = _
    omega
  refine (Idealize.ShloMosaic.shapeCast_apply x h1 _ j (hj.trans ?_)).trans (Idealize.ShloMosaic.shapeCast_apply x h2 _ j (hj.trans ?_)).symm
  · exact (Shape.rowMajor_val_one (d := ![12288]) (ix1 ⟨r.val * 8 + k.val, h⟩)).symm
  · exact (Shape.rowMajor_val_two (d := ![1536, 8]) (ix2 r k)).symm

theorem regroup_col {α : Type} (x : Cert.CombineIdeal.S4x384x8.Idx → α) (h1 : Cert.CombineIdeal.S4x384x8.ShapeCasts Cert.CombineIdeal.S12288x1)
    (h2 : Cert.CombineIdeal.S4x384x8.ShapeCasts Cert.CombineReferenceIdeal.S1536x8) (r : Fin 1536) (k : Fin 8) (h : r.val * 8 + k.val < 12288) :
    shapeCast Cert.CombineIdeal.S12288x1 x h1 (ix2 ⟨r.val * 8 + k.val, h⟩ 0) = shapeCast Cert.CombineReferenceIdeal.S1536x8 x h2 (ix2 r k) := by
  have hr := r.isLt
  have hk := k.isLt
  let j : Cert.CombineIdeal.S4x384x8.Idx := ix3 (⟨r.val / 384, by omega⟩ : Fin 4) (⟨r.val % 384, by omega⟩ : Fin 384) k
  have hj : (Cert.CombineIdeal.S4x384x8.rowMajor j).val = r.val * 8 + k.val := by
    rw [Shape.rowMajor_val_three]
    show (r.val / 384 * 384 + r.val % 384) * 8 + k.val = _
    omega
  refine (Idealize.ShloMosaic.shapeCast_apply x h1 _ j (hj.trans ?_)).trans (Idealize.ShloMosaic.shapeCast_apply x h2 _ j (hj.trans ?_)).symm
  · refine Eq.trans ?_ (Shape.rowMajor_val_two (d := ![12288, 1]) (ix2 ⟨r.val * 8 + k.val, h⟩ 0)).symm
    show r.val * 8 + k.val = (r.val * 8 + k.val) * 1 + 0
    omega
  · exact (Shape.rowMajor_val_two (d := ![1536, 8]) (ix2 r k)).symm

/-- The reference's result, from the arguments, is the program's. -/
theorem value_eq (m : (ℓ : Loc Cert.CombineIdeal.nD Cert.CombineIdeal.τ Cert.CombineIdeal.sig) → Buf (Elt Ideal) ℓ) (c : Dev Cert.CombineIdeal.nD)
    (x0 : IVec Cert.CombineReferenceIdeal.S4x384x8 32) (x1 : FVec Ideal Cert.CombineReferenceIdeal.S4x384x8 .f32)
    (x2 : FVec Ideal Cert.CombineReferenceIdeal.S12288x7168 .f32) (hx : ∀ y, (x0 y).toNat < 12288)
    (h0 : x0 = m ((c.tc : Thread Cert.CombineIdeal.nD Cert.CombineIdeal.τ).loc Cert.CombineIdeal.main_arg0))
    (h1 : x1 = m ((c.tc : Thread Cert.CombineIdeal.nD Cert.CombineIdeal.τ).loc Cert.CombineIdeal.main_arg1))
    (h2 : x2 = m ((c.tc : Thread Cert.CombineIdeal.nD Cert.CombineIdeal.τ).loc Cert.CombineIdeal.main_arg2)) :
    Cert.CombineReferenceIdeal.Hand.refv (F := Ideal) x0 x1 x2 = Cert.CombineIdeal.Hand.result m (Cert.CombineIdeal.Hand.ad m) c := by
  obtain rfl : c = 0 := Subsingleton.elim _ _
  funext i
  obtain ⟨r, k, rfl⟩ : ∃ (r : Fin 1536) (k : Fin 7168), i = ix2 r k := ⟨i 0, i 1, by funext b; fin_cases b <;> rfl⟩
  rw [Cert.CombineReferenceIdeal.Hand.refv_ap x0 hx x1 x2 r k]
  unfold Cert.CombineIdeal.Hand.result Cert.CombineIdeal.Hand.total
  refine Finset.sum_congr rfl fun q _ => ?_
  have hq : r.val * 8 + q.val < 12288 := by omega
  rw [Cert.CombineIdeal.Hand.V_v1, Cert.CombineIdeal.Hand.V_arg2, Cert.CombineIdeal.Hand.tb_eq, ← h0, ← h1, ← h2]
  have e0 := regroup x0 Cert.CombineIdeal.Gen.shapeCasts_S4x384x8_S12288 Cert.CombineReferenceIdeal.Gen.shapeCasts_S4x384x8_S1536x8 r q hq
  have e1 := regroup_col x1 Cert.CombineIdeal.Gen.shapeCasts_S4x384x8_S12288x1 Cert.CombineReferenceIdeal.Gen.shapeCasts_S4x384x8_S1536x8 r q hq
  rw [← e1, mul_comm]
  have er : Cert.CombineReferenceIdeal.Hand.rowOf x0 (ix2 r q)
      = Cert.CombineIdeal.Hand.rowAt (shapeCast Cert.CombineIdeal.S12288 x0 Cert.CombineIdeal.Gen.shapeCasts_S4x384x8_S12288) ⟨r.val * 8 + q.val, hq⟩ := by
    unfold Cert.CombineReferenceIdeal.Hand.rowOf Cert.CombineIdeal.Hand.rowAt
    exact Fin.ext (congrArg (fun w : BitVec 32 => min w.toNat 12287) e0.symm)
  rw [er]
  rfl

theorem algebraic : Cert.algebraic_CombineIdeal_CombineReferenceIdeal (hCombineIdeal := Cert.CombineIdeal.Gen.facts)
    (hCombineReferenceIdeal := Cert.CombineReferenceIdeal.Gen.facts) (hPre_rows_exist := Cert.Pre_rows_exist.Gen.facts) := by
  intro m g m' g' hpre hag
  have hx : ∀ y : Cert.CombineIdeal.S4x384x8.Idx, (m (((0 : Dev Cert.CombineIdeal.nD).tc : Thread Cert.CombineIdeal.nD Cert.CombineIdeal.τ).loc Cert.CombineIdeal.main_arg0) y : BitVec 32).toNat < 12288 :=
    Cert.W4.rows_exist _ _ _ (hpre 0)
  refine ⟨fun c => Cert.CombineIdeal.Hand.result m (Cert.CombineIdeal.Hand.ad m) c, ?_, ?_⟩
  · exact (θ_run _ _ _).mono (fun r h c => ⟨Cert.CombineIdeal.Hand.out_total m (Cert.CombineIdeal.Hand.ad m) c r h.1,
      Cert.CombineIdeal.Hand.args_of m (Cert.CombineIdeal.Hand.ad m) r h.1 c⟩)
      (Cert.CombineIdeal.Hand.run_main m g (Cert.CombineIdeal.Hand.ad m) (Cert.CombineIdeal.Hand.inRange m hx) (Cert.CombineIdeal.Hand.hpf m))
  · refine (θ_run _ _ _).mono (fun r h c => ⟨(h.1 c).1.trans ?_, (h.1 c).2⟩) (Cert.CombineReferenceIdeal.Hand.run m' g')
    obtain ⟨h0, h1, h2⟩ := hag c
    refine value_eq m c _ _ _ ?_ h0 h1 h2
    obtain rfl : c = 0 := Subsingleton.elim _ _
    intro y
    exact (congrArg (fun f : IVec Cert.CombineReferenceIdeal.S4x384x8 32 => (f y).toNat) h0).trans_lt (hx y)

end Cert.CombineEqual
-- ==== Proof.lean ====
/-  The proof of `Cert.Claim`: for the down projection, for the gate and up projection and for the combining of the experts' rows, the frames of the program, of its idealization and of its reference, and the equality of the last two's results. -/
module

public import proofs.«01_k».proof.Defs
public import proofs.«01_k».proof.Proof.Gen.Combine
public import proofs.«01_k».proof.Proof.Gen.Combine.Launch
public import proofs.«01_k».proof.Proof.Gen.Combine.Loops
public import proofs.«01_k».proof.Proof.Gen.CombineIdeal
public import proofs.«01_k».proof.Proof.Gen.CombineIdeal.Launch
public import proofs.«01_k».proof.Proof.Gen.CombineIdeal.Loops
public import proofs.«01_k».proof.Proof.Gen.CombineReferenceIdeal
public import proofs.«01_k».proof.Proof.Gen.Pre_rows_exist
public import proofs.«01_k».proof.Proof.Gen.Down
public import proofs.«01_k».proof.Proof.Gen.DownIdeal
public import proofs.«01_k».proof.Proof.Gen.DownReferenceIdeal
public import proofs.«01_k».proof.Proof.Gen.DownReferenceIdeal.Frame
public import proofs.«01_k».proof.Proof.Gen.Pre_rows_in_groups
public import proofs.«01_k».proof.Proof.Gen.GateUp
public import proofs.«01_k».proof.Proof.Gen.GateUp.Launch
public import proofs.«01_k».proof.Proof.Gen.GateUp.Loops
public import proofs.«01_k».proof.Proof.Gen.GateUpIdeal
public import proofs.«01_k».proof.Proof.Gen.GateUpIdeal.Launch
public import proofs.«01_k».proof.Proof.Gen.GateUpIdeal.Loops
public import proofs.«01_k».proof.Proof.Gen.GateUpReferenceIdeal
public import proofs.«01_k».proof.Proof.Gen.GateUpReferenceIdeal.Frame
public import proofs.«01_k».proof.Proof.Gen.Pre_gate_up_rows_in_groups
public import proofs.«01_k».proof.Proof.DownAdm
public import proofs.«01_k».proof.Proof.DownIdealAdm
public import proofs.«01_k».proof.Proof.DownEqual
public import proofs.«01_k».proof.Proof.Rows
public import proofs.«01_k».proof.Proof.GateUpAdm
public import proofs.«01_k».proof.Proof.GateUpIdealAdm
public import proofs.«01_k».proof.Proof.GateUpEqual
public import proofs.«01_k».proof.Proof.GateUpRows
public import proofs.«01_k».proof.Proof.CombineAdm
public import proofs.«01_k».proof.Proof.CombineIdealAdm
public import proofs.«01_k».proof.Proof.CombineEqual
public import proofs.«01_k».proof.Proof.CombineRows
public import Idealize.ShloMosaic.Adequacy
public import Idealize.ShloMosaic.Init

@[expose] public section

noncomputable section

namespace Cert.Proof

open Idealize.ShloMosaic Idealize.SL.Sem

theorem claim : Cert.Claim :=
  ⟨Cert.Down.Gen.facts, Cert.DownIdeal.Gen.facts, Cert.DownReferenceIdeal.Gen.facts,
   Cert.GateUp.Gen.facts, Cert.GateUpIdeal.Gen.facts, Cert.GateUpReferenceIdeal.Gen.facts,
   Cert.Combine.Gen.facts, Cert.CombineIdeal.Gen.facts, Cert.CombineReferenceIdeal.Gen.facts,
   Cert.Pre_rows_in_groups.Gen.facts, Cert.Pre_gate_up_rows_in_groups.Gen.facts, Cert.Pre_rows_exist.Gen.facts,
   fun m g h => Cert.Down.Hand.frame m (Cert.W4.rows_sum _ _ _ _ _ (h 0)) g,
   fun m g h => Cert.DownIdeal.Hand.frame m (Cert.W4.rows_sum _ _ _ _ _ (h 0)) g,
   fun m g _ => Cert.DownReferenceIdeal.Gen.frame m g,
   fun m g _ => Cert.DownReferenceIdeal.Gen.frame m g,
   fun m g h => Cert.GateUp.Hand.frame m (Cert.W4.gate_up_rows_sum _ _ _ _ _ _ _ _ _ (h 0)) g,
   fun m g h => Cert.GateUpIdeal.Hand.frame m (Cert.W4.gate_up_rows_sum _ _ _ _ _ _ _ _ _ (h 0)) g,
   fun m g _ => Cert.GateUpReferenceIdeal.Gen.frame m g,
   fun m g _ => Cert.GateUpReferenceIdeal.Gen.frame m g,
   fun m g h => Cert.Combine.Hand.frame m (Cert.W4.rows_exist _ _ _ (h 0)) g,
   fun m g h => Cert.CombineIdeal.Hand.frame m (Cert.W4.rows_exist _ _ _ (h 0)) g,
   fun m g _ => Cert.CombineReferenceIdeal.Hand.frame m g,
   fun m g _ => Cert.CombineReferenceIdeal.Hand.frame m g,
   trivial, Cert.DownEqual.algebraic,
   trivial, Cert.GateUpEqual.algebraic,
   trivial, Cert.CombineEqual.algebraic⟩

end Cert.Proof

end
